-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesRefIdeal (m : (ℓ : Loc Cert.BranchesRefIdeal.nD Cert.BranchesRefIdeal.τ Cert.BranchesRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_GwFf2 (m : (ℓ : Loc Cert.GwFf2.nD Cert.GwFf2.τ Cert.GwFf2.sig) → Buf (Elt Bits) ℓ) : Prop :=
  True

def Pre_GwFf2Ideal (m : (ℓ : Loc Cert.GwFf2Ideal.nD Cert.GwFf2Ideal.τ Cert.GwFf2Ideal.sig) → Buf (Elt Ideal) ℓ) : Prop :=
  True

def Pre_GwFf2RefIdeal (m : (ℓ : Loc Cert.GwFf2RefIdeal.nD Cert.GwFf2RefIdeal.τ Cert.GwFf2RefIdeal.sig) → Buf (Elt Ideal) ℓ) : Prop :=
  True

def Pre_GwFf1 (m : (ℓ : Loc Cert.GwFf1.nD Cert.GwFf1.τ Cert.GwFf1.sig) → Buf (Elt Bits) ℓ) : Prop :=
  True

def Pre_GwFf1Ideal (m : (ℓ : Loc Cert.GwFf1Ideal.nD Cert.GwFf1Ideal.τ Cert.GwFf1Ideal.sig) → Buf (Elt Ideal) ℓ) : Prop :=
  True

def Pre_GwFf1RefIdeal (m : (ℓ : Loc Cert.GwFf1RefIdeal.nD Cert.GwFf1RefIdeal.τ Cert.GwFf1RefIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRefIdeal (m : (ℓ : Loc Cert.GwOutRefIdeal.nD Cert.GwOutRefIdeal.τ Cert.GwOutRefIdeal.sig) → Buf (Elt Ideal) ℓ) : Prop :=
  True

def Pre_GwPa (m : (ℓ : Loc Cert.GwPa.nD Cert.GwPa.τ Cert.GwPa.sig) → Buf (Elt Bits) ℓ) : Prop :=
  True

def Pre_GwPaIdeal (m : (ℓ : Loc Cert.GwPaIdeal.nD Cert.GwPaIdeal.τ Cert.GwPaIdeal.sig) → Buf (Elt Ideal) ℓ) : Prop :=
  True

def Pre_GwPaRefIdeal (m : (ℓ : Loc Cert.GwPaRefIdeal.nD Cert.GwPaRefIdeal.τ Cert.GwPaRefIdeal.sig) → Buf (Elt Ideal) ℓ) : Prop :=
  True

def Pre_GwPb (m : (ℓ : Loc Cert.GwPb.nD Cert.GwPb.τ Cert.GwPb.sig) → Buf (Elt Bits) ℓ) : Prop :=
  True

def Pre_GwPbIdeal (m : (ℓ : Loc Cert.GwPbIdeal.nD Cert.GwPbIdeal.τ Cert.GwPbIdeal.sig) → Buf (Elt Ideal) ℓ) : Prop :=
  True

def Pre_GwPbRefIdeal (m : (ℓ : Loc Cert.GwPbRefIdeal.nD Cert.GwPbRefIdeal.τ Cert.GwPbRefIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRefIdeal (m : (ℓ : Loc Cert.GwInRefIdeal.nD Cert.GwInRefIdeal.τ Cert.GwInRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_Ff (m : (ℓ : Loc Cert.Ff.nD Cert.Ff.τ Cert.Ff.sig) → Buf (Elt Bits) ℓ) : Prop :=
  True

def Pre_FfIdeal (m : (ℓ : Loc Cert.FfIdeal.nD Cert.FfIdeal.τ Cert.FfIdeal.sig) → Buf (Elt Ideal) ℓ) : Prop :=
  True

def Pre_FfRefIdeal (m : (ℓ : Loc Cert.FfRefIdeal.nD Cert.FfRefIdeal.τ Cert.FfRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdFf (m : (ℓ : Loc Cert.AdFf.nD Cert.AdFf.τ Cert.AdFf.sig) → Buf (Elt Bits) ℓ) : Prop :=
  True

def Pre_AdFfIdeal (m : (ℓ : Loc Cert.AdFfIdeal.nD Cert.AdFfIdeal.τ Cert.AdFfIdeal.sig) → Buf (Elt Ideal) ℓ) : Prop :=
  True

def Pre_AdFfRefIdeal (m : (ℓ : Loc Cert.AdFfRefIdeal.nD Cert.AdFfRefIdeal.τ Cert.AdFfRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdPr (m : (ℓ : Loc Cert.AdPr.nD Cert.AdPr.τ Cert.AdPr.sig) → Buf (Elt Bits) ℓ) : Prop :=
  True

def Pre_AdPrIdeal (m : (ℓ : Loc Cert.AdPrIdeal.nD Cert.AdPrIdeal.τ Cert.AdPrIdeal.sig) → Buf (Elt Ideal) ℓ) : Prop :=
  True

def Pre_AdPrRefIdeal (m : (ℓ : Loc Cert.AdPrRefIdeal.nD Cert.AdPrRefIdeal.τ Cert.AdPrRefIdeal.sig) → Buf (Elt Ideal) ℓ) : Prop :=
  True

def Pre_AdSm (m : (ℓ : Loc Cert.AdSm.nD Cert.AdSm.τ Cert.AdSm.sig) → Buf (Elt Bits) ℓ) : Prop :=
  True

def Pre_AdSmIdeal (m : (ℓ : Loc Cert.AdSmIdeal.nD Cert.AdSmIdeal.τ Cert.AdSmIdeal.sig) → Buf (Elt Ideal) ℓ) : Prop :=
  True

def Pre_AdSmRefIdeal (m : (ℓ : Loc Cert.AdSmRefIdeal.nD Cert.AdSmRefIdeal.τ Cert.AdSmRefIdeal.sig) → Buf (Elt Ideal) ℓ) : Prop :=
  True

def Pre_ProjOwn (m : (ℓ : Loc Cert.ProjOwn.nD Cert.ProjOwn.τ Cert.ProjOwn.sig) → Buf (Elt Bits) ℓ) : Prop :=
  True

def Pre_ProjOwnIdeal (m : (ℓ : Loc Cert.ProjOwnIdeal.nD Cert.ProjOwnIdeal.τ Cert.ProjOwnIdeal.sig) → Buf (Elt Ideal) ℓ) : Prop :=
  True

def Pre_ProjOwnRefIdeal (m : (ℓ : Loc Cert.ProjOwnRefIdeal.nD Cert.ProjOwnRefIdeal.τ Cert.ProjOwnRefIdeal.sig) → Buf (Elt Ideal) ℓ) : Prop :=
  True

def Pre_ProjNear (m : (ℓ : Loc Cert.ProjNear.nD Cert.ProjNear.τ Cert.ProjNear.sig) → Buf (Elt Bits) ℓ) : Prop :=
  True

def Pre_ProjNearIdeal (m : (ℓ : Loc Cert.ProjNearIdeal.nD Cert.ProjNearIdeal.τ Cert.ProjNearIdeal.sig) → Buf (Elt Ideal) ℓ) : Prop :=
  True

def Pre_ProjNearRefIdeal (m : (ℓ : Loc Cert.ProjNearRefIdeal.nD Cert.ProjNearRefIdeal.τ Cert.ProjNearRefIdeal.sig) → Buf (Elt Ideal) ℓ) : Prop :=
  True

def Pre_ProjFar (m : (ℓ : Loc Cert.ProjFar.nD Cert.ProjFar.τ Cert.ProjFar.sig) → Buf (Elt Bits) ℓ) : Prop :=
  True

def Pre_ProjFarIdeal (m : (ℓ : Loc Cert.ProjFarIdeal.nD Cert.ProjFarIdeal.τ Cert.ProjFarIdeal.sig) → Buf (Elt Ideal) ℓ) : Prop :=
  True

def Pre_ProjFarRefIdeal (m : (ℓ : Loc Cert.ProjFarRefIdeal.nD Cert.ProjFarRefIdeal.τ Cert.ProjFarRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Ln (m : (ℓ : Loc Cert.Ln.nD Cert.Ln.τ Cert.Ln.sig) → Buf (Elt Bits) ℓ) : Prop :=
  True

def Pre_LnIdeal (m : (ℓ : Loc Cert.LnIdeal.nD Cert.LnIdeal.τ Cert.LnIdeal.sig) → Buf (Elt Ideal) ℓ) : Prop :=
  True

def Pre_LnIdeal_finite_norm [hPre_finite_norm : Cert.Pre_finite_norm.Facts] (m : (ℓ : Loc Cert.LnIdeal.nD Cert.LnIdeal.τ Cert.LnIdeal.sig) → Buf (Elt Ideal) ℓ) : Prop :=
  ∀ c : Dev Cert.LnIdeal.nD,
    (Cert.Pre_finite_norm.fn (F := Ideal) (m ((c.tc : Thread Cert.LnIdeal.nD Cert.LnIdeal.τ).loc Cert.LnIdeal.main_arg0)) (m ((c.tc : Thread Cert.LnIdeal.nD Cert.LnIdeal.τ).loc Cert.LnIdeal.main_arg1)) (m ((c.tc : Thread Cert.LnIdeal.nD Cert.LnIdeal.τ).loc Cert.LnIdeal.main_arg2)) (m ((c.tc : Thread Cert.LnIdeal.nD Cert.LnIdeal.τ).loc Cert.LnIdeal.main_arg3)) (m ((c.tc : Thread Cert.LnIdeal.nD Cert.LnIdeal.τ).loc Cert.LnIdeal.main_arg4)) (m ((c.tc : Thread Cert.LnIdeal.nD Cert.LnIdeal.τ).loc Cert.LnIdeal.main_arg5))) = (fun _ => 1#1)

def Pre_LnRefIdeal (m : (ℓ : Loc Cert.LnRefIdeal.nD Cert.LnRefIdeal.τ Cert.LnRefIdeal.sig) → Buf (Elt Ideal) ℓ) : Prop :=
  True

def Pre_LnRefIdeal_finite_norm [hPre_finite_norm : Cert.Pre_finite_norm.Facts] (m : (ℓ : Loc Cert.LnRefIdeal.nD Cert.LnRefIdeal.τ Cert.LnRefIdeal.sig) → Buf (Elt Ideal) ℓ) : Prop :=
  ∀ c : Dev Cert.LnRefIdeal.nD,
    (Cert.Pre_finite_norm.fn (F := Ideal) (m ((c.tc : Thread Cert.LnRefIdeal.nD Cert.LnRefIdeal.τ).loc Cert.LnRefIdeal.main_arg0)) (m ((c.tc : Thread Cert.LnRefIdeal.nD Cert.LnRefIdeal.τ).loc Cert.LnRefIdeal.main_arg1)) (m ((c.tc : Thread Cert.LnRefIdeal.nD Cert.LnRefIdeal.τ).loc Cert.LnRefIdeal.main_arg2)) (m ((c.tc : Thread Cert.LnRefIdeal.nD Cert.LnRefIdeal.τ).loc Cert.LnRefIdeal.main_arg3)) (m ((c.tc : Thread Cert.LnRefIdeal.nD Cert.LnRefIdeal.τ).loc Cert.LnRefIdeal.main_arg4)) (m ((c.tc : Thread Cert.LnRefIdeal.nD Cert.LnRefIdeal.τ).loc Cert.LnRefIdeal.main_arg5))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5)) (m ((c.tc : Thread Cert.LossIdeal.nD Cert.LossIdeal.τ).loc Cert.LossIdeal.main_arg6)) (m ((c.tc : Thread Cert.LossIdeal.nD Cert.LossIdeal.τ).loc Cert.LossIdeal.main_arg7)) (m ((c.tc : Thread Cert.LossIdeal.nD Cert.LossIdeal.τ).loc Cert.LossIdeal.main_arg8))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6)) (m ((c.tc : Thread Cert.LossRefIdeal.nD Cert.LossRefIdeal.τ).loc Cert.LossRefIdeal.main_arg7)) (m ((c.tc : Thread Cert.LossRefIdeal.nD Cert.LossRefIdeal.τ).loc Cert.LossRefIdeal.main_arg8))) = (fun _ => 1#1)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0)
      ∧ r.2.mem ((c.tc : Thread Cert.Relu.nD Cert.Relu.τ).loc Cert.Relu.main_arg1) = m ((c.tc : Thread Cert.Relu.nD Cert.Relu.τ).loc Cert.Relu.main_arg1)
      ∧ r.2.mem ((c.tc : Thread Cert.Relu.nD Cert.Relu.τ).loc Cert.Relu.main_arg2) = m ((c.tc : Thread Cert.Relu.nD Cert.Relu.τ).loc Cert.Relu.main_arg2)
      ∧ r.2.mem ((c.tc : Thread Cert.Relu.nD Cert.Relu.τ).loc Cert.Relu.main_arg3) = m ((c.tc : Thread Cert.Relu.nD Cert.Relu.τ).loc Cert.Relu.main_arg3)
      ∧ r.2.mem ((c.tc : Thread Cert.Relu.nD Cert.Relu.τ).loc Cert.Relu.main_arg4) = m ((c.tc : Thread Cert.Relu.nD Cert.Relu.τ).loc Cert.Relu.main_arg4))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
      ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
      ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2)
      ∧ r.2.mem ((c.tc : Thread Cert.ReluIdeal.nD Cert.ReluIdeal.τ).loc Cert.ReluIdeal.main_arg3) = m ((c.tc : Thread Cert.ReluIdeal.nD Cert.ReluIdeal.τ).loc Cert.ReluIdeal.main_arg3)
      ∧ r.2.mem ((c.tc : Thread Cert.ReluIdeal.nD Cert.ReluIdeal.τ).loc Cert.ReluIdeal.main_arg4) = m ((c.tc : Thread Cert.ReluIdeal.nD Cert.ReluIdeal.τ).loc Cert.ReluIdeal.main_arg4))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2)
      ∧ r.2.mem ((c.tc : Thread Cert.ReluRefIdeal.nD Cert.ReluRefIdeal.τ).loc Cert.ReluRefIdeal.main_arg3) = m ((c.tc : Thread Cert.ReluRefIdeal.nD Cert.ReluRefIdeal.τ).loc Cert.ReluRefIdeal.main_arg3)
      ∧ r.2.mem ((c.tc : Thread Cert.ReluRefIdeal.nD Cert.ReluRefIdeal.τ).loc Cert.ReluRefIdeal.main_arg4) = m ((c.tc : Thread Cert.ReluRefIdeal.nD Cert.ReluRefIdeal.τ).loc Cert.ReluRefIdeal.main_arg4))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3))
      ∧ r.2.sem = fun _ => 0)

def quiescent_BranchesRefIdeal [hBranchesRefIdeal : Cert.BranchesRefIdeal.Facts] : Prop :=
  ∀ (m : (ℓ : Loc Cert.BranchesRefIdeal.nD Cert.BranchesRefIdeal.τ Cert.BranchesRefIdeal.sig) → Buf (Elt Ideal) ℓ) (g : Dev Cert.BranchesRefIdeal.nD → PrngReg), Pre_BranchesRefIdeal m →
    θ_run (Cert.BranchesRefIdeal.defs (F := Ideal)) (onTc (τ := Cert.BranchesRefIdeal.τ) (Cert.BranchesRefIdeal.main (F := Ideal))) ⟨m, fun _ => 0, g⟩ (fun r => (∀ c : Dev Cert.BranchesRefIdeal.nD,
      r.2.mem ((c.tc : Thread Cert.BranchesRefIdeal.nD Cert.BranchesRefIdeal.τ).loc Cert.BranchesRefIdeal.main_arg0) = m ((c.tc : Thread Cert.BranchesRefIdeal.nD Cert.BranchesRefIdeal.τ).loc Cert.BranchesRefIdeal.main_arg0)
      ∧ r.2.mem ((c.tc : Thread Cert.BranchesRefIdeal.nD Cert.BranchesRefIdeal.τ).loc Cert.BranchesRefIdeal.main_arg1) = m ((c.tc : Thread Cert.BranchesRefIdeal.nD Cert.BranchesRefIdeal.τ).loc Cert.BranchesRefIdeal.main_arg1)
      ∧ r.2.mem ((c.tc : Thread Cert.BranchesRefIdeal.nD Cert.BranchesRefIdeal.τ).loc Cert.BranchesRefIdeal.main_arg2) = m ((c.tc : Thread Cert.BranchesRefIdeal.nD Cert.BranchesRefIdeal.τ).loc Cert.BranchesRefIdeal.main_arg2)
      ∧ r.2.mem ((c.tc : Thread Cert.BranchesRefIdeal.nD Cert.BranchesRefIdeal.τ).loc Cert.BranchesRefIdeal.main_arg3) = m ((c.tc : Thread Cert.BranchesRefIdeal.nD Cert.BranchesRefIdeal.τ).loc Cert.BranchesRefIdeal.main_arg3))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2))
      ∧ r.2.sem = fun _ => 0)

def quiescent_GwFf2 [hGwFf2 : Cert.GwFf2.Facts] : Prop :=
  ∀ (m : (ℓ : Loc Cert.GwFf2.nD Cert.GwFf2.τ Cert.GwFf2.sig) → Buf (Elt Bits) ℓ) (g : Dev Cert.GwFf2.nD → PrngReg), Pre_GwFf2 m →
    θ_run (Cert.GwFf2.defs (F := Bits)) (onTc (τ := Cert.GwFf2.τ) (Cert.GwFf2.main (F := Bits))) ⟨m, fun _ => 0, g⟩ (fun r => (∀ c : Dev Cert.GwFf2.nD,
      r.2.mem ((c.tc : Thread Cert.GwFf2.nD Cert.GwFf2.τ).loc Cert.GwFf2.main_arg0) = m ((c.tc : Thread Cert.GwFf2.nD Cert.GwFf2.τ).loc Cert.GwFf2.main_arg0)
      ∧ r.2.mem ((c.tc : Thread Cert.GwFf2.nD Cert.GwFf2.τ).loc Cert.GwFf2.main_arg1) = m ((c.tc : Thread Cert.GwFf2.nD Cert.GwFf2.τ).loc Cert.GwFf2.main_arg1))
      ∧ r.2.sem = fun _ => 0)

def quiescent_GwFf2Ideal [hGwFf2Ideal : Cert.GwFf2Ideal.Facts] : Prop :=
  ∀ (m : (ℓ : Loc Cert.GwFf2Ideal.nD Cert.GwFf2Ideal.τ Cert.GwFf2Ideal.sig) → Buf (Elt Ideal) ℓ) (g : Dev Cert.GwFf2Ideal.nD → PrngReg), Pre_GwFf2Ideal m →
    θ_run (Cert.GwFf2Ideal.defs (F := Ideal)) (onTc (τ := Cert.GwFf2Ideal.τ) (Cert.GwFf2Ideal.main (F := Ideal))) ⟨m, fun _ => 0, g⟩ (fun r => (∀ c : Dev Cert.GwFf2Ideal.nD,
      r.2.mem ((c.tc : Thread Cert.GwFf2Ideal.nD Cert.GwFf2Ideal.τ).loc Cert.GwFf2Ideal.main_arg0) = m ((c.tc : Thread Cert.GwFf2Ideal.nD Cert.GwFf2Ideal.τ).loc Cert.GwFf2Ideal.main_arg0)
      ∧ r.2.mem ((c.tc : Thread Cert.GwFf2Ideal.nD Cert.GwFf2Ideal.τ).loc Cert.GwFf2Ideal.main_arg1) = m ((c.tc : Thread Cert.GwFf2Ideal.nD Cert.GwFf2Ideal.τ).loc Cert.GwFf2Ideal.main_arg1))
      ∧ r.2.sem = fun _ => 0)

def quiescent_GwFf2RefIdeal [hGwFf2RefIdeal : Cert.GwFf2RefIdeal.Facts] : Prop :=
  ∀ (m : (ℓ : Loc Cert.GwFf2RefIdeal.nD Cert.GwFf2RefIdeal.τ Cert.GwFf2RefIdeal.sig) → Buf (Elt Ideal) ℓ) (g : Dev Cert.GwFf2RefIdeal.nD → PrngReg), Pre_GwFf2RefIdeal m →
    θ_run (Cert.GwFf2RefIdeal.defs (F := Ideal)) (onTc (τ := Cert.GwFf2RefIdeal.τ) (Cert.GwFf2RefIdeal.main (F := Ideal))) ⟨m, fun _ => 0, g⟩ (fun r => (∀ c : Dev Cert.GwFf2RefIdeal.nD,
      r.2.mem ((c.tc : Thread Cert.GwFf2RefIdeal.nD Cert.GwFf2RefIdeal.τ).loc Cert.GwFf2RefIdeal.main_arg0) = m ((c.tc : Thread Cert.GwFf2RefIdeal.nD Cert.GwFf2RefIdeal.τ).loc Cert.GwFf2RefIdeal.main_arg0)
      ∧ r.2.mem ((c.tc : Thread Cert.GwFf2RefIdeal.nD Cert.GwFf2RefIdeal.τ).loc Cert.GwFf2RefIdeal.main_arg1) = m ((c.tc : Thread Cert.GwFf2RefIdeal.nD Cert.GwFf2RefIdeal.τ).loc Cert.GwFf2RefIdeal.main_arg1))
      ∧ r.2.sem = fun _ => 0)

def quiescent_GwFf1 [hGwFf1 : Cert.GwFf1.Facts] : Prop :=
  ∀ (m : (ℓ : Loc Cert.GwFf1.nD Cert.GwFf1.τ Cert.GwFf1.sig) → Buf (Elt Bits) ℓ) (g : Dev Cert.GwFf1.nD → PrngReg), Pre_GwFf1 m →
    θ_run (Cert.GwFf1.defs (F := Bits)) (onTc (τ := Cert.GwFf1.τ) (Cert.GwFf1.main (F := Bits))) ⟨m, fun _ => 0, g⟩ (fun r => (∀ c : Dev Cert.GwFf1.nD,
      r.2.mem ((c.tc : Thread Cert.GwFf1.nD Cert.GwFf1.τ).loc Cert.GwFf1.main_arg0) = m ((c.tc : Thread Cert.GwFf1.nD Cert.GwFf1.τ).loc Cert.GwFf1.main_arg0)
      ∧ r.2.mem ((c.tc : Thread Cert.GwFf1.nD Cert.GwFf1.τ).loc Cert.GwFf1.main_arg1) = m ((c.tc : Thread Cert.GwFf1.nD Cert.GwFf1.τ).loc Cert.GwFf1.main_arg1))
      ∧ r.2.sem = fun _ => 0)

def quiescent_GwFf1Ideal [hGwFf1Ideal : Cert.GwFf1Ideal.Facts] : Prop :=
  ∀ (m : (ℓ : Loc Cert.GwFf1Ideal.nD Cert.GwFf1Ideal.τ Cert.GwFf1Ideal.sig) → Buf (Elt Ideal) ℓ) (g : Dev Cert.GwFf1Ideal.nD → PrngReg), Pre_GwFf1Ideal m →
    θ_run (Cert.GwFf1Ideal.defs (F := Ideal)) (onTc (τ := Cert.GwFf1Ideal.τ) (Cert.GwFf1Ideal.main (F := Ideal))) ⟨m, fun _ => 0, g⟩ (fun r => (∀ c : Dev Cert.GwFf1Ideal.nD,
      r.2.mem ((c.tc : Thread Cert.GwFf1Ideal.nD Cert.GwFf1Ideal.τ).loc Cert.GwFf1Ideal.main_arg0) = m ((c.tc : Thread Cert.GwFf1Ideal.nD Cert.GwFf1Ideal.τ).loc Cert.GwFf1Ideal.main_arg0)
      ∧ r.2.mem ((c.tc : Thread Cert.GwFf1Ideal.nD Cert.GwFf1Ideal.τ).loc Cert.GwFf1Ideal.main_arg1) = m ((c.tc : Thread Cert.GwFf1Ideal.nD Cert.GwFf1Ideal.τ).loc Cert.GwFf1Ideal.main_arg1))
      ∧ r.2.sem = fun _ => 0)

def quiescent_GwFf1RefIdeal [hGwFf1RefIdeal : Cert.GwFf1RefIdeal.Facts] : Prop :=
  ∀ (m : (ℓ : Loc Cert.GwFf1RefIdeal.nD Cert.GwFf1RefIdeal.τ Cert.GwFf1RefIdeal.sig) → Buf (Elt Ideal) ℓ) (g : Dev Cert.GwFf1RefIdeal.nD → PrngReg), Pre_GwFf1RefIdeal m →
    θ_run (Cert.GwFf1RefIdeal.defs (F := Ideal)) (onTc (τ := Cert.GwFf1RefIdeal.τ) (Cert.GwFf1RefIdeal.main (F := Ideal))) ⟨m, fun _ => 0, g⟩ (fun r => (∀ c : Dev Cert.GwFf1RefIdeal.nD,
      r.2.mem ((c.tc : Thread Cert.GwFf1RefIdeal.nD Cert.GwFf1RefIdeal.τ).loc Cert.GwFf1RefIdeal.main_arg0) = m ((c.tc : Thread Cert.GwFf1RefIdeal.nD Cert.GwFf1RefIdeal.τ).loc Cert.GwFf1RefIdeal.main_arg0)
      ∧ r.2.mem ((c.tc : Thread Cert.GwFf1RefIdeal.nD Cert.GwFf1RefIdeal.τ).loc Cert.GwFf1RefIdeal.main_arg1) = m ((c.tc : Thread Cert.GwFf1RefIdeal.nD Cert.GwFf1RefIdeal.τ).loc Cert.GwFf1RefIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRefIdeal [hGwOutRefIdeal : Cert.GwOutRefIdeal.Facts] : Prop :=
  ∀ (m : (ℓ : Loc Cert.GwOutRefIdeal.nD Cert.GwOutRefIdeal.τ Cert.GwOutRefIdeal.sig) → Buf (Elt Ideal) ℓ) (g : Dev Cert.GwOutRefIdeal.nD → PrngReg), Pre_GwOutRefIdeal m →
    θ_run (Cert.GwOutRefIdeal.defs (F := Ideal)) (onTc (τ := Cert.GwOutRefIdeal.τ) (Cert.GwOutRefIdeal.main (F := Ideal))) ⟨m, fun _ => 0, g⟩ (fun r => (∀ c : Dev Cert.GwOutRefIdeal.nD,
      r.2.mem ((c.tc : Thread Cert.GwOutRefIdeal.nD Cert.GwOutRefIdeal.τ).loc Cert.GwOutRefIdeal.main_arg0) = m ((c.tc : Thread Cert.GwOutRefIdeal.nD Cert.GwOutRefIdeal.τ).loc Cert.GwOutRefIdeal.main_arg0)
      ∧ r.2.mem ((c.tc : Thread Cert.GwOutRefIdeal.nD Cert.GwOutRefIdeal.τ).loc Cert.GwOutRefIdeal.main_arg1) = m ((c.tc : Thread Cert.GwOutRefIdeal.nD Cert.GwOutRefIdeal.τ).loc Cert.GwOutRefIdeal.main_arg1))
      ∧ r.2.sem = fun _ => 0)

def quiescent_GwPa [hGwPa : Cert.GwPa.Facts] : Prop :=
  ∀ (m : (ℓ : Loc Cert.GwPa.nD Cert.GwPa.τ Cert.GwPa.sig) → Buf (Elt Bits) ℓ) (g : Dev Cert.GwPa.nD → PrngReg), Pre_GwPa m →
    θ_run (Cert.GwPa.defs (F := Bits)) (onTc (τ := Cert.GwPa.τ) (Cert.GwPa.main (F := Bits))) ⟨m, fun _ => 0, g⟩ (fun r => (∀ c : Dev Cert.GwPa.nD,
      r.2.mem ((c.tc : Thread Cert.GwPa.nD Cert.GwPa.τ).loc Cert.GwPa.main_arg0) = m ((c.tc : Thread Cert.GwPa.nD Cert.GwPa.τ).loc Cert.GwPa.main_arg0)
      ∧ r.2.mem ((c.tc : Thread Cert.GwPa.nD Cert.GwPa.τ).loc Cert.GwPa.main_arg1) = m ((c.tc : Thread Cert.GwPa.nD Cert.GwPa.τ).loc Cert.GwPa.main_arg1))
      ∧ r.2.sem = fun _ => 0)

def quiescent_GwPaIdeal [hGwPaIdeal : Cert.GwPaIdeal.Facts] : Prop :=
  ∀ (m : (ℓ : Loc Cert.GwPaIdeal.nD Cert.GwPaIdeal.τ Cert.GwPaIdeal.sig) → Buf (Elt Ideal) ℓ) (g : Dev Cert.GwPaIdeal.nD → PrngReg), Pre_GwPaIdeal m →
    θ_run (Cert.GwPaIdeal.defs (F := Ideal)) (onTc (τ := Cert.GwPaIdeal.τ) (Cert.GwPaIdeal.main (F := Ideal))) ⟨m, fun _ => 0, g⟩ (fun r => (∀ c : Dev Cert.GwPaIdeal.nD,
      r.2.mem ((c.tc : Thread Cert.GwPaIdeal.nD Cert.GwPaIdeal.τ).loc Cert.GwPaIdeal.main_arg0) = m ((c.tc : Thread Cert.GwPaIdeal.nD Cert.GwPaIdeal.τ).loc Cert.GwPaIdeal.main_arg0)
      ∧ r.2.mem ((c.tc : Thread Cert.GwPaIdeal.nD Cert.GwPaIdeal.τ).loc Cert.GwPaIdeal.main_arg1) = m ((c.tc : Thread Cert.GwPaIdeal.nD Cert.GwPaIdeal.τ).loc Cert.GwPaIdeal.main_arg1))
      ∧ r.2.sem = fun _ => 0)

def quiescent_GwPaRefIdeal [hGwPaRefIdeal : Cert.GwPaRefIdeal.Facts] : Prop :=
  ∀ (m : (ℓ : Loc Cert.GwPaRefIdeal.nD Cert.GwPaRefIdeal.τ Cert.GwPaRefIdeal.sig) → Buf (Elt Ideal) ℓ) (g : Dev Cert.GwPaRefIdeal.nD → PrngReg), Pre_GwPaRefIdeal m →
    θ_run (Cert.GwPaRefIdeal.defs (F := Ideal)) (onTc (τ := Cert.GwPaRefIdeal.τ) (Cert.GwPaRefIdeal.main (F := Ideal))) ⟨m, fun _ => 0, g⟩ (fun r => (∀ c : Dev Cert.GwPaRefIdeal.nD,
      r.2.mem ((c.tc : Thread Cert.GwPaRefIdeal.nD Cert.GwPaRefIdeal.τ).loc Cert.GwPaRefIdeal.main_arg0) = m ((c.tc : Thread Cert.GwPaRefIdeal.nD Cert.GwPaRefIdeal.τ).loc Cert.GwPaRefIdeal.main_arg0)
      ∧ r.2.mem ((c.tc : Thread Cert.GwPaRefIdeal.nD Cert.GwPaRefIdeal.τ).loc Cert.GwPaRefIdeal.main_arg1) = m ((c.tc : Thread Cert.GwPaRefIdeal.nD Cert.GwPaRefIdeal.τ).loc Cert.GwPaRefIdeal.main_arg1))
      ∧ r.2.sem = fun _ => 0)

def quiescent_GwPb [hGwPb : Cert.GwPb.Facts] : Prop :=
  ∀ (m : (ℓ : Loc Cert.GwPb.nD Cert.GwPb.τ Cert.GwPb.sig) → Buf (Elt Bits) ℓ) (g : Dev Cert.GwPb.nD → PrngReg), Pre_GwPb m →
    θ_run (Cert.GwPb.defs (F := Bits)) (onTc (τ := Cert.GwPb.τ) (Cert.GwPb.main (F := Bits))) ⟨m, fun _ => 0, g⟩ (fun r => (∀ c : Dev Cert.GwPb.nD,
      r.2.mem ((c.tc : Thread Cert.GwPb.nD Cert.GwPb.τ).loc Cert.GwPb.main_arg0) = m ((c.tc : Thread Cert.GwPb.nD Cert.GwPb.τ).loc Cert.GwPb.main_arg0)
      ∧ r.2.mem ((c.tc : Thread Cert.GwPb.nD Cert.GwPb.τ).loc Cert.GwPb.main_arg1) = m ((c.tc : Thread Cert.GwPb.nD Cert.GwPb.τ).loc Cert.GwPb.main_arg1))
      ∧ r.2.sem = fun _ => 0)

def quiescent_GwPbIdeal [hGwPbIdeal : Cert.GwPbIdeal.Facts] : Prop :=
  ∀ (m : (ℓ : Loc Cert.GwPbIdeal.nD Cert.GwPbIdeal.τ Cert.GwPbIdeal.sig) → Buf (Elt Ideal) ℓ) (g : Dev Cert.GwPbIdeal.nD → PrngReg), Pre_GwPbIdeal m →
    θ_run (Cert.GwPbIdeal.defs (F := Ideal)) (onTc (τ := Cert.GwPbIdeal.τ) (Cert.GwPbIdeal.main (F := Ideal))) ⟨m, fun _ => 0, g⟩ (fun r => (∀ c : Dev Cert.GwPbIdeal.nD,
      r.2.mem ((c.tc : Thread Cert.GwPbIdeal.nD Cert.GwPbIdeal.τ).loc Cert.GwPbIdeal.main_arg0) = m ((c.tc : Thread Cert.GwPbIdeal.nD Cert.GwPbIdeal.τ).loc Cert.GwPbIdeal.main_arg0)
      ∧ r.2.mem ((c.tc : Thread Cert.GwPbIdeal.nD Cert.GwPbIdeal.τ).loc Cert.GwPbIdeal.main_arg1) = m ((c.tc : Thread Cert.GwPbIdeal.nD Cert.GwPbIdeal.τ).loc Cert.GwPbIdeal.main_arg1))
      ∧ r.2.sem = fun _ => 0)

def quiescent_GwPbRefIdeal [hGwPbRefIdeal : Cert.GwPbRefIdeal.Facts] : Prop :=
  ∀ (m : (ℓ : Loc Cert.GwPbRefIdeal.nD Cert.GwPbRefIdeal.τ Cert.GwPbRefIdeal.sig) → Buf (Elt Ideal) ℓ) (g : Dev Cert.GwPbRefIdeal.nD → PrngReg), Pre_GwPbRefIdeal m →
    θ_run (Cert.GwPbRefIdeal.defs (F := Ideal)) (onTc (τ := Cert.GwPbRefIdeal.τ) (Cert.GwPbRefIdeal.main (F := Ideal))) ⟨m, fun _ => 0, g⟩ (fun r => (∀ c : Dev Cert.GwPbRefIdeal.nD,
      r.2.mem ((c.tc : Thread Cert.GwPbRefIdeal.nD Cert.GwPbRefIdeal.τ).loc Cert.GwPbRefIdeal.main_arg0) = m ((c.tc : Thread Cert.GwPbRefIdeal.nD Cert.GwPbRefIdeal.τ).loc Cert.GwPbRefIdeal.main_arg0)
      ∧ r.2.mem ((c.tc : Thread Cert.GwPbRefIdeal.nD Cert.GwPbRefIdeal.τ).loc Cert.GwPbRefIdeal.main_arg1) = m ((c.tc : Thread Cert.GwPbRefIdeal.nD Cert.GwPbRefIdeal.τ).loc Cert.GwPbRefIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRefIdeal [hGwInRefIdeal : Cert.GwInRefIdeal.Facts] : Prop :=
  ∀ (m : (ℓ : Loc Cert.GwInRefIdeal.nD Cert.GwInRefIdeal.τ Cert.GwInRefIdeal.sig) → Buf (Elt Ideal) ℓ) (g : Dev Cert.GwInRefIdeal.nD → PrngReg), Pre_GwInRefIdeal m →
    θ_run (Cert.GwInRefIdeal.defs (F := Ideal)) (onTc (τ := Cert.GwInRefIdeal.τ) (Cert.GwInRefIdeal.main (F := Ideal))) ⟨m, fun _ => 0, g⟩ (fun r => (∀ c : Dev Cert.GwInRefIdeal.nD,
      r.2.mem ((c.tc : Thread Cert.GwInRefIdeal.nD Cert.GwInRefIdeal.τ).loc Cert.GwInRefIdeal.main_arg0) = m ((c.tc : Thread Cert.GwInRefIdeal.nD Cert.GwInRefIdeal.τ).loc Cert.GwInRefIdeal.main_arg0)
      ∧ r.2.mem ((c.tc : Thread Cert.GwInRefIdeal.nD Cert.GwInRefIdeal.τ).loc Cert.GwInRefIdeal.main_arg1) = m ((c.tc : Thread Cert.GwInRefIdeal.nD Cert.GwInRefIdeal.τ).loc Cert.GwInRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_Ff [hFf : Cert.Ff.Facts] : Prop :=
  ∀ (m : (ℓ : Loc Cert.Ff.nD Cert.Ff.τ Cert.Ff.sig) → Buf (Elt Bits) ℓ) (g : Dev Cert.Ff.nD → PrngReg), Pre_Ff m →
    θ_run (Cert.Ff.defs (F := Bits)) (onTc (τ := Cert.Ff.τ) (Cert.Ff.main (F := Bits))) ⟨m, fun _ => 0, g⟩ (fun r => (∀ c : Dev Cert.Ff.nD,
      r.2.mem ((c.tc : Thread Cert.Ff.nD Cert.Ff.τ).loc Cert.Ff.main_arg0) = m ((c.tc : Thread Cert.Ff.nD Cert.Ff.τ).loc Cert.Ff.main_arg0)
      ∧ r.2.mem ((c.tc : Thread Cert.Ff.nD Cert.Ff.τ).loc Cert.Ff.main_arg1) = m ((c.tc : Thread Cert.Ff.nD Cert.Ff.τ).loc Cert.Ff.main_arg1)
      ∧ r.2.mem ((c.tc : Thread Cert.Ff.nD Cert.Ff.τ).loc Cert.Ff.main_arg2) = m ((c.tc : Thread Cert.Ff.nD Cert.Ff.τ).loc Cert.Ff.main_arg2))
      ∧ r.2.sem = fun _ => 0)

def quiescent_FfIdeal [hFfIdeal : Cert.FfIdeal.Facts] : Prop :=
  ∀ (m : (ℓ : Loc Cert.FfIdeal.nD Cert.FfIdeal.τ Cert.FfIdeal.sig) → Buf (Elt Ideal) ℓ) (g : Dev Cert.FfIdeal.nD → PrngReg), Pre_FfIdeal m →
    θ_run (Cert.FfIdeal.defs (F := Ideal)) (onTc (τ := Cert.FfIdeal.τ) (Cert.FfIdeal.main (F := Ideal))) ⟨m, fun _ => 0, g⟩ (fun r => (∀ c : Dev Cert.FfIdeal.nD,
      r.2.mem ((c.tc : Thread Cert.FfIdeal.nD Cert.FfIdeal.τ).loc Cert.FfIdeal.main_arg0) = m ((c.tc : Thread Cert.FfIdeal.nD Cert.FfIdeal.τ).loc Cert.FfIdeal.main_arg0)
      ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
      ∧ r.2.mem ((c.tc : Thread Cert.FfIdeal.nD Cert.FfIdeal.τ).loc Cert.FfIdeal.main_arg2) = m ((c.tc : Thread Cert.FfIdeal.nD Cert.FfIdeal.τ).loc Cert.FfIdeal.main_arg2))
      ∧ r.2.sem = fun _ => 0)

def quiescent_FfRefIdeal [hFfRefIdeal : Cert.FfRefIdeal.Facts] : Prop :=
  ∀ (m : (ℓ : Loc Cert.FfRefIdeal.nD Cert.FfRefIdeal.τ Cert.FfRefIdeal.sig) → Buf (Elt Ideal) ℓ) (g : Dev Cert.FfRefIdeal.nD → PrngReg), Pre_FfRefIdeal m →
    θ_run (Cert.FfRefIdeal.defs (F := Ideal)) (onTc (τ := Cert.FfRefIdeal.τ) (Cert.FfRefIdeal.main (F := Ideal))) ⟨m, fun _ => 0, g⟩ (fun r => (∀ c : Dev Cert.FfRefIdeal.nD,
      r.2.mem ((c.tc : Thread Cert.FfRefIdeal.nD Cert.FfRefIdeal.τ).loc Cert.FfRefIdeal.main_arg0) = m ((c.tc : Thread Cert.FfRefIdeal.nD Cert.FfRefIdeal.τ).loc Cert.FfRefIdeal.main_arg0)
      ∧ r.2.mem ((c.tc : Thread Cert.FfRefIdeal.nD Cert.FfRefIdeal.τ).loc Cert.FfRefIdeal.main_arg1) = m ((c.tc : Thread Cert.FfRefIdeal.nD Cert.FfRefIdeal.τ).loc Cert.FfRefIdeal.main_arg1)
      ∧ r.2.mem ((c.tc : Thread Cert.FfRefIdeal.nD Cert.FfRefIdeal.τ).loc Cert.FfRefIdeal.main_arg2) = m ((c.tc : Thread Cert.FfRefIdeal.nD Cert.FfRefIdeal.τ).loc Cert.FfRefIdeal.main_arg2))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdFf [hAdFf : Cert.AdFf.Facts] : Prop :=
  ∀ (m : (ℓ : Loc Cert.AdFf.nD Cert.AdFf.τ Cert.AdFf.sig) → Buf (Elt Bits) ℓ) (g : Dev Cert.AdFf.nD → PrngReg), Pre_AdFf m →
    θ_run (Cert.AdFf.defs (F := Bits)) (onTc (τ := Cert.AdFf.τ) (Cert.AdFf.main (F := Bits))) ⟨m, fun _ => 0, g⟩ (fun r => (∀ c : Dev Cert.AdFf.nD,
      r.2.mem ((c.tc : Thread Cert.AdFf.nD Cert.AdFf.τ).loc Cert.AdFf.main_arg0) = m ((c.tc : Thread Cert.AdFf.nD Cert.AdFf.τ).loc Cert.AdFf.main_arg0)
      ∧ r.2.mem ((c.tc : Thread Cert.AdFf.nD Cert.AdFf.τ).loc Cert.AdFf.main_arg1) = m ((c.tc : Thread Cert.AdFf.nD Cert.AdFf.τ).loc Cert.AdFf.main_arg1)
      ∧ r.2.mem ((c.tc : Thread Cert.AdFf.nD Cert.AdFf.τ).loc Cert.AdFf.main_arg2) = m ((c.tc : Thread Cert.AdFf.nD Cert.AdFf.τ).loc Cert.AdFf.main_arg2)
      ∧ r.2.mem ((c.tc : Thread Cert.AdFf.nD Cert.AdFf.τ).loc Cert.AdFf.main_arg3) = m ((c.tc : Thread Cert.AdFf.nD Cert.AdFf.τ).loc Cert.AdFf.main_arg3))
      ∧ r.2.sem = fun _ => 0)

def quiescent_AdFfIdeal [hAdFfIdeal : Cert.AdFfIdeal.Facts] : Prop :=
  ∀ (m : (ℓ : Loc Cert.AdFfIdeal.nD Cert.AdFfIdeal.τ Cert.AdFfIdeal.sig) → Buf (Elt Ideal) ℓ) (g : Dev Cert.AdFfIdeal.nD → PrngReg), Pre_AdFfIdeal m →
    θ_run (Cert.AdFfIdeal.defs (F := Ideal)) (onTc (τ := Cert.AdFfIdeal.τ) (Cert.AdFfIdeal.main (F := Ideal))) ⟨m, fun _ => 0, g⟩ (fun r => (∀ c : Dev Cert.AdFfIdeal.nD,
      r.2.mem ((c.tc : Thread Cert.AdFfIdeal.nD Cert.AdFfIdeal.τ).loc Cert.AdFfIdeal.main_arg0) = m ((c.tc : Thread Cert.AdFfIdeal.nD Cert.AdFfIdeal.τ).loc Cert.AdFfIdeal.main_arg0)
      ∧ r.2.mem ((c.tc : Thread Cert.AdFfIdeal.nD Cert.AdFfIdeal.τ).loc Cert.AdFfIdeal.main_arg1) = m ((c.tc : Thread Cert.AdFfIdeal.nD Cert.AdFfIdeal.τ).loc Cert.AdFfIdeal.main_arg1)
      ∧ r.2.mem ((c.tc : Thread Cert.AdFfIdeal.nD Cert.AdFfIdeal.τ).loc Cert.AdFfIdeal.main_arg2) = m ((c.tc : Thread Cert.AdFfIdeal.nD Cert.AdFfIdeal.τ).loc Cert.AdFfIdeal.main_arg2)
      ∧ r.2.mem ((c.tc : Thread Cert.AdFfIdeal.nD Cert.AdFfIdeal.τ).loc Cert.AdFfIdeal.main_arg3) = m ((c.tc : Thread Cert.AdFfIdeal.nD Cert.AdFfIdeal.τ).loc Cert.AdFfIdeal.main_arg3))
      ∧ r.2.sem = fun _ => 0)

def quiescent_AdFfRefIdeal [hAdFfRefIdeal : Cert.AdFfRefIdeal.Facts] : Prop :=
  ∀ (m : (ℓ : Loc Cert.AdFfRefIdeal.nD Cert.AdFfRefIdeal.τ Cert.AdFfRefIdeal.sig) → Buf (Elt Ideal) ℓ) (g : Dev Cert.AdFfRefIdeal.nD → PrngReg), Pre_AdFfRefIdeal m →
    θ_run (Cert.AdFfRefIdeal.defs (F := Ideal)) (onTc (τ := Cert.AdFfRefIdeal.τ) (Cert.AdFfRefIdeal.main (F := Ideal))) ⟨m, fun _ => 0, g⟩ (fun r => (∀ c : Dev Cert.AdFfRefIdeal.nD,
      r.2.mem ((c.tc : Thread Cert.AdFfRefIdeal.nD Cert.AdFfRefIdeal.τ).loc Cert.AdFfRefIdeal.main_arg0) = m ((c.tc : Thread Cert.AdFfRefIdeal.nD Cert.AdFfRefIdeal.τ).loc Cert.AdFfRefIdeal.main_arg0)
      ∧ r.2.mem ((c.tc : Thread Cert.AdFfRefIdeal.nD Cert.AdFfRefIdeal.τ).loc Cert.AdFfRefIdeal.main_arg1) = m ((c.tc : Thread Cert.AdFfRefIdeal.nD Cert.AdFfRefIdeal.τ).loc Cert.AdFfRefIdeal.main_arg1)
      ∧ r.2.mem ((c.tc : Thread Cert.AdFfRefIdeal.nD Cert.AdFfRefIdeal.τ).loc Cert.AdFfRefIdeal.main_arg2) = m ((c.tc : Thread Cert.AdFfRefIdeal.nD Cert.AdFfRefIdeal.τ).loc Cert.AdFfRefIdeal.main_arg2)
      ∧ r.2.mem ((c.tc : Thread Cert.AdFfRefIdeal.nD Cert.AdFfRefIdeal.τ).loc Cert.AdFfRefIdeal.main_arg3) = m ((c.tc : Thread Cert.AdFfRefIdeal.nD Cert.AdFfRefIdeal.τ).loc Cert.AdFfRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def quiescent_AdPr [hAdPr : Cert.AdPr.Facts] : Prop :=
  ∀ (m : (ℓ : Loc Cert.AdPr.nD Cert.AdPr.τ Cert.AdPr.sig) → Buf (Elt Bits) ℓ) (g : Dev Cert.AdPr.nD → PrngReg), Pre_AdPr m →
    θ_run (Cert.AdPr.defs (F := Bits)) (onTc (τ := Cert.AdPr.τ) (Cert.AdPr.main (F := Bits))) ⟨m, fun _ => 0, g⟩ (fun r => (∀ c : Dev Cert.AdPr.nD,
      r.2.mem ((c.tc : Thread Cert.AdPr.nD Cert.AdPr.τ).loc Cert.AdPr.main_arg0) = m ((c.tc : Thread Cert.AdPr.nD Cert.AdPr.τ).loc Cert.AdPr.main_arg0)
      ∧ r.2.mem ((c.tc : Thread Cert.AdPr.nD Cert.AdPr.τ).loc Cert.AdPr.main_arg1) = m ((c.tc : Thread Cert.AdPr.nD Cert.AdPr.τ).loc Cert.AdPr.main_arg1)
      ∧ r.2.mem ((c.tc : Thread Cert.AdPr.nD Cert.AdPr.τ).loc Cert.AdPr.main_arg2) = m ((c.tc : Thread Cert.AdPr.nD Cert.AdPr.τ).loc Cert.AdPr.main_arg2)
      ∧ r.2.mem ((c.tc : Thread Cert.AdPr.nD Cert.AdPr.τ).loc Cert.AdPr.main_arg3) = m ((c.tc : Thread Cert.AdPr.nD Cert.AdPr.τ).loc Cert.AdPr.main_arg3))
      ∧ r.2.sem = fun _ => 0)

def quiescent_AdPrIdeal [hAdPrIdeal : Cert.AdPrIdeal.Facts] : Prop :=
  ∀ (m : (ℓ : Loc Cert.AdPrIdeal.nD Cert.AdPrIdeal.τ Cert.AdPrIdeal.sig) → Buf (Elt Ideal) ℓ) (g : Dev Cert.AdPrIdeal.nD → PrngReg), Pre_AdPrIdeal m →
    θ_run (Cert.AdPrIdeal.defs (F := Ideal)) (onTc (τ := Cert.AdPrIdeal.τ) (Cert.AdPrIdeal.main (F := Ideal))) ⟨m, fun _ => 0, g⟩ (fun r => (∀ c : Dev Cert.AdPrIdeal.nD,
      r.2.mem ((c.tc : Thread Cert.AdPrIdeal.nD Cert.AdPrIdeal.τ).loc Cert.AdPrIdeal.main_arg0) = m ((c.tc : Thread Cert.AdPrIdeal.nD Cert.AdPrIdeal.τ).loc Cert.AdPrIdeal.main_arg0)
      ∧ r.2.mem ((c.tc : Thread Cert.AdPrIdeal.nD Cert.AdPrIdeal.τ).loc Cert.AdPrIdeal.main_arg1) = m ((c.tc : Thread Cert.AdPrIdeal.nD Cert.AdPrIdeal.τ).loc Cert.AdPrIdeal.main_arg1)
      ∧ r.2.mem ((c.tc : Thread Cert.AdPrIdeal.nD Cert.AdPrIdeal.τ).loc Cert.AdPrIdeal.main_arg2) = m ((c.tc : Thread Cert.AdPrIdeal.nD Cert.AdPrIdeal.τ).loc Cert.AdPrIdeal.main_arg2)
      ∧ r.2.mem ((c.tc : Thread Cert.AdPrIdeal.nD Cert.AdPrIdeal.τ).loc Cert.AdPrIdeal.main_arg3) = m ((c.tc : Thread Cert.AdPrIdeal.nD Cert.AdPrIdeal.τ).loc Cert.AdPrIdeal.main_arg3))
      ∧ r.2.sem = fun _ => 0)

def quiescent_AdPrRefIdeal [hAdPrRefIdeal : Cert.AdPrRefIdeal.Facts] : Prop :=
  ∀ (m : (ℓ : Loc Cert.AdPrRefIdeal.nD Cert.AdPrRefIdeal.τ Cert.AdPrRefIdeal.sig) → Buf (Elt Ideal) ℓ) (g : Dev Cert.AdPrRefIdeal.nD → PrngReg), Pre_AdPrRefIdeal m →
    θ_run (Cert.AdPrRefIdeal.defs (F := Ideal)) (onTc (τ := Cert.AdPrRefIdeal.τ) (Cert.AdPrRefIdeal.main (F := Ideal))) ⟨m, fun _ => 0, g⟩ (fun r => (∀ c : Dev Cert.AdPrRefIdeal.nD,
      r.2.mem ((c.tc : Thread Cert.AdPrRefIdeal.nD Cert.AdPrRefIdeal.τ).loc Cert.AdPrRefIdeal.main_arg0) = m ((c.tc : Thread Cert.AdPrRefIdeal.nD Cert.AdPrRefIdeal.τ).loc Cert.AdPrRefIdeal.main_arg0)
      ∧ r.2.mem ((c.tc : Thread Cert.AdPrRefIdeal.nD Cert.AdPrRefIdeal.τ).loc Cert.AdPrRefIdeal.main_arg1) = m ((c.tc : Thread Cert.AdPrRefIdeal.nD Cert.AdPrRefIdeal.τ).loc Cert.AdPrRefIdeal.main_arg1)
      ∧ r.2.mem ((c.tc : Thread Cert.AdPrRefIdeal.nD Cert.AdPrRefIdeal.τ).loc Cert.AdPrRefIdeal.main_arg2) = m ((c.tc : Thread Cert.AdPrRefIdeal.nD Cert.AdPrRefIdeal.τ).loc Cert.AdPrRefIdeal.main_arg2)
      ∧ r.2.mem ((c.tc : Thread Cert.AdPrRefIdeal.nD Cert.AdPrRefIdeal.τ).loc Cert.AdPrRefIdeal.main_arg3) = m ((c.tc : Thread Cert.AdPrRefIdeal.nD Cert.AdPrRefIdeal.τ).loc Cert.AdPrRefIdeal.main_arg3))
      ∧ r.2.sem = fun _ => 0)

def quiescent_AdSm [hAdSm : Cert.AdSm.Facts] : Prop :=
  ∀ (m : (ℓ : Loc Cert.AdSm.nD Cert.AdSm.τ Cert.AdSm.sig) → Buf (Elt Bits) ℓ) (g : Dev Cert.AdSm.nD → PrngReg), Pre_AdSm m →
    θ_run (Cert.AdSm.defs (F := Bits)) (onTc (τ := Cert.AdSm.τ) (Cert.AdSm.main (F := Bits))) ⟨m, fun _ => 0, g⟩ (fun r => (∀ c : Dev Cert.AdSm.nD,
      r.2.mem ((c.tc : Thread Cert.AdSm.nD Cert.AdSm.τ).loc Cert.AdSm.main_arg0) = m ((c.tc : Thread Cert.AdSm.nD Cert.AdSm.τ).loc Cert.AdSm.main_arg0)
      ∧ r.2.mem ((c.tc : Thread Cert.AdSm.nD Cert.AdSm.τ).loc Cert.AdSm.main_arg1) = m ((c.tc : Thread Cert.AdSm.nD Cert.AdSm.τ).loc Cert.AdSm.main_arg1)
      ∧ r.2.mem ((c.tc : Thread Cert.AdSm.nD Cert.AdSm.τ).loc Cert.AdSm.main_arg2) = m ((c.tc : Thread Cert.AdSm.nD Cert.AdSm.τ).loc Cert.AdSm.main_arg2)
      ∧ r.2.mem ((c.tc : Thread Cert.AdSm.nD Cert.AdSm.τ).loc Cert.AdSm.main_arg3) = m ((c.tc : Thread Cert.AdSm.nD Cert.AdSm.τ).loc Cert.AdSm.main_arg3))
      ∧ r.2.sem = fun _ => 0)

def quiescent_AdSmIdeal [hAdSmIdeal : Cert.AdSmIdeal.Facts] : Prop :=
  ∀ (m : (ℓ : Loc Cert.AdSmIdeal.nD Cert.AdSmIdeal.τ Cert.AdSmIdeal.sig) → Buf (Elt Ideal) ℓ) (g : Dev Cert.AdSmIdeal.nD → PrngReg), Pre_AdSmIdeal m →
    θ_run (Cert.AdSmIdeal.defs (F := Ideal)) (onTc (τ := Cert.AdSmIdeal.τ) (Cert.AdSmIdeal.main (F := Ideal))) ⟨m, fun _ => 0, g⟩ (fun r => (∀ c : Dev Cert.AdSmIdeal.nD,
      r.2.mem ((c.tc : Thread Cert.AdSmIdeal.nD Cert.AdSmIdeal.τ).loc Cert.AdSmIdeal.main_arg0) = m ((c.tc : Thread Cert.AdSmIdeal.nD Cert.AdSmIdeal.τ).loc Cert.AdSmIdeal.main_arg0)
      ∧ r.2.mem ((c.tc : Thread Cert.AdSmIdeal.nD Cert.AdSmIdeal.τ).loc Cert.AdSmIdeal.main_arg1) = m ((c.tc : Thread Cert.AdSmIdeal.nD Cert.AdSmIdeal.τ).loc Cert.AdSmIdeal.main_arg1)
      ∧ r.2.mem ((c.tc : Thread Cert.AdSmIdeal.nD Cert.AdSmIdeal.τ).loc Cert.AdSmIdeal.main_arg2) = m ((c.tc : Thread Cert.AdSmIdeal.nD Cert.AdSmIdeal.τ).loc Cert.AdSmIdeal.main_arg2)
      ∧ r.2.mem ((c.tc : Thread Cert.AdSmIdeal.nD Cert.AdSmIdeal.τ).loc Cert.AdSmIdeal.main_arg3) = m ((c.tc : Thread Cert.AdSmIdeal.nD Cert.AdSmIdeal.τ).loc Cert.AdSmIdeal.main_arg3))
      ∧ r.2.sem = fun _ => 0)

def quiescent_AdSmRefIdeal [hAdSmRefIdeal : Cert.AdSmRefIdeal.Facts] : Prop :=
  ∀ (m : (ℓ : Loc Cert.AdSmRefIdeal.nD Cert.AdSmRefIdeal.τ Cert.AdSmRefIdeal.sig) → Buf (Elt Ideal) ℓ) (g : Dev Cert.AdSmRefIdeal.nD → PrngReg), Pre_AdSmRefIdeal m →
    θ_run (Cert.AdSmRefIdeal.defs (F := Ideal)) (onTc (τ := Cert.AdSmRefIdeal.τ) (Cert.AdSmRefIdeal.main (F := Ideal))) ⟨m, fun _ => 0, g⟩ (fun r => (∀ c : Dev Cert.AdSmRefIdeal.nD,
      r.2.mem ((c.tc : Thread Cert.AdSmRefIdeal.nD Cert.AdSmRefIdeal.τ).loc Cert.AdSmRefIdeal.main_arg0) = m ((c.tc : Thread Cert.AdSmRefIdeal.nD Cert.AdSmRefIdeal.τ).loc Cert.AdSmRefIdeal.main_arg0)
      ∧ r.2.mem ((c.tc : Thread Cert.AdSmRefIdeal.nD Cert.AdSmRefIdeal.τ).loc Cert.AdSmRefIdeal.main_arg1) = m ((c.tc : Thread Cert.AdSmRefIdeal.nD Cert.AdSmRefIdeal.τ).loc Cert.AdSmRefIdeal.main_arg1)
      ∧ r.2.mem ((c.tc : Thread Cert.AdSmRefIdeal.nD Cert.AdSmRefIdeal.τ).loc Cert.AdSmRefIdeal.main_arg2) = m ((c.tc : Thread Cert.AdSmRefIdeal.nD Cert.AdSmRefIdeal.τ).loc Cert.AdSmRefIdeal.main_arg2)
      ∧ r.2.mem ((c.tc : Thread Cert.AdSmRefIdeal.nD Cert.AdSmRefIdeal.τ).loc Cert.AdSmRefIdeal.main_arg3) = m ((c.tc : Thread Cert.AdSmRefIdeal.nD Cert.AdSmRefIdeal.τ).loc Cert.AdSmRefIdeal.main_arg3))
      ∧ r.2.sem = fun _ => 0)

def quiescent_ProjOwn [hProjOwn : Cert.ProjOwn.Facts] : Prop :=
  ∀ (m : (ℓ : Loc Cert.ProjOwn.nD Cert.ProjOwn.τ Cert.ProjOwn.sig) → Buf (Elt Bits) ℓ) (g : Dev Cert.ProjOwn.nD → PrngReg), Pre_ProjOwn m →
    θ_run (Cert.ProjOwn.defs (F := Bits)) (onTc (τ := Cert.ProjOwn.τ) (Cert.ProjOwn.main (F := Bits))) ⟨m, fun _ => 0, g⟩ (fun r => (∀ c : Dev Cert.ProjOwn.nD,
      r.2.mem ((c.tc : Thread Cert.ProjOwn.nD Cert.ProjOwn.τ).loc Cert.ProjOwn.main_arg0) = m ((c.tc : Thread Cert.ProjOwn.nD Cert.ProjOwn.τ).loc Cert.ProjOwn.main_arg0)
      ∧ r.2.mem ((c.tc : Thread Cert.ProjOwn.nD Cert.ProjOwn.τ).loc Cert.ProjOwn.main_arg1) = m ((c.tc : Thread Cert.ProjOwn.nD Cert.ProjOwn.τ).loc Cert.ProjOwn.main_arg1))
      ∧ r.2.sem = fun _ => 0)

def quiescent_ProjOwnIdeal [hProjOwnIdeal : Cert.ProjOwnIdeal.Facts] : Prop :=
  ∀ (m : (ℓ : Loc Cert.ProjOwnIdeal.nD Cert.ProjOwnIdeal.τ Cert.ProjOwnIdeal.sig) → Buf (Elt Ideal) ℓ) (g : Dev Cert.ProjOwnIdeal.nD → PrngReg), Pre_ProjOwnIdeal m →
    θ_run (Cert.ProjOwnIdeal.defs (F := Ideal)) (onTc (τ := Cert.ProjOwnIdeal.τ) (Cert.ProjOwnIdeal.main (F := Ideal))) ⟨m, fun _ => 0, g⟩ (fun r => (∀ c : Dev Cert.ProjOwnIdeal.nD,
      r.2.mem ((c.tc : Thread Cert.ProjOwnIdeal.nD Cert.ProjOwnIdeal.τ).loc Cert.ProjOwnIdeal.main_arg0) = m ((c.tc : Thread Cert.ProjOwnIdeal.nD Cert.ProjOwnIdeal.τ).loc Cert.ProjOwnIdeal.main_arg0)
      ∧ r.2.mem ((c.tc : Thread Cert.ProjOwnIdeal.nD Cert.ProjOwnIdeal.τ).loc Cert.ProjOwnIdeal.main_arg1) = m ((c.tc : Thread Cert.ProjOwnIdeal.nD Cert.ProjOwnIdeal.τ).loc Cert.ProjOwnIdeal.main_arg1))
      ∧ r.2.sem = fun _ => 0)

def quiescent_ProjOwnRefIdeal [hProjOwnRefIdeal : Cert.ProjOwnRefIdeal.Facts] : Prop :=
  ∀ (m : (ℓ : Loc Cert.ProjOwnRefIdeal.nD Cert.ProjOwnRefIdeal.τ Cert.ProjOwnRefIdeal.sig) → Buf (Elt Ideal) ℓ) (g : Dev Cert.ProjOwnRefIdeal.nD → PrngReg), Pre_ProjOwnRefIdeal m →
    θ_run (Cert.ProjOwnRefIdeal.defs (F := Ideal)) (onTc (τ := Cert.ProjOwnRefIdeal.τ) (Cert.ProjOwnRefIdeal.main (F := Ideal))) ⟨m, fun _ => 0, g⟩ (fun r => (∀ c : Dev Cert.ProjOwnRefIdeal.nD,
      r.2.mem ((c.tc : Thread Cert.ProjOwnRefIdeal.nD Cert.ProjOwnRefIdeal.τ).loc Cert.ProjOwnRefIdeal.main_arg0) = m ((c.tc : Thread Cert.ProjOwnRefIdeal.nD Cert.ProjOwnRefIdeal.τ).loc Cert.ProjOwnRefIdeal.main_arg0)
      ∧ r.2.mem ((c.tc : Thread Cert.ProjOwnRefIdeal.nD Cert.ProjOwnRefIdeal.τ).loc Cert.ProjOwnRefIdeal.main_arg1) = m ((c.tc : Thread Cert.ProjOwnRefIdeal.nD Cert.ProjOwnRefIdeal.τ).loc Cert.ProjOwnRefIdeal.main_arg1))
      ∧ r.2.sem = fun _ => 0)

def quiescent_ProjNear [hProjNear : Cert.ProjNear.Facts] : Prop :=
  ∀ (m : (ℓ : Loc Cert.ProjNear.nD Cert.ProjNear.τ Cert.ProjNear.sig) → Buf (Elt Bits) ℓ) (g : Dev Cert.ProjNear.nD → PrngReg), Pre_ProjNear m →
    θ_run (Cert.ProjNear.defs (F := Bits)) (onTc (τ := Cert.ProjNear.τ) (Cert.ProjNear.main (F := Bits))) ⟨m, fun _ => 0, g⟩ (fun r => (∀ c : Dev Cert.ProjNear.nD,
      r.2.mem ((c.tc : Thread Cert.ProjNear.nD Cert.ProjNear.τ).loc Cert.ProjNear.main_arg0) = m ((c.tc : Thread Cert.ProjNear.nD Cert.ProjNear.τ).loc Cert.ProjNear.main_arg0)
      ∧ r.2.mem ((c.tc : Thread Cert.ProjNear.nD Cert.ProjNear.τ).loc Cert.ProjNear.main_arg1) = m ((c.tc : Thread Cert.ProjNear.nD Cert.ProjNear.τ).loc Cert.ProjNear.main_arg1)
      ∧ r.2.mem ((c.tc : Thread Cert.ProjNear.nD Cert.ProjNear.τ).loc Cert.ProjNear.main_arg2) = m ((c.tc : Thread Cert.ProjNear.nD Cert.ProjNear.τ).loc Cert.ProjNear.main_arg2))
      ∧ r.2.sem = fun _ => 0)

def quiescent_ProjNearIdeal [hProjNearIdeal : Cert.ProjNearIdeal.Facts] : Prop :=
  ∀ (m : (ℓ : Loc Cert.ProjNearIdeal.nD Cert.ProjNearIdeal.τ Cert.ProjNearIdeal.sig) → Buf (Elt Ideal) ℓ) (g : Dev Cert.ProjNearIdeal.nD → PrngReg), Pre_ProjNearIdeal m →
    θ_run (Cert.ProjNearIdeal.defs (F := Ideal)) (onTc (τ := Cert.ProjNearIdeal.τ) (Cert.ProjNearIdeal.main (F := Ideal))) ⟨m, fun _ => 0, g⟩ (fun r => (∀ c : Dev Cert.ProjNearIdeal.nD,
      r.2.mem ((c.tc : Thread Cert.ProjNearIdeal.nD Cert.ProjNearIdeal.τ).loc Cert.ProjNearIdeal.main_arg0) = m ((c.tc : Thread Cert.ProjNearIdeal.nD Cert.ProjNearIdeal.τ).loc Cert.ProjNearIdeal.main_arg0)
      ∧ r.2.mem ((c.tc : Thread Cert.ProjNearIdeal.nD Cert.ProjNearIdeal.τ).loc Cert.ProjNearIdeal.main_arg1) = m ((c.tc : Thread Cert.ProjNearIdeal.nD Cert.ProjNearIdeal.τ).loc Cert.ProjNearIdeal.main_arg1)
      ∧ r.2.mem ((c.tc : Thread Cert.ProjNearIdeal.nD Cert.ProjNearIdeal.τ).loc Cert.ProjNearIdeal.main_arg2) = m ((c.tc : Thread Cert.ProjNearIdeal.nD Cert.ProjNearIdeal.τ).loc Cert.ProjNearIdeal.main_arg2))
      ∧ r.2.sem = fun _ => 0)

def quiescent_ProjNearRefIdeal [hProjNearRefIdeal : Cert.ProjNearRefIdeal.Facts] : Prop :=
  ∀ (m : (ℓ : Loc Cert.ProjNearRefIdeal.nD Cert.ProjNearRefIdeal.τ Cert.ProjNearRefIdeal.sig) → Buf (Elt Ideal) ℓ) (g : Dev Cert.ProjNearRefIdeal.nD → PrngReg), Pre_ProjNearRefIdeal m →
    θ_run (Cert.ProjNearRefIdeal.defs (F := Ideal)) (onTc (τ := Cert.ProjNearRefIdeal.τ) (Cert.ProjNearRefIdeal.main (F := Ideal))) ⟨m, fun _ => 0, g⟩ (fun r => (∀ c : Dev Cert.ProjNearRefIdeal.nD,
      r.2.mem ((c.tc : Thread Cert.ProjNearRefIdeal.nD Cert.ProjNearRefIdeal.τ).loc Cert.ProjNearRefIdeal.main_arg0) = m ((c.tc : Thread Cert.ProjNearRefIdeal.nD Cert.ProjNearRefIdeal.τ).loc Cert.ProjNearRefIdeal.main_arg0)
      ∧ r.2.mem ((c.tc : Thread Cert.ProjNearRefIdeal.nD Cert.ProjNearRefIdeal.τ).loc Cert.ProjNearRefIdeal.main_arg1) = m ((c.tc : Thread Cert.ProjNearRefIdeal.nD Cert.ProjNearRefIdeal.τ).loc Cert.ProjNearRefIdeal.main_arg1)
      ∧ r.2.mem ((c.tc : Thread Cert.ProjNearRefIdeal.nD Cert.ProjNearRefIdeal.τ).loc Cert.ProjNearRefIdeal.main_arg2) = m ((c.tc : Thread Cert.ProjNearRefIdeal.nD Cert.ProjNearRefIdeal.τ).loc Cert.ProjNearRefIdeal.main_arg2))
      ∧ r.2.sem = fun _ => 0)

def quiescent_ProjFar [hProjFar : Cert.ProjFar.Facts] : Prop :=
  ∀ (m : (ℓ : Loc Cert.ProjFar.nD Cert.ProjFar.τ Cert.ProjFar.sig) → Buf (Elt Bits) ℓ) (g : Dev Cert.ProjFar.nD → PrngReg), Pre_ProjFar m →
    θ_run (Cert.ProjFar.defs (F := Bits)) (onTc (τ := Cert.ProjFar.τ) (Cert.ProjFar.main (F := Bits))) ⟨m, fun _ => 0, g⟩ (fun r => (∀ c : Dev Cert.ProjFar.nD,
      r.2.mem ((c.tc : Thread Cert.ProjFar.nD Cert.ProjFar.τ).loc Cert.ProjFar.main_arg0) = m ((c.tc : Thread Cert.ProjFar.nD Cert.ProjFar.τ).loc Cert.ProjFar.main_arg0)
      ∧ r.2.mem ((c.tc : Thread Cert.ProjFar.nD Cert.ProjFar.τ).loc Cert.ProjFar.main_arg1) = m ((c.tc : Thread Cert.ProjFar.nD Cert.ProjFar.τ).loc Cert.ProjFar.main_arg1)
      ∧ r.2.mem ((c.tc : Thread Cert.ProjFar.nD Cert.ProjFar.τ).loc Cert.ProjFar.main_arg2) = m ((c.tc : Thread Cert.ProjFar.nD Cert.ProjFar.τ).loc Cert.ProjFar.main_arg2))
      ∧ r.2.sem = fun _ => 0)

def quiescent_ProjFarIdeal [hProjFarIdeal : Cert.ProjFarIdeal.Facts] : Prop :=
  ∀ (m : (ℓ : Loc Cert.ProjFarIdeal.nD Cert.ProjFarIdeal.τ Cert.ProjFarIdeal.sig) → Buf (Elt Ideal) ℓ) (g : Dev Cert.ProjFarIdeal.nD → PrngReg), Pre_ProjFarIdeal m →
    θ_run (Cert.ProjFarIdeal.defs (F := Ideal)) (onTc (τ := Cert.ProjFarIdeal.τ) (Cert.ProjFarIdeal.main (F := Ideal))) ⟨m, fun _ => 0, g⟩ (fun r => (∀ c : Dev Cert.ProjFarIdeal.nD,
      r.2.mem ((c.tc : Thread Cert.ProjFarIdeal.nD Cert.ProjFarIdeal.τ).loc Cert.ProjFarIdeal.main_arg0) = m ((c.tc : Thread Cert.ProjFarIdeal.nD Cert.ProjFarIdeal.τ).loc Cert.ProjFarIdeal.main_arg0)
      ∧ r.2.mem ((c.tc : Thread Cert.ProjFarIdeal.nD Cert.ProjFarIdeal.τ).loc Cert.ProjFarIdeal.main_arg1) = m ((c.tc : Thread Cert.ProjFarIdeal.nD Cert.ProjFarIdeal.τ).loc Cert.ProjFarIdeal.main_arg1)
      ∧ r.2.mem ((c.tc : Thread Cert.ProjFarIdeal.nD Cert.ProjFarIdeal.τ).loc Cert.ProjFarIdeal.main_arg2) = m ((c.tc : Thread Cert.ProjFarIdeal.nD Cert.ProjFarIdeal.τ).loc Cert.ProjFarIdeal.main_arg2))
      ∧ r.2.sem = fun _ => 0)

def quiescent_ProjFarRefIdeal [hProjFarRefIdeal : Cert.ProjFarRefIdeal.Facts] : Prop :=
  ∀ (m : (ℓ : Loc Cert.ProjFarRefIdeal.nD Cert.ProjFarRefIdeal.τ Cert.ProjFarRefIdeal.sig) → Buf (Elt Ideal) ℓ) (g : Dev Cert.ProjFarRefIdeal.nD → PrngReg), Pre_ProjFarRefIdeal m →
    θ_run (Cert.ProjFarRefIdeal.defs (F := Ideal)) (onTc (τ := Cert.ProjFarRefIdeal.τ) (Cert.ProjFarRefIdeal.main (F := Ideal))) ⟨m, fun _ => 0, g⟩ (fun r => (∀ c : Dev Cert.ProjFarRefIdeal.nD,
      r.2.mem ((c.tc : Thread Cert.ProjFarRefIdeal.nD Cert.ProjFarRefIdeal.τ).loc Cert.ProjFarRefIdeal.main_arg0) = m ((c.tc : Thread Cert.ProjFarRefIdeal.nD Cert.ProjFarRefIdeal.τ).loc Cert.ProjFarRefIdeal.main_arg0)
      ∧ r.2.mem ((c.tc : Thread Cert.ProjFarRefIdeal.nD Cert.ProjFarRefIdeal.τ).loc Cert.ProjFarRefIdeal.main_arg1) = m ((c.tc : Thread Cert.ProjFarRefIdeal.nD Cert.ProjFarRefIdeal.τ).loc Cert.ProjFarRefIdeal.main_arg1)
      ∧ r.2.mem ((c.tc : Thread Cert.ProjFarRefIdeal.nD Cert.ProjFarRefIdeal.τ).loc Cert.ProjFarRefIdeal.main_arg2) = m ((c.tc : Thread Cert.ProjFarRefIdeal.nD Cert.ProjFarRefIdeal.τ).loc Cert.ProjFarRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4))
      ∧ r.2.sem = fun _ => 0)

def quiescent_Ln [hLn : Cert.Ln.Facts] : Prop :=
  ∀ (m : (ℓ : Loc Cert.Ln.nD Cert.Ln.τ Cert.Ln.sig) → Buf (Elt Bits) ℓ) (g : Dev Cert.Ln.nD → PrngReg), Pre_Ln m →
    θ_run (Cert.Ln.defs (F := Bits)) (onTc (τ := Cert.Ln.τ) (Cert.Ln.main (F := Bits))) ⟨m, fun _ => 0, g⟩ (fun r => (∀ c : Dev Cert.Ln.nD,
      r.2.mem ((c.tc : Thread Cert.Ln.nD Cert.Ln.τ).loc Cert.Ln.main_arg0) = m ((c.tc : Thread Cert.Ln.nD Cert.Ln.τ).loc Cert.Ln.main_arg0)
      ∧ r.2.mem ((c.tc : Thread Cert.Ln.nD Cert.Ln.τ).loc Cert.Ln.main_arg1) = m ((c.tc : Thread Cert.Ln.nD Cert.Ln.τ).loc Cert.Ln.main_arg1)
      ∧ r.2.mem ((c.tc : Thread Cert.Ln.nD Cert.Ln.τ).loc Cert.Ln.main_arg2) = m ((c.tc : Thread Cert.Ln.nD Cert.Ln.τ).loc Cert.Ln.main_arg2)
      ∧ r.2.mem ((c.tc : Thread Cert.Ln.nD Cert.Ln.τ).loc Cert.Ln.main_arg3) = m ((c.tc : Thread Cert.Ln.nD Cert.Ln.τ).loc Cert.Ln.main_arg3)
      ∧ r.2.mem ((c.tc : Thread Cert.Ln.nD Cert.Ln.τ).loc Cert.Ln.main_arg4) = m ((c.tc : Thread Cert.Ln.nD Cert.Ln.τ).loc Cert.Ln.main_arg4)
      ∧ r.2.mem ((c.tc : Thread Cert.Ln.nD Cert.Ln.τ).loc Cert.Ln.main_arg5) = m ((c.tc : Thread Cert.Ln.nD Cert.Ln.τ).loc Cert.Ln.main_arg5))
      ∧ r.2.sem = fun _ => 0)

def quiescent_LnIdeal [hLnIdeal : Cert.LnIdeal.Facts] : Prop :=
  ∀ (m : (ℓ : Loc Cert.LnIdeal.nD Cert.LnIdeal.τ Cert.LnIdeal.sig) → Buf (Elt Ideal) ℓ) (g : Dev Cert.LnIdeal.nD → PrngReg), Pre_LnIdeal m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ r.2.sem = fun _ => 0)

def quiescent_LnIdeal_pre_finite_norm [hLnIdeal : Cert.LnIdeal.Facts] [hPre_finite_norm : Cert.Pre_finite_norm.Facts] : Prop :=
  ∀ (m : (ℓ : Loc Cert.LnIdeal.nD Cert.LnIdeal.τ Cert.LnIdeal.sig) → Buf (Elt Ideal) ℓ) (g : Dev Cert.LnIdeal.nD → PrngReg), Pre_LnIdeal_finite_norm m →
    θ_run (Cert.LnIdeal.defs (F := Ideal)) (onTc (τ := Cert.LnIdeal.τ) (Cert.LnIdeal.main (F := Ideal))) ⟨m, fun _ => 0, g⟩ (fun r => (∀ c : Dev Cert.LnIdeal.nD,
      r.2.mem ((c.tc : Thread Cert.LnIdeal.nD Cert.LnIdeal.τ).loc Cert.LnIdeal.main_arg0) = m ((c.tc : Thread Cert.LnIdeal.nD Cert.LnIdeal.τ).loc Cert.LnIdeal.main_arg0)
      ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
      ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
      ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
      ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
      ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ r.2.sem = fun _ => 0)

def quiescent_LnRefIdeal [hLnRefIdeal : Cert.LnRefIdeal.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5))
      ∧ r.2.sem = fun _ => 0)

def quiescent_LnRefIdeal_pre_finite_norm [hLnRefIdeal : Cert.LnRefIdeal.Facts] [hPre_finite_norm : Cert.Pre_finite_norm.Facts] : Prop :=
  ∀ (m : (ℓ : Loc Cert.LnRefIdeal.nD Cert.LnRefIdeal.τ Cert.LnRefIdeal.sig) → Buf (Elt Ideal) ℓ) (g : Dev Cert.LnRefIdeal.nD → PrngReg), Pre_LnRefIdeal_finite_norm m →
    θ_run (Cert.LnRefIdeal.defs (F := Ideal)) (onTc (τ := Cert.LnRefIdeal.τ) (Cert.LnRefIdeal.main (F := Ideal))) ⟨m, fun _ => 0, g⟩ (fun r => (∀ c : Dev Cert.LnRefIdeal.nD,
      r.2.mem ((c.tc : Thread Cert.LnRefIdeal.nD Cert.LnRefIdeal.τ).loc Cert.LnRefIdeal.main_arg0) = m ((c.tc : Thread Cert.LnRefIdeal.nD Cert.LnRefIdeal.τ).loc Cert.LnRefIdeal.main_arg0)
      ∧ r.2.mem ((c.tc : Thread Cert.LnRefIdeal.nD Cert.LnRefIdeal.τ).loc Cert.LnRefIdeal.main_arg1) = m ((c.tc : Thread Cert.LnRefIdeal.nD Cert.LnRefIdeal.τ).loc Cert.LnRefIdeal.main_arg1)
      ∧ r.2.mem ((c.tc : Thread Cert.LnRefIdeal.nD Cert.LnRefIdeal.τ).loc Cert.LnRefIdeal.main_arg2) = m ((c.tc : Thread Cert.LnRefIdeal.nD Cert.LnRefIdeal.τ).loc Cert.LnRefIdeal.main_arg2)
      ∧ r.2.mem ((c.tc : Thread Cert.LnRefIdeal.nD Cert.LnRefIdeal.τ).loc Cert.LnRefIdeal.main_arg3) = m ((c.tc : Thread Cert.LnRefIdeal.nD Cert.LnRefIdeal.τ).loc Cert.LnRefIdeal.main_arg3)
      ∧ r.2.mem ((c.tc : Thread Cert.LnRefIdeal.nD Cert.LnRefIdeal.τ).loc Cert.LnRefIdeal.main_arg4) = m ((c.tc : Thread Cert.LnRefIdeal.nD Cert.LnRefIdeal.τ).loc Cert.LnRefIdeal.main_arg4)
      ∧ r.2.mem ((c.tc : Thread Cert.LnRefIdeal.nD Cert.LnRefIdeal.τ).loc Cert.LnRefIdeal.main_arg5) = m ((c.tc : Thread Cert.LnRefIdeal.nD Cert.LnRefIdeal.τ).loc Cert.LnRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6)
      ∧ r.2.mem ((c.tc : Thread Cert.Loss.nD Cert.Loss.τ).loc Cert.Loss.main_arg7) = m ((c.tc : Thread Cert.Loss.nD Cert.Loss.τ).loc Cert.Loss.main_arg7)
      ∧ r.2.mem ((c.tc : Thread Cert.Loss.nD Cert.Loss.τ).loc Cert.Loss.main_arg8) = m ((c.tc : Thread Cert.Loss.nD Cert.Loss.τ).loc Cert.Loss.main_arg8))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
      ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
      ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6)
      ∧ r.2.mem ((c.tc : Thread Cert.LossRefIdeal.nD Cert.LossRefIdeal.τ).loc Cert.LossRefIdeal.main_arg7) = m ((c.tc : Thread Cert.LossRefIdeal.nD Cert.LossRefIdeal.τ).loc Cert.LossRefIdeal.main_arg7)
      ∧ r.2.mem ((c.tc : Thread Cert.LossRefIdeal.nD Cert.LossRefIdeal.τ).loc Cert.LossRefIdeal.main_arg8) = m ((c.tc : Thread Cert.LossRefIdeal.nD Cert.LossRefIdeal.τ).loc Cert.LossRefIdeal.main_arg8))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v4_0)) (v1 : (c : Dev Cert.GateIdeal.nD) → Buf (Elt Ideal) ((c.tc : Thread Cert.GateIdeal.nD Cert.GateIdeal.τ).loc Cert.GateIdeal.main_v4_1)) (v2 : (c : Dev Cert.GateIdeal.nD) → Buf (Elt Ideal) ((c.tc : Thread Cert.GateIdeal.nD Cert.GateIdeal.τ).loc Cert.GateIdeal.main_v4_2)) (v3 : (c : Dev Cert.GateIdeal.nD) → Buf (Elt Ideal) ((c.tc : Thread Cert.GateIdeal.nD Cert.GateIdeal.τ).loc Cert.GateIdeal.main_v4_3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4_0) = v0 c
          ∧ r.2.mem ((c.tc : Thread Cert.GateIdeal.nD Cert.GateIdeal.τ).loc Cert.GateIdeal.main_v4_1) = v1 c
          ∧ r.2.mem ((c.tc : Thread Cert.GateIdeal.nD Cert.GateIdeal.τ).loc Cert.GateIdeal.main_v4_2) = v2 c
          ∧ r.2.mem ((c.tc : Thread Cert.GateIdeal.nD Cert.GateIdeal.τ).loc Cert.GateIdeal.main_v4_3) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v31) = v0 c
          ∧ r.2.mem ((c.tc : Thread Cert.GateRefIdeal.nD Cert.GateRefIdeal.τ).loc Cert.GateRefIdeal.main_v32) = v1 c
          ∧ r.2.mem ((c.tc : Thread Cert.GateRefIdeal.nD Cert.GateRefIdeal.τ).loc Cert.GateRefIdeal.main_v33) = v2 c
          ∧ r.2.mem ((c.tc : Thread Cert.GateRefIdeal.nD Cert.GateRefIdeal.τ).loc Cert.GateRefIdeal.main_v34) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)
      ∧ m' ((c.tc : Thread Cert.ReluRefIdeal.nD Cert.ReluRefIdeal.τ).loc Cert.ReluRefIdeal.main_arg1) = m ((c.tc : Thread Cert.ReluIdeal.nD Cert.ReluIdeal.τ).loc Cert.ReluIdeal.main_arg1)
      ∧ m' ((c.tc : Thread Cert.ReluRefIdeal.nD Cert.ReluRefIdeal.τ).loc Cert.ReluRefIdeal.main_arg2) = m ((c.tc : Thread Cert.ReluIdeal.nD Cert.ReluIdeal.τ).loc Cert.ReluIdeal.main_arg2)
      ∧ m' ((c.tc : Thread Cert.ReluRefIdeal.nD Cert.ReluRefIdeal.τ).loc Cert.ReluRefIdeal.main_arg3) = m ((c.tc : Thread Cert.ReluIdeal.nD Cert.ReluIdeal.τ).loc Cert.ReluIdeal.main_arg3)
      ∧ m' ((c.tc : Thread Cert.ReluRefIdeal.nD Cert.ReluRefIdeal.τ).loc Cert.ReluRefIdeal.main_arg4) = m ((c.tc : Thread Cert.ReluIdeal.nD Cert.ReluIdeal.τ).loc Cert.ReluIdeal.main_arg4)) →
    ∃ (v0 : (c : Dev Cert.ReluIdeal.nD) → Buf (Elt Ideal) ((c.tc : Thread Cert.ReluIdeal.nD Cert.ReluIdeal.τ).loc Cert.ReluIdeal.main_v7_0)) (v1 : (c : Dev Cert.ReluIdeal.nD) → Buf (Elt Ideal) ((c.tc : Thread Cert.ReluIdeal.nD Cert.ReluIdeal.τ).loc Cert.ReluIdeal.main_v7_1)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v7_0) = v0 c
          ∧ r.2.mem ((c.tc : Thread Cert.ReluIdeal.nD Cert.ReluIdeal.τ).loc Cert.ReluIdeal.main_v7_1) = v1 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
          ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
          ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2)
          ∧ r.2.mem ((c.tc : Thread Cert.ReluIdeal.nD Cert.ReluIdeal.τ).loc Cert.ReluIdeal.main_arg3) = m ((c.tc : Thread Cert.ReluIdeal.nD Cert.ReluIdeal.τ).loc Cert.ReluIdeal.main_arg3)
          ∧ r.2.mem ((c.tc : Thread Cert.ReluIdeal.nD Cert.ReluIdeal.τ).loc Cert.ReluIdeal.main_arg4) = m ((c.tc : Thread Cert.ReluIdeal.nD Cert.ReluIdeal.τ).loc Cert.ReluIdeal.main_arg4))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v17) = v0 c
          ∧ r.2.mem ((c.tc : Thread Cert.ReluRefIdeal.nD Cert.ReluRefIdeal.τ).loc Cert.ReluRefIdeal.main_v16) = v1 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1)
          ∧ r.2.mem ((c.tc : Thread Cert.ReluRefIdeal.nD Cert.ReluRefIdeal.τ).loc Cert.ReluRefIdeal.main_arg2) = m' ((c.tc : Thread Cert.ReluRefIdeal.nD Cert.ReluRefIdeal.τ).loc Cert.ReluRefIdeal.main_arg2)
          ∧ r.2.mem ((c.tc : Thread Cert.ReluRefIdeal.nD Cert.ReluRefIdeal.τ).loc Cert.ReluRefIdeal.main_arg3) = m' ((c.tc : Thread Cert.ReluRefIdeal.nD Cert.ReluRefIdeal.τ).loc Cert.ReluRefIdeal.main_arg3)
          ∧ r.2.mem ((c.tc : Thread Cert.ReluRefIdeal.nD Cert.ReluRefIdeal.τ).loc Cert.ReluRefIdeal.main_arg4) = m' ((c.tc : Thread Cert.ReluRefIdeal.nD Cert.ReluRefIdeal.τ).loc Cert.ReluRefIdeal.main_arg4))

def preserves_Branches_BranchesIdeal : Prop :=
  True

def algebraic_BranchesIdeal_BranchesRefIdeal [hBranchesIdeal : Cert.BranchesIdeal.Facts] [hBranchesRefIdeal : Cert.BranchesRefIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesRefIdeal.nD Cert.BranchesRefIdeal.τ Cert.BranchesRefIdeal.sig) → Buf (Elt Ideal) ℓ) (g' : Dev Cert.BranchesRefIdeal.nD → PrngReg), Pre_BranchesIdeal m →
    (∀ c : Dev Cert.BranchesIdeal.nD,
      m' ((c.tc : Thread Cert.BranchesRefIdeal.nD Cert.BranchesRefIdeal.τ).loc Cert.BranchesRefIdeal.main_arg0) = m ((c.tc : Thread Cert.BranchesIdeal.nD Cert.BranchesIdeal.τ).loc Cert.BranchesIdeal.main_arg0)
      ∧ m' ((c.tc : Thread Cert.BranchesRefIdeal.nD Cert.BranchesRefIdeal.τ).loc Cert.BranchesRefIdeal.main_arg1) = m ((c.tc : Thread Cert.BranchesIdeal.nD Cert.BranchesIdeal.τ).loc Cert.BranchesIdeal.main_arg1)
      ∧ m' ((c.tc : Thread Cert.BranchesRefIdeal.nD Cert.BranchesRefIdeal.τ).loc Cert.BranchesRefIdeal.main_arg2) = m ((c.tc : Thread Cert.BranchesIdeal.nD Cert.BranchesIdeal.τ).loc Cert.BranchesIdeal.main_arg2)
      ∧ m' ((c.tc : Thread Cert.BranchesRefIdeal.nD Cert.BranchesRefIdeal.τ).loc Cert.BranchesRefIdeal.main_arg3) = m ((c.tc : Thread Cert.BranchesIdeal.nD Cert.BranchesIdeal.τ).loc Cert.BranchesIdeal.main_arg3)) →
    ∃ (v0 : (c : Dev Cert.BranchesIdeal.nD) → Buf (Elt Ideal) ((c.tc : Thread Cert.BranchesIdeal.nD Cert.BranchesIdeal.τ).loc Cert.BranchesIdeal.main_v8_0)) (v1 : (c : Dev Cert.BranchesIdeal.nD) → Buf (Elt Ideal) ((c.tc : Thread Cert.BranchesIdeal.nD Cert.BranchesIdeal.τ).loc Cert.BranchesIdeal.main_v8_1)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v8_0) = v0 c
          ∧ r.2.mem ((c.tc : Thread Cert.BranchesIdeal.nD Cert.BranchesIdeal.τ).loc Cert.BranchesIdeal.main_v8_1) = v1 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3))
      ∧ θ_run (Cert.BranchesRefIdeal.defs (F := Ideal)) (onTc (τ := Cert.BranchesRefIdeal.τ) (Cert.BranchesRefIdeal.main (F := Ideal))) ⟨m', fun _ => 0, g'⟩ (fun r => ∀ c : Dev Cert.BranchesRefIdeal.nD,
          r.2.mem ((c.tc : Thread Cert.BranchesRefIdeal.nD Cert.BranchesRefIdeal.τ).loc Cert.BranchesRefIdeal.main_v5) = v0 c
          ∧ r.2.mem ((c.tc : Thread Cert.BranchesRefIdeal.nD Cert.BranchesRefIdeal.τ).loc Cert.BranchesRefIdeal.main_v4) = v1 c
          ∧ r.2.mem ((c.tc : Thread Cert.BranchesRefIdeal.nD Cert.BranchesRefIdeal.τ).loc Cert.BranchesRefIdeal.main_arg0) = m' ((c.tc : Thread Cert.BranchesRefIdeal.nD Cert.BranchesRefIdeal.τ).loc Cert.BranchesRefIdeal.main_arg0)
          ∧ r.2.mem ((c.tc : Thread Cert.BranchesRefIdeal.nD Cert.BranchesRefIdeal.τ).loc Cert.BranchesRefIdeal.main_arg1) = m' ((c.tc : Thread Cert.BranchesRefIdeal.nD Cert.BranchesRefIdeal.τ).loc Cert.BranchesRefIdeal.main_arg1)
          ∧ r.2.mem ((c.tc : Thread Cert.BranchesRefIdeal.nD Cert.BranchesRefIdeal.τ).loc Cert.BranchesRefIdeal.main_arg2) = m' ((c.tc : Thread Cert.BranchesRefIdeal.nD Cert.BranchesRefIdeal.τ).loc Cert.BranchesRefIdeal.main_arg2)
          ∧ r.2.mem ((c.tc : Thread Cert.BranchesRefIdeal.nD Cert.BranchesRefIdeal.τ).loc Cert.BranchesRefIdeal.main_arg3) = m' ((c.tc : Thread Cert.BranchesRefIdeal.nD Cert.BranchesRefIdeal.τ).loc Cert.BranchesRefIdeal.main_arg3))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)) →
    ∃ (v0 : (c : Dev Cert.DxIdeal.nD) → Buf (Elt Ideal) ((c.tc : Thread Cert.DxIdeal.nD Cert.DxIdeal.τ).loc Cert.DxIdeal.main_v4)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v4) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v7) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2))

def preserves_GwFf2_GwFf2Ideal : Prop :=
  True

def algebraic_GwFf2Ideal_GwFf2RefIdeal [hGwFf2Ideal : Cert.GwFf2Ideal.Facts] [hGwFf2RefIdeal : Cert.GwFf2RefIdeal.Facts] : Prop :=
  ∀ (m : (ℓ : Loc Cert.GwFf2Ideal.nD Cert.GwFf2Ideal.τ Cert.GwFf2Ideal.sig) → Buf (Elt Ideal) ℓ) (g : Dev Cert.GwFf2Ideal.nD → PrngReg)
    (m' : (ℓ : Loc Cert.GwFf2RefIdeal.nD Cert.GwFf2RefIdeal.τ Cert.GwFf2RefIdeal.sig) → Buf (Elt Ideal) ℓ) (g' : Dev Cert.GwFf2RefIdeal.nD → PrngReg), Pre_GwFf2Ideal m →
    (∀ c : Dev Cert.GwFf2Ideal.nD,
      m' ((c.tc : Thread Cert.GwFf2RefIdeal.nD Cert.GwFf2RefIdeal.τ).loc Cert.GwFf2RefIdeal.main_arg0) = m ((c.tc : Thread Cert.GwFf2Ideal.nD Cert.GwFf2Ideal.τ).loc Cert.GwFf2Ideal.main_arg0)
      ∧ m' ((c.tc : Thread Cert.GwFf2RefIdeal.nD Cert.GwFf2RefIdeal.τ).loc Cert.GwFf2RefIdeal.main_arg1) = m ((c.tc : Thread Cert.GwFf2Ideal.nD Cert.GwFf2Ideal.τ).loc Cert.GwFf2Ideal.main_arg1)) →
    ∃ (v0 : (c : Dev Cert.GwFf2Ideal.nD) → Buf (Elt Ideal) ((c.tc : Thread Cert.GwFf2Ideal.nD Cert.GwFf2Ideal.τ).loc Cert.GwFf2Ideal.main_v2)),
      θ_run (Cert.GwFf2Ideal.defs (F := Ideal)) (onTc (τ := Cert.GwFf2Ideal.τ) (Cert.GwFf2Ideal.main (F := Ideal))) ⟨m, fun _ => 0, g⟩ (fun r => ∀ c : Dev Cert.GwFf2Ideal.nD,
          r.2.mem ((c.tc : Thread Cert.GwFf2Ideal.nD Cert.GwFf2Ideal.τ).loc Cert.GwFf2Ideal.main_v2) = v0 c
          ∧ r.2.mem ((c.tc : Thread Cert.GwFf2Ideal.nD Cert.GwFf2Ideal.τ).loc Cert.GwFf2Ideal.main_arg0) = m ((c.tc : Thread Cert.GwFf2Ideal.nD Cert.GwFf2Ideal.τ).loc Cert.GwFf2Ideal.main_arg0)
          ∧ r.2.mem ((c.tc : Thread Cert.GwFf2Ideal.nD Cert.GwFf2Ideal.τ).loc Cert.GwFf2Ideal.main_arg1) = m ((c.tc : Thread Cert.GwFf2Ideal.nD Cert.GwFf2Ideal.τ).loc Cert.GwFf2Ideal.main_arg1))
      ∧ θ_run (Cert.GwFf2RefIdeal.defs (F := Ideal)) (onTc (τ := Cert.GwFf2RefIdeal.τ) (Cert.GwFf2RefIdeal.main (F := Ideal))) ⟨m', fun _ => 0, g'⟩ (fun r => ∀ c : Dev Cert.GwFf2RefIdeal.nD,
          r.2.mem ((c.tc : Thread Cert.GwFf2RefIdeal.nD Cert.GwFf2RefIdeal.τ).loc Cert.GwFf2RefIdeal.main_v4) = v0 c
          ∧ r.2.mem ((c.tc : Thread Cert.GwFf2RefIdeal.nD Cert.GwFf2RefIdeal.τ).loc Cert.GwFf2RefIdeal.main_arg0) = m' ((c.tc : Thread Cert.GwFf2RefIdeal.nD Cert.GwFf2RefIdeal.τ).loc Cert.GwFf2RefIdeal.main_arg0)
          ∧ r.2.mem ((c.tc : Thread Cert.GwFf2RefIdeal.nD Cert.GwFf2RefIdeal.τ).loc Cert.GwFf2RefIdeal.main_arg1) = m' ((c.tc : Thread Cert.GwFf2RefIdeal.nD Cert.GwFf2RefIdeal.τ).loc Cert.GwFf2RefIdeal.main_arg1))

def preserves_GwFf1_GwFf1Ideal : Prop :=
  True

def algebraic_GwFf1Ideal_GwFf1RefIdeal [hGwFf1Ideal : Cert.GwFf1Ideal.Facts] [hGwFf1RefIdeal : Cert.GwFf1RefIdeal.Facts] : Prop :=
  ∀ (m : (ℓ : Loc Cert.GwFf1Ideal.nD Cert.GwFf1Ideal.τ Cert.GwFf1Ideal.sig) → Buf (Elt Ideal) ℓ) (g : Dev Cert.GwFf1Ideal.nD → PrngReg)
    (m' : (ℓ : Loc Cert.GwFf1RefIdeal.nD Cert.GwFf1RefIdeal.τ Cert.GwFf1RefIdeal.sig) → Buf (Elt Ideal) ℓ) (g' : Dev Cert.GwFf1RefIdeal.nD → PrngReg), Pre_GwFf1Ideal m →
    (∀ c : Dev Cert.GwFf1Ideal.nD,
      m' ((c.tc : Thread Cert.GwFf1RefIdeal.nD Cert.GwFf1RefIdeal.τ).loc Cert.GwFf1RefIdeal.main_arg0) = m ((c.tc : Thread Cert.GwFf1Ideal.nD Cert.GwFf1Ideal.τ).loc Cert.GwFf1Ideal.main_arg0)
      ∧ m' ((c.tc : Thread Cert.GwFf1RefIdeal.nD Cert.GwFf1RefIdeal.τ).loc Cert.GwFf1RefIdeal.main_arg1) = m ((c.tc : Thread Cert.GwFf1Ideal.nD Cert.GwFf1Ideal.τ).loc Cert.GwFf1Ideal.main_arg1)) →
    ∃ (v0 : (c : Dev Cert.GwFf1Ideal.nD) → Buf (Elt Ideal) ((c.tc : Thread Cert.GwFf1Ideal.nD Cert.GwFf1Ideal.τ).loc Cert.GwFf1Ideal.main_v2)),
      θ_run (Cert.GwFf1Ideal.defs (F := Ideal)) (onTc (τ := Cert.GwFf1Ideal.τ) (Cert.GwFf1Ideal.main (F := Ideal))) ⟨m, fun _ => 0, g⟩ (fun r => ∀ c : Dev Cert.GwFf1Ideal.nD,
          r.2.mem ((c.tc : Thread Cert.GwFf1Ideal.nD Cert.GwFf1Ideal.τ).loc Cert.GwFf1Ideal.main_v2) = v0 c
          ∧ r.2.mem ((c.tc : Thread Cert.GwFf1Ideal.nD Cert.GwFf1Ideal.τ).loc Cert.GwFf1Ideal.main_arg0) = m ((c.tc : Thread Cert.GwFf1Ideal.nD Cert.GwFf1Ideal.τ).loc Cert.GwFf1Ideal.main_arg0)
          ∧ r.2.mem ((c.tc : Thread Cert.GwFf1Ideal.nD Cert.GwFf1Ideal.τ).loc Cert.GwFf1Ideal.main_arg1) = m ((c.tc : Thread Cert.GwFf1Ideal.nD Cert.GwFf1Ideal.τ).loc Cert.GwFf1Ideal.main_arg1))
      ∧ θ_run (Cert.GwFf1RefIdeal.defs (F := Ideal)) (onTc (τ := Cert.GwFf1RefIdeal.τ) (Cert.GwFf1RefIdeal.main (F := Ideal))) ⟨m', fun _ => 0, g'⟩ (fun r => ∀ c : Dev Cert.GwFf1RefIdeal.nD,
          r.2.mem ((c.tc : Thread Cert.GwFf1RefIdeal.nD Cert.GwFf1RefIdeal.τ).loc Cert.GwFf1RefIdeal.main_v6) = v0 c
          ∧ r.2.mem ((c.tc : Thread Cert.GwFf1RefIdeal.nD Cert.GwFf1RefIdeal.τ).loc Cert.GwFf1RefIdeal.main_arg0) = m' ((c.tc : Thread Cert.GwFf1RefIdeal.nD Cert.GwFf1RefIdeal.τ).loc Cert.GwFf1RefIdeal.main_arg0)
          ∧ r.2.mem ((c.tc : Thread Cert.GwFf1RefIdeal.nD Cert.GwFf1RefIdeal.τ).loc Cert.GwFf1RefIdeal.main_arg1) = m' ((c.tc : Thread Cert.GwFf1RefIdeal.nD Cert.GwFf1RefIdeal.τ).loc Cert.GwFf1RefIdeal.main_arg1))

def preserves_GwOut_GwOutIdeal : Prop :=
  True

def algebraic_GwOutIdeal_GwOutRefIdeal [hGwOutIdeal : Cert.GwOutIdeal.Facts] [hGwOutRefIdeal : Cert.GwOutRefIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRefIdeal.nD Cert.GwOutRefIdeal.τ Cert.GwOutRefIdeal.sig) → Buf (Elt Ideal) ℓ) (g' : Dev Cert.GwOutRefIdeal.nD → PrngReg), Pre_GwOutIdeal m →
    (∀ c : Dev Cert.GwOutIdeal.nD,
      m' ((c.tc : Thread Cert.GwOutRefIdeal.nD Cert.GwOutRefIdeal.τ).loc Cert.GwOutRefIdeal.main_arg0) = m ((c.tc : Thread Cert.GwOutIdeal.nD Cert.GwOutIdeal.τ).loc Cert.GwOutIdeal.main_arg0)
      ∧ m' ((c.tc : Thread Cert.GwOutRefIdeal.nD Cert.GwOutRefIdeal.τ).loc Cert.GwOutRefIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v2)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v2) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRefIdeal.defs (F := Ideal)) (onTc (τ := Cert.GwOutRefIdeal.τ) (Cert.GwOutRefIdeal.main (F := Ideal))) ⟨m', fun _ => 0, g'⟩ (fun r => ∀ c : Dev Cert.GwOutRefIdeal.nD,
          r.2.mem ((c.tc : Thread Cert.GwOutRefIdeal.nD Cert.GwOutRefIdeal.τ).loc Cert.GwOutRefIdeal.main_v4) = v0 c
          ∧ r.2.mem ((c.tc : Thread Cert.GwOutRefIdeal.nD Cert.GwOutRefIdeal.τ).loc Cert.GwOutRefIdeal.main_arg0) = m' ((c.tc : Thread Cert.GwOutRefIdeal.nD Cert.GwOutRefIdeal.τ).loc Cert.GwOutRefIdeal.main_arg0)
          ∧ r.2.mem ((c.tc : Thread Cert.GwOutRefIdeal.nD Cert.GwOutRefIdeal.τ).loc Cert.GwOutRefIdeal.main_arg1) = m' ((c.tc : Thread Cert.GwOutRefIdeal.nD Cert.GwOutRefIdeal.τ).loc Cert.GwOutRefIdeal.main_arg1))

def preserves_GwPa_GwPaIdeal : Prop :=
  True

def algebraic_GwPaIdeal_GwPaRefIdeal [hGwPaIdeal : Cert.GwPaIdeal.Facts] [hGwPaRefIdeal : Cert.GwPaRefIdeal.Facts] : Prop :=
  ∀ (m : (ℓ : Loc Cert.GwPaIdeal.nD Cert.GwPaIdeal.τ Cert.GwPaIdeal.sig) → Buf (Elt Ideal) ℓ) (g : Dev Cert.GwPaIdeal.nD → PrngReg)
    (m' : (ℓ : Loc Cert.GwPaRefIdeal.nD Cert.GwPaRefIdeal.τ Cert.GwPaRefIdeal.sig) → Buf (Elt Ideal) ℓ) (g' : Dev Cert.GwPaRefIdeal.nD → PrngReg), Pre_GwPaIdeal m →
    (∀ c : Dev Cert.GwPaIdeal.nD,
      m' ((c.tc : Thread Cert.GwPaRefIdeal.nD Cert.GwPaRefIdeal.τ).loc Cert.GwPaRefIdeal.main_arg0) = m ((c.tc : Thread Cert.GwPaIdeal.nD Cert.GwPaIdeal.τ).loc Cert.GwPaIdeal.main_arg0)
      ∧ m' ((c.tc : Thread Cert.GwPaRefIdeal.nD Cert.GwPaRefIdeal.τ).loc Cert.GwPaRefIdeal.main_arg1) = m ((c.tc : Thread Cert.GwPaIdeal.nD Cert.GwPaIdeal.τ).loc Cert.GwPaIdeal.main_arg1)) →
    ∃ (v0 : (c : Dev Cert.GwPaIdeal.nD) → Buf (Elt Ideal) ((c.tc : Thread Cert.GwPaIdeal.nD Cert.GwPaIdeal.τ).loc Cert.GwPaIdeal.main_v2)),
      θ_run (Cert.GwPaIdeal.defs (F := Ideal)) (onTc (τ := Cert.GwPaIdeal.τ) (Cert.GwPaIdeal.main (F := Ideal))) ⟨m, fun _ => 0, g⟩ (fun r => ∀ c : Dev Cert.GwPaIdeal.nD,
          r.2.mem ((c.tc : Thread Cert.GwPaIdeal.nD Cert.GwPaIdeal.τ).loc Cert.GwPaIdeal.main_v2) = v0 c
          ∧ r.2.mem ((c.tc : Thread Cert.GwPaIdeal.nD Cert.GwPaIdeal.τ).loc Cert.GwPaIdeal.main_arg0) = m ((c.tc : Thread Cert.GwPaIdeal.nD Cert.GwPaIdeal.τ).loc Cert.GwPaIdeal.main_arg0)
          ∧ r.2.mem ((c.tc : Thread Cert.GwPaIdeal.nD Cert.GwPaIdeal.τ).loc Cert.GwPaIdeal.main_arg1) = m ((c.tc : Thread Cert.GwPaIdeal.nD Cert.GwPaIdeal.τ).loc Cert.GwPaIdeal.main_arg1))
      ∧ θ_run (Cert.GwPaRefIdeal.defs (F := Ideal)) (onTc (τ := Cert.GwPaRefIdeal.τ) (Cert.GwPaRefIdeal.main (F := Ideal))) ⟨m', fun _ => 0, g'⟩ (fun r => ∀ c : Dev Cert.GwPaRefIdeal.nD,
          r.2.mem ((c.tc : Thread Cert.GwPaRefIdeal.nD Cert.GwPaRefIdeal.τ).loc Cert.GwPaRefIdeal.main_v6) = v0 c
          ∧ r.2.mem ((c.tc : Thread Cert.GwPaRefIdeal.nD Cert.GwPaRefIdeal.τ).loc Cert.GwPaRefIdeal.main_arg0) = m' ((c.tc : Thread Cert.GwPaRefIdeal.nD Cert.GwPaRefIdeal.τ).loc Cert.GwPaRefIdeal.main_arg0)
          ∧ r.2.mem ((c.tc : Thread Cert.GwPaRefIdeal.nD Cert.GwPaRefIdeal.τ).loc Cert.GwPaRefIdeal.main_arg1) = m' ((c.tc : Thread Cert.GwPaRefIdeal.nD Cert.GwPaRefIdeal.τ).loc Cert.GwPaRefIdeal.main_arg1))

def preserves_GwPb_GwPbIdeal : Prop :=
  True

def algebraic_GwPbIdeal_GwPbRefIdeal [hGwPbIdeal : Cert.GwPbIdeal.Facts] [hGwPbRefIdeal : Cert.GwPbRefIdeal.Facts] : Prop :=
  ∀ (m : (ℓ : Loc Cert.GwPbIdeal.nD Cert.GwPbIdeal.τ Cert.GwPbIdeal.sig) → Buf (Elt Ideal) ℓ) (g : Dev Cert.GwPbIdeal.nD → PrngReg)
    (m' : (ℓ : Loc Cert.GwPbRefIdeal.nD Cert.GwPbRefIdeal.τ Cert.GwPbRefIdeal.sig) → Buf (Elt Ideal) ℓ) (g' : Dev Cert.GwPbRefIdeal.nD → PrngReg), Pre_GwPbIdeal m →
    (∀ c : Dev Cert.GwPbIdeal.nD,
      m' ((c.tc : Thread Cert.GwPbRefIdeal.nD Cert.GwPbRefIdeal.τ).loc Cert.GwPbRefIdeal.main_arg0) = m ((c.tc : Thread Cert.GwPbIdeal.nD Cert.GwPbIdeal.τ).loc Cert.GwPbIdeal.main_arg0)
      ∧ m' ((c.tc : Thread Cert.GwPbRefIdeal.nD Cert.GwPbRefIdeal.τ).loc Cert.GwPbRefIdeal.main_arg1) = m ((c.tc : Thread Cert.GwPbIdeal.nD Cert.GwPbIdeal.τ).loc Cert.GwPbIdeal.main_arg1)) →
    ∃ (v0 : (c : Dev Cert.GwPbIdeal.nD) → Buf (Elt Ideal) ((c.tc : Thread Cert.GwPbIdeal.nD Cert.GwPbIdeal.τ).loc Cert.GwPbIdeal.main_v2)),
      θ_run (Cert.GwPbIdeal.defs (F := Ideal)) (onTc (τ := Cert.GwPbIdeal.τ) (Cert.GwPbIdeal.main (F := Ideal))) ⟨m, fun _ => 0, g⟩ (fun r => ∀ c : Dev Cert.GwPbIdeal.nD,
          r.2.mem ((c.tc : Thread Cert.GwPbIdeal.nD Cert.GwPbIdeal.τ).loc Cert.GwPbIdeal.main_v2) = v0 c
          ∧ r.2.mem ((c.tc : Thread Cert.GwPbIdeal.nD Cert.GwPbIdeal.τ).loc Cert.GwPbIdeal.main_arg0) = m ((c.tc : Thread Cert.GwPbIdeal.nD Cert.GwPbIdeal.τ).loc Cert.GwPbIdeal.main_arg0)
          ∧ r.2.mem ((c.tc : Thread Cert.GwPbIdeal.nD Cert.GwPbIdeal.τ).loc Cert.GwPbIdeal.main_arg1) = m ((c.tc : Thread Cert.GwPbIdeal.nD Cert.GwPbIdeal.τ).loc Cert.GwPbIdeal.main_arg1))
      ∧ θ_run (Cert.GwPbRefIdeal.defs (F := Ideal)) (onTc (τ := Cert.GwPbRefIdeal.τ) (Cert.GwPbRefIdeal.main (F := Ideal))) ⟨m', fun _ => 0, g'⟩ (fun r => ∀ c : Dev Cert.GwPbRefIdeal.nD,
          r.2.mem ((c.tc : Thread Cert.GwPbRefIdeal.nD Cert.GwPbRefIdeal.τ).loc Cert.GwPbRefIdeal.main_v6) = v0 c
          ∧ r.2.mem ((c.tc : Thread Cert.GwPbRefIdeal.nD Cert.GwPbRefIdeal.τ).loc Cert.GwPbRefIdeal.main_arg0) = m' ((c.tc : Thread Cert.GwPbRefIdeal.nD Cert.GwPbRefIdeal.τ).loc Cert.GwPbRefIdeal.main_arg0)
          ∧ r.2.mem ((c.tc : Thread Cert.GwPbRefIdeal.nD Cert.GwPbRefIdeal.τ).loc Cert.GwPbRefIdeal.main_arg1) = m' ((c.tc : Thread Cert.GwPbRefIdeal.nD Cert.GwPbRefIdeal.τ).loc Cert.GwPbRefIdeal.main_arg1))

def preserves_GwIn_GwInIdeal : Prop :=
  True

def algebraic_GwInIdeal_GwInRefIdeal [hGwInIdeal : Cert.GwInIdeal.Facts] [hGwInRefIdeal : Cert.GwInRefIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRefIdeal.nD Cert.GwInRefIdeal.τ Cert.GwInRefIdeal.sig) → Buf (Elt Ideal) ℓ) (g' : Dev Cert.GwInRefIdeal.nD → PrngReg), Pre_GwInIdeal m →
    (∀ c : Dev Cert.GwInIdeal.nD,
      m' ((c.tc : Thread Cert.GwInRefIdeal.nD Cert.GwInRefIdeal.τ).loc Cert.GwInRefIdeal.main_arg0) = m ((c.tc : Thread Cert.GwInIdeal.nD Cert.GwInIdeal.τ).loc Cert.GwInIdeal.main_arg0)
      ∧ m' ((c.tc : Thread Cert.GwInRefIdeal.nD Cert.GwInRefIdeal.τ).loc Cert.GwInRefIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v2)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v2) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRefIdeal.defs (F := Ideal)) (onTc (τ := Cert.GwInRefIdeal.τ) (Cert.GwInRefIdeal.main (F := Ideal))) ⟨m', fun _ => 0, g'⟩ (fun r => ∀ c : Dev Cert.GwInRefIdeal.nD,
          r.2.mem ((c.tc : Thread Cert.GwInRefIdeal.nD Cert.GwInRefIdeal.τ).loc Cert.GwInRefIdeal.main_v6) = v0 c
          ∧ r.2.mem ((c.tc : Thread Cert.GwInRefIdeal.nD Cert.GwInRefIdeal.τ).loc Cert.GwInRefIdeal.main_arg0) = m' ((c.tc : Thread Cert.GwInRefIdeal.nD Cert.GwInRefIdeal.τ).loc Cert.GwInRefIdeal.main_arg0)
          ∧ r.2.mem ((c.tc : Thread Cert.GwInRefIdeal.nD Cert.GwInRefIdeal.τ).loc Cert.GwInRefIdeal.main_arg1) = m' ((c.tc : Thread Cert.GwInRefIdeal.nD Cert.GwInRefIdeal.τ).loc Cert.GwInRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)) →
    ∃ (v0 : (c : Dev Cert.BranchIdeal.nD) → Buf (Elt Ideal) ((c.tc : Thread Cert.BranchIdeal.nD Cert.BranchIdeal.τ).loc Cert.BranchIdeal.main_v8_0)) (v1 : (c : Dev Cert.BranchIdeal.nD) → Buf (Elt Ideal) ((c.tc : Thread Cert.BranchIdeal.nD Cert.BranchIdeal.τ).loc Cert.BranchIdeal.main_v8_1)) (v2 : (c : Dev Cert.BranchIdeal.nD) → Buf (Elt Ideal) ((c.tc : Thread Cert.BranchIdeal.nD Cert.BranchIdeal.τ).loc Cert.BranchIdeal.main_v8_2)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v8_0) = v0 c
          ∧ r.2.mem ((c.tc : Thread Cert.BranchIdeal.nD Cert.BranchIdeal.τ).loc Cert.BranchIdeal.main_v8_1) = v1 c
          ∧ r.2.mem ((c.tc : Thread Cert.BranchIdeal.nD Cert.BranchIdeal.τ).loc Cert.BranchIdeal.main_v8_2) = v2 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v19) = v0 c
          ∧ r.2.mem ((c.tc : Thread Cert.BranchRefIdeal.nD Cert.BranchRefIdeal.τ).loc Cert.BranchRefIdeal.main_v20) = v1 c
          ∧ r.2.mem ((c.tc : Thread Cert.BranchRefIdeal.nD Cert.BranchRefIdeal.τ).loc Cert.BranchRefIdeal.main_v21) = v2 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v2_0)) (v1 : (c : Dev Cert.OutLnIdeal.nD) → Buf (Elt Ideal) ((c.tc : Thread Cert.OutLnIdeal.nD Cert.OutLnIdeal.τ).loc Cert.OutLnIdeal.main_v2_1)) (v2 : (c : Dev Cert.OutLnIdeal.nD) → Buf (Elt Ideal) ((c.tc : Thread Cert.OutLnIdeal.nD Cert.OutLnIdeal.τ).loc Cert.OutLnIdeal.main_v2_2)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v2_0) = v0 c
          ∧ r.2.mem ((c.tc : Thread Cert.OutLnIdeal.nD Cert.OutLnIdeal.τ).loc Cert.OutLnIdeal.main_v2_1) = v1 c
          ∧ r.2.mem ((c.tc : Thread Cert.OutLnIdeal.nD Cert.OutLnIdeal.τ).loc Cert.OutLnIdeal.main_v2_2) = v2 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v21) = v0 c
          ∧ r.2.mem ((c.tc : Thread Cert.OutLnRefIdeal.nD Cert.OutLnRefIdeal.τ).loc Cert.OutLnRefIdeal.main_v22) = v1 c
          ∧ r.2.mem ((c.tc : Thread Cert.OutLnRefIdeal.nD Cert.OutLnRefIdeal.τ).loc Cert.OutLnRefIdeal.main_v45) = v2 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_Ff_FfIdeal : Prop :=
  True

def algebraic_FfIdeal_FfRefIdeal [hFfIdeal : Cert.FfIdeal.Facts] [hFfRefIdeal : Cert.FfRefIdeal.Facts] : Prop :=
  ∀ (m : (ℓ : Loc Cert.FfIdeal.nD Cert.FfIdeal.τ Cert.FfIdeal.sig) → Buf (Elt Ideal) ℓ) (g : Dev Cert.FfIdeal.nD → PrngReg)
    (m' : (ℓ : Loc Cert.FfRefIdeal.nD Cert.FfRefIdeal.τ Cert.FfRefIdeal.sig) → Buf (Elt Ideal) ℓ) (g' : Dev Cert.FfRefIdeal.nD → PrngReg), Pre_FfIdeal m →
    (∀ c : Dev Cert.FfIdeal.nD,
      m' ((c.tc : Thread Cert.FfRefIdeal.nD Cert.FfRefIdeal.τ).loc Cert.FfRefIdeal.main_arg0) = m ((c.tc : Thread Cert.FfIdeal.nD Cert.FfIdeal.τ).loc Cert.FfIdeal.main_arg0)
      ∧ m' ((c.tc : Thread Cert.FfRefIdeal.nD Cert.FfRefIdeal.τ).loc Cert.FfRefIdeal.main_arg1) = m ((c.tc : Thread Cert.FfIdeal.nD Cert.FfIdeal.τ).loc Cert.FfIdeal.main_arg1)
      ∧ m' ((c.tc : Thread Cert.FfRefIdeal.nD Cert.FfRefIdeal.τ).loc Cert.FfRefIdeal.main_arg2) = m ((c.tc : Thread Cert.FfIdeal.nD Cert.FfIdeal.τ).loc Cert.FfIdeal.main_arg2)) →
    ∃ (v0 : (c : Dev Cert.FfIdeal.nD) → Buf (Elt Ideal) ((c.tc : Thread Cert.FfIdeal.nD Cert.FfIdeal.τ).loc Cert.FfIdeal.main_v5_0)) (v1 : (c : Dev Cert.FfIdeal.nD) → Buf (Elt Ideal) ((c.tc : Thread Cert.FfIdeal.nD Cert.FfIdeal.τ).loc Cert.FfIdeal.main_v5_1)),
      θ_run (Cert.FfIdeal.defs (F := Ideal)) (onTc (τ := Cert.FfIdeal.τ) (Cert.FfIdeal.main (F := Ideal))) ⟨m, fun _ => 0, g⟩ (fun r => ∀ c : Dev Cert.FfIdeal.nD,
          r.2.mem ((c.tc : Thread Cert.FfIdeal.nD Cert.FfIdeal.τ).loc Cert.FfIdeal.main_v5_0) = v0 c
          ∧ r.2.mem ((c.tc : Thread Cert.FfIdeal.nD Cert.FfIdeal.τ).loc Cert.FfIdeal.main_v5_1) = v1 c
          ∧ r.2.mem ((c.tc : Thread Cert.FfIdeal.nD Cert.FfIdeal.τ).loc Cert.FfIdeal.main_arg0) = m ((c.tc : Thread Cert.FfIdeal.nD Cert.FfIdeal.τ).loc Cert.FfIdeal.main_arg0)
          ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
          ∧ r.2.mem ((c.tc : Thread Cert.FfIdeal.nD Cert.FfIdeal.τ).loc Cert.FfIdeal.main_arg2) = m ((c.tc : Thread Cert.FfIdeal.nD Cert.FfIdeal.τ).loc Cert.FfIdeal.main_arg2))
      ∧ θ_run (Cert.FfRefIdeal.defs (F := Ideal)) (onTc (τ := Cert.FfRefIdeal.τ) (Cert.FfRefIdeal.main (F := Ideal))) ⟨m', fun _ => 0, g'⟩ (fun r => ∀ c : Dev Cert.FfRefIdeal.nD,
          r.2.mem ((c.tc : Thread Cert.FfRefIdeal.nD Cert.FfRefIdeal.τ).loc Cert.FfRefIdeal.main_v5) = v0 c
          ∧ r.2.mem ((c.tc : Thread Cert.FfRefIdeal.nD Cert.FfRefIdeal.τ).loc Cert.FfRefIdeal.main_v6) = v1 c
          ∧ r.2.mem ((c.tc : Thread Cert.FfRefIdeal.nD Cert.FfRefIdeal.τ).loc Cert.FfRefIdeal.main_arg0) = m' ((c.tc : Thread Cert.FfRefIdeal.nD Cert.FfRefIdeal.τ).loc Cert.FfRefIdeal.main_arg0)
          ∧ r.2.mem ((c.tc : Thread Cert.FfRefIdeal.nD Cert.FfRefIdeal.τ).loc Cert.FfRefIdeal.main_arg1) = m' ((c.tc : Thread Cert.FfRefIdeal.nD Cert.FfRefIdeal.τ).loc Cert.FfRefIdeal.main_arg1)
          ∧ r.2.mem ((c.tc : Thread Cert.FfRefIdeal.nD Cert.FfRefIdeal.τ).loc Cert.FfRefIdeal.main_arg2) = m' ((c.tc : Thread Cert.FfRefIdeal.nD Cert.FfRefIdeal.τ).loc Cert.FfRefIdeal.main_arg2))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v23) = v0 c
          ∧ r.2.mem ((c.tc : Thread Cert.AdInRefIdeal.nD Cert.AdInRefIdeal.τ).loc Cert.AdInRefIdeal.main_v4) = v1 c
          ∧ r.2.mem ((c.tc : Thread Cert.AdInRefIdeal.nD Cert.AdInRefIdeal.τ).loc Cert.AdInRefIdeal.main_v10) = v2 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdFf_AdFfIdeal : Prop :=
  True

def algebraic_AdFfIdeal_AdFfRefIdeal [hAdFfIdeal : Cert.AdFfIdeal.Facts] [hAdFfRefIdeal : Cert.AdFfRefIdeal.Facts] : Prop :=
  ∀ (m : (ℓ : Loc Cert.AdFfIdeal.nD Cert.AdFfIdeal.τ Cert.AdFfIdeal.sig) → Buf (Elt Ideal) ℓ) (g : Dev Cert.AdFfIdeal.nD → PrngReg)
    (m' : (ℓ : Loc Cert.AdFfRefIdeal.nD Cert.AdFfRefIdeal.τ Cert.AdFfRefIdeal.sig) → Buf (Elt Ideal) ℓ) (g' : Dev Cert.AdFfRefIdeal.nD → PrngReg), Pre_AdFfIdeal m →
    (∀ c : Dev Cert.AdFfIdeal.nD,
      m' ((c.tc : Thread Cert.AdFfRefIdeal.nD Cert.AdFfRefIdeal.τ).loc Cert.AdFfRefIdeal.main_arg0) = m ((c.tc : Thread Cert.AdFfIdeal.nD Cert.AdFfIdeal.τ).loc Cert.AdFfIdeal.main_arg0)
      ∧ m' ((c.tc : Thread Cert.AdFfRefIdeal.nD Cert.AdFfRefIdeal.τ).loc Cert.AdFfRefIdeal.main_arg1) = m ((c.tc : Thread Cert.AdFfIdeal.nD Cert.AdFfIdeal.τ).loc Cert.AdFfIdeal.main_arg1)
      ∧ m' ((c.tc : Thread Cert.AdFfRefIdeal.nD Cert.AdFfRefIdeal.τ).loc Cert.AdFfRefIdeal.main_arg2) = m ((c.tc : Thread Cert.AdFfIdeal.nD Cert.AdFfIdeal.τ).loc Cert.AdFfIdeal.main_arg2)
      ∧ m' ((c.tc : Thread Cert.AdFfRefIdeal.nD Cert.AdFfRefIdeal.τ).loc Cert.AdFfRefIdeal.main_arg3) = m ((c.tc : Thread Cert.AdFfIdeal.nD Cert.AdFfIdeal.τ).loc Cert.AdFfIdeal.main_arg3)) →
    ∃ (v0 : (c : Dev Cert.AdFfIdeal.nD) → Buf (Elt Ideal) ((c.tc : Thread Cert.AdFfIdeal.nD Cert.AdFfIdeal.τ).loc Cert.AdFfIdeal.main_v0_0)) (v1 : (c : Dev Cert.AdFfIdeal.nD) → Buf (Elt Ideal) ((c.tc : Thread Cert.AdFfIdeal.nD Cert.AdFfIdeal.τ).loc Cert.AdFfIdeal.main_v0_1)) (v2 : (c : Dev Cert.AdFfIdeal.nD) → Buf (Elt Ideal) ((c.tc : Thread Cert.AdFfIdeal.nD Cert.AdFfIdeal.τ).loc Cert.AdFfIdeal.main_v0_2)),
      θ_run (Cert.AdFfIdeal.defs (F := Ideal)) (onTc (τ := Cert.AdFfIdeal.τ) (Cert.AdFfIdeal.main (F := Ideal))) ⟨m, fun _ => 0, g⟩ (fun r => ∀ c : Dev Cert.AdFfIdeal.nD,
          r.2.mem ((c.tc : Thread Cert.AdFfIdeal.nD Cert.AdFfIdeal.τ).loc Cert.AdFfIdeal.main_v0_0) = v0 c
          ∧ r.2.mem ((c.tc : Thread Cert.AdFfIdeal.nD Cert.AdFfIdeal.τ).loc Cert.AdFfIdeal.main_v0_1) = v1 c
          ∧ r.2.mem ((c.tc : Thread Cert.AdFfIdeal.nD Cert.AdFfIdeal.τ).loc Cert.AdFfIdeal.main_v0_2) = v2 c
          ∧ r.2.mem ((c.tc : Thread Cert.AdFfIdeal.nD Cert.AdFfIdeal.τ).loc Cert.AdFfIdeal.main_arg0) = m ((c.tc : Thread Cert.AdFfIdeal.nD Cert.AdFfIdeal.τ).loc Cert.AdFfIdeal.main_arg0)
          ∧ r.2.mem ((c.tc : Thread Cert.AdFfIdeal.nD Cert.AdFfIdeal.τ).loc Cert.AdFfIdeal.main_arg1) = m ((c.tc : Thread Cert.AdFfIdeal.nD Cert.AdFfIdeal.τ).loc Cert.AdFfIdeal.main_arg1)
          ∧ r.2.mem ((c.tc : Thread Cert.AdFfIdeal.nD Cert.AdFfIdeal.τ).loc Cert.AdFfIdeal.main_arg2) = m ((c.tc : Thread Cert.AdFfIdeal.nD Cert.AdFfIdeal.τ).loc Cert.AdFfIdeal.main_arg2)
          ∧ r.2.mem ((c.tc : Thread Cert.AdFfIdeal.nD Cert.AdFfIdeal.τ).loc Cert.AdFfIdeal.main_arg3) = m ((c.tc : Thread Cert.AdFfIdeal.nD Cert.AdFfIdeal.τ).loc Cert.AdFfIdeal.main_arg3))
      ∧ θ_run (Cert.AdFfRefIdeal.defs (F := Ideal)) (onTc (τ := Cert.AdFfRefIdeal.τ) (Cert.AdFfRefIdeal.main (F := Ideal))) ⟨m', fun _ => 0, g'⟩ (fun r => ∀ c : Dev Cert.AdFfRefIdeal.nD,
          r.2.mem ((c.tc : Thread Cert.AdFfRefIdeal.nD Cert.AdFfRefIdeal.τ).loc Cert.AdFfRefIdeal.main_v23) = v0 c
          ∧ r.2.mem ((c.tc : Thread Cert.AdFfRefIdeal.nD Cert.AdFfRefIdeal.τ).loc Cert.AdFfRefIdeal.main_v4) = v1 c
          ∧ r.2.mem ((c.tc : Thread Cert.AdFfRefIdeal.nD Cert.AdFfRefIdeal.τ).loc Cert.AdFfRefIdeal.main_v10) = v2 c
          ∧ r.2.mem ((c.tc : Thread Cert.AdFfRefIdeal.nD Cert.AdFfRefIdeal.τ).loc Cert.AdFfRefIdeal.main_arg0) = m' ((c.tc : Thread Cert.AdFfRefIdeal.nD Cert.AdFfRefIdeal.τ).loc Cert.AdFfRefIdeal.main_arg0)
          ∧ r.2.mem ((c.tc : Thread Cert.AdFfRefIdeal.nD Cert.AdFfRefIdeal.τ).loc Cert.AdFfRefIdeal.main_arg1) = m' ((c.tc : Thread Cert.AdFfRefIdeal.nD Cert.AdFfRefIdeal.τ).loc Cert.AdFfRefIdeal.main_arg1)
          ∧ r.2.mem ((c.tc : Thread Cert.AdFfRefIdeal.nD Cert.AdFfRefIdeal.τ).loc Cert.AdFfRefIdeal.main_arg2) = m' ((c.tc : Thread Cert.AdFfRefIdeal.nD Cert.AdFfRefIdeal.τ).loc Cert.AdFfRefIdeal.main_arg2)
          ∧ r.2.mem ((c.tc : Thread Cert.AdFfRefIdeal.nD Cert.AdFfRefIdeal.τ).loc Cert.AdFfRefIdeal.main_arg3) = m' ((c.tc : Thread Cert.AdFfRefIdeal.nD Cert.AdFfRefIdeal.τ).loc Cert.AdFfRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v23) = v0 c
          ∧ r.2.mem ((c.tc : Thread Cert.AdOutRefIdeal.nD Cert.AdOutRefIdeal.τ).loc Cert.AdOutRefIdeal.main_v4) = v1 c
          ∧ r.2.mem ((c.tc : Thread Cert.AdOutRefIdeal.nD Cert.AdOutRefIdeal.τ).loc Cert.AdOutRefIdeal.main_v10) = v2 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def preserves_AdPr_AdPrIdeal : Prop :=
  True

def algebraic_AdPrIdeal_AdPrRefIdeal [hAdPrIdeal : Cert.AdPrIdeal.Facts] [hAdPrRefIdeal : Cert.AdPrRefIdeal.Facts] : Prop :=
  ∀ (m : (ℓ : Loc Cert.AdPrIdeal.nD Cert.AdPrIdeal.τ Cert.AdPrIdeal.sig) → Buf (Elt Ideal) ℓ) (g : Dev Cert.AdPrIdeal.nD → PrngReg)
    (m' : (ℓ : Loc Cert.AdPrRefIdeal.nD Cert.AdPrRefIdeal.τ Cert.AdPrRefIdeal.sig) → Buf (Elt Ideal) ℓ) (g' : Dev Cert.AdPrRefIdeal.nD → PrngReg), Pre_AdPrIdeal m →
    (∀ c : Dev Cert.AdPrIdeal.nD,
      m' ((c.tc : Thread Cert.AdPrRefIdeal.nD Cert.AdPrRefIdeal.τ).loc Cert.AdPrRefIdeal.main_arg0) = m ((c.tc : Thread Cert.AdPrIdeal.nD Cert.AdPrIdeal.τ).loc Cert.AdPrIdeal.main_arg0)
      ∧ m' ((c.tc : Thread Cert.AdPrRefIdeal.nD Cert.AdPrRefIdeal.τ).loc Cert.AdPrRefIdeal.main_arg1) = m ((c.tc : Thread Cert.AdPrIdeal.nD Cert.AdPrIdeal.τ).loc Cert.AdPrIdeal.main_arg1)
      ∧ m' ((c.tc : Thread Cert.AdPrRefIdeal.nD Cert.AdPrRefIdeal.τ).loc Cert.AdPrRefIdeal.main_arg2) = m ((c.tc : Thread Cert.AdPrIdeal.nD Cert.AdPrIdeal.τ).loc Cert.AdPrIdeal.main_arg2)
      ∧ m' ((c.tc : Thread Cert.AdPrRefIdeal.nD Cert.AdPrRefIdeal.τ).loc Cert.AdPrRefIdeal.main_arg3) = m ((c.tc : Thread Cert.AdPrIdeal.nD Cert.AdPrIdeal.τ).loc Cert.AdPrIdeal.main_arg3)) →
    ∃ (v0 : (c : Dev Cert.AdPrIdeal.nD) → Buf (Elt Ideal) ((c.tc : Thread Cert.AdPrIdeal.nD Cert.AdPrIdeal.τ).loc Cert.AdPrIdeal.main_v0_0)) (v1 : (c : Dev Cert.AdPrIdeal.nD) → Buf (Elt Ideal) ((c.tc : Thread Cert.AdPrIdeal.nD Cert.AdPrIdeal.τ).loc Cert.AdPrIdeal.main_v0_1)) (v2 : (c : Dev Cert.AdPrIdeal.nD) → Buf (Elt Ideal) ((c.tc : Thread Cert.AdPrIdeal.nD Cert.AdPrIdeal.τ).loc Cert.AdPrIdeal.main_v0_2)),
      θ_run (Cert.AdPrIdeal.defs (F := Ideal)) (onTc (τ := Cert.AdPrIdeal.τ) (Cert.AdPrIdeal.main (F := Ideal))) ⟨m, fun _ => 0, g⟩ (fun r => ∀ c : Dev Cert.AdPrIdeal.nD,
          r.2.mem ((c.tc : Thread Cert.AdPrIdeal.nD Cert.AdPrIdeal.τ).loc Cert.AdPrIdeal.main_v0_0) = v0 c
          ∧ r.2.mem ((c.tc : Thread Cert.AdPrIdeal.nD Cert.AdPrIdeal.τ).loc Cert.AdPrIdeal.main_v0_1) = v1 c
          ∧ r.2.mem ((c.tc : Thread Cert.AdPrIdeal.nD Cert.AdPrIdeal.τ).loc Cert.AdPrIdeal.main_v0_2) = v2 c
          ∧ r.2.mem ((c.tc : Thread Cert.AdPrIdeal.nD Cert.AdPrIdeal.τ).loc Cert.AdPrIdeal.main_arg0) = m ((c.tc : Thread Cert.AdPrIdeal.nD Cert.AdPrIdeal.τ).loc Cert.AdPrIdeal.main_arg0)
          ∧ r.2.mem ((c.tc : Thread Cert.AdPrIdeal.nD Cert.AdPrIdeal.τ).loc Cert.AdPrIdeal.main_arg1) = m ((c.tc : Thread Cert.AdPrIdeal.nD Cert.AdPrIdeal.τ).loc Cert.AdPrIdeal.main_arg1)
          ∧ r.2.mem ((c.tc : Thread Cert.AdPrIdeal.nD Cert.AdPrIdeal.τ).loc Cert.AdPrIdeal.main_arg2) = m ((c.tc : Thread Cert.AdPrIdeal.nD Cert.AdPrIdeal.τ).loc Cert.AdPrIdeal.main_arg2)
          ∧ r.2.mem ((c.tc : Thread Cert.AdPrIdeal.nD Cert.AdPrIdeal.τ).loc Cert.AdPrIdeal.main_arg3) = m ((c.tc : Thread Cert.AdPrIdeal.nD Cert.AdPrIdeal.τ).loc Cert.AdPrIdeal.main_arg3))
      ∧ θ_run (Cert.AdPrRefIdeal.defs (F := Ideal)) (onTc (τ := Cert.AdPrRefIdeal.τ) (Cert.AdPrRefIdeal.main (F := Ideal))) ⟨m', fun _ => 0, g'⟩ (fun r => ∀ c : Dev Cert.AdPrRefIdeal.nD,
          r.2.mem ((c.tc : Thread Cert.AdPrRefIdeal.nD Cert.AdPrRefIdeal.τ).loc Cert.AdPrRefIdeal.main_v23) = v0 c
          ∧ r.2.mem ((c.tc : Thread Cert.AdPrRefIdeal.nD Cert.AdPrRefIdeal.τ).loc Cert.AdPrRefIdeal.main_v4) = v1 c
          ∧ r.2.mem ((c.tc : Thread Cert.AdPrRefIdeal.nD Cert.AdPrRefIdeal.τ).loc Cert.AdPrRefIdeal.main_v10) = v2 c
          ∧ r.2.mem ((c.tc : Thread Cert.AdPrRefIdeal.nD Cert.AdPrRefIdeal.τ).loc Cert.AdPrRefIdeal.main_arg0) = m' ((c.tc : Thread Cert.AdPrRefIdeal.nD Cert.AdPrRefIdeal.τ).loc Cert.AdPrRefIdeal.main_arg0)
          ∧ r.2.mem ((c.tc : Thread Cert.AdPrRefIdeal.nD Cert.AdPrRefIdeal.τ).loc Cert.AdPrRefIdeal.main_arg1) = m' ((c.tc : Thread Cert.AdPrRefIdeal.nD Cert.AdPrRefIdeal.τ).loc Cert.AdPrRefIdeal.main_arg1)
          ∧ r.2.mem ((c.tc : Thread Cert.AdPrRefIdeal.nD Cert.AdPrRefIdeal.τ).loc Cert.AdPrRefIdeal.main_arg2) = m' ((c.tc : Thread Cert.AdPrRefIdeal.nD Cert.AdPrRefIdeal.τ).loc Cert.AdPrRefIdeal.main_arg2)
          ∧ r.2.mem ((c.tc : Thread Cert.AdPrRefIdeal.nD Cert.AdPrRefIdeal.τ).loc Cert.AdPrRefIdeal.main_arg3) = m' ((c.tc : Thread Cert.AdPrRefIdeal.nD Cert.AdPrRefIdeal.τ).loc Cert.AdPrRefIdeal.main_arg3))

def preserves_AdSm_AdSmIdeal : Prop :=
  True

def algebraic_AdSmIdeal_AdSmRefIdeal [hAdSmIdeal : Cert.AdSmIdeal.Facts] [hAdSmRefIdeal : Cert.AdSmRefIdeal.Facts] : Prop :=
  ∀ (m : (ℓ : Loc Cert.AdSmIdeal.nD Cert.AdSmIdeal.τ Cert.AdSmIdeal.sig) → Buf (Elt Ideal) ℓ) (g : Dev Cert.AdSmIdeal.nD → PrngReg)
    (m' : (ℓ : Loc Cert.AdSmRefIdeal.nD Cert.AdSmRefIdeal.τ Cert.AdSmRefIdeal.sig) → Buf (Elt Ideal) ℓ) (g' : Dev Cert.AdSmRefIdeal.nD → PrngReg), Pre_AdSmIdeal m →
    (∀ c : Dev Cert.AdSmIdeal.nD,
      m' ((c.tc : Thread Cert.AdSmRefIdeal.nD Cert.AdSmRefIdeal.τ).loc Cert.AdSmRefIdeal.main_arg0) = m ((c.tc : Thread Cert.AdSmIdeal.nD Cert.AdSmIdeal.τ).loc Cert.AdSmIdeal.main_arg0)
      ∧ m' ((c.tc : Thread Cert.AdSmRefIdeal.nD Cert.AdSmRefIdeal.τ).loc Cert.AdSmRefIdeal.main_arg1) = m ((c.tc : Thread Cert.AdSmIdeal.nD Cert.AdSmIdeal.τ).loc Cert.AdSmIdeal.main_arg1)
      ∧ m' ((c.tc : Thread Cert.AdSmRefIdeal.nD Cert.AdSmRefIdeal.τ).loc Cert.AdSmRefIdeal.main_arg2) = m ((c.tc : Thread Cert.AdSmIdeal.nD Cert.AdSmIdeal.τ).loc Cert.AdSmIdeal.main_arg2)
      ∧ m' ((c.tc : Thread Cert.AdSmRefIdeal.nD Cert.AdSmRefIdeal.τ).loc Cert.AdSmRefIdeal.main_arg3) = m ((c.tc : Thread Cert.AdSmIdeal.nD Cert.AdSmIdeal.τ).loc Cert.AdSmIdeal.main_arg3)) →
    ∃ (v0 : (c : Dev Cert.AdSmIdeal.nD) → Buf (Elt Ideal) ((c.tc : Thread Cert.AdSmIdeal.nD Cert.AdSmIdeal.τ).loc Cert.AdSmIdeal.main_v0_0)) (v1 : (c : Dev Cert.AdSmIdeal.nD) → Buf (Elt Ideal) ((c.tc : Thread Cert.AdSmIdeal.nD Cert.AdSmIdeal.τ).loc Cert.AdSmIdeal.main_v0_1)) (v2 : (c : Dev Cert.AdSmIdeal.nD) → Buf (Elt Ideal) ((c.tc : Thread Cert.AdSmIdeal.nD Cert.AdSmIdeal.τ).loc Cert.AdSmIdeal.main_v0_2)),
      θ_run (Cert.AdSmIdeal.defs (F := Ideal)) (onTc (τ := Cert.AdSmIdeal.τ) (Cert.AdSmIdeal.main (F := Ideal))) ⟨m, fun _ => 0, g⟩ (fun r => ∀ c : Dev Cert.AdSmIdeal.nD,
          r.2.mem ((c.tc : Thread Cert.AdSmIdeal.nD Cert.AdSmIdeal.τ).loc Cert.AdSmIdeal.main_v0_0) = v0 c
          ∧ r.2.mem ((c.tc : Thread Cert.AdSmIdeal.nD Cert.AdSmIdeal.τ).loc Cert.AdSmIdeal.main_v0_1) = v1 c
          ∧ r.2.mem ((c.tc : Thread Cert.AdSmIdeal.nD Cert.AdSmIdeal.τ).loc Cert.AdSmIdeal.main_v0_2) = v2 c
          ∧ r.2.mem ((c.tc : Thread Cert.AdSmIdeal.nD Cert.AdSmIdeal.τ).loc Cert.AdSmIdeal.main_arg0) = m ((c.tc : Thread Cert.AdSmIdeal.nD Cert.AdSmIdeal.τ).loc Cert.AdSmIdeal.main_arg0)
          ∧ r.2.mem ((c.tc : Thread Cert.AdSmIdeal.nD Cert.AdSmIdeal.τ).loc Cert.AdSmIdeal.main_arg1) = m ((c.tc : Thread Cert.AdSmIdeal.nD Cert.AdSmIdeal.τ).loc Cert.AdSmIdeal.main_arg1)
          ∧ r.2.mem ((c.tc : Thread Cert.AdSmIdeal.nD Cert.AdSmIdeal.τ).loc Cert.AdSmIdeal.main_arg2) = m ((c.tc : Thread Cert.AdSmIdeal.nD Cert.AdSmIdeal.τ).loc Cert.AdSmIdeal.main_arg2)
          ∧ r.2.mem ((c.tc : Thread Cert.AdSmIdeal.nD Cert.AdSmIdeal.τ).loc Cert.AdSmIdeal.main_arg3) = m ((c.tc : Thread Cert.AdSmIdeal.nD Cert.AdSmIdeal.τ).loc Cert.AdSmIdeal.main_arg3))
      ∧ θ_run (Cert.AdSmRefIdeal.defs (F := Ideal)) (onTc (τ := Cert.AdSmRefIdeal.τ) (Cert.AdSmRefIdeal.main (F := Ideal))) ⟨m', fun _ => 0, g'⟩ (fun r => ∀ c : Dev Cert.AdSmRefIdeal.nD,
          r.2.mem ((c.tc : Thread Cert.AdSmRefIdeal.nD Cert.AdSmRefIdeal.τ).loc Cert.AdSmRefIdeal.main_v23) = v0 c
          ∧ r.2.mem ((c.tc : Thread Cert.AdSmRefIdeal.nD Cert.AdSmRefIdeal.τ).loc Cert.AdSmRefIdeal.main_v4) = v1 c
          ∧ r.2.mem ((c.tc : Thread Cert.AdSmRefIdeal.nD Cert.AdSmRefIdeal.τ).loc Cert.AdSmRefIdeal.main_v10) = v2 c
          ∧ r.2.mem ((c.tc : Thread Cert.AdSmRefIdeal.nD Cert.AdSmRefIdeal.τ).loc Cert.AdSmRefIdeal.main_arg0) = m' ((c.tc : Thread Cert.AdSmRefIdeal.nD Cert.AdSmRefIdeal.τ).loc Cert.AdSmRefIdeal.main_arg0)
          ∧ r.2.mem ((c.tc : Thread Cert.AdSmRefIdeal.nD Cert.AdSmRefIdeal.τ).loc Cert.AdSmRefIdeal.main_arg1) = m' ((c.tc : Thread Cert.AdSmRefIdeal.nD Cert.AdSmRefIdeal.τ).loc Cert.AdSmRefIdeal.main_arg1)
          ∧ r.2.mem ((c.tc : Thread Cert.AdSmRefIdeal.nD Cert.AdSmRefIdeal.τ).loc Cert.AdSmRefIdeal.main_arg2) = m' ((c.tc : Thread Cert.AdSmRefIdeal.nD Cert.AdSmRefIdeal.τ).loc Cert.AdSmRefIdeal.main_arg2)
          ∧ r.2.mem ((c.tc : Thread Cert.AdSmRefIdeal.nD Cert.AdSmRefIdeal.τ).loc Cert.AdSmRefIdeal.main_arg3) = m' ((c.tc : Thread Cert.AdSmRefIdeal.nD Cert.AdSmRefIdeal.τ).loc Cert.AdSmRefIdeal.main_arg3))

def preserves_ProjOwn_ProjOwnIdeal : Prop :=
  True

def algebraic_ProjOwnIdeal_ProjOwnRefIdeal [hProjOwnIdeal : Cert.ProjOwnIdeal.Facts] [hProjOwnRefIdeal : Cert.ProjOwnRefIdeal.Facts] : Prop :=
  ∀ (m : (ℓ : Loc Cert.ProjOwnIdeal.nD Cert.ProjOwnIdeal.τ Cert.ProjOwnIdeal.sig) → Buf (Elt Ideal) ℓ) (g : Dev Cert.ProjOwnIdeal.nD → PrngReg)
    (m' : (ℓ : Loc Cert.ProjOwnRefIdeal.nD Cert.ProjOwnRefIdeal.τ Cert.ProjOwnRefIdeal.sig) → Buf (Elt Ideal) ℓ) (g' : Dev Cert.ProjOwnRefIdeal.nD → PrngReg), Pre_ProjOwnIdeal m →
    (∀ c : Dev Cert.ProjOwnIdeal.nD,
      m' ((c.tc : Thread Cert.ProjOwnRefIdeal.nD Cert.ProjOwnRefIdeal.τ).loc Cert.ProjOwnRefIdeal.main_arg0) = m ((c.tc : Thread Cert.ProjOwnIdeal.nD Cert.ProjOwnIdeal.τ).loc Cert.ProjOwnIdeal.main_arg0)
      ∧ m' ((c.tc : Thread Cert.ProjOwnRefIdeal.nD Cert.ProjOwnRefIdeal.τ).loc Cert.ProjOwnRefIdeal.main_arg1) = m ((c.tc : Thread Cert.ProjOwnIdeal.nD Cert.ProjOwnIdeal.τ).loc Cert.ProjOwnIdeal.main_arg1)) →
    ∃ (v0 : (c : Dev Cert.ProjOwnIdeal.nD) → Buf (Elt Ideal) ((c.tc : Thread Cert.ProjOwnIdeal.nD Cert.ProjOwnIdeal.τ).loc Cert.ProjOwnIdeal.main_v5)),
      θ_run (Cert.ProjOwnIdeal.defs (F := Ideal)) (onTc (τ := Cert.ProjOwnIdeal.τ) (Cert.ProjOwnIdeal.main (F := Ideal))) ⟨m, fun _ => 0, g⟩ (fun r => ∀ c : Dev Cert.ProjOwnIdeal.nD,
          r.2.mem ((c.tc : Thread Cert.ProjOwnIdeal.nD Cert.ProjOwnIdeal.τ).loc Cert.ProjOwnIdeal.main_v5) = v0 c
          ∧ r.2.mem ((c.tc : Thread Cert.ProjOwnIdeal.nD Cert.ProjOwnIdeal.τ).loc Cert.ProjOwnIdeal.main_arg0) = m ((c.tc : Thread Cert.ProjOwnIdeal.nD Cert.ProjOwnIdeal.τ).loc Cert.ProjOwnIdeal.main_arg0)
          ∧ r.2.mem ((c.tc : Thread Cert.ProjOwnIdeal.nD Cert.ProjOwnIdeal.τ).loc Cert.ProjOwnIdeal.main_arg1) = m ((c.tc : Thread Cert.ProjOwnIdeal.nD Cert.ProjOwnIdeal.τ).loc Cert.ProjOwnIdeal.main_arg1))
      ∧ θ_run (Cert.ProjOwnRefIdeal.defs (F := Ideal)) (onTc (τ := Cert.ProjOwnRefIdeal.τ) (Cert.ProjOwnRefIdeal.main (F := Ideal))) ⟨m', fun _ => 0, g'⟩ (fun r => ∀ c : Dev Cert.ProjOwnRefIdeal.nD,
          r.2.mem ((c.tc : Thread Cert.ProjOwnRefIdeal.nD Cert.ProjOwnRefIdeal.τ).loc Cert.ProjOwnRefIdeal.main_v1) = v0 c
          ∧ r.2.mem ((c.tc : Thread Cert.ProjOwnRefIdeal.nD Cert.ProjOwnRefIdeal.τ).loc Cert.ProjOwnRefIdeal.main_arg0) = m' ((c.tc : Thread Cert.ProjOwnRefIdeal.nD Cert.ProjOwnRefIdeal.τ).loc Cert.ProjOwnRefIdeal.main_arg0)
          ∧ r.2.mem ((c.tc : Thread Cert.ProjOwnRefIdeal.nD Cert.ProjOwnRefIdeal.τ).loc Cert.ProjOwnRefIdeal.main_arg1) = m' ((c.tc : Thread Cert.ProjOwnRefIdeal.nD Cert.ProjOwnRefIdeal.τ).loc Cert.ProjOwnRefIdeal.main_arg1))

def preserves_ProjNear_ProjNearIdeal : Prop :=
  True

def algebraic_ProjNearIdeal_ProjNearRefIdeal [hProjNearIdeal : Cert.ProjNearIdeal.Facts] [hProjNearRefIdeal : Cert.ProjNearRefIdeal.Facts] : Prop :=
  ∀ (m : (ℓ : Loc Cert.ProjNearIdeal.nD Cert.ProjNearIdeal.τ Cert.ProjNearIdeal.sig) → Buf (Elt Ideal) ℓ) (g : Dev Cert.ProjNearIdeal.nD → PrngReg)
    (m' : (ℓ : Loc Cert.ProjNearRefIdeal.nD Cert.ProjNearRefIdeal.τ Cert.ProjNearRefIdeal.sig) → Buf (Elt Ideal) ℓ) (g' : Dev Cert.ProjNearRefIdeal.nD → PrngReg), Pre_ProjNearIdeal m →
    (∀ c : Dev Cert.ProjNearIdeal.nD,
      m' ((c.tc : Thread Cert.ProjNearRefIdeal.nD Cert.ProjNearRefIdeal.τ).loc Cert.ProjNearRefIdeal.main_arg0) = m ((c.tc : Thread Cert.ProjNearIdeal.nD Cert.ProjNearIdeal.τ).loc Cert.ProjNearIdeal.main_arg0)
      ∧ m' ((c.tc : Thread Cert.ProjNearRefIdeal.nD Cert.ProjNearRefIdeal.τ).loc Cert.ProjNearRefIdeal.main_arg1) = m ((c.tc : Thread Cert.ProjNearIdeal.nD Cert.ProjNearIdeal.τ).loc Cert.ProjNearIdeal.main_arg1)
      ∧ m' ((c.tc : Thread Cert.ProjNearRefIdeal.nD Cert.ProjNearRefIdeal.τ).loc Cert.ProjNearRefIdeal.main_arg2) = m ((c.tc : Thread Cert.ProjNearIdeal.nD Cert.ProjNearIdeal.τ).loc Cert.ProjNearIdeal.main_arg2)) →
    ∃ (v0 : (c : Dev Cert.ProjNearIdeal.nD) → Buf (Elt Ideal) ((c.tc : Thread Cert.ProjNearIdeal.nD Cert.ProjNearIdeal.τ).loc Cert.ProjNearIdeal.main_v4)),
      θ_run (Cert.ProjNearIdeal.defs (F := Ideal)) (onTc (τ := Cert.ProjNearIdeal.τ) (Cert.ProjNearIdeal.main (F := Ideal))) ⟨m, fun _ => 0, g⟩ (fun r => ∀ c : Dev Cert.ProjNearIdeal.nD,
          r.2.mem ((c.tc : Thread Cert.ProjNearIdeal.nD Cert.ProjNearIdeal.τ).loc Cert.ProjNearIdeal.main_v4) = v0 c
          ∧ r.2.mem ((c.tc : Thread Cert.ProjNearIdeal.nD Cert.ProjNearIdeal.τ).loc Cert.ProjNearIdeal.main_arg0) = m ((c.tc : Thread Cert.ProjNearIdeal.nD Cert.ProjNearIdeal.τ).loc Cert.ProjNearIdeal.main_arg0)
          ∧ r.2.mem ((c.tc : Thread Cert.ProjNearIdeal.nD Cert.ProjNearIdeal.τ).loc Cert.ProjNearIdeal.main_arg1) = m ((c.tc : Thread Cert.ProjNearIdeal.nD Cert.ProjNearIdeal.τ).loc Cert.ProjNearIdeal.main_arg1)
          ∧ r.2.mem ((c.tc : Thread Cert.ProjNearIdeal.nD Cert.ProjNearIdeal.τ).loc Cert.ProjNearIdeal.main_arg2) = m ((c.tc : Thread Cert.ProjNearIdeal.nD Cert.ProjNearIdeal.τ).loc Cert.ProjNearIdeal.main_arg2))
      ∧ θ_run (Cert.ProjNearRefIdeal.defs (F := Ideal)) (onTc (τ := Cert.ProjNearRefIdeal.τ) (Cert.ProjNearRefIdeal.main (F := Ideal))) ⟨m', fun _ => 0, g'⟩ (fun r => ∀ c : Dev Cert.ProjNearRefIdeal.nD,
          r.2.mem ((c.tc : Thread Cert.ProjNearRefIdeal.nD Cert.ProjNearRefIdeal.τ).loc Cert.ProjNearRefIdeal.main_v4) = v0 c
          ∧ r.2.mem ((c.tc : Thread Cert.ProjNearRefIdeal.nD Cert.ProjNearRefIdeal.τ).loc Cert.ProjNearRefIdeal.main_arg0) = m' ((c.tc : Thread Cert.ProjNearRefIdeal.nD Cert.ProjNearRefIdeal.τ).loc Cert.ProjNearRefIdeal.main_arg0)
          ∧ r.2.mem ((c.tc : Thread Cert.ProjNearRefIdeal.nD Cert.ProjNearRefIdeal.τ).loc Cert.ProjNearRefIdeal.main_arg1) = m' ((c.tc : Thread Cert.ProjNearRefIdeal.nD Cert.ProjNearRefIdeal.τ).loc Cert.ProjNearRefIdeal.main_arg1)
          ∧ r.2.mem ((c.tc : Thread Cert.ProjNearRefIdeal.nD Cert.ProjNearRefIdeal.τ).loc Cert.ProjNearRefIdeal.main_arg2) = m' ((c.tc : Thread Cert.ProjNearRefIdeal.nD Cert.ProjNearRefIdeal.τ).loc Cert.ProjNearRefIdeal.main_arg2))

def preserves_ProjFar_ProjFarIdeal : Prop :=
  True

def algebraic_ProjFarIdeal_ProjFarRefIdeal [hProjFarIdeal : Cert.ProjFarIdeal.Facts] [hProjFarRefIdeal : Cert.ProjFarRefIdeal.Facts] : Prop :=
  ∀ (m : (ℓ : Loc Cert.ProjFarIdeal.nD Cert.ProjFarIdeal.τ Cert.ProjFarIdeal.sig) → Buf (Elt Ideal) ℓ) (g : Dev Cert.ProjFarIdeal.nD → PrngReg)
    (m' : (ℓ : Loc Cert.ProjFarRefIdeal.nD Cert.ProjFarRefIdeal.τ Cert.ProjFarRefIdeal.sig) → Buf (Elt Ideal) ℓ) (g' : Dev Cert.ProjFarRefIdeal.nD → PrngReg), Pre_ProjFarIdeal m →
    (∀ c : Dev Cert.ProjFarIdeal.nD,
      m' ((c.tc : Thread Cert.ProjFarRefIdeal.nD Cert.ProjFarRefIdeal.τ).loc Cert.ProjFarRefIdeal.main_arg0) = m ((c.tc : Thread Cert.ProjFarIdeal.nD Cert.ProjFarIdeal.τ).loc Cert.ProjFarIdeal.main_arg0)
      ∧ m' ((c.tc : Thread Cert.ProjFarRefIdeal.nD Cert.ProjFarRefIdeal.τ).loc Cert.ProjFarRefIdeal.main_arg1) = m ((c.tc : Thread Cert.ProjFarIdeal.nD Cert.ProjFarIdeal.τ).loc Cert.ProjFarIdeal.main_arg1)
      ∧ m' ((c.tc : Thread Cert.ProjFarRefIdeal.nD Cert.ProjFarRefIdeal.τ).loc Cert.ProjFarRefIdeal.main_arg2) = m ((c.tc : Thread Cert.ProjFarIdeal.nD Cert.ProjFarIdeal.τ).loc Cert.ProjFarIdeal.main_arg2)) →
    ∃ (v0 : (c : Dev Cert.ProjFarIdeal.nD) → Buf (Elt Ideal) ((c.tc : Thread Cert.ProjFarIdeal.nD Cert.ProjFarIdeal.τ).loc Cert.ProjFarIdeal.main_v4)),
      θ_run (Cert.ProjFarIdeal.defs (F := Ideal)) (onTc (τ := Cert.ProjFarIdeal.τ) (Cert.ProjFarIdeal.main (F := Ideal))) ⟨m, fun _ => 0, g⟩ (fun r => ∀ c : Dev Cert.ProjFarIdeal.nD,
          r.2.mem ((c.tc : Thread Cert.ProjFarIdeal.nD Cert.ProjFarIdeal.τ).loc Cert.ProjFarIdeal.main_v4) = v0 c
          ∧ r.2.mem ((c.tc : Thread Cert.ProjFarIdeal.nD Cert.ProjFarIdeal.τ).loc Cert.ProjFarIdeal.main_arg0) = m ((c.tc : Thread Cert.ProjFarIdeal.nD Cert.ProjFarIdeal.τ).loc Cert.ProjFarIdeal.main_arg0)
          ∧ r.2.mem ((c.tc : Thread Cert.ProjFarIdeal.nD Cert.ProjFarIdeal.τ).loc Cert.ProjFarIdeal.main_arg1) = m ((c.tc : Thread Cert.ProjFarIdeal.nD Cert.ProjFarIdeal.τ).loc Cert.ProjFarIdeal.main_arg1)
          ∧ r.2.mem ((c.tc : Thread Cert.ProjFarIdeal.nD Cert.ProjFarIdeal.τ).loc Cert.ProjFarIdeal.main_arg2) = m ((c.tc : Thread Cert.ProjFarIdeal.nD Cert.ProjFarIdeal.τ).loc Cert.ProjFarIdeal.main_arg2))
      ∧ θ_run (Cert.ProjFarRefIdeal.defs (F := Ideal)) (onTc (τ := Cert.ProjFarRefIdeal.τ) (Cert.ProjFarRefIdeal.main (F := Ideal))) ⟨m', fun _ => 0, g'⟩ (fun r => ∀ c : Dev Cert.ProjFarRefIdeal.nD,
          r.2.mem ((c.tc : Thread Cert.ProjFarRefIdeal.nD Cert.ProjFarRefIdeal.τ).loc Cert.ProjFarRefIdeal.main_v3) = v0 c
          ∧ r.2.mem ((c.tc : Thread Cert.ProjFarRefIdeal.nD Cert.ProjFarRefIdeal.τ).loc Cert.ProjFarRefIdeal.main_arg0) = m' ((c.tc : Thread Cert.ProjFarRefIdeal.nD Cert.ProjFarRefIdeal.τ).loc Cert.ProjFarRefIdeal.main_arg0)
          ∧ r.2.mem ((c.tc : Thread Cert.ProjFarRefIdeal.nD Cert.ProjFarRefIdeal.τ).loc Cert.ProjFarRefIdeal.main_arg1) = m' ((c.tc : Thread Cert.ProjFarRefIdeal.nD Cert.ProjFarRefIdeal.τ).loc Cert.ProjFarRefIdeal.main_arg1)
          ∧ r.2.mem ((c.tc : Thread Cert.ProjFarRefIdeal.nD Cert.ProjFarRefIdeal.τ).loc Cert.ProjFarRefIdeal.main_arg2) = m' ((c.tc : Thread Cert.ProjFarRefIdeal.nD Cert.ProjFarRefIdeal.τ).loc Cert.ProjFarRefIdeal.main_arg2))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)) →
    ∃ (v0 : (c : Dev Cert.GmlpIdeal.nD) → Buf (Elt Ideal) ((c.tc : Thread Cert.GmlpIdeal.nD Cert.GmlpIdeal.τ).loc Cert.GmlpIdeal.main_v4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v4) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v76) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4))

def preserves_Ln_LnIdeal : Prop :=
  True

def algebraic_LnIdeal_LnRefIdeal_pre_finite_norm [hLnIdeal : Cert.LnIdeal.Facts] [hLnRefIdeal : Cert.LnRefIdeal.Facts] [hPre_finite_norm : Cert.Pre_finite_norm.Facts] : Prop :=
  ∀ (m : (ℓ : Loc Cert.LnIdeal.nD Cert.LnIdeal.τ Cert.LnIdeal.sig) → Buf (Elt Ideal) ℓ) (g : Dev Cert.LnIdeal.nD → PrngReg)
    (m' : (ℓ : Loc Cert.LnRefIdeal.nD Cert.LnRefIdeal.τ Cert.LnRefIdeal.sig) → Buf (Elt Ideal) ℓ) (g' : Dev Cert.LnRefIdeal.nD → PrngReg), Pre_LnIdeal_finite_norm m →
    (∀ c : Dev Cert.LnIdeal.nD,
      m' ((c.tc : Thread Cert.LnRefIdeal.nD Cert.LnRefIdeal.τ).loc Cert.LnRefIdeal.main_arg0) = m ((c.tc : Thread Cert.LnIdeal.nD Cert.LnIdeal.τ).loc Cert.LnIdeal.main_arg0)
      ∧ m' ((c.tc : Thread Cert.LnRefIdeal.nD Cert.LnRefIdeal.τ).loc Cert.LnRefIdeal.main_arg1) = m ((c.tc : Thread Cert.LnIdeal.nD Cert.LnIdeal.τ).loc Cert.LnIdeal.main_arg1)
      ∧ m' ((c.tc : Thread Cert.LnRefIdeal.nD Cert.LnRefIdeal.τ).loc Cert.LnRefIdeal.main_arg2) = m ((c.tc : Thread Cert.LnIdeal.nD Cert.LnIdeal.τ).loc Cert.LnIdeal.main_arg2)
      ∧ m' ((c.tc : Thread Cert.LnRefIdeal.nD Cert.LnRefIdeal.τ).loc Cert.LnRefIdeal.main_arg3) = m ((c.tc : Thread Cert.LnIdeal.nD Cert.LnIdeal.τ).loc Cert.LnIdeal.main_arg3)
      ∧ m' ((c.tc : Thread Cert.LnRefIdeal.nD Cert.LnRefIdeal.τ).loc Cert.LnRefIdeal.main_arg4) = m ((c.tc : Thread Cert.LnIdeal.nD Cert.LnIdeal.τ).loc Cert.LnIdeal.main_arg4)
      ∧ m' ((c.tc : Thread Cert.LnRefIdeal.nD Cert.LnRefIdeal.τ).loc Cert.LnRefIdeal.main_arg5) = m ((c.tc : Thread Cert.LnIdeal.nD Cert.LnIdeal.τ).loc Cert.LnIdeal.main_arg5)) →
    ∃ (v0 : (c : Dev Cert.LnIdeal.nD) → Buf (Elt Ideal) ((c.tc : Thread Cert.LnIdeal.nD Cert.LnIdeal.τ).loc Cert.LnIdeal.main_v23_0)) (v1 : (c : Dev Cert.LnIdeal.nD) → Buf (Elt Ideal) ((c.tc : Thread Cert.LnIdeal.nD Cert.LnIdeal.τ).loc Cert.LnIdeal.main_v23_1)) (v2 : (c : Dev Cert.LnIdeal.nD) → Buf (Elt Ideal) ((c.tc : Thread Cert.LnIdeal.nD Cert.LnIdeal.τ).loc Cert.LnIdeal.main_v23_2)),
      θ_run (Cert.LnIdeal.defs (F := Ideal)) (onTc (τ := Cert.LnIdeal.τ) (Cert.LnIdeal.main (F := Ideal))) ⟨m, fun _ => 0, g⟩ (fun r => ∀ c : Dev Cert.LnIdeal.nD,
          r.2.mem ((c.tc : Thread Cert.LnIdeal.nD Cert.LnIdeal.τ).loc Cert.LnIdeal.main_v23_0) = v0 c
          ∧ r.2.mem ((c.tc : Thread Cert.LnIdeal.nD Cert.LnIdeal.τ).loc Cert.LnIdeal.main_v23_1) = v1 c
          ∧ r.2.mem ((c.tc : Thread Cert.LnIdeal.nD Cert.LnIdeal.τ).loc Cert.LnIdeal.main_v23_2) = v2 c
          ∧ r.2.mem ((c.tc : Thread Cert.LnIdeal.nD Cert.LnIdeal.τ).loc Cert.LnIdeal.main_arg0) = m ((c.tc : Thread Cert.LnIdeal.nD Cert.LnIdeal.τ).loc Cert.LnIdeal.main_arg0)
          ∧ r.2.mem ((c.tc : Thread Cert.LnIdeal.nD Cert.LnIdeal.τ).loc Cert.LnIdeal.main_arg1) = m ((c.tc : Thread Cert.LnIdeal.nD Cert.LnIdeal.τ).loc Cert.LnIdeal.main_arg1)
          ∧ r.2.mem ((c.tc : Thread Cert.LnIdeal.nD Cert.LnIdeal.τ).loc Cert.LnIdeal.main_arg2) = m ((c.tc : Thread Cert.LnIdeal.nD Cert.LnIdeal.τ).loc Cert.LnIdeal.main_arg2)
          ∧ r.2.mem ((c.tc : Thread Cert.LnIdeal.nD Cert.LnIdeal.τ).loc Cert.LnIdeal.main_arg3) = m ((c.tc : Thread Cert.LnIdeal.nD Cert.LnIdeal.τ).loc Cert.LnIdeal.main_arg3)
          ∧ r.2.mem ((c.tc : Thread Cert.LnIdeal.nD Cert.LnIdeal.τ).loc Cert.LnIdeal.main_arg4) = m ((c.tc : Thread Cert.LnIdeal.nD Cert.LnIdeal.τ).loc Cert.LnIdeal.main_arg4)
          ∧ r.2.mem ((c.tc : Thread Cert.LnIdeal.nD Cert.LnIdeal.τ).loc Cert.LnIdeal.main_arg5) = m ((c.tc : Thread Cert.LnIdeal.nD Cert.LnIdeal.τ).loc Cert.LnIdeal.main_arg5))
      ∧ θ_run (Cert.LnRefIdeal.defs (F := Ideal)) (onTc (τ := Cert.LnRefIdeal.τ) (Cert.LnRefIdeal.main (F := Ideal))) ⟨m', fun _ => 0, g'⟩ (fun r => ∀ c : Dev Cert.LnRefIdeal.nD,
          r.2.mem ((c.tc : Thread Cert.LnRefIdeal.nD Cert.LnRefIdeal.τ).loc Cert.LnRefIdeal.main_v70) = v0 c
          ∧ r.2.mem ((c.tc : Thread Cert.LnRefIdeal.nD Cert.LnRefIdeal.τ).loc Cert.LnRefIdeal.main_v71) = v1 c
          ∧ r.2.mem ((c.tc : Thread Cert.LnRefIdeal.nD Cert.LnRefIdeal.τ).loc Cert.LnRefIdeal.main_v75) = v2 c
          ∧ r.2.mem ((c.tc : Thread Cert.LnRefIdeal.nD Cert.LnRefIdeal.τ).loc Cert.LnRefIdeal.main_arg0) = m' ((c.tc : Thread Cert.LnRefIdeal.nD Cert.LnRefIdeal.τ).loc Cert.LnRefIdeal.main_arg0)
          ∧ r.2.mem ((c.tc : Thread Cert.LnRefIdeal.nD Cert.LnRefIdeal.τ).loc Cert.LnRefIdeal.main_arg1) = m' ((c.tc : Thread Cert.LnRefIdeal.nD Cert.LnRefIdeal.τ).loc Cert.LnRefIdeal.main_arg1)
          ∧ r.2.mem ((c.tc : Thread Cert.LnRefIdeal.nD Cert.LnRefIdeal.τ).loc Cert.LnRefIdeal.main_arg2) = m' ((c.tc : Thread Cert.LnRefIdeal.nD Cert.LnRefIdeal.τ).loc Cert.LnRefIdeal.main_arg2)
          ∧ r.2.mem ((c.tc : Thread Cert.LnRefIdeal.nD Cert.LnRefIdeal.τ).loc Cert.LnRefIdeal.main_arg3) = m' ((c.tc : Thread Cert.LnRefIdeal.nD Cert.LnRefIdeal.τ).loc Cert.LnRefIdeal.main_arg3)
          ∧ r.2.mem ((c.tc : Thread Cert.LnRefIdeal.nD Cert.LnRefIdeal.τ).loc Cert.LnRefIdeal.main_arg4) = m' ((c.tc : Thread Cert.LnRefIdeal.nD Cert.LnRefIdeal.τ).loc Cert.LnRefIdeal.main_arg4)
          ∧ r.2.mem ((c.tc : Thread Cert.LnRefIdeal.nD Cert.LnRefIdeal.τ).loc Cert.LnRefIdeal.main_arg5) = m' ((c.tc : Thread Cert.LnRefIdeal.nD Cert.LnRefIdeal.τ).loc Cert.LnRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)
      ∧ m' ((c.tc : Thread Cert.LossRefIdeal.nD Cert.LossRefIdeal.τ).loc Cert.LossRefIdeal.main_arg7) = m ((c.tc : Thread Cert.LossIdeal.nD Cert.LossIdeal.τ).loc Cert.LossIdeal.main_arg7)
      ∧ m' ((c.tc : Thread Cert.LossRefIdeal.nD Cert.LossRefIdeal.τ).loc Cert.LossRefIdeal.main_arg8) = m ((c.tc : Thread Cert.LossIdeal.nD Cert.LossIdeal.τ).loc Cert.LossIdeal.main_arg8)) →
    ∃ (v0 : (c : Dev Cert.LossIdeal.nD) → Buf (Elt Ideal) ((c.tc : Thread Cert.LossIdeal.nD Cert.LossIdeal.τ).loc Cert.LossIdeal.main_v21_0)) (v1 : (c : Dev Cert.LossIdeal.nD) → Buf (Elt Ideal) ((c.tc : Thread Cert.LossIdeal.nD Cert.LossIdeal.τ).loc Cert.LossIdeal.main_v21_1)) (v2 : (c : Dev Cert.LossIdeal.nD) → Buf (Elt Ideal) ((c.tc : Thread Cert.LossIdeal.nD Cert.LossIdeal.τ).loc Cert.LossIdeal.main_v21_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v21_0) = v0 c
          ∧ r.2.mem ((c.tc : Thread Cert.LossIdeal.nD Cert.LossIdeal.τ).loc Cert.LossIdeal.main_v21_1) = v1 c
          ∧ r.2.mem ((c.tc : Thread Cert.LossIdeal.nD Cert.LossIdeal.τ).loc Cert.LossIdeal.main_v21_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6)
          ∧ r.2.mem ((c.tc : Thread Cert.LossIdeal.nD Cert.LossIdeal.τ).loc Cert.LossIdeal.main_arg7) = m ((c.tc : Thread Cert.LossIdeal.nD Cert.LossIdeal.τ).loc Cert.LossIdeal.main_arg7)
          ∧ r.2.mem ((c.tc : Thread Cert.LossIdeal.nD Cert.LossIdeal.τ).loc Cert.LossIdeal.main_arg8) = m ((c.tc : Thread Cert.LossIdeal.nD Cert.LossIdeal.τ).loc Cert.LossIdeal.main_arg8))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v108) = v0 c
          ∧ r.2.mem ((c.tc : Thread Cert.LossRefIdeal.nD Cert.LossRefIdeal.τ).loc Cert.LossRefIdeal.main_v112) = v1 c
          ∧ r.2.mem ((c.tc : Thread Cert.LossRefIdeal.nD Cert.LossRefIdeal.τ).loc Cert.LossRefIdeal.main_v119) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6)
          ∧ r.2.mem ((c.tc : Thread Cert.LossRefIdeal.nD Cert.LossRefIdeal.τ).loc Cert.LossRefIdeal.main_arg7) = m' ((c.tc : Thread Cert.LossRefIdeal.nD Cert.LossRefIdeal.τ).loc Cert.LossRefIdeal.main_arg7)
          ∧ r.2.mem ((c.tc : Thread Cert.LossRefIdeal.nD Cert.LossRefIdeal.τ).loc Cert.LossRefIdeal.main_arg8) = m' ((c.tc : Thread Cert.LossRefIdeal.nD Cert.LossRefIdeal.τ).loc Cert.LossRefIdeal.main_arg8))

def Claim : Prop :=
  ∃ (hGate : Cert.Gate.Facts) (hGateIdeal : Cert.GateIdeal.Facts) (hGateRefIdeal : Cert.GateRefIdeal.Facts) (hRelu : Cert.Relu.Facts) (hReluIdeal : Cert.ReluIdeal.Facts) (hReluRefIdeal : Cert.ReluRefIdeal.Facts) (hBranches : Cert.Branches.Facts) (hBranchesIdeal : Cert.BranchesIdeal.Facts) (hBranchesRefIdeal : Cert.BranchesRefIdeal.Facts) (hDx : Cert.Dx.Facts) (hDxIdeal : Cert.DxIdeal.Facts) (hDxRefIdeal : Cert.DxRefIdeal.Facts) (hGwFf2 : Cert.GwFf2.Facts) (hGwFf2Ideal : Cert.GwFf2Ideal.Facts) (hGwFf2RefIdeal : Cert.GwFf2RefIdeal.Facts) (hGwFf1 : Cert.GwFf1.Facts) (hGwFf1Ideal : Cert.GwFf1Ideal.Facts) (hGwFf1RefIdeal : Cert.GwFf1RefIdeal.Facts) (hGwOut : Cert.GwOut.Facts) (hGwOutIdeal : Cert.GwOutIdeal.Facts) (hGwOutRefIdeal : Cert.GwOutRefIdeal.Facts) (hGwPa : Cert.GwPa.Facts) (hGwPaIdeal : Cert.GwPaIdeal.Facts) (hGwPaRefIdeal : Cert.GwPaRefIdeal.Facts) (hGwPb : Cert.GwPb.Facts) (hGwPbIdeal : Cert.GwPbIdeal.Facts) (hGwPbRefIdeal : Cert.GwPbRefIdeal.Facts) (hGwIn : Cert.GwIn.Facts) (hGwInIdeal : Cert.GwInIdeal.Facts) (hGwInRefIdeal : Cert.GwInRefIdeal.Facts) (hBranch : Cert.Branch.Facts) (hBranchIdeal : Cert.BranchIdeal.Facts) (hBranchRefIdeal : Cert.BranchRefIdeal.Facts) (hOutLn : Cert.OutLn.Facts) (hOutLnIdeal : Cert.OutLnIdeal.Facts) (hOutLnRefIdeal : Cert.OutLnRefIdeal.Facts) (hFf : Cert.Ff.Facts) (hFfIdeal : Cert.FfIdeal.Facts) (hFfRefIdeal : Cert.FfRefIdeal.Facts) (hAdIn : Cert.AdIn.Facts) (hAdInIdeal : Cert.AdInIdeal.Facts) (hAdInRefIdeal : Cert.AdInRefIdeal.Facts) (hAdFf : Cert.AdFf.Facts) (hAdFfIdeal : Cert.AdFfIdeal.Facts) (hAdFfRefIdeal : Cert.AdFfRefIdeal.Facts) (hAdOut : Cert.AdOut.Facts) (hAdOutIdeal : Cert.AdOutIdeal.Facts) (hAdOutRefIdeal : Cert.AdOutRefIdeal.Facts) (hAdPr : Cert.AdPr.Facts) (hAdPrIdeal : Cert.AdPrIdeal.Facts) (hAdPrRefIdeal : Cert.AdPrRefIdeal.Facts) (hAdSm : Cert.AdSm.Facts) (hAdSmIdeal : Cert.AdSmIdeal.Facts) (hAdSmRefIdeal : Cert.AdSmRefIdeal.Facts) (hProjOwn : Cert.ProjOwn.Facts) (hProjOwnIdeal : Cert.ProjOwnIdeal.Facts) (hProjOwnRefIdeal : Cert.ProjOwnRefIdeal.Facts) (hProjNear : Cert.ProjNear.Facts) (hProjNearIdeal : Cert.ProjNearIdeal.Facts) (hProjNearRefIdeal : Cert.ProjNearRefIdeal.Facts) (hProjFar : Cert.ProjFar.Facts) (hProjFarIdeal : Cert.ProjFarIdeal.Facts) (hProjFarRefIdeal : Cert.ProjFarRefIdeal.Facts) (hGmlp : Cert.Gmlp.Facts) (hGmlpIdeal : Cert.GmlpIdeal.Facts) (hGmlpRefIdeal : Cert.GmlpRefIdeal.Facts) (hLn : Cert.Ln.Facts) (hLnIdeal : Cert.LnIdeal.Facts) (hLnRefIdeal : Cert.LnRefIdeal.Facts) (hLoss : Cert.Loss.Facts) (hLossIdeal : Cert.LossIdeal.Facts) (hLossRefIdeal : Cert.LossRefIdeal.Facts) (hPre_finite_norm : Cert.Pre_finite_norm.Facts) (hPre_finite_loss : Cert.Pre_finite_loss.Facts),
    quiescent_Gate (hGate := hGate)
    ∧ quiescent_GateIdeal (hGateIdeal := hGateIdeal)
    ∧ quiescent_GateRefIdeal (hGateRefIdeal := hGateRefIdeal)
    ∧ quiescent_Relu (hRelu := hRelu)
    ∧ quiescent_ReluIdeal (hReluIdeal := hReluIdeal)
    ∧ quiescent_ReluRefIdeal (hReluRefIdeal := hReluRefIdeal)
    ∧ quiescent_Branches (hBranches := hBranches)
    ∧ quiescent_BranchesIdeal (hBranchesIdeal := hBranchesIdeal)
    ∧ quiescent_BranchesRefIdeal (hBranchesRefIdeal := hBranchesRefIdeal)
    ∧ quiescent_Dx (hDx := hDx)
    ∧ quiescent_DxIdeal (hDxIdeal := hDxIdeal)
    ∧ quiescent_DxRefIdeal (hDxRefIdeal := hDxRefIdeal)
    ∧ quiescent_GwFf2 (hGwFf2 := hGwFf2)
    ∧ quiescent_GwFf2Ideal (hGwFf2Ideal := hGwFf2Ideal)
    ∧ quiescent_GwFf2RefIdeal (hGwFf2RefIdeal := hGwFf2RefIdeal)
    ∧ quiescent_GwFf1 (hGwFf1 := hGwFf1)
    ∧ quiescent_GwFf1Ideal (hGwFf1Ideal := hGwFf1Ideal)
    ∧ quiescent_GwFf1RefIdeal (hGwFf1RefIdeal := hGwFf1RefIdeal)
    ∧ quiescent_GwOut (hGwOut := hGwOut)
    ∧ quiescent_GwOutIdeal (hGwOutIdeal := hGwOutIdeal)
    ∧ quiescent_GwOutRefIdeal (hGwOutRefIdeal := hGwOutRefIdeal)
    ∧ quiescent_GwPa (hGwPa := hGwPa)
    ∧ quiescent_GwPaIdeal (hGwPaIdeal := hGwPaIdeal)
    ∧ quiescent_GwPaRefIdeal (hGwPaRefIdeal := hGwPaRefIdeal)
    ∧ quiescent_GwPb (hGwPb := hGwPb)
    ∧ quiescent_GwPbIdeal (hGwPbIdeal := hGwPbIdeal)
    ∧ quiescent_GwPbRefIdeal (hGwPbRefIdeal := hGwPbRefIdeal)
    ∧ quiescent_GwIn (hGwIn := hGwIn)
    ∧ quiescent_GwInIdeal (hGwInIdeal := hGwInIdeal)
    ∧ quiescent_GwInRefIdeal (hGwInRefIdeal := hGwInRefIdeal)
    ∧ quiescent_Branch (hBranch := hBranch)
    ∧ quiescent_BranchIdeal (hBranchIdeal := hBranchIdeal)
    ∧ quiescent_BranchRefIdeal (hBranchRefIdeal := hBranchRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_Ff (hFf := hFf)
    ∧ quiescent_FfIdeal (hFfIdeal := hFfIdeal)
    ∧ quiescent_FfRefIdeal (hFfRefIdeal := hFfRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdFf (hAdFf := hAdFf)
    ∧ quiescent_AdFfIdeal (hAdFfIdeal := hAdFfIdeal)
    ∧ quiescent_AdFfRefIdeal (hAdFfRefIdeal := hAdFfRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdPr (hAdPr := hAdPr)
    ∧ quiescent_AdPrIdeal (hAdPrIdeal := hAdPrIdeal)
    ∧ quiescent_AdPrRefIdeal (hAdPrRefIdeal := hAdPrRefIdeal)
    ∧ quiescent_AdSm (hAdSm := hAdSm)
    ∧ quiescent_AdSmIdeal (hAdSmIdeal := hAdSmIdeal)
    ∧ quiescent_AdSmRefIdeal (hAdSmRefIdeal := hAdSmRefIdeal)
    ∧ quiescent_ProjOwn (hProjOwn := hProjOwn)
    ∧ quiescent_ProjOwnIdeal (hProjOwnIdeal := hProjOwnIdeal)
    ∧ quiescent_ProjOwnRefIdeal (hProjOwnRefIdeal := hProjOwnRefIdeal)
    ∧ quiescent_ProjNear (hProjNear := hProjNear)
    ∧ quiescent_ProjNearIdeal (hProjNearIdeal := hProjNearIdeal)
    ∧ quiescent_ProjNearRefIdeal (hProjNearRefIdeal := hProjNearRefIdeal)
    ∧ quiescent_ProjFar (hProjFar := hProjFar)
    ∧ quiescent_ProjFarIdeal (hProjFarIdeal := hProjFarIdeal)
    ∧ quiescent_ProjFarRefIdeal (hProjFarRefIdeal := hProjFarRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Ln (hLn := hLn)
    ∧ quiescent_LnIdeal (hLnIdeal := hLnIdeal)
    ∧ quiescent_LnIdeal_pre_finite_norm (hLnIdeal := hLnIdeal) (hPre_finite_norm := hPre_finite_norm)
    ∧ quiescent_LnRefIdeal (hLnRefIdeal := hLnRefIdeal)
    ∧ quiescent_LnRefIdeal_pre_finite_norm (hLnRefIdeal := hLnRefIdeal) (hPre_finite_norm := hPre_finite_norm)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ preserves_Gate_GateIdeal
    ∧ algebraic_GateIdeal_GateRefIdeal (hGateIdeal := hGateIdeal) (hGateRefIdeal := hGateRefIdeal)
    ∧ preserves_Relu_ReluIdeal
    ∧ algebraic_ReluIdeal_ReluRefIdeal (hReluIdeal := hReluIdeal) (hReluRefIdeal := hReluRefIdeal)
    ∧ preserves_Branches_BranchesIdeal
    ∧ algebraic_BranchesIdeal_BranchesRefIdeal (hBranchesIdeal := hBranchesIdeal) (hBranchesRefIdeal := hBranchesRefIdeal)
    ∧ preserves_Dx_DxIdeal
    ∧ algebraic_DxIdeal_DxRefIdeal (hDxIdeal := hDxIdeal) (hDxRefIdeal := hDxRefIdeal)
    ∧ preserves_GwFf2_GwFf2Ideal
    ∧ algebraic_GwFf2Ideal_GwFf2RefIdeal (hGwFf2Ideal := hGwFf2Ideal) (hGwFf2RefIdeal := hGwFf2RefIdeal)
    ∧ preserves_GwFf1_GwFf1Ideal
    ∧ algebraic_GwFf1Ideal_GwFf1RefIdeal (hGwFf1Ideal := hGwFf1Ideal) (hGwFf1RefIdeal := hGwFf1RefIdeal)
    ∧ preserves_GwOut_GwOutIdeal
    ∧ algebraic_GwOutIdeal_GwOutRefIdeal (hGwOutIdeal := hGwOutIdeal) (hGwOutRefIdeal := hGwOutRefIdeal)
    ∧ preserves_GwPa_GwPaIdeal
    ∧ algebraic_GwPaIdeal_GwPaRefIdeal (hGwPaIdeal := hGwPaIdeal) (hGwPaRefIdeal := hGwPaRefIdeal)
    ∧ preserves_GwPb_GwPbIdeal
    ∧ algebraic_GwPbIdeal_GwPbRefIdeal (hGwPbIdeal := hGwPbIdeal) (hGwPbRefIdeal := hGwPbRefIdeal)
    ∧ preserves_GwIn_GwInIdeal
    ∧ algebraic_GwInIdeal_GwInRefIdeal (hGwInIdeal := hGwInIdeal) (hGwInRefIdeal := hGwInRefIdeal)
    ∧ preserves_Branch_BranchIdeal
    ∧ algebraic_BranchIdeal_BranchRefIdeal (hBranchIdeal := hBranchIdeal) (hBranchRefIdeal := hBranchRefIdeal)
    ∧ preserves_OutLn_OutLnIdeal
    ∧ algebraic_OutLnIdeal_OutLnRefIdeal (hOutLnIdeal := hOutLnIdeal) (hOutLnRefIdeal := hOutLnRefIdeal)
    ∧ preserves_Ff_FfIdeal
    ∧ algebraic_FfIdeal_FfRefIdeal (hFfIdeal := hFfIdeal) (hFfRefIdeal := hFfRefIdeal)
    ∧ preserves_AdIn_AdInIdeal
    ∧ algebraic_AdInIdeal_AdInRefIdeal (hAdInIdeal := hAdInIdeal) (hAdInRefIdeal := hAdInRefIdeal)
    ∧ preserves_AdFf_AdFfIdeal
    ∧ algebraic_AdFfIdeal_AdFfRefIdeal (hAdFfIdeal := hAdFfIdeal) (hAdFfRefIdeal := hAdFfRefIdeal)
    ∧ preserves_AdOut_AdOutIdeal
    ∧ algebraic_AdOutIdeal_AdOutRefIdeal (hAdOutIdeal := hAdOutIdeal) (hAdOutRefIdeal := hAdOutRefIdeal)
    ∧ preserves_AdPr_AdPrIdeal
    ∧ algebraic_AdPrIdeal_AdPrRefIdeal (hAdPrIdeal := hAdPrIdeal) (hAdPrRefIdeal := hAdPrRefIdeal)
    ∧ preserves_AdSm_AdSmIdeal
    ∧ algebraic_AdSmIdeal_AdSmRefIdeal (hAdSmIdeal := hAdSmIdeal) (hAdSmRefIdeal := hAdSmRefIdeal)
    ∧ preserves_ProjOwn_ProjOwnIdeal
    ∧ algebraic_ProjOwnIdeal_ProjOwnRefIdeal (hProjOwnIdeal := hProjOwnIdeal) (hProjOwnRefIdeal := hProjOwnRefIdeal)
    ∧ preserves_ProjNear_ProjNearIdeal
    ∧ algebraic_ProjNearIdeal_ProjNearRefIdeal (hProjNearIdeal := hProjNearIdeal) (hProjNearRefIdeal := hProjNearRefIdeal)
    ∧ preserves_ProjFar_ProjFarIdeal
    ∧ algebraic_ProjFarIdeal_ProjFarRefIdeal (hProjFarIdeal := hProjFarIdeal) (hProjFarRefIdeal := hProjFarRefIdeal)
    ∧ preserves_Gmlp_GmlpIdeal
    ∧ algebraic_GmlpIdeal_GmlpRefIdeal (hGmlpIdeal := hGmlpIdeal) (hGmlpRefIdeal := hGmlpRefIdeal)
    ∧ preserves_Ln_LnIdeal
    ∧ algebraic_LnIdeal_LnRefIdeal_pre_finite_norm (hLnIdeal := hLnIdeal) (hLnRefIdeal := hLnRefIdeal) (hPre_finite_norm := hPre_finite_norm)
    ∧ preserves_Loss_LossIdeal
    ∧ algebraic_LossIdeal_LossRefIdeal_pre_finite_loss (hLossIdeal := hLossIdeal) (hLossRefIdeal := hLossRefIdeal) (hPre_finite_loss := hPre_finite_loss)
-- ==== Pre_finite_loss.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part2 {F : FTy → Type} [FloatOps F] (main_arg7 : FVec F S1x2048 .f32) (main_arg8 : FVec F S2048x2048 .f32) (main_v29 : IVec S_ 1) (main_v32 : IVec S1x2048 1) (main_c_12 : IVec S_ 1) : IVec S_ 1 :=
  let main_v33 : IVec S_ 1 := (fun x v => Host.reduce IntOp.andi x v reducesTo_S1x2048_S_d0_1 h_S_) main_v32 main_c_12
  let main_v34 : IVec S_ 1 := andi main_v29 main_v33
  let main_v35 : FVec F S1x2048 .f32 := Host.absf main_arg7
  let main_cst_13 : FVec F S_ .f32 := constant S_ .f32 0x7F800000#32
  let main_v36 : FVec F S1x2048 .f32 := broadcastInDim S1x2048 ![] bcast_S_S1x2048 main_cst_13
  let main_v37 : IVec S1x2048 1 := cmpf .olt main_v35 main_v36
  let main_c_14 : IVec S_ 1 := constantI S_ 1 1#1
  let main_v38 : IVec S_ 1 := (fun x v => Host.reduce IntOp.andi x v reducesTo_S1x2048_S_d0_1 h_S_) main_v37 main_c_14
  let main_v39 : IVec S_ 1 := andi main_v34 main_v38
  let main_v40 : FVec F S2048x2048 .f32 := Host.absf main_arg8
  let main_cst_15 : FVec F S_ .f32 := constant S_ .f32 0x7F800000#32
  let main_v41 : FVec F S2048x2048 .f32 := broadcastInDim S2048x2048 ![] bcast_S_S2048x2048 main_cst_15
  let main_v42 : IVec S2048x2048 1 := cmpf .olt main_v40 main_v41
  let main_c_16 : IVec S_ 1 := constantI S_ 1 1#1
  let main_v43 : IVec S_ 1 := (fun x v => Host.reduce IntOp.andi x v reducesTo_S2048x2048_S_d0_1 h_S_) main_v42 main_c_16
  let main_v44 : IVec S_ 1 := andi main_v39 main_v43
  main_v44

def fn_part1 {F : FTy → Type} [FloatOps F] (main_arg4 : FVec F S1x2048 .f32) (main_arg5 : FVec F S1x2048 .f32) (main_arg6 : FVec F S1x2048 .f32) (main_arg7 : FVec F S1x2048 .f32) (main_arg8 : FVec F S2048x2048 .f32) (main_v14 : IVec S_ 1) (main_v15 : FVec F S1x2048 .f32) (main_cst_5 : FVec F S_ .f32) : IVec S_ 1 :=
  let main_v16 : FVec F S1x2048 .f32 := broadcastInDim S1x2048 ![] bcast_S_S1x2048 main_cst_5
  let main_v17 : IVec S1x2048 1 := cmpf .olt main_v15 main_v16
  let main_c_6 : IVec S_ 1 := constantI S_ 1 1#1
  let main_v18 : IVec S_ 1 := (fun x v => Host.reduce IntOp.andi x v reducesTo_S1x2048_S_d0_1 h_S_) main_v17 main_c_6
  let main_v19 : IVec S_ 1 := andi main_v14 main_v18
  let main_v20 : FVec F S1x2048 .f32 := Host.absf main_arg4
  let main_cst_7 : FVec F S_ .f32 := constant S_ .f32 0x7F800000#32
  let main_v21 : FVec F S1x2048 .f32 := broadcastInDim S1x2048 ![] bcast_S_S1x2048 main_cst_7
  let main_v22 : IVec S1x2048 1 := cmpf .olt main_v20 main_v21
  let main_c_8 : IVec S_ 1 := constantI S_ 1 1#1
  let main_v23 : IVec S_ 1 := (fun x v => Host.reduce IntOp.andi x v reducesTo_S1x2048_S_d0_1 h_S_) main_v22 main_c_8
  let main_v24 : IVec S_ 1 := andi main_v19 main_v23
  let main_v25 : FVec F S1x2048 .f32 := Host.absf main_arg5
  let main_cst_9 : FVec F S_ .f32 := constant S_ .f32 0x7F800000#32
  let main_v26 : FVec F S1x2048 .f32 := broadcastInDim S1x2048 ![] bcast_S_S1x2048 main_cst_9
  let main_v27 : IVec S1x2048 1 := cmpf .olt main_v25 main_v26
  let main_c_10 : IVec S_ 1 := constantI S_ 1 1#1
  let main_v28 : IVec S_ 1 := (fun x v => Host.reduce IntOp.andi x v reducesTo_S1x2048_S_d0_1 h_S_) main_v27 main_c_10
  let main_v29 : IVec S_ 1 := andi main_v24 main_v28
  let main_v30 : FVec F S1x2048 .f32 := Host.absf main_arg6
  let main_cst_11 : FVec F S_ .f32 := constant S_ .f32 0x7F800000#32
  let main_v31 : FVec F S1x2048 .f32 := broadcastInDim S1x2048 ![] bcast_S_S1x2048 main_cst_11
  let main_v32 : IVec S1x2048 1 := cmpf .olt main_v30 main_v31
  let main_c_12 : IVec S_ 1 := constantI S_ 1 1#1
  fn_part2 (F := F) main_arg7 main_arg8 main_v29 main_v32 main_c_12

def fn {F : FTy → Type} [FloatOps F] (main_arg0 : FVec F S2048x8192 .f32) (main_arg1 : FVec F S8192x2048 .f32) (main_arg2 : FVec F S2048x2048 .f32) (main_arg3 : FVec F S1x2048 .f32) (main_arg4 : FVec F S1x2048 .f32) (main_arg5 : FVec F S1x2048 .f32) (main_arg6 : FVec F S1x2048 .f32) (main_arg7 : FVec F S1x2048 .f32) (main_arg8 : FVec F S2048x2048 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_c_0 : IVec S_ 1 := constantI S_ 1 1#1
  let main_v4 : IVec S_ 1 := andi main_c_0 main_v3
  let main_v5 : FVec F S8192x2048 .f32 := Host.absf main_arg1
  let main_cst_1 : FVec F S_ .f32 := constant S_ .f32 0x7F800000#32
  let main_v6 : FVec F S8192x2048 .f32 := broadcastInDim S8192x2048 ![] bcast_S_S8192x2048 main_cst_1
  let main_v7 : IVec S8192x2048 1 := cmpf .olt main_v5 main_v6
  let main_c_2 : IVec S_ 1 := constantI S_ 1 1#1
  let main_v8 : IVec S_ 1 := (fun x v => Host.reduce IntOp.andi x v reducesTo_S8192x2048_S_d0_1 h_S_) main_v7 main_c_2
  let main_v9 : IVec S_ 1 := andi main_v4 main_v8
  let main_v10 : FVec F S2048x2048 .f32 := Host.absf main_arg2
  let main_cst_3 : FVec F S_ .f32 := constant S_ .f32 0x7F800000#32
  let main_v11 : FVec F S2048x2048 .f32 := broadcastInDim S2048x2048 ![] bcast_S_S2048x2048 main_cst_3
  let main_v12 : IVec S2048x2048 1 := cmpf .olt main_v10 main_v11
  let main_c_4 : IVec S_ 1 := constantI S_ 1 1#1
  let main_v13 : IVec S_ 1 := (fun x v => Host.reduce IntOp.andi x v reducesTo_S2048x2048_S_d0_1 h_S_) main_v12 main_c_4
  let main_v14 : IVec S_ 1 := andi main_v9 main_v13
  let main_v15 : FVec F S1x2048 .f32 := Host.absf main_arg3
  let main_cst_5 : FVec F S_ .f32 := constant S_ .f32 0x7F800000#32
  fn_part1 (F := F) main_arg4 main_arg5 main_arg6 main_arg7 main_arg8 main_v14 main_v15 main_cst_5
-- ==== Pre_finite_norm.lean ====
abbrev S2048x8192 : Shape := ⟨2, ![2048, 8192]⟩
abbrev S2048x2048 : Shape := ⟨2, ![2048, 2048]⟩
abbrev S1x2048 : Shape := ⟨2, ![1, 2048]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v14 : IVec S_ 1) (main_v15 : FVec F S2048x2048 .f32) (main_cst_5 : FVec F S_ .f32) : IVec S_ 1 :=
  let main_v16 : FVec F S2048x2048 .f32 := broadcastInDim S2048x2048 ![] bcast_S_S2048x2048 main_cst_5
  let main_v17 : IVec S2048x2048 1 := cmpf .olt main_v15 main_v16
  let main_c_6 : IVec S_ 1 := constantI S_ 1 1#1
  let main_v18 : IVec S_ 1 := (fun x v => Host.reduce IntOp.andi x v reducesTo_S2048x2048_S_d0_1 h_S_) main_v17 main_c_6
  let main_v19 : IVec S_ 1 := andi main_v14 main_v18
  let main_v20 : FVec F S1x2048 .f32 := Host.absf main_arg4
  let main_cst_7 : FVec F S_ .f32 := constant S_ .f32 0x7F800000#32
  let main_v21 : FVec F S1x2048 .f32 := broadcastInDim S1x2048 ![] bcast_S_S1x2048 main_cst_7
  let main_v22 : IVec S1x2048 1 := cmpf .olt main_v20 main_v21
  let main_c_8 : IVec S_ 1 := constantI S_ 1 1#1
  let main_v23 : IVec S_ 1 := (fun x v => Host.reduce IntOp.andi x v reducesTo_S1x2048_S_d0_1 h_S_) main_v22 main_c_8
  let main_v24 : IVec S_ 1 := andi main_v19 main_v23
  main_v24

def fn {F : FTy → Type} [FloatOps F] (main_arg0 : FVec F S2048x8192 .f32) (main_arg1 : FVec F S2048x8192 .f32) (main_arg2 : FVec F S2048x2048 .f32) (main_arg3 : FVec F S2048x2048 .f32) (main_arg4 : FVec F S1x2048 .f32) (main_arg5 : FVec F S1x2048 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_c_0 : IVec S_ 1 := constantI S_ 1 1#1
  let main_v4 : IVec S_ 1 := andi main_c_0 main_v3
  let main_v5 : FVec F S2048x8192 .f32 := Host.absf main_arg1
  let main_cst_1 : FVec F S_ .f32 := constant S_ .f32 0x7F800000#32
  let main_v6 : FVec F S2048x8192 .f32 := broadcastInDim S2048x8192 ![] bcast_S_S2048x8192 main_cst_1
  let main_v7 : IVec S2048x8192 1 := cmpf .olt main_v5 main_v6
  let main_c_2 : IVec S_ 1 := constantI S_ 1 1#1
  let main_v8 : IVec S_ 1 := (fun x v => Host.reduce IntOp.andi x v reducesTo_S2048x8192_S_d0_1 h_S_) main_v7 main_c_2
  let main_v9 : IVec S_ 1 := andi main_v4 main_v8
  let main_v10 : FVec F S2048x2048 .f32 := Host.absf main_arg2
  let main_cst_3 : FVec F S_ .f32 := constant S_ .f32 0x7F800000#32
  let main_v11 : FVec F S2048x2048 .f32 := broadcastInDim S2048x2048 ![] bcast_S_S2048x2048 main_cst_3
  let main_v12 : IVec S2048x2048 1 := cmpf .olt main_v10 main_v11
  let main_c_4 : IVec S_ 1 := constantI S_ 1 1#1
  let main_v13 : IVec S_ 1 := (fun x v => Host.reduce IntOp.andi x v reducesTo_S2048x2048_S_d0_1 h_S_) main_v12 main_c_4
  let main_v14 : IVec S_ 1 := andi main_v9 main_v13
  let main_v15 : FVec F S2048x2048 .f32 := Host.absf main_arg3
  let main_cst_5 : FVec F S_ .f32 := constant S_ .f32 0x7F800000#32
  fn_part1 (F := F) main_arg4 main_v14 main_v15 main_cst_5
-- ==== Gate.lean ====
abbrev S2048x2048 : Shape := ⟨2, ![2048, 2048]⟩
abbrev S2048x9216 : Shape := ⟨2, ![2048, 9216]⟩
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 13
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x9216, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GateRefIdeal.lean ====
abbrev S2048x2048 : Shape := ⟨2, ![2048, 2048]⟩
abbrev S2048x9216 : Shape := ⟨2, ![2048, 9216]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x9216, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .bf16⟩
  | .hbm, ⟨43, _⟩ => ⟨S2048x2048, .bf16⟩
  | .hbm, ⟨44, _⟩ => ⟨S2048x2048, .bf16⟩
  | .hbm, ⟨45, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Relu.lean ====
abbrev S2048x2048 : Shape := ⟨2, ![2048, 2048]⟩
abbrev S8192x2048 : Shape := ⟨2, ![8192, 2048]⟩
abbrev S2048x8192 : Shape := ⟨2, ![2048, 8192]⟩
abbrev S1x8192 : Shape := ⟨2, ![1, 8192]⟩
abbrev S_ : Shape := ⟨0, ![]⟩
abbrev S512x2048 : Shape := ⟨2, ![512, 2048]⟩
abbrev S2048x512 : Shape := ⟨2, ![2048, 512]⟩
abbrev S1x512 : Shape := ⟨2, ![1, 512]⟩
abbrev S512 : Shape := ⟨1, ![512]⟩

abbrev nBuf : Space → Nat
  | .hbm => 16
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x2048, .f32⟩
  | .hbm, ⟨3, _⟩ => ⟨S2048x8192, .f32⟩
  | .hbm, ⟨4, _⟩ => ⟨S1x8192, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .f32⟩
  | .hbm, ⟨11, _⟩ => ⟨S2048x2048, .bf16⟩
  | .hbm, ⟨12, _⟩ => ⟨S8192x2048, .bf16⟩
  | .hbm, ⟨13, _⟩ => ⟨S2048x8192, .bf16⟩
  | .hbm, ⟨14, _⟩ => ⟨S2048x8192, .bf16⟩
  | .hbm, ⟨15, _⟩ => ⟨S1x8192, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReluRefIdeal.lean ====
abbrev S2048x2048 : Shape := ⟨2, ![2048, 2048]⟩
abbrev S8192x2048 : Shape := ⟨2, ![8192, 2048]⟩
abbrev S2048x8192 : Shape := ⟨2, ![2048, 8192]⟩
abbrev S1x8192 : Shape := ⟨2, ![1, 8192]⟩
abbrev S_ : Shape := ⟨0, ![]⟩
abbrev S8192 : Shape := ⟨1, ![8192]⟩

abbrev nBuf : Space → Nat
  | .hbm => 30
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S2048x2048, .f32⟩
  | .hbm, ⟨3, _⟩ => ⟨S2048x8192, .f32⟩
  | .hbm, ⟨4, _⟩ => ⟨S1x8192, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S_, .f32⟩
  | .hbm, ⟨9, _⟩ => ⟨S2048x8192, .f32⟩
  | .hbm, ⟨10, _⟩ => ⟨S2048x8192, .f32⟩
  | .hbm, ⟨11, _⟩ => ⟨S_, .f32⟩
  | .hbm, ⟨12, _⟩ => ⟨S2048x8192, .f32⟩
  | .hbm, ⟨13, _⟩ => ⟨S2048x8192, .i1⟩
  | .hbm, ⟨14, _⟩ => ⟨S_, .f32⟩
  | .hbm, ⟨15, _⟩ => ⟨S2048x8192, .f32⟩
  | .hbm, ⟨16, _⟩ => ⟨S2048x8192, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x2048, .f32⟩
  | .hbm, ⟨21, _⟩ => ⟨S2048x8192, .f32⟩
  | .hbm, ⟨22, _⟩ => ⟨S2048x8192, .f32⟩
  | .hbm, ⟨23, _⟩ => ⟨S_, .f32⟩
  | .hbm, ⟨24, _⟩ => ⟨S2048x8192, .f32⟩
  | .hbm, ⟨25, _⟩ => ⟨S2048x8192, .f32⟩
  | .hbm, ⟨26, _⟩ => ⟨S_, .f32⟩
  | .hbm, ⟨27, _⟩ => ⟨S8192, .f32⟩
  | .hbm, ⟨28, _⟩ => ⟨S1x8192, .f32⟩
  | .hbm, ⟨29, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Branches.lean ====
abbrev S2048x2048 : Shape := ⟨2, ![2048, 2048]⟩
abbrev S1024x2048 : Shape := ⟨2, ![1024, 2048]⟩
abbrev S1024x4x512 : Shape := ⟨3, ![1024, 4, 512]⟩
abbrev S4x1024x512 : Shape := ⟨3, ![4, 1024, 512]⟩
abbrev S2048x1024 : Shape := ⟨2, ![2048, 1024]⟩
abbrev S512x2048 : Shape := ⟨2, ![512, 2048]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 14
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1024x2048, .f32⟩
  | .hbm, ⟨3, _⟩ => ⟨S1024x2048, .f32⟩
  | .hbm, ⟨4, _⟩ => ⟨S2048x2048, .bf16⟩
  | .hbm, ⟨5, _⟩ => ⟨S2048x2048, .bf16⟩
  | .hbm, ⟨6, _⟩ => ⟨S1024x2048, .bf16⟩
  | .hbm, ⟨7, _⟩ => ⟨S1024x4x512, .bf16⟩
  | .hbm, ⟨8, _⟩ => ⟨S4x1024x512, .bf16⟩
  | .hbm, ⟨9, _⟩ => ⟨S1024x2048, .bf16⟩
  | .hbm, ⟨10, _⟩ => ⟨S1024x4x512, .bf16⟩
  | .hbm, ⟨11, _⟩ => ⟨S4x1024x512, .bf16⟩
  | .hbm, ⟨12, _⟩ => ⟨S2048x1024, .f32⟩
  | .hbm, ⟨13, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BranchesRefIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Dx.lean ====
abbrev S2048x9216 : Shape := ⟨2, ![2048, 9216]⟩
abbrev S2048x2048 : Shape := ⟨2, ![2048, 2048]⟩
abbrev S2048x4x2304 : Shape := ⟨3, ![2048, 4, 2304]⟩
abbrev S4x2048x2304 : Shape := ⟨3, ![4, 2048, 2304]⟩
abbrev S512x9216 : Shape := ⟨2, ![512, 9216]⟩
abbrev S4x512x2304 : Shape := ⟨3, ![4, 512, 2304]⟩
abbrev S512x512 : Shape := ⟨2, ![512, 512]⟩
abbrev S512x2304 : Shape := ⟨2, ![512, 2304]⟩
abbrev S1x512x2304 : Shape := ⟨3, ![1, 512, 2304]⟩

abbrev nBuf : Space → Nat
  | .hbm => 8
  | .vmem => 8
  | .smem => 0
  | _ => 0

abbrev bufTy : (tb : Table) → Fin (tcTables nBuf tb) → BufTy
  | .hbm, ⟨0, _⟩ => ⟨S2048x9216, .f32⟩
  | .hbm, ⟨1, _⟩ => ⟨S2048x9216, .f32⟩
  | .hbm, ⟨2, _⟩ => ⟨S2048x2048, .f32⟩
  | .hbm, ⟨3, _⟩ => ⟨S2048x9216, .bf16⟩
  | .hbm, ⟨4, _⟩ => ⟨S2048x9216, .bf16⟩
  | .hbm, ⟨5, _⟩ => ⟨S2048x4x2304, .bf16⟩
  | .hbm, ⟨6, _⟩ => ⟨S4x2048x2304, .bf16⟩
  | .hbm, ⟨7, _⟩ => ⟨S2048x2048, .f32⟩
  | .local _ .vmem, ⟨0, _⟩ => ⟨S512x9216, .bf16⟩
  | .local _ .vmem, ⟨1, _⟩ => ⟨S512x9216, .bf16⟩
  | .local _ .vmem, ⟨2, _⟩ => ⟨S4x512x2304, .bf16⟩
  | .local _ .vmem, ⟨3, _⟩ => ⟨S4x512x2304, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DxRefIdeal.lean ====
abbrev S2048x9216 : Shape := ⟨2, ![2048, 9216]⟩
abbrev S2048x2048 : Shape := ⟨2, ![2048, 2048]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S2048x9216, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x9216, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== GwFf2.lean ====
abbrev S2048x8192 : Shape := ⟨2, ![2048, 8192]⟩
abbrev S2048x2048 : Shape := ⟨2, ![2048, 2048]⟩
abbrev S8192x2048 : Shape := ⟨2, ![8192, 2048]⟩
abbrev S2048x512 : Shape := ⟨2, ![2048, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x2048, .bf16⟩
  | .hbm, ⟨4, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwFf2Ideal.lean ====
abbrev S2048x8192 : Shape := ⟨2, ![2048, 8192]⟩
abbrev S2048x2048 : Shape := ⟨2, ![2048, 2048]⟩
abbrev S8192x2048 : Shape := ⟨2, ![8192, 2048]⟩
abbrev S2048x512 : Shape := ⟨2, ![2048, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x2048, .bf16⟩
  | .hbm, ⟨4, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwFf2RefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S2048x8192, .f32⟩
  | .hbm, ⟨6, _⟩ => ⟨S8192x2048, .f32⟩
  | .hbm, ⟨7, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwFf1.lean ====
abbrev S2048x2048 : Shape := ⟨2, ![2048, 2048]⟩
abbrev S2048x8192 : Shape := ⟨2, ![2048, 8192]⟩
abbrev S4x2048x2048 : Shape := ⟨3, ![4, 2048, 2048]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwFf1Ideal.lean ====
abbrev S2048x2048 : Shape := ⟨2, ![2048, 2048]⟩
abbrev S2048x8192 : Shape := ⟨2, ![2048, 8192]⟩
abbrev S4x2048x2048 : Shape := ⟨3, ![4, 2048, 2048]⟩
abbrev S2048x512 : Shape := ⟨2, ![2048, 512]⟩
abbrev S1x512x2048 : Shape := ⟨3, ![1, 512, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8192, .bf16⟩
  | .hbm, ⟨4, _⟩ => ⟨S4x2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwFf1RefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S2048x8192, .bf16⟩
  | .hbm, ⟨8, _⟩ => ⟨S2048x4x2048, .bf16⟩
  | .hbm, ⟨9, _⟩ => ⟨S4x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwOut.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwOutIdeal.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwOutRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwPa.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x2048 : Shape := ⟨2, ![1024, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwPaIdeal.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x2048 : Shape := ⟨2, ![1024, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwPaRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x4x512, .bf16⟩
  | .hbm, ⟨9, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwPb.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x2048 : Shape := ⟨2, ![1024, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwPbIdeal.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x2048 : Shape := ⟨2, ![1024, 2048]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1024x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwPbRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | .hbm, ⟨8, _⟩ => ⟨S1024x4x512, .bf16⟩
  | .hbm, ⟨9, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GwIn.lean ====
abbrev S2048x2048 : Shape := ⟨2, ![2048, 2048]⟩
abbrev S2048x9216 : Shape := ⟨2, ![2048, 9216]⟩
abbrev S4x2048x2304 : Shape := ⟨3, ![4, 2048, 2304]⟩
abbrev S2048x512 : Shape := ⟨2, ![2048, 512]⟩
abbrev S2048x2304 : Shape := ⟨2, ![2048, 2304]⟩
abbrev S1x512x2304 : Shape := ⟨3, ![1, 512, 2304]⟩
abbrev S512x2048 : Shape := ⟨2, ![512, 2048]⟩
abbrev S512x2304 : Shape := ⟨2, ![512, 2304]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S2048x2048, .bf16⟩
  | .hbm, ⟨3, _⟩ => ⟨S2048x9216, .bf16⟩
  | .hbm, ⟨4, _⟩ => ⟨S4x2048x2304, .bf16⟩
  | .local _ .vmem, ⟨0, _⟩ => ⟨S2048x512, .bf16⟩
  | .local _ .vmem, ⟨1, _⟩ => ⟨S2048x512, .bf16⟩
  | .local _ .vmem, ⟨2, _⟩ => ⟨S2048x2304, .bf16⟩
  | .local _ .vmem, ⟨3, _⟩ => ⟨S2048x2304, .bf16⟩
  | .local _ .vmem, ⟨4, _⟩ => ⟨S1x512x2304, .bf16⟩
  | .local _ .vmem, ⟨5, _⟩ => ⟨S1x512x2304, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwInIdeal.lean ====
abbrev S2048x2048 : Shape := ⟨2, ![2048, 2048]⟩
abbrev S2048x9216 : Shape := ⟨2, ![2048, 9216]⟩
abbrev S4x2048x2304 : Shape := ⟨3, ![4, 2048, 2304]⟩
abbrev S2048x512 : Shape := ⟨2, ![2048, 512]⟩
abbrev S2048x2304 : Shape := ⟨2, ![2048, 2304]⟩
abbrev S1x512x2304 : Shape := ⟨3, ![1, 512, 2304]⟩
abbrev S512x2048 : Shape := ⟨2, ![512, 2048]⟩
abbrev S512x2304 : Shape := ⟨2, ![512, 2304]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S2048x2048, .bf16⟩
  | .hbm, ⟨3, _⟩ => ⟨S2048x9216, .bf16⟩
  | .hbm, ⟨4, _⟩ => ⟨S4x2048x2304, .bf16⟩
  | .local _ .vmem, ⟨0, _⟩ => ⟨S2048x512, .bf16⟩
  | .local _ .vmem, ⟨1, _⟩ => ⟨S2048x512, .bf16⟩
  | .local _ .vmem, ⟨2, _⟩ => ⟨S2048x2304, .bf16⟩
  | .local _ .vmem, ⟨3, _⟩ => ⟨S2048x2304, .bf16⟩
  | .local _ .vmem, ⟨4, _⟩ => ⟨S1x512x2304, .bf16⟩
  | .local _ .vmem, ⟨5, _⟩ => ⟨S1x512x2304, .bf16⟩
  | .local _ .vmem, ⟨6, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwInRefIdeal.lean ====
abbrev S2048x2048 : Shape := ⟨2, ![2048, 2048]⟩
abbrev S2048x9216 : Shape := ⟨2, ![2048, 9216]⟩
abbrev S_ : Shape := ⟨0, ![]⟩
abbrev S9216x2048 : Shape := ⟨2, ![9216, 2048]⟩
abbrev S2048x4x2304 : Shape := ⟨3, ![2048, 4, 2304]⟩
abbrev S4x2048x2304 : Shape := ⟨3, ![4, 2048, 2304]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S_, .f32⟩
  | .hbm, ⟨3, _⟩ => ⟨S2048x9216, .f32⟩
  | .hbm, ⟨4, _⟩ => ⟨S2048x9216, .f32⟩
  | .hbm, ⟨5, _⟩ => ⟨S9216x2048, .f32⟩
  | .hbm, ⟨6, _⟩ => ⟨S2048x9216, .f32⟩
  | .hbm, ⟨7, _⟩ => ⟨S2048x9216, .bf16⟩
  | .hbm, ⟨8, _⟩ => ⟨S2048x4x2304, .bf16⟩
  | .hbm, ⟨9, _⟩ => ⟨S4x2048x2304, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Branch.lean ====
abbrev S2048x1024 : Shape := ⟨2, ![2048, 1024]⟩
abbrev S1024x2048 : Shape := ⟨2, ![1024, 2048]⟩
abbrev S2048x9216 : Shape := ⟨2, ![2048, 9216]⟩
abbrev S1024x4x512 : Shape := ⟨3, ![1024, 4, 512]⟩
abbrev S4x1024x512 : Shape := ⟨3, ![4, 1024, 512]⟩
abbrev S2048x2048 : Shape := ⟨2, ![2048, 2048]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 16
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x9216, .f32⟩
  | .hbm, ⟨5, _⟩ => ⟨S2048x1024, .bf16⟩
  | .hbm, ⟨6, _⟩ => ⟨S2048x1024, .bf16⟩
  | .hbm, ⟨7, _⟩ => ⟨S1024x2048, .bf16⟩
  | .hbm, ⟨8, _⟩ => ⟨S1024x4x512, .bf16⟩
  | .hbm, ⟨9, _⟩ => ⟨S4x1024x512, .bf16⟩
  | .hbm, ⟨10, _⟩ => ⟨S1024x2048, .bf16⟩
  | .hbm, ⟨11, _⟩ => ⟨S1024x4x512, .bf16⟩
  | .hbm, ⟨12, _⟩ => ⟨S4x1024x512, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BranchRefIdeal.lean ====
abbrev S2048x1024 : Shape := ⟨2, ![2048, 1024]⟩
abbrev S1024x2048 : Shape := ⟨2, ![1024, 2048]⟩
abbrev S2048x9216 : Shape := ⟨2, ![2048, 9216]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x9216, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .bf16⟩
  | .hbm, ⟨29, _⟩ => ⟨S2048x2048, .bf16⟩
  | .hbm, ⟨30, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OutLn.lean ====
abbrev S2048x2048 : Shape := ⟨2, ![2048, 2048]⟩
abbrev S1x2048 : Shape := ⟨2, ![1, 2048]⟩
abbrev S2048x128 : Shape := ⟨2, ![2048, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S2048x2048, .bf16⟩
  | .hbm, ⟨7, _⟩ => ⟨S2048x2048, .f32⟩
  | .hbm, ⟨8, _⟩ => ⟨S2048x128, .f32⟩
  | .hbm, ⟨9, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x128, .f32⟩
  | .local _ .vmem, ⟨10, _⟩ => ⟨S256x128, .f32⟩
  | .local _ .vmem, ⟨11, _⟩ => ⟨S256x2048, .bf16⟩
  | .local _ .vmem, ⟨12, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLnRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x128 : Shape := ⟨2, ![2048, 128]⟩

abbrev nBuf : Space → Nat
  | .hbm => 62
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x128, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Ff.lean ====
abbrev S2048x2048 : Shape := ⟨2, ![2048, 2048]⟩
abbrev S2048x8192 : Shape := ⟨2, ![2048, 8192]⟩
abbrev S1x8192 : Shape := ⟨2, ![1, 8192]⟩
abbrev S2048x4x2048 : Shape := ⟨3, ![2048, 4, 2048]⟩
abbrev S4x2048x2048 : Shape := ⟨3, ![4, 2048, 2048]⟩
abbrev S1x2048x512 : Shape := ⟨3, ![1, 2048, 512]⟩
abbrev S1x512 : Shape := ⟨2, ![1, 512]⟩
abbrev S2048x512 : Shape := ⟨2, ![2048, 512]⟩

abbrev nBuf : Space → Nat
  | .hbm => 11
  | .vmem => 18
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1x8192, .f32⟩
  | .hbm, ⟨3, _⟩ => ⟨S2048x2048, .bf16⟩
  | .hbm, ⟨4, _⟩ => ⟨S2048x8192, .bf16⟩
  | .hbm, ⟨5, _⟩ => ⟨S2048x4x2048, .bf16⟩
  | .hbm, ⟨6, _⟩ => ⟨S4x2048x2048, .bf16⟩
  | .hbm, ⟨7, _⟩ => ⟨S2048x8192, .bf16⟩
  | .hbm, ⟨8, _⟩ => ⟨S2048x8192, .bf16⟩
  | .hbm, ⟨9, _⟩ => ⟨S2048x8192, .bf16⟩
  | .hbm, ⟨10, _⟩ => ⟨S2048x8192, .bf16⟩
  | .local _ .vmem, ⟨0, _⟩ => ⟨S2048x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x512, .f32⟩
  | .local _ .vmem, ⟨4, _⟩ => ⟨S1x512, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x2048, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x512, .f32⟩
  | .local _ .vmem, ⟨13, _⟩ => ⟨S1x512, .f32⟩
  | .local _ .vmem, ⟨14, _⟩ => ⟨S2048x512, .bf16⟩
  | .local _ .vmem, ⟨15, _⟩ => ⟨S2048x512, .bf16⟩
  | .local _ .vmem, ⟨16, _⟩ => ⟨S2048x512, .bf16⟩
  | .local _ .vmem, ⟨17, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c4_i32 : BitVec 32 := 4#32
  let v1 : BitVec 32 := Scalar.divsi v0 c4_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi v0 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let v18 : BitVec 32 := Scalar.addi c0_i32_5 arg0
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v18 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c8_i32 : BitVec 32 := 8#32
  let v0 : BitVec 32 := Scalar.addi c8_i32 arg0
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc1_transform_2 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== FfRefIdeal.lean ====
abbrev S2048x2048 : Shape := ⟨2, ![2048, 2048]⟩
abbrev S2048x8192 : Shape := ⟨2, ![2048, 8192]⟩
abbrev S1x8192 : Shape := ⟨2, ![1, 8192]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1x8192, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x8192, .bf16⟩
  | .hbm, ⟨11, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== AdIn.lean ====
abbrev S2048x2304 : Shape := ⟨2, ![2048, 2304]⟩
abbrev S256x2304 : Shape := ⟨2, ![256, 2304]⟩

abbrev nBuf : Space → Nat
  | .hbm => 8
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | .local _ .vmem, ⟨14, _⟩ => ⟨S256x2304, .f32⟩
  | .local _ .vmem, ⟨15, _⟩ => ⟨S256x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInIdeal.lean ====
abbrev S2048x2304 : Shape := ⟨2, ![2048, 2304]⟩
abbrev S256x2304 : Shape := ⟨2, ![256, 2304]⟩

abbrev nBuf : Space → Nat
  | .hbm => 8
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .local _ .vmem, ⟨0, _⟩ => ⟨S256x2304, .f32⟩
  | .local _ .vmem, ⟨1, _⟩ => ⟨S256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | .local _ .vmem, ⟨14, _⟩ => ⟨S256x2304, .f32⟩
  | .local _ .vmem, ⟨15, _⟩ => ⟨S256x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInRefIdeal.lean ====
abbrev S2048x2304 : Shape := ⟨2, ![2048, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S_, .f32⟩
  | .hbm, ⟨8, _⟩ => ⟨S2048x2304, .f32⟩
  | .hbm, ⟨9, _⟩ => ⟨S2048x2304, .f32⟩
  | .hbm, ⟨10, _⟩ => ⟨S2048x2304, .f32⟩
  | .hbm, ⟨11, _⟩ => ⟨S_, .f32⟩
  | .hbm, ⟨12, _⟩ => ⟨S2048x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S2048x2304, .f32⟩
  | .hbm, ⟨19, _⟩ => ⟨S_, .f32⟩
  | .hbm, ⟨20, _⟩ => ⟨S2048x2304, .f32⟩
  | .hbm, ⟨21, _⟩ => ⟨S2048x2304, .f32⟩
  | .hbm, ⟨22, _⟩ => ⟨S_, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S_, .f32⟩
  | .hbm, ⟨27, _⟩ => ⟨S2048x2304, .f32⟩
  | .hbm, ⟨28, _⟩ => ⟨S2048x2304, .f32⟩
  | .hbm, ⟨29, _⟩ => ⟨S2048x2304, .f32⟩
  | .hbm, ⟨30, _⟩ => ⟨S_, .f32⟩
  | .hbm, ⟨31, _⟩ => ⟨S2048x2304, .f32⟩
  | .hbm, ⟨32, _⟩ => ⟨S2048x2304, .f32⟩
  | .hbm, ⟨33, _⟩ => ⟨S2048x2304, .f32⟩
  | .hbm, ⟨34, _⟩ => ⟨S_, .f32⟩
  | .hbm, ⟨35, _⟩ => ⟨S2048x2304, .f32⟩
  | .hbm, ⟨36, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFf.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFfIdeal.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFfRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdOut.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdOutIdeal.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdPr.lean ====
abbrev S1024x512 : Shape := ⟨2, ![1024, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdPrIdeal.lean ====
abbrev S1024x512 : Shape := ⟨2, ![1024, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdPrRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdSm.lean ====
abbrev S1200x128 : Shape := ⟨2, ![1200, 128]⟩
abbrev S240x128 : Shape := ⟨2, ![240, 128]⟩

abbrev nBuf : Space → Nat
  | .hbm => 8
  | .vmem => 16
  | .smem => 0
  | _ => 0

abbrev bufTy : (tb : Table) → Fin (tcTables nBuf tb) → BufTy
  | .hbm, ⟨0, _⟩ => ⟨S1200x128, .f32⟩
  | .hbm, ⟨1, _⟩ => ⟨S1200x128, .f32⟩
  | .hbm, ⟨2, _⟩ => ⟨S1200x128, .f32⟩
  | .hbm, ⟨3, _⟩ => ⟨S1200x128, .f32⟩
  | .hbm, ⟨4, _⟩ => ⟨S1200x128, .f32⟩
  | .hbm, ⟨5, _⟩ => ⟨S1200x128, .f32⟩
  | .hbm, ⟨6, _⟩ => ⟨S1200x128, .f32⟩
  | .hbm, ⟨7, _⟩ => ⟨S1200x128, .f32⟩
  | .local _ .vmem, ⟨0, _⟩ => ⟨S240x128, .f32⟩
  | .local _ .vmem, ⟨1, _⟩ => ⟨S240x128, .f32⟩
  | .local _ .vmem, ⟨2, _⟩ => ⟨S240x128, .f32⟩
  | .local _ .vmem, ⟨3, _⟩ => ⟨S240x128, .f32⟩
  | .local _ .vmem, ⟨4, _⟩ => ⟨S240x128, .f32⟩
  | .local _ .vmem, ⟨5, _⟩ => ⟨S240x128, .f32⟩
  | .local _ .vmem, ⟨6, _⟩ => ⟨S240x128, .f32⟩
  | .local _ .vmem, ⟨7, _⟩ => ⟨S240x128, .f32⟩
  | .local _ .vmem, ⟨8, _⟩ => ⟨S240x128, .f32⟩
  | .local _ .vmem, ⟨9, _⟩ => ⟨S240x128, .f32⟩
  | .local _ .vmem, ⟨10, _⟩ => ⟨S240x128, .f32⟩
  | .local _ .vmem, ⟨11, _⟩ => ⟨S240x128, .f32⟩
  | .local _ .vmem, ⟨12, _⟩ => ⟨S240x128, .f32⟩
  | .local _ .vmem, ⟨13, _⟩ => ⟨S240x128, .f32⟩
  | .local _ .vmem, ⟨14, _⟩ => ⟨S240x128, .f32⟩
  | .local _ .vmem, ⟨15, _⟩ => ⟨S240x128, .f32⟩
  | _, _ => ⟨S1200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S240x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S240x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S240x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S240x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S240x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S240x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S240x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdSmRefIdeal.lean ====
abbrev S1200x128 : Shape := ⟨2, ![1200, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1200x128, .f32⟩
  | .hbm, ⟨1, _⟩ => ⟨S1200x128, .f32⟩
  | .hbm, ⟨2, _⟩ => ⟨S1200x128, .f32⟩
  | .hbm, ⟨3, _⟩ => ⟨S1200x128, .f32⟩
  | .hbm, ⟨4, _⟩ => ⟨S_, .f32⟩
  | .hbm, ⟨5, _⟩ => ⟨S1200x128, .f32⟩
  | .hbm, ⟨6, _⟩ => ⟨S1200x128, .f32⟩
  | .hbm, ⟨7, _⟩ => ⟨S_, .f32⟩
  | .hbm, ⟨8, _⟩ => ⟨S1200x128, .f32⟩
  | .hbm, ⟨9, _⟩ => ⟨S1200x128, .f32⟩
  | .hbm, ⟨10, _⟩ => ⟨S1200x128, .f32⟩
  | .hbm, ⟨11, _⟩ => ⟨S_, .f32⟩
  | .hbm, ⟨12, _⟩ => ⟨S1200x128, .f32⟩
  | .hbm, ⟨13, _⟩ => ⟨S1200x128, .f32⟩
  | .hbm, ⟨14, _⟩ => ⟨S1200x128, .f32⟩
  | .hbm, ⟨15, _⟩ => ⟨S_, .f32⟩
  | .hbm, ⟨16, _⟩ => ⟨S1200x128, .f32⟩
  | .hbm, ⟨17, _⟩ => ⟨S1200x128, .f32⟩
  | .hbm, ⟨18, _⟩ => ⟨S1200x128, .f32⟩
  | .hbm, ⟨19, _⟩ => ⟨S_, .f32⟩
  | .hbm, ⟨20, _⟩ => ⟨S1200x128, .f32⟩
  | .hbm, ⟨21, _⟩ => ⟨S1200x128, .f32⟩
  | .hbm, ⟨22, _⟩ => ⟨S_, .f32⟩
  | .hbm, ⟨23, _⟩ => ⟨S1200x128, .f32⟩
  | .hbm, ⟨24, _⟩ => ⟨S1200x128, .f32⟩
  | .hbm, ⟨25, _⟩ => ⟨S1200x128, .f32⟩
  | .hbm, ⟨26, _⟩ => ⟨S_, .f32⟩
  | .hbm, ⟨27, _⟩ => ⟨S1200x128, .f32⟩
  | .hbm, ⟨28, _⟩ => ⟨S1200x128, .f32⟩
  | .hbm, ⟨29, _⟩ => ⟨S1200x128, .f32⟩
  | .hbm, ⟨30, _⟩ => ⟨S_, .f32⟩
  | .hbm, ⟨31, _⟩ => ⟨S1200x128, .f32⟩
  | .hbm, ⟨32, _⟩ => ⟨S1200x128, .f32⟩
  | .hbm, ⟨33, _⟩ => ⟨S1200x128, .f32⟩
  | .hbm, ⟨34, _⟩ => ⟨S_, .f32⟩
  | .hbm, ⟨35, _⟩ => ⟨S1200x128, .f32⟩
  | .hbm, ⟨36, _⟩ => ⟨S1200x128, .f32⟩
  | _, _ => ⟨S1200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ProjOwn.lean ====
abbrev S2048x2048 : Shape := ⟨2, ![2048, 2048]⟩
abbrev S2048x9216 : Shape := ⟨2, ![2048, 9216]⟩
abbrev S1 : Shape := ⟨1, ![1]⟩
abbrev S2048x4x2304 : Shape := ⟨3, ![2048, 4, 2304]⟩
abbrev S4x2048x2304 : Shape := ⟨3, ![4, 2048, 2304]⟩
abbrev S1x2048x768 : Shape := ⟨3, ![1, 2048, 768]⟩
abbrev S2048x768 : Shape := ⟨2, ![2048, 768]⟩
abbrev S2048x2304 : Shape := ⟨2, ![2048, 2304]⟩

abbrev nBuf : Space → Nat
  | .hbm => 8
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S2048x2048, .bf16⟩
  | .hbm, ⟨3, _⟩ => ⟨S2048x9216, .bf16⟩
  | .hbm, ⟨4, _⟩ => ⟨S2048x4x2304, .bf16⟩
  | .hbm, ⟨5, _⟩ => ⟨S4x2048x2304, .bf16⟩
  | .hbm, ⟨6, _⟩ => ⟨S2048x9216, .f32⟩
  | .hbm, ⟨7, _⟩ => ⟨S2048x2304, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let v17 : Index := Scalar.indexCast v16
  ![v17.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S1) ![v17.toNat] S1.size (k0_off1_inb i)) numel1_S1
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

def cc0_transform_2 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S1) ![v17.toNat] S1.size (k0_off1_inb i)) numel1_S1
  let c3_i32_4 : BitVec 32 := 3#32
  let v19 : BitVec 32 := Scalar.muli v18 c3_i32_4
  let c3_i32_5 : BitVec 32 := 3#32
  let c0_i32_6 : BitVec 32 := 0#32
  let v20 : BitVec 1 := Scalar.cmpi .eq c3_i32_5 c0_i32_6
  let c1_i32_7 : BitVec 32 := 1#32
  let v21 : BitVec 32 := Scalar.select v20 c1_i32_7 c3_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_11 : BitVec 32 := 0#32
  let c0_i32_12 : BitVec 32 := 0#32
  ![c0_i32_11.toNat, v30.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjOwnRefIdeal.lean ====
abbrev S2048x2048 : Shape := ⟨2, ![2048, 2048]⟩
abbrev S2048x9216 : Shape := ⟨2, ![2048, 9216]⟩
abbrev S2048x2304 : Shape := ⟨2, ![2048, 2304]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S2048x9216, .f32⟩
  | .hbm, ⟨3, _⟩ => ⟨S2048x2304, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjNear.lean ====
abbrev S2048x2048 : Shape := ⟨2, ![2048, 2048]⟩
abbrev S2048x9216 : Shape := ⟨2, ![2048, 9216]⟩
abbrev S2 : Shape := ⟨1, ![2]⟩
abbrev S2048x4x2304 : Shape := ⟨3, ![2048, 4, 2304]⟩
abbrev S4x2048x2304 : Shape := ⟨3, ![4, 2048, 2304]⟩
abbrev S1x2048x768 : Shape := ⟨3, ![1, 2048, 768]⟩
abbrev S1 : Shape := ⟨1, ![1]⟩
abbrev S2048x768 : Shape := ⟨2, ![2048, 768]⟩

abbrev nBuf : Space → Nat
  | .hbm => 8
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S2048x9216, .f32⟩
  | .hbm, ⟨3, _⟩ => ⟨S2048x2048, .bf16⟩
  | .hbm, ⟨4, _⟩ => ⟨S2048x9216, .bf16⟩
  | .hbm, ⟨5, _⟩ => ⟨S2048x4x2304, .bf16⟩
  | .hbm, ⟨6, _⟩ => ⟨S4x2048x2304, .bf16⟩
  | .hbm, ⟨7, _⟩ => ⟨S2048x9216, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | .local _ .smem, ⟨0, _⟩ => ⟨S2, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![6], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let v17 : Index := Scalar.indexCast v16
  ![v17.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

def cc0_transform_3 (k0_off1_inb : ∀ i : grid0.Coords, ∀ a, (k0_off1 i) a + S1.size a ≤ S2.size a) (numel1_S1 : S1.numel = 1) (pf : pre0.Contents (Elt F)) (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S2) ![v17.toNat] S1.size (k0_off1_inb i)) numel1_S1
  let c3_i32_4 : BitVec 32 := 3#32
  let v19 : BitVec 32 := Scalar.muli v18 c3_i32_4
  let c3_i32_5 : BitVec 32 := 3#32
  let c0_i32_6 : BitVec 32 := 0#32
  let v20 : BitVec 1 := Scalar.cmpi .eq c3_i32_5 c0_i32_6
  let c1_i32_7 : BitVec 32 := 1#32
  let v21 : BitVec 32 := Scalar.select v20 c1_i32_7 c3_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_11 : BitVec 32 := 0#32
  let c0_i32_12 : BitVec 32 := 0#32
  ![c0_i32_11.toNat, v30.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjNearRefIdeal.lean ====
abbrev S2048x2048 : Shape := ⟨2, ![2048, 2048]⟩
abbrev S2048x9216 : Shape := ⟨2, ![2048, 9216]⟩
abbrev S2048x2304 : Shape := ⟨2, ![2048, 2304]⟩
abbrev S2048x4608 : Shape := ⟨2, ![2048, 4608]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S2048x9216, .f32⟩
  | .hbm, ⟨3, _⟩ => ⟨S2048x9216, .f32⟩
  | .hbm, ⟨4, _⟩ => ⟨S2048x2304, .f32⟩
  | .hbm, ⟨5, _⟩ => ⟨S2048x4608, .f32⟩
  | .hbm, ⟨6, _⟩ => ⟨S2048x2304, .f32⟩
  | .hbm, ⟨7, _⟩ => ⟨S2048x9216, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ProjFar.lean ====
abbrev S2048x2048 : Shape := ⟨2, ![2048, 2048]⟩
abbrev S2048x9216 : Shape := ⟨2, ![2048, 9216]⟩
abbrev S1 : Shape := ⟨1, ![1]⟩
abbrev S2048x4x2304 : Shape := ⟨3, ![2048, 4, 2304]⟩
abbrev S4x2048x2304 : Shape := ⟨3, ![4, 2048, 2304]⟩
abbrev S1x2048x768 : Shape := ⟨3, ![1, 2048, 768]⟩
abbrev S2048x768 : Shape := ⟨2, ![2048, 768]⟩

abbrev nBuf : Space → Nat
  | .hbm => 8
  | .vmem => 5
  | .smem => 1
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S2048x9216, .f32⟩
  | .hbm, ⟨3, _⟩ => ⟨S2048x2048, .bf16⟩
  | .hbm, ⟨4, _⟩ => ⟨S2048x9216, .bf16⟩
  | .hbm, ⟨5, _⟩ => ⟨S2048x4x2304, .bf16⟩
  | .hbm, ⟨6, _⟩ => ⟨S4x2048x2304, .bf16⟩
  | .hbm, ⟨7, _⟩ => ⟨S2048x9216, .f32⟩
  | .local _ .vmem, ⟨0, _⟩ => ⟨S2048x2048, .bf16⟩
  | .local _ .vmem, ⟨1, _⟩ => ⟨S1x2048x768, .bf16⟩
  | .local _ .vmem, ⟨2, _⟩ => ⟨S1x2048x768, .bf16⟩
  | .local _ .vmem, ⟨3, _⟩ => ⟨S2048x768, .f32⟩
  | .local _ .vmem, ⟨4, _⟩ => ⟨S2048x768, .f32⟩
  | .local _ .smem, ⟨0, _⟩ => ⟨S1, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let v17 : Index := Scalar.indexCast v16
  ![v17.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S1) ![v17.toNat] S1.size (k0_off1_inb i)) numel1_S1
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  let c0_i32_11 : BitVec 32 := 0#32
  ![v18.toNat, c0_i32_10.toNat, v28.toNat]

def cc0_transform_3 (k0_off1_inb : ∀ i : grid0.Coords, ∀ a, (k0_off1 i) a + S1.size a ≤ S1.size a) (numel1_S1 : S1.numel = 1) (pf : pre0.Contents (Elt F)) (i : grid0.Coords) : Fin 2 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S1) ![v17.toNat] S1.size (k0_off1_inb i)) numel1_S1
  let c3_i32_4 : BitVec 32 := 3#32
  let v19 : BitVec 32 := Scalar.muli v18 c3_i32_4
  let c3_i32_5 : BitVec 32 := 3#32
  let c0_i32_6 : BitVec 32 := 0#32
  let v20 : BitVec 1 := Scalar.cmpi .eq c3_i32_5 c0_i32_6
  let c1_i32_7 : BitVec 32 := 1#32
  let v21 : BitVec 32 := Scalar.select v20 c1_i32_7 c3_i32_5
  let v22 : BitVec 32 := Scalar.remsi arg0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c0_i32_11 : BitVec 32 := 0#32
  let c0_i32_12 : BitVec 32 := 0#32
  ![c0_i32_11.toNat, v30.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjFarRefIdeal.lean ====
abbrev S2048x2048 : Shape := ⟨2, ![2048, 2048]⟩
abbrev S2048x9216 : Shape := ⟨2, ![2048, 9216]⟩
abbrev S2048x6912 : Shape := ⟨2, ![2048, 6912]⟩
abbrev S2048x2304 : Shape := ⟨2, ![2048, 2304]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x9216, .f32⟩
  | .hbm, ⟨2, _⟩ => ⟨S2048x9216, .f32⟩
  | .hbm, ⟨3, _⟩ => ⟨S2048x9216, .f32⟩
  | .hbm, ⟨4, _⟩ => ⟨S2048x6912, .f32⟩
  | .hbm, ⟨5, _⟩ => ⟨S2048x2304, .f32⟩
  | .hbm, ⟨6, _⟩ => ⟨S2048x9216, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gmlp.lean ====
abbrev S2048x9216 : Shape := ⟨2, ![2048, 9216]⟩
abbrev S1x8x128x128 : Shape := ⟨4, ![1, 8, 128, 128]⟩
abbrev S1x8x128 : Shape := ⟨3, ![1, 8, 128]⟩
abbrev S1x1024 : Shape := ⟨2, ![1, 1024]⟩
abbrev S8x128 : Shape := ⟨2, ![8, 128]⟩
abbrev S8x128x1 : Shape := ⟨3, ![8, 128, 1]⟩
abbrev S8x128x128 : Shape := ⟨3, ![8, 128, 128]⟩
abbrev S2048x1024 : Shape := ⟨2, ![2048, 1024]⟩
abbrev S128x1024 : Shape := ⟨2, ![128, 1024]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 10
  | .vmem => 10
  | .smem => 0
  | _ => 0

abbrev bufTy : (tb : Table) → Fin (tcTables nBuf tb) → BufTy
  | .hbm, ⟨0, _⟩ => ⟨S2048x9216, .f32⟩
  | .hbm, ⟨1, _⟩ => ⟨S1x8x128x128, .f32⟩
  | .hbm, ⟨2, _⟩ => ⟨S1x8x128, .f32⟩
  | .hbm, ⟨3, _⟩ => ⟨S1x1024, .f32⟩
  | .hbm, ⟨4, _⟩ => ⟨S1x1024, .f32⟩
  | .hbm, ⟨5, _⟩ => ⟨S8x128, .f32⟩
  | .hbm, ⟨6, _⟩ => ⟨S8x128x1, .f32⟩
  | .hbm, ⟨7, _⟩ => ⟨S8x128x128, .f32⟩
  | .hbm, ⟨8, _⟩ => ⟨S8x128x128, .f32⟩
  | .hbm, ⟨9, _⟩ => ⟨S2048x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S8x128x128, .f32⟩
  | .local _ .vmem, ⟨5, _⟩ => ⟨S8x128x128, .f32⟩
  | .local _ .vmem, ⟨6, _⟩ => ⟨S1x1024, .f32⟩
  | .local _ .vmem, ⟨7, _⟩ => ⟨S1x1024, .f32⟩
  | .local _ .vmem, ⟨8, _⟩ => ⟨S128x1024, .bf16⟩
  | .local _ .vmem, ⟨9, _⟩ => ⟨S128x1024, .bf16⟩
  | _, _ => ⟨S2048x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GmlpRefIdeal.lean ====
abbrev S2048x9216 : Shape := ⟨2, ![2048, 9216]⟩
abbrev S1x8x128x128 : Shape := ⟨4, ![1, 8, 128, 128]⟩
abbrev S1x8x128 : Shape := ⟨3, ![1, 8, 128]⟩
abbrev S1x1024 : Shape := ⟨2, ![1, 1024]⟩
abbrev S2048x1024 : Shape := ⟨2, ![2048, 1024]⟩
abbrev S8x128x128 : Shape := ⟨3, ![8, 128, 128]⟩
abbrev S8x128 : Shape := ⟨2, ![8, 128]⟩
abbrev S1024 : Shape := ⟨1, ![1024]⟩
abbrev S_ : Shape := ⟨0, ![]⟩
abbrev S2048 : Shape := ⟨1, ![2048]⟩
abbrev S2048x1 : Shape := ⟨2, ![2048, 1]⟩
abbrev S16x128x8x128 : Shape := ⟨4, ![16, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 96
  | .vmem => 0
  | .smem => 0
  | _ => 0

abbrev bufTy : (tb : Table) → Fin (tcTables nBuf tb) → BufTy
  | .hbm, ⟨0, _⟩ => ⟨S2048x9216, .f32⟩
  | .hbm, ⟨1, _⟩ => ⟨S1x8x128x128, .f32⟩
  | .hbm, ⟨2, _⟩ => ⟨S1x8x128, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S8x128x128, .f32⟩
  | .hbm, ⟨8, _⟩ => ⟨S8x128, .f32⟩
  | .hbm, ⟨9, _⟩ => ⟨S1024, .f32⟩
  | .hbm, ⟨10, _⟩ => ⟨S1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S2048, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S2048x1024, .f32⟩
  | .hbm, ⟨67, _⟩ => ⟨S2048x1024, .f32⟩
  | .hbm, ⟨68, _⟩ => ⟨S1x1024, .f32⟩
  | .hbm, ⟨69, _⟩ => ⟨S2048x1024, .f32⟩
  | .hbm, ⟨70, _⟩ => ⟨S2048x1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S16x128x8x128, .f32⟩
  | .hbm, ⟨75, _⟩ => ⟨S128, .i32⟩
  | .hbm, ⟨76, _⟩ => ⟨S128x1, .i32⟩
  | .hbm, ⟨77, _⟩ => ⟨S128, .i32⟩
  | .hbm, ⟨78, _⟩ => ⟨S1x128, .i32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S8x128x128, .i1⟩
  | .hbm, ⟨83, _⟩ => ⟨S_, .f32⟩
  | .hbm, ⟨84, _⟩ => ⟨S8x128x128, .f32⟩
  | .hbm, ⟨85, _⟩ => ⟨S8x128x128, .f32⟩
  | .hbm, ⟨86, _⟩ => ⟨S8x16x128x128, .f32⟩
  | .hbm, ⟨87, _⟩ => ⟨S16x128x8x128, .f32⟩
  | .hbm, ⟨88, _⟩ => ⟨S128x8, .f32⟩
  | .hbm, ⟨89, _⟩ => ⟨S1x128x8x1, .f32⟩
  | .hbm, ⟨90, _⟩ => ⟨S16x128x8x128, .f32⟩
  | .hbm, ⟨91, _⟩ => ⟨S16x128x8x128, .f32⟩
  | .hbm, ⟨92, _⟩ => ⟨S16x128x8x128, .f32⟩
  | .hbm, ⟨93, _⟩ => ⟨S16x128x8x128, .f32⟩
  | .hbm, ⟨94, _⟩ => ⟨S2048x1024, .f32⟩
  | .hbm, ⟨95, _⟩ => ⟨S2048x1024, .bf16⟩
  | _, _ => ⟨S2048x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_12 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Ln.lean ====
abbrev S2048x8192 : Shape := ⟨2, ![2048, 8192]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x128 : Shape := ⟨2, ![2048, 128]⟩
abbrev S2048x4x2048 : Shape := ⟨3, ![2048, 4, 2048]⟩
abbrev S4x2048x2048 : Shape := ⟨3, ![4, 2048, 2048]⟩
abbrev S8x2048 : Shape := ⟨2, ![8, 2048]⟩
abbrev S512x1024 : Shape := ⟨2, ![512, 1024]⟩
abbrev S1x2048x1024 : Shape := ⟨3, ![1, 2048, 1024]⟩
abbrev S512x2048 : Shape := ⟨2, ![512, 2048]⟩
abbrev S512x128 : Shape := ⟨2, ![512, 128]⟩
abbrev S2048x1024 : Shape := ⟨2, ![2048, 1024]⟩
abbrev S128x2048 : Shape := ⟨2, ![128, 2048]⟩
abbrev S128x1 : Shape := ⟨2, ![128, 1]⟩
abbrev S128 : Shape := ⟨1, ![128]⟩

abbrev nBuf : Space → Nat
  | .hbm => 37
  | .vmem => 17
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x128, .f32⟩
  | .hbm, ⟨30, _⟩ => ⟨S2048x8192, .bf16⟩
  | .hbm, ⟨31, _⟩ => ⟨S2048x8192, .bf16⟩
  | .hbm, ⟨32, _⟩ => ⟨S2048x4x2048, .bf16⟩
  | .hbm, ⟨33, _⟩ => ⟨S4x2048x2048, .bf16⟩
  | .hbm, ⟨34, _⟩ => ⟨S2048x2048, .f32⟩
  | .hbm, ⟨35, _⟩ => ⟨S2048x2048, .bf16⟩
  | .hbm, ⟨36, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x128, .f32⟩
  | .local _ .vmem, ⟨9, _⟩ => ⟨S512x128, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S8x2048, .f32⟩
  | .local _ .vmem, ⟨16, _⟩ => ⟨S512x2048, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_12 : BitVec 32 := 0#32
  let v20 : BitVec 1 := Scalar.cmpi .ne v19 c0_i32_12
  v20

@[reducible] def k0_t1_loop : Scf.Loop 32 :=
  let c0_i32_13 : BitVec 32 := 0#32
  let c4_i32 : BitVec 32 := 4#32
  let v21 : BitVec 32 := Scalar.addi c0_i32_13 c4_i32
  let c1_i32 : BitVec 32 := 1#32
  ⟨c0_i32_13, v21, c1_i32⟩
def k0_mult1 (k0_t1 : Fin k0_t1_loop.trips) : BitVec 32 :=
  let c0_i32_13 : BitVec 32 := 0#32
  let c1_i32 : BitVec 32 := 1#32
  let arg12 : BitVec 32 := Scf.iv c0_i32_13 c1_i32 k0_t1
  let c128_i32 : BitVec 32 := 128#32
  let v22 : BitVec 32 := Scalar.muli arg12 c128_i32
  v22
def k0_off1 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c128_i32 : BitVec 32 := 128#32
  let v22 : BitVec 32 := Scalar.muli arg12 c128_i32
  let v23 : BitVec 32 := v22
  let v24 : Index := Scalar.indexCast v23
  let c0_15 : Index := 0#32
  ![v24.toNat, 0]
def k0_off2 (k0_t1 : Fin k0_t1_loop.trips) : Fin 2 → Nat :=
  let c0_i32_13 : BitVec 32 := 0#32
  let c1_i32 : BitVec 32 := 1#32
  let arg12 : BitVec 32 := Scf.iv c0_i32_13 c1_i32 k0_t1
  let c128_i32 : BitVec 32 := 128#32
  let v22 : BitVec 32 := Scalar.muli arg12 c128_i32
  let v23 : BitVec 32 := v22
  let v37 : Index := Scalar.indexCast v23
  let c0_21 : Index := 0#32
  ![v37.toNat, 0]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== LnRefIdeal.lean ====
abbrev S2048x8192 : Shape := ⟨2, ![2048, 8192]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩
abbrev S6x2048 : Shape := ⟨2, ![6, 2048]⟩
abbrev S8x2048 : Shape := ⟨2, ![8, 2048]⟩

abbrev nBuf : Space → Nat
  | .hbm => 103
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S1x2048, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S1x2048, .f32⟩
  | .hbm, ⟨39, _⟩ => ⟨S2048x2048, .f32⟩
  | .hbm, ⟨40, _⟩ => ⟨S2048x2048, .f32⟩
  | .hbm, ⟨41, _⟩ => ⟨S1x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x8192, .f32⟩
  | .hbm, ⟨48, _⟩ => ⟨S2048x2048, .f32⟩
  | .hbm, ⟨49, _⟩ => ⟨S_, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S_, .f32⟩
  | .hbm, ⟨57, _⟩ => ⟨S2048, .f32⟩
  | .hbm, ⟨58, _⟩ => ⟨S2048x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x2048, .f32⟩
  | .hbm, ⟨71, _⟩ => ⟨S2048x2048, .f32⟩
  | .hbm, ⟨72, _⟩ => ⟨S2048x1, .f32⟩
  | .hbm, ⟨73, _⟩ => ⟨S2048x2048, .f32⟩
  | .hbm, ⟨74, _⟩ => ⟨S_, .f32⟩
  | .hbm, ⟨75, _⟩ => ⟨S2048, .f32⟩
  | .hbm, ⟨76, _⟩ => ⟨S2048x1, .f32⟩
  | .hbm, ⟨77, _⟩ => ⟨S_, .f32⟩
  | .hbm, ⟨78, _⟩ => ⟨S2048x1, .f32⟩
  | .hbm, ⟨79, _⟩ => ⟨S2048x1, .f32⟩
  | .hbm, ⟨80, _⟩ => ⟨S_, .f32⟩
  | .hbm, ⟨81, _⟩ => ⟨S2048, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S2048x2048, .f32⟩
  | .hbm, ⟨89, _⟩ => ⟨S2048x1, .f32⟩
  | .hbm, ⟨90, _⟩ => ⟨S_, .f32⟩
  | .hbm, ⟨91, _⟩ => ⟨S2048x1, .f32⟩
  | .hbm, ⟨92, _⟩ => ⟨S2048x1, .f32⟩
  | .hbm, ⟨93, _⟩ => ⟨S_, .f32⟩
  | .hbm, ⟨94, _⟩ => ⟨S2048, .f32⟩
  | .hbm, ⟨95, _⟩ => ⟨S2048x2048, .f32⟩
  | .hbm, ⟨96, _⟩ => ⟨S2048x2048, .f32⟩
  | .hbm, ⟨97, _⟩ => ⟨S2048x2048, .bf16⟩
  | .hbm, ⟨98, _⟩ => ⟨S1x2048, .f32⟩
  | .hbm, ⟨99, _⟩ => ⟨S1x2048, .f32⟩
  | .hbm, ⟨100, _⟩ => ⟨S_, .f32⟩
  | .hbm, ⟨101, _⟩ => ⟨S6x2048, .f32⟩
  | .hbm, ⟨102, _⟩ => ⟨S8x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_19 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Loss.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S2048x128 : Shape := ⟨2, ![2048, 128]⟩
abbrev S8x2048 : Shape := ⟨2, ![8, 2048]⟩
abbrev S512x1024 : Shape := ⟨2, ![512, 1024]⟩
abbrev S1024x2048 : Shape := ⟨2, ![1024, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩
abbrev S1x128x2048 : Shape := ⟨3, ![1, 128, 2048]⟩
abbrev S1 : Shape := ⟨1, ![1]⟩
abbrev S1x1x1 : Shape := ⟨3, ![1, 1, 1]⟩
abbrev S1x1 : Shape := ⟨2, ![1, 1]⟩

abbrev nBuf : Space → Nat
  | .hbm => 38
  | .vmem => 19
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x128, .f32⟩
  | .hbm, ⟨33, _⟩ => ⟨S2048x8192, .bf16⟩
  | .hbm, ⟨34, _⟩ => ⟨S8192x2048, .bf16⟩
  | .hbm, ⟨35, _⟩ => ⟨S2048x2048, .f32⟩
  | .hbm, ⟨36, _⟩ => ⟨S2048x2048, .bf16⟩
  | .hbm, ⟨37, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S8x2048, .f32⟩
  | .local _ .vmem, ⟨18, _⟩ => ⟨S512x2048, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_11 : BitVec 32 := 0#32
  let v20 : BitVec 1 := Scalar.cmpi .ne v19 c0_i32_11
  v20

@[reducible] def k0_t1_loop : Scf.Loop 32 :=
  let c0_i32_12 : BitVec 32 := 0#32
  let c4_i32 : BitVec 32 := 4#32
  let v21 : BitVec 32 := Scalar.addi c0_i32_12 c4_i32
  let c1_i32 : BitVec 32 := 1#32
  ⟨c0_i32_12, v21, c1_i32⟩
def k0_mult1 (k0_t1 : Fin k0_t1_loop.trips) : BitVec 32 :=
  let c0_i32_12 : BitVec 32 := 0#32
  let c1_i32 : BitVec 32 := 1#32
  let arg15 : BitVec 32 := Scf.iv c0_i32_12 c1_i32 k0_t1
  let c128_i32 : BitVec 32 := 128#32
  let v22 : BitVec 32 := Scalar.muli arg15 c128_i32
  v22
def k0_off1 (k0_t1 : Fin k0_t1_loop.trips) : Fin 2 → Nat :=
  let c0_i32_12 : BitVec 32 := 0#32
  let c1_i32 : BitVec 32 := 1#32
  let arg15 : BitVec 32 := Scf.iv c0_i32_12 c1_i32 k0_t1
  let c128_i32 : BitVec 32 := 128#32
  let v22 : BitVec 32 := Scalar.muli arg15 c128_i32
  let v23 : BitVec 32 := v22
  let v24 : Index := Scalar.indexCast v23
  let c0_14 : Index := 0#32
  ![v24.toNat, 0]
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== LossRefIdeal.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S4x2048 : Shape := ⟨2, ![4, 2048]⟩
abbrev S8x2048 : Shape := ⟨2, ![8, 2048]⟩

abbrev nBuf : Space → Nat
  | .hbm => 165
  | .vmem => 0
  | .smem => 0
  | _ => 0

abbrev hbmTy0_0 (i : Nat) : BufTy := match i % 128 with
  | 0 => ⟨S2048x8192, .f32⟩
  | 1 => ⟨S8192x2048, .f32⟩
  | 2 => ⟨S2048x2048, .f32⟩
  | 3 => ⟨S1x2048, .f32⟩
  | 4 => ⟨S1x2048, .f32⟩
  | 5 => ⟨S1x2048, .f32⟩
  | 6 => ⟨S1x2048, .f32⟩
  | 7 => ⟨S1x2048, .f32⟩
  | 8 => ⟨S2048x2048, .f32⟩
  | 9 => ⟨S_, .f32⟩
  | 10 => ⟨S2048, .f32⟩
  | 11 => ⟨S2048x1, .f32⟩
  | 12 => ⟨S_, .f32⟩
  | 13 => ⟨S2048x1, .f32⟩
  | 14 => ⟨S2048x1, .f32⟩
  | 15 => ⟨S2048x2048, .f32⟩
  | 16 => ⟨S2048x2048, .f32⟩
  | 17 => ⟨S2048x2048, .f32⟩
  | 18 => ⟨S_, .f32⟩
  | 19 => ⟨S2048, .f32⟩
  | 20 => ⟨S2048x1, .f32⟩
  | 21 => ⟨S_, .f32⟩
  | 22 => ⟨S2048x1, .f32⟩
  | 23 => ⟨S2048x1, .f32⟩
  | 24 => ⟨S2048x2048, .f32⟩
  | 25 => ⟨S2048x2048, .f32⟩
  | 26 => ⟨S_, .f32⟩
  | 27 => ⟨S2048x1, .f32⟩
  | 28 => ⟨S2048x1, .f32⟩
  | 29 => ⟨S2048x1, .f32⟩
  | 30 => ⟨S2048x2048, .f32⟩
  | 31 => ⟨S2048x2048, .f32⟩
  | 32 => ⟨S2048x2048, .f32⟩
  | 33 => ⟨S2048x2048, .f32⟩
  | 34 => ⟨S2048x2048, .f32⟩
  | 35 => ⟨S2048x2048, .f32⟩
  | 36 => ⟨S2048x2048, .f32⟩
  | 37 => ⟨S2048, .f32⟩
  | 38 => ⟨S2048, .f32⟩
  | 39 => ⟨S2048, .f32⟩
  | 40 => ⟨S_, .f32⟩
  | 41 => ⟨S2048x2048, .f32⟩
  | 42 => ⟨S2048x2048, .f32⟩
  | 43 => ⟨S1x2048, .f32⟩
  | 44 => ⟨S2048x2048, .f32⟩
  | 45 => ⟨S2048x2048, .f32⟩
  | 46 => ⟨S2048x2048, .f32⟩
  | 47 => ⟨S_, .f32⟩
  | 48 => ⟨S2048, .f32⟩
  | 49 => ⟨S2048x1, .f32⟩
  | 50 => ⟨S_, .f32⟩
  | 51 => ⟨S2048x1, .f32⟩
  | 52 => ⟨S2048x1, .f32⟩
  | 53 => ⟨S2048x2048, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S_, .f32⟩
  | 60 => ⟨S2048, .f32⟩
  | 61 => ⟨S2048x1, .f32⟩
  | 62 => ⟨S_, .f32⟩
  | 63 => ⟨S2048x1, .f32⟩
  | 64 => ⟨S2048x1, .f32⟩
  | 65 => ⟨S2048x2048, .f32⟩
  | 66 => ⟨S2048x2048, .f32⟩
  | 67 => ⟨S_, .f32⟩
  | 68 => ⟨S2048x1, .f32⟩
  | 69 => ⟨S2048x1, .f32⟩
  | 70 => ⟨S2048x1, .f32⟩
  | 71 => ⟨S2048x1, .f32⟩
  | 72 => ⟨S_, .f32⟩
  | 73 => ⟨S2048x1, .f32⟩
  | 74 => ⟨S2048x1, .f32⟩
  | 75 => ⟨S2048x2048, .f32⟩
  | 76 => ⟨S2048x2048, .f32⟩
  | 77 => ⟨S1x2048, .f32⟩
  | 78 => ⟨S2048x2048, .f32⟩
  | 79 => ⟨S2048x2048, .f32⟩
  | 80 => ⟨S1x2048, .f32⟩
  | 81 => ⟨S2048x2048, .f32⟩
  | 82 => ⟨S2048x2048, .f32⟩
  | 83 => ⟨S2048x2048, .f32⟩
  | 84 => ⟨S2048x2048, .f32⟩
  | 85 => ⟨S_, .f32⟩
  | 86 => ⟨S2048x2048, .f32⟩
  | 87 => ⟨S2048x2048, .f32⟩
  | 88 => ⟨S_, .f32⟩
  | 89 => ⟨S2048, .f32⟩
  | 90 => ⟨S_, .f32⟩
  | 91 => ⟨S2048, .f32⟩
  | 92 => ⟨S2048, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S2048, .f32⟩
  | 101 => ⟨S_, .f32⟩
  | 102 => ⟨S2048, .f32⟩
  | 103 => ⟨S2048, .f32⟩
  | 104 => ⟨S2048x2048, .f32⟩
  | 105 => ⟨S2048x2048, .f32⟩
  | 106 => ⟨S_, .f32⟩
  | 107 => ⟨S2048, .f32⟩
  | 108 => ⟨S1x2048, .f32⟩
  | 109 => ⟨S_, .f32⟩
  | 110 => ⟨S2048, .f32⟩
  | 111 => ⟨S2048x2048, .f32⟩
  | 112 => ⟨S_, .f32⟩
  | 113 => ⟨S2048, .f32⟩
  | 114 => ⟨S1x2048, .f32⟩
  | 115 => ⟨S2048x2048, .f32⟩
  | 116 => ⟨S2048x2048, .f32⟩
  | 117 => ⟨S_, .f32⟩
  | 118 => ⟨S2048, .f32⟩
  | 119 => ⟨S2048x2048, .f32⟩
  | 120 => ⟨S_, .f32⟩
  | 121 => ⟨S2048, .f32⟩
  | 122 => ⟨S2048x1, .f32⟩
  | 123 => ⟨S2048x2048, .f32⟩
  | 124 => ⟨S2048x2048, .f32⟩
  | 125 => ⟨S2048x1, .f32⟩
  | 126 => ⟨S2048x2048, .f32⟩
  | 127 => ⟨S_, .f32⟩
  | _ => ⟨S2048x8192, .f32⟩

abbrev hbmTy0_1 (i : Nat) : BufTy := match i % 128 with
  | 0 => ⟨S2048, .f32⟩
  | 1 => ⟨S2048x1, .f32⟩
  | 2 => ⟨S_, .f32⟩
  | 3 => ⟨S2048x1, .f32⟩
  | 4 => ⟨S2048x1, .f32⟩
  | 5 => ⟨S_, .f32⟩
  | 6 => ⟨S2048, .f32⟩
  | 7 => ⟨S2048x2048, .f32⟩
  | 8 => ⟨S2048x2048, .f32⟩
  | 9 => ⟨S2048x2048, .f32⟩
  | 10 => ⟨S_, .f32⟩
  | 11 => ⟨S2048, .f32⟩
  | 12 => ⟨S2048x1, .f32⟩
  | 13 => ⟨S2048x2048, .f32⟩
  | 14 => ⟨S2048x1, .f32⟩
  | 15 => ⟨S_, .f32⟩
  | 16 => ⟨S2048x1, .f32⟩
  | 17 => ⟨S2048x1, .f32⟩
  | 18 => ⟨S_, .f32⟩
  | 19 => ⟨S2048, .f32⟩
  | 20 => ⟨S2048x2048, .f32⟩
  | 21 => ⟨S2048x2048, .f32⟩
  | 22 => ⟨S_, .f32⟩
  | 23 => ⟨S2048, .f32⟩
  | 24 => ⟨S1x2048, .f32⟩
  | 25 => ⟨S_, .f32⟩
  | 26 => ⟨S2048, .f32⟩
  | 27 => ⟨S2048x2048, .bf16⟩
  | 28 => ⟨S1x2048, .f32⟩
  | 29 => ⟨S1x2048, .f32⟩
  | 30 => ⟨S1x2048, .f32⟩
  | 31 => ⟨S_, .f32⟩
  | 32 => ⟨S_, .f32⟩
  | 33 => ⟨S1x2048, .f32⟩
  | 34 => ⟨S_, .f32⟩
  | 35 => ⟨S4x2048, .f32⟩
  | 36 => ⟨S8x2048, .f32⟩
  | _ => ⟨S2048x8192, .f32⟩

abbrev hbmTy (i : Nat) : BufTy := match i / 128 with
  | 0 => hbmTy0_0 i
  | 1 => hbmTy0_1 i
  | _ => ⟨S2048x8192, .f32⟩

abbrev bufTy : (tb : Table) → Fin (tcTables nBuf tb) → BufTy
  | .hbm, ⟨i, _⟩ => hbmTy i
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_cst_13 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_cst_17 : Ref sig .tc := ⟨.hbm, 97, rfl⟩
abbrev main_cst_18 : Ref sig .tc := ⟨.hbm, 98, rfl⟩
abbrev main_v70 : Ref sig .tc := ⟨.hbm, 99, rfl⟩
abbrev main_v71 : Ref sig .tc := ⟨.hbm, 100, rfl⟩
abbrev main_cst_19 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_20 : Ref sig .tc := ⟨.hbm, 106, rfl⟩
abbrev main_v76 : Ref sig .tc := ⟨.hbm, 107, rfl⟩
abbrev main_v77 : Ref sig .tc := ⟨.hbm, 108, rfl⟩
abbrev main_cst_21 : Ref sig .tc := ⟨.hbm, 109, rfl⟩
abbrev main_v78 : Ref sig .tc := ⟨.hbm, 110, rfl⟩
abbrev main_v79 : Ref sig .tc := ⟨.hbm, 111, rfl⟩
abbrev main_cst_22 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_23 : Ref sig .tc := ⟨.hbm, 117, rfl⟩
abbrev main_v84 : Ref sig .tc := ⟨.hbm, 118, rfl⟩
abbrev main_v85 : Ref sig .tc := ⟨.hbm, 119, rfl⟩
abbrev main_cst_24 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_25 : Ref sig .tc := ⟨.hbm, 127, rfl⟩
abbrev main_v92 : Ref sig .tc := ⟨.hbm, 128, rfl⟩
abbrev main_v93 : Ref sig .tc := ⟨.hbm, 129, rfl⟩
abbrev main_cst_26 : Ref sig .tc := ⟨.hbm, 130, rfl⟩
abbrev main_v94 : Ref sig .tc := ⟨.hbm, 131, rfl⟩
abbrev main_v95 : Ref sig .tc := ⟨.hbm, 132, rfl⟩
abbrev main_cst_27 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_28 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_29 : Ref sig .tc := ⟨.hbm, 143, rfl⟩
abbrev main_v104 : Ref sig .tc := ⟨.hbm, 144, rfl⟩
abbrev main_v105 : Ref sig .tc := ⟨.hbm, 145, rfl⟩
abbrev main_cst_30 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_31 : Ref sig .tc := ⟨.hbm, 150, rfl⟩
abbrev main_v109 : Ref sig .tc := ⟨.hbm, 151, rfl⟩
abbrev main_v110 : Ref sig .tc := ⟨.hbm, 152, rfl⟩
abbrev main_cst_32 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_33 : Ref sig .tc := ⟨.hbm, 159, rfl⟩
abbrev main_v116 : Ref sig .tc := ⟨.hbm, 160, rfl⟩
abbrev main_v117 : Ref sig .tc := ⟨.hbm, 161, rfl⟩
abbrev main_cst_34 : Ref sig .tc := ⟨.hbm, 162, rfl⟩
abbrev main_v118 : Ref sig .tc := ⟨.hbm, 163, rfl⟩
abbrev main_v119 : Ref sig .tc := ⟨.hbm, 164, rfl⟩

abbrev nD : Nat := 1
abbrev τ : Topo := Topo.v7x

variable {F : FTy → Type} [FloatOps F]
-- ==== Proof.Sums.lean ====
module
public import Mathlib.Data.EReal.Operations
public import Mathlib.Algebra.BigOperators.Fin

/-!
# Equations between extended reals

The kernels contract over the columns shard by shard; the reference contracts over all columns at once.
Beside that, the two small equations by which the gate and the rectifier differ in spelling.
-/

@[expose] public section

namespace Cert.Sums

/-- A sum over `4n` columns, taken shard by shard. -/
theorem sum_four {M : Type*} [AddCommMonoid M] (n N : ℕ) (h : N = 4 * n) (f : Fin N → M) :
    ∑ k, f k = (∑ k : Fin n, f ⟨k.val, by omega⟩) + (∑ k : Fin n, f ⟨n + k.val, by omega⟩)
      + (∑ k : Fin n, f ⟨2 * n + k.val, by omega⟩) + ∑ k : Fin n, f ⟨3 * n + k.val, by omega⟩ := by
  obtain rfl : N = n + n + n + n := by omega
  rw [Fin.sum_univ_add, Fin.sum_univ_add, Fin.sum_univ_add]
  refine congrArg₂ _ (congrArg₂ _ (congrArg₂ _ rfl rfl) ?_) ?_ <;>
  · refine Finset.sum_congr rfl fun k _ => congrArg f (Fin.ext ?_)
    simp [Fin.natAdd, Fin.castAdd, two_mul, add_mul]
    try omega

/-- A term added before four partial sums may be added after them. -/
theorem add_four {M : Type*} [AddCommMonoid M] (a s₀ s₁ s₂ s₃ : M) :
    a + s₀ + s₁ + s₂ + s₃ = s₀ + s₁ + s₂ + s₃ + a := by
  abel

/-- The negative of an extended real, as the kernels write it. -/
theorem zero_sub' (x : EReal) : 0 - x = -x := by
  rw [sub_eq_add_neg, zero_add]

/-- Selecting where the rectifier's input is positive changes nothing: elsewhere the rectified value,
    and so the product, is nought. -/
theorem relu_select (d k p : EReal) [Decidable (0 < p)] :
    (if 0 < p then d * (k * max p 0) else 0) = d * (k * max p 0) := by
  split
  · rfl
  · rw [max_eq_right (not_lt.mp ‹_›), mul_zero, mul_zero]

end Cert.Sums
-- ==== Proof.Gate.lean ====
module
public import proofs.«01_k».proof.Proof.Gen.GateIdeal.Value
public import proofs.«01_k».proof.Proof.Gen.GateRefIdeal.Run
public import proofs.«01_k».proof.Proof.Sums
public import Idealize.ShloMosaic.Lib.Pipeline.ValueKit
public import Idealize.ShloMosaic.Lib.Pointwise

/-!
# The gradient of the gates

At a grid point the kernel holds a tile of rows of the gradient `D` behind the output projection `W` and
a tile of rows of `W`, and so one tile of `D Wᵀ`, the gradient of the sum of the two gated branches.
From it and the gates' inputs `Z` it stores the gradients of both branches' outputs `Y` and of both
gates' inputs.  The reference does the same on whole arrays.
-/

@[expose] public section

set_option maxRecDepth 16384

noncomputable section

open Idealize.ShloMosaic Idealize.ShloMosaic.TcCoe Idealize.SL.Sem
open Idealize.ShloMosaic.Pipeline (Dat)

namespace Cert.GateIdeal.Grad
open Cert.GateIdeal Cert.GateIdeal.Gen

variable (m : (ℓ : Loc nD τ sig) → Buf (Elt Ideal) ℓ)

/-- The gradient of the mixed branches: `D Wᵀ`. -/
abbrev mix (D : FVec Ideal S2048x2048 .f32) (W : FVec Ideal S2048x2048 .f32) : FVec Ideal S2048x2048 .f32 :=
  Host.dotGeneral Cert.GateRefIdeal.dot_S2048x2048_S2048x2048_S2048x2048_1_1_0_0_n_n none D W

/-- The array of ones. -/
abbrev ones : FVec Ideal S2048x2048 .f32 :=
  broadcastInDim Cert.GateRefIdeal.S2048x2048 ![] Cert.GateRefIdeal.Gen.bcast_S_S2048x2048 (constant Cert.GateRefIdeal.S_ .f32 0x3F800000#32)

/-- The logistic function of an array. -/
abbrev sigm (Z : FVec Ideal S2048x2048 .f32) : FVec Ideal S2048x2048 .f32 :=
  Host.divf ones (addf ones (Host.exp (Host.negf Z)))

/-- The attention branch's gate input: columns 5120 to 7168 of the projected input. -/
abbrev gateA (P : FVec Ideal S2048x9216 .f32) : FVec Ideal S2048x2048 .f32 :=
  extractStridedSlice Cert.GateRefIdeal.S2048x2048 ![0, 5120] P Cert.GateRefIdeal.Gen.slices_S2048x9216_S2048x2048_0_5120

/-- The gated branch's gate input: columns 7168 to 9216 of the projected input. -/
abbrev gateB (P : FVec Ideal S2048x9216 .f32) : FVec Ideal S2048x2048 .f32 :=
  extractStridedSlice Cert.GateRefIdeal.S2048x2048 ![0, 7168] P Cert.GateRefIdeal.Gen.slices_S2048x9216_S2048x2048_0_7168

/-- The gradient of a gated branch's output, `σ(Z) · D Wᵀ`. -/
abbrev gradY (D W Z : FVec Ideal S2048x2048 .f32) : FVec Ideal S2048x2048 .bf16 :=
  truncf .bf16 (mulf (sigm Z) (mix D W)) Cert.GateRefIdeal.Gen.bitsLt_bf16_f32

/-- The gradient of a gate's input, `(D Wᵀ) · Y · (σ(Z) · (1 − σ(Z)))`. -/
abbrev gradZ (D W Z Y : FVec Ideal S2048x2048 .f32) : FVec Ideal S2048x2048 .bf16 :=
  truncf .bf16 (mulf (mulf (mix D W) Y) (mulf (sigm Z) (subf ones (sigm Z)))) Cert.GateRefIdeal.Gen.bitsLt_bf16_f32

/-- Which block each window is at, for every grid point. -/
theorem idx : ∀ t : Fin cfg0.N, win0_0.index t = ![t.val % 4, 0] ∧ win0_1.index t = ![t.val / 4, 0]
    ∧ win0_2.index t = ![t.val % 4, t.val / 4 + 5] ∧ win0_3.index t = ![t.val % 4, t.val / 4 + 7]
    ∧ win0_4.index t = ![t.val % 4, t.val / 4] ∧ win0_5.index t = ![t.val % 4, t.val / 4]
    ∧ win0_6.index t = ![t.val % 4, t.val / 4] ∧ win0_7.index t = ![t.val % 4, t.val / 4]
    ∧ win0_8.index t = ![t.val % 4, t.val / 4] ∧ win0_9.index t = ![t.val % 4, t.val / 4] :=
  (by decide +kernel : ∀ t : Fin grid0.N, _)

set_option maxHeartbeats 1600000 in
/-- What a grid point stores for the attention branch's output at place `y` of its block is the
    gradient at the place of the array where `y` lies. -/
theorem point6 (c : Dev nD) (t : Fin cfg0.N) (y) :
    k0_pay6 (iblk m c 0 t) (iblk m c 1 t) (iblk m c 2 t) y
      = gradY (m ((c : Thread nD τ).loc main_arg0)) (m ((c : Thread nD τ).loc main_arg1)) (gateA (m ((c : Thread nD τ).loc main_arg2)))
          (((cfg0.win 6).blk t).view.emb y) := by
  pointwise [k0_pay1, k0_pay2, k0_pay3, k0_pay4, k0_pay5, k0_pay6, k0_pay7, k0_pay8, k0_pay9, gradY, mix, sigm, ones, gateA, gateB]
  refine (mul_comm (G := EReal) _ _).trans ?_
  simp only [Cert.Sums.zero_sub']
  blk_point [iblk, V, idx t]

/-- The array the kernel leaves for the attention branch's output is the reference array: the
    blocks cover it. -/
theorem final6 (c : Dev nD) : (dats m 0 c).arrAt 6 (cfgs 0).N
    = gradY (m ((c : Thread nD τ).loc main_arg0)) (m ((c : Thread nD τ).loc main_arg1)) (gateA (m ((c : Thread nD τ).loc main_arg2))) := by
  refine (dats m 0 c).arrAt_eq_of_covers 6 _ (by decide +kernel) fun t _ y => ?_
  blk_simp
  rw [after0_6]
  frame_out
  exact point6 m c t y

set_option maxHeartbeats 1600000 in
/-- What a grid point stores for the gated branch's output at place `y` of its block is the
    gradient at the place of the array where `y` lies. -/
theorem point7 (c : Dev nD) (t : Fin cfg0.N) (y) :
    k0_pay7 (iblk m c 0 t) (iblk m c 1 t) (iblk m c 3 t) y
      = gradY (m ((c : Thread nD τ).loc main_arg0)) (m ((c : Thread nD τ).loc main_arg1)) (gateB (m ((c : Thread nD τ).loc main_arg2)))
          (((cfg0.win 7).blk t).view.emb y) := by
  pointwise [k0_pay1, k0_pay2, k0_pay3, k0_pay4, k0_pay5, k0_pay6, k0_pay7, k0_pay8, k0_pay9, gradY, mix, sigm, ones, gateA, gateB]
  refine (mul_comm (G := EReal) _ _).trans ?_
  simp only [Cert.Sums.zero_sub']
  blk_point [iblk, V, idx t]

/-- The array the kernel leaves for the gated branch's output is the reference array: the
    blocks cover it. -/
theorem final7 (c : Dev nD) : (dats m 0 c).arrAt 7 (cfgs 0).N
    = gradY (m ((c : Thread nD τ).loc main_arg0)) (m ((c : Thread nD τ).loc main_arg1)) (gateB (m ((c : Thread nD τ).loc main_arg2))) := by
  refine (dats m 0 c).arrAt_eq_of_covers 7 _ (by decide +kernel) fun t _ y => ?_
  blk_simp
  rw [after0_7]
  frame_out
  exact point7 m c t y

set_option maxHeartbeats 1600000 in
/-- What a grid point stores for the attention branch's gate at place `y` of its block is the
    gradient at the place of the array where `y` lies. -/
theorem point8 (c : Dev nD) (t : Fin cfg0.N) (y) :
    k0_pay1 (k0_pay8 (iblk m c 0 t) (iblk m c 1 t) (iblk m c 2 t) (iblk m c 4 t)) (k0_pay9 (iblk m c 2 t)) y
      = gradZ (m ((c : Thread nD τ).loc main_arg0)) (m ((c : Thread nD τ).loc main_arg1)) (gateA (m ((c : Thread nD τ).loc main_arg2))) (m ((c : Thread nD τ).loc main_arg3))
          (((cfg0.win 8).blk t).view.emb y) := by
  pointwise [k0_pay1, k0_pay2, k0_pay3, k0_pay4, k0_pay5, k0_pay6, k0_pay7, k0_pay8, k0_pay9, gradZ, mix, sigm, ones, gateA, gateB]
  refine (mul_assoc (G := EReal) _ _ _).trans ?_
  simp only [Cert.Sums.zero_sub']
  blk_point [iblk, V, idx t]

/-- The array the kernel leaves for the attention branch's gate is the reference array: the
    blocks cover it. -/
theorem final8 (c : Dev nD) : (dats m 0 c).arrAt 8 (cfgs 0).N
    = gradZ (m ((c : Thread nD τ).loc main_arg0)) (m ((c : Thread nD τ).loc main_arg1)) (gateA (m ((c : Thread nD τ).loc main_arg2))) (m ((c : Thread nD τ).loc main_arg3)) := by
  refine (dats m 0 c).arrAt_eq_of_covers 8 _ (by decide +kernel) fun t _ y => ?_
  blk_simp
  rw [after0_8]
  frame_out
  exact point8 m c t y

set_option maxHeartbeats 1600000 in
/-- What a grid point stores for the gated branch's gate at place `y` of its block is the
    gradient at the place of the array where `y` lies. -/
theorem point9 (c : Dev nD) (t : Fin cfg0.N) (y) :
    k0_pay2 (k0_pay3 (iblk m c 0 t) (iblk m c 1 t)) (k0_pay5 (iblk m c 3 t)) (iblk m c 5 t) y
      = gradZ (m ((c : Thread nD τ).loc main_arg0)) (m ((c : Thread nD τ).loc main_arg1)) (gateB (m ((c : Thread nD τ).loc main_arg2))) (m ((c : Thread nD τ).loc main_arg4))
          (((cfg0.win 9).blk t).view.emb y) := by
  pointwise [k0_pay1, k0_pay2, k0_pay3, k0_pay4, k0_pay5, k0_pay6, k0_pay7, k0_pay8, k0_pay9, gradZ, mix, sigm, ones, gateA, gateB]
  refine (mul_assoc (G := EReal) _ _ _).trans ?_
  simp only [Cert.Sums.zero_sub']
  blk_point [iblk, V, idx t]

/-- The array the kernel leaves for the gated branch's gate is the reference array: the
    blocks cover it. -/
theorem final9 (c : Dev nD) : (dats m 0 c).arrAt 9 (cfgs 0).N
    = gradZ (m ((c : Thread nD τ).loc main_arg0)) (m ((c : Thread nD τ).loc main_arg1)) (gateB (m ((c : Thread nD τ).loc main_arg2))) (m ((c : Thread nD τ).loc main_arg4)) := by
  refine (dats m 0 c).arrAt_eq_of_covers 9 _ (by decide +kernel) fun t _ y => ?_
  blk_simp
  rw [after0_9]
  frame_out
  exact point9 m c t y

end Cert.GateIdeal.Grad

end
-- ==== Proof.Relu.lean ====
module
public import proofs.«01_k».proof.Proof.Gen.ReluIdeal.Value
public import proofs.«01_k».proof.Proof.Gen.ReluRefIdeal.Run
public import proofs.«01_k».proof.Proof.Sums
public import Idealize.ShloMosaic.Lib.Pipeline.ValueKit
public import Idealize.ShloMosaic.Lib.Pointwise

/-!
# The gradient through the squared rectifier

At a grid point the kernel holds all rows of the incoming gradient, a tile of the second feed-forward
matrix and the same columns of the rectified activations `r`; it stores `(D W₂ᵀ) · 2r` and that array's
sum over the rows.  The reference differentiates `r = max(pre, 0)` and so selects where `pre` is
positive; where it is not, `r` is nought, so the two agree.
-/

@[expose] public section

set_option maxRecDepth 16384

noncomputable section

open Idealize.ShloMosaic Idealize.ShloMosaic.TcCoe Idealize.SL.Sem
open Idealize.ShloMosaic.Pipeline (Dat)

namespace Cert.ReluIdeal.Grad
open Cert.ReluIdeal Cert.ReluIdeal.Gen

variable (m : (ℓ : Loc nD τ sig) → Buf (Elt Ideal) ℓ)

/-- The rectifier's input, as the reference computes it: `H W₁ + b`. -/
abbrev pre (H : FVec Ideal S2048x2048 .f32) (W1 : FVec Ideal S2048x8192 .f32)
    (B : FVec Ideal S1x8192 .f32) : FVec Ideal S2048x8192 .f32 :=
  addf (Host.dotGeneral Cert.ReluRefIdeal.dot_S2048x2048_S2048x8192_S2048x8192_1_0_0_1_n_n none H W1)
    (broadcastInDim Cert.ReluRefIdeal.S2048x8192 ![0, 1] Cert.ReluRefIdeal.Gen.bcast_S1x8192_S2048x8192_0_1 B)

/-- An array holding one constant everywhere. -/
abbrev const (w : BitVec 32) : FVec Ideal S2048x8192 .f32 :=
  broadcastInDim Cert.ReluRefIdeal.S2048x8192 ![] Cert.ReluRefIdeal.Gen.bcast_S_S2048x8192 (constant Cert.ReluRefIdeal.S_ .f32 w)

/-- The reference's gradient before rounding: where the rectifier's input is positive,
    `(D W₂ᵀ) · (2 · max(pre, 0))`, and nought elsewhere. -/
abbrev grad (D : FVec Ideal S2048x2048 .f32) (W2 : FVec Ideal S8192x2048 .f32)
    (H : FVec Ideal S2048x2048 .f32) (W1 : FVec Ideal S2048x8192 .f32) (B : FVec Ideal S1x8192 .f32) :
    FVec Ideal S2048x8192 .f32 :=
  select (cmpf .ogt (pre H W1 B) (const 0x00000000#32))
    (mulf (Host.dotGeneral Cert.ReluRefIdeal.dot_S2048x2048_S8192x2048_S2048x8192_1_1_0_0_n_n none D W2)
      (mulf (const 0x40000000#32) (maximumf (pre H W1 B) (const 0x00000000#32))))
    (const 0x00000000#32)

/-- The gradient at the rectifier's input, rounded. -/
abbrev gradPre (D : FVec Ideal S2048x2048 .f32) (W2 : FVec Ideal S8192x2048 .f32)
    (H : FVec Ideal S2048x2048 .f32) (W1 : FVec Ideal S2048x8192 .f32) (B : FVec Ideal S1x8192 .f32) :
    FVec Ideal S2048x8192 .bf16 :=
  truncf .bf16 (grad D W2 H W1 B) Cert.ReluRefIdeal.Gen.bitsLt_bf16_f32

/-- The gradient of the bias: the same array summed over the rows. -/
abbrev gradBias (D : FVec Ideal S2048x2048 .f32) (W2 : FVec Ideal S8192x2048 .f32)
    (H : FVec Ideal S2048x2048 .f32) (W1 : FVec Ideal S2048x8192 .f32) (B : FVec Ideal S1x8192 .f32) :
    FVec Ideal S1x8192 .f32 :=
  shapeCast Cert.ReluRefIdeal.S1x8192 (Host.reduceAdd (grad D W2 H W1 B) (constant Cert.ReluRefIdeal.S_ .f32 0x00000000#32)
    Cert.ReluRefIdeal.Gen.reducesTo_S2048x8192_S8192_d0 Cert.ReluRefIdeal.Gen.h_S_) Cert.ReluRefIdeal.Gen.shapeCasts_S8192_S1x8192

/-- Which block each window is at, for every grid point. -/
theorem idx : ∀ t : Fin cfg0.N, win0_0.index t = ![0, 0] ∧ win0_1.index t = ![t.val, 0]
    ∧ win0_2.index t = ![0, t.val] ∧ win0_3.index t = ![0, t.val] ∧ win0_4.index t = ![0, t.val] :=
  (by decide +kernel : ∀ t : Fin grid0.N, _)

/-- The rectified activations the kernel reads are the reference's: prepared by the same lines. -/
theorem rect (c : Dev nD) : V m c main_v6 = truncf .bf16 (maximumf (pre (m ((c : Thread nD τ).loc main_arg2)) (m ((c : Thread nD τ).loc main_arg3)) (m ((c : Thread nD τ).loc main_arg4))) (const 0x00000000#32)) Cert.ReluRefIdeal.Gen.bitsLt_bf16_f32 := by
  entry_read
  rfl

/-- So is a block of them. -/
theorem rectBlock (c : Dev nD) (t : Fin cfg0.N) (y : S2048x512.Idx) :
    (iblk m c 2 t : FVec Ideal S2048x512 .bf16) y
      = truncf .bf16 (maximumf (pre (m ((c : Thread nD τ).loc main_arg2)) (m ((c : Thread nD τ).loc main_arg3)) (m ((c : Thread nD τ).loc main_arg4))) (const 0x00000000#32)) Cert.ReluRefIdeal.Gen.bitsLt_bf16_f32
          ((win0_2.blk t).view.emb y) := by
  blk_simp [iblk]
  rw [rect]

set_option maxHeartbeats 1600000 in
/-- What a grid point stores at place `y` of its block is the gradient at the place of the array where
    `y` lies: where the rectifier does not select, the rectified value is nought. -/
theorem point3 (c : Dev nD) (t : Fin cfg0.N) (y) :
    k0_pay2 (iblk m c 0 t) (iblk m c 1 t) (iblk m c 2 t) y
      = gradPre (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 3).blk t).view.emb y) := by
  rw [show (iblk m c 2 t : FVec Ideal S2048x512 .bf16) = _ from funext (rectBlock m c t)]
  pointwise [k0_pay1, k0_pay2, gradPre, grad, pre, const]
  refine Eq.trans ?_ (Cert.Sums.relu_select _ _ _).symm
  blk_point [iblk, V, idx t]

/-- The array of gradients the kernel leaves is the reference array: the blocks cover it. -/
theorem final3 (c : Dev nD) : (dats m 0 c).arrAt 3 (cfgs 0).N
    = gradPre (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t _ y => ?_
  blk_simp
  rw [after0_3]
  frame_out
  exact point3 m c t y

set_option maxHeartbeats 1600000 in
/-- The row of column sums a grid point stores is the bias gradient at the same columns. -/
theorem point4 (c : Dev nD) (t : Fin cfg0.N) (y) :
    k0_pay3 (iblk m c 0 t) (iblk m c 1 t) (iblk m c 2 t) y
      = gradBias (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 4).blk t).view.emb y) := by
  rw [show (iblk m c 2 t : FVec Ideal S2048x512 .bf16) = _ from funext (rectBlock m c t)]
  pointwise [k0_pay1, k0_pay3, gradBias, grad, pre, const]
  refine Eq.trans ?_ (Finset.sum_congr rfl fun x _ => (Cert.Sums.relu_select _ _ _).symm)
  blk_point [iblk, V, idx t]

/-- The bias gradient the kernel leaves is the reference array: the blocks cover it. -/
theorem final4 (c : Dev nD) : (dats m 0 c).arrAt 4 (cfgs 0).N
    = gradBias (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t _ y => ?_
  blk_simp
  rw [after0_4]
  frame_out
  exact point4 m c t y

end Cert.ReluIdeal.Grad

end
-- ==== Proof.Branches.lean ====
module
public import proofs.«01_k».proof.Proof.Gen.BranchesIdeal.Value
public import proofs.«01_k».proof.Proof.Gen.BranchesRefIdeal.Run
public import proofs.«01_k».proof.Proof.Sums
public import Idealize.ShloMosaic.Lib.Pipeline.ValueKit
public import Idealize.ShloMosaic.Lib.Pointwise

/-!
# The gradients of the two branches

At a grid point the kernel holds a tile of rows of both branches' gradients and both whole projections,
cut into four shards of columns; per branch it adds the four shards' products.  The reference takes one
product over all columns.
-/

@[expose] public section

set_option maxRecDepth 16384

noncomputable section

open Idealize.ShloMosaic Idealize.ShloMosaic.TcCoe Idealize.SL.Sem
open Idealize.ShloMosaic.Pipeline (Dat)

namespace Cert.BranchesIdeal.Grad
open Cert.BranchesIdeal Cert.BranchesIdeal.Gen

variable (m : (ℓ : Loc nD τ sig) → Buf (Elt Ideal) ℓ)

/-- The reference's gradient of a branch, as a function of the gradient `Y` of the branch's projected
    output and of the projection `W`: `Y Wᵀ`. -/
abbrev grad (Y : FVec Ideal S2048x2048 .f32) (W : FVec Ideal S1024x2048 .f32) :
    FVec Ideal S2048x1024 .f32 :=
  Host.dotGeneral Cert.BranchesRefIdeal.dot_S2048x2048_S1024x2048_S2048x1024_1_1_0_0_n_n none Y W

/-- Which block each window is at, for every grid point. -/
theorem idx : ∀ t : Fin cfg0.N, win0_0.index t = ![t.val, 0] ∧ win0_1.index t = ![t.val, 0]
    ∧ win0_2.index t = ![0, 0, 0] ∧ win0_3.index t = ![0, 0, 0]
    ∧ win0_4.index t = ![t.val, 0] ∧ win0_5.index t = ![t.val, 0] :=
  (by decide +kernel : ∀ t : Fin grid0.N, _)

set_option maxHeartbeats 1600000 in
/-- What a grid point stores for the attention branch: the four shards' contractions add up to the
    contraction over all columns. -/
theorem point4 (c : Dev nD) (t : Fin cfg0.N) (y) :
    k0_pay2 (View.ld (iblk m c 0 t) r0_0) (View.ld (iblk m c 2 t) r0_1)
        (View.ld (iblk m c 0 t) r0_2) (View.ld (iblk m c 2 t) r0_3)
        (View.ld (iblk m c 0 t) r0_4) (View.ld (iblk m c 2 t) r0_5)
        (View.ld (iblk m c 0 t) r0_6) (View.ld (iblk m c 2 t) r0_7) y
      = grad (m ((c : Thread nD τ).loc main_arg0)) (m ((c : Thread nD τ).loc main_arg2))
          (((cfg0.win 4).blk t).view.emb y) := by
  pointwise [k0_pay1, k0_pay2, k0_pay3, grad]
  refine Eq.trans ?_ (Cert.Sums.sum_four (M := EReal) 512 2048 rfl _).symm
  blk_point [iblk, V, idx t]

/-- The array the kernel leaves for the attention branch is the reference gradient: the blocks cover it. -/
theorem final4 (c : Dev nD) : (dats m 0 c).arrAt 4 (cfgs 0).N
    = grad (m ((c : Thread nD τ).loc main_arg0)) (m ((c : Thread nD τ).loc main_arg2)) := by
  refine (dats m 0 c).arrAt_eq_of_covers 4 _ (by decide +kernel) fun t _ y => ?_
  blk_simp
  rw [after0_4]
  frame_out
  exact point4 m c t y

set_option maxHeartbeats 1600000 in
/-- What a grid point stores for the gated branch: the four shards' contractions add up to the
    contraction over all columns. -/
theorem point5 (c : Dev nD) (t : Fin cfg0.N) (y) :
    k0_pay1 (k0_pay3 (View.ld (iblk m c 1 t) r0_0)) (View.ld (iblk m c 3 t) r0_1)
        (View.ld (iblk m c 1 t) r0_2) (View.ld (iblk m c 3 t) r0_3)
        (View.ld (iblk m c 1 t) r0_4) (View.ld (iblk m c 3 t) r0_5)
        (View.ld (iblk m c 1 t) r0_6) (View.ld (iblk m c 3 t) r0_7) y
      = grad (m ((c : Thread nD τ).loc main_arg1)) (m ((c : Thread nD τ).loc main_arg3))
          (((cfg0.win 5).blk t).view.emb y) := by
  pointwise [k0_pay1, k0_pay2, k0_pay3, grad]
  refine Eq.trans ?_ (Cert.Sums.sum_four (M := EReal) 512 2048 rfl _).symm
  blk_point [iblk, V, idx t]

/-- The array the kernel leaves for the gated branch is the reference gradient: the blocks cover it. -/
theorem final5 (c : Dev nD) : (dats m 0 c).arrAt 5 (cfgs 0).N
    = grad (m ((c : Thread nD τ).loc main_arg1)) (m ((c : Thread nD τ).loc main_arg3)) := by
  refine (dats m 0 c).arrAt_eq_of_covers 5 _ (by decide +kernel) fun t _ y => ?_
  blk_simp
  rw [after0_5]
  frame_out
  exact point5 m c t y

end Cert.BranchesIdeal.Grad

end
-- ==== Proof.Dx.lean ====
module
public import proofs.«01_k».proof.Proof.Gen.DxIdeal.Value
public import proofs.«01_k».proof.Proof.Gen.DxRefIdeal.Run
public import proofs.«01_k».proof.Proof.Sums
public import Idealize.ShloMosaic.Lib.Pipeline.ValueKit
public import Idealize.ShloMosaic.Lib.Pointwise

/-!
# The gradient of the layer's input

At a grid point the kernel adds `α` times a tile of the residual's gradient and, for each of the four
shards of the input projection, the product of the projected gradient's columns of that shard with the
shard's rows.  The reference adds `α` times the residual's gradient to one product over all columns.
-/

@[expose] public section

set_option maxRecDepth 16384

noncomputable section

open Idealize.ShloMosaic Idealize.ShloMosaic.TcCoe Idealize.SL.Sem
open Idealize.ShloMosaic.Pipeline (Dat)

namespace Cert.DxIdeal.Grad
open Cert.DxIdeal Cert.DxIdeal.Gen

variable (m : (ℓ : Loc nD τ sig) → Buf (Elt Ideal) ℓ)

/-- The reference's gradient, as a function of the projected gradient `P`, the input projection `W` and
    the gradient `D` at the residual: `P Wᵀ + α D`. -/
abbrev grad (P : FVec Ideal S2048x9216 .f32) (W : FVec Ideal S2048x9216 .f32)
    (D : FVec Ideal S2048x2048 .f32) : FVec Ideal S2048x2048 .f32 :=
  addf (Host.dotGeneral Cert.DxRefIdeal.dot_S2048x9216_S2048x9216_S2048x2048_1_1_0_0_n_n none P W)
    (mulf (broadcastInDim Cert.DxRefIdeal.S2048x2048 ![] Cert.DxRefIdeal.Gen.bcast_S_S2048x2048
      (constant Cert.DxRefIdeal.S_ .f32 0x3F9837F0#32)) D)

/-- Which block each window is at, for every grid point. -/
theorem idx : ∀ t : Fin cfg0.N, win0_0.index t = ![t.val / 4, 0]
    ∧ win0_1.index t = ![0, t.val % 4, 0]
    ∧ win0_2.index t = ![t.val / 4, t.val % 4]
    ∧ win0_3.index t = ![t.val / 4, t.val % 4] :=
  (by decide +kernel : ∀ t : Fin grid0.N, _)

set_option maxHeartbeats 1600000 in
/-- What a grid point stores at place `y` of its block is the gradient's element at the place of the
    array where `y` lies: the contraction over all columns is the sum of the four shards' contractions. -/
theorem point (c : Dev nD) (t : Fin cfg0.N) (y) :
    k0_pay1 (iblk m c 2 t) (View.ld (iblk m c 0 t) r0_1) (View.ld (iblk m c 1 t) r0_2)
        (View.ld (iblk m c 0 t) r0_3) (View.ld (iblk m c 1 t) r0_4) (View.ld (iblk m c 0 t) r0_5)
        (View.ld (iblk m c 1 t) r0_6) (View.ld (iblk m c 0 t) r0_7) (View.ld (iblk m c 1 t) r0_8) y
      = grad (m ((c : Thread nD τ).loc main_arg0)) (m ((c : Thread nD τ).loc main_arg1))
          (m ((c : Thread nD τ).loc main_arg2)) (((cfg0.win 3).blk t).view.emb y) := by
  pointwise [k0_pay1, grad]
  refine (Cert.Sums.add_four (M := EReal) _ _ _ _ _).trans ?_
  rw [Cert.Sums.sum_four (M := EReal) 2304 9216 rfl]
  blk_point [iblk, V, idx t]

/-- The array the kernel leaves is the reference's gradient: the blocks cover it. -/
theorem final (c : Dev nD) : (dats m 0 c).arrAt 3 (cfgs 0).N
    = grad (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  exact point m c t y

end Cert.DxIdeal.Grad

end
-- ==== Proof.GwFf2.lean ====
module
public import proofs.«01_k».proof.Proof.Gen.GwFf2Ideal.Value
public import proofs.«01_k».proof.Proof.Gen.GwFf2RefIdeal.Run
public import Idealize.ShloMosaic.Lib.Pipeline.ValueKit
public import Idealize.ShloMosaic.Lib.Pointwise

/-!
# The gradient of the second feed-forward matrix

The kernel walks a 16 × 1 grid.  At a grid point it holds all rows of 512 columns of the layer's
input and of 2048 columns of the incoming gradient, contracts over the rows, and writes one block of
the weight's gradient.  Every block is
written once, so the array it leaves is the whole product.
-/

@[expose] public section

set_option maxRecDepth 16384

noncomputable section

open Idealize.ShloMosaic Idealize.ShloMosaic.TcCoe Idealize.SL.Sem
open Idealize.ShloMosaic.Pipeline (Dat)

namespace Cert.GwFf2Ideal.Grad
open Cert.GwFf2Ideal Cert.GwFf2Ideal.Gen

variable (m : (ℓ : Loc nD τ sig) → Buf (Elt Ideal) ℓ)

/-- The reference's gradient, as a function of the layer's input `X` and of the incoming gradient `G`:
    the transpose of `Gᵀ X`. -/
abbrev grad (X : FVec Ideal S2048x8192 .f32) (G : FVec Ideal S2048x2048 .f32) : FVec Ideal S8192x2048 .bf16 :=
  truncf .bf16 (transpose Cert.GwFf2RefIdeal.S8192x2048 [1, 0] (Host.dotGeneral Cert.GwFf2RefIdeal.dot_S2048x2048_S2048x8192_S2048x8192_0_0_1_1_n_n none G X) Cert.GwFf2RefIdeal.Gen.transposes_S2048x8192_S8192x2048_1_0) Cert.GwFf2RefIdeal.Gen.bitsLt_bf16_f32

/-- Which block each window is at, for every grid point. -/
theorem idx : ∀ t : Fin cfg0.N, win0_0.index t = ![0, t.val / 1]
    ∧ win0_1.index t = ![0, t.val % 1]
    ∧ win0_2.index t = ![t.val / 1, t.val % 1] :=
  (by decide +kernel : ∀ t : Fin grid0.N, _)

/-- What a grid point stores at place `y` of its block is the gradient's element at the place of the
    array where `y` lies: both are the sum over the batch's rows of input times incoming gradient. -/
theorem point (c : Dev nD) (t : Fin cfg0.N) (y) :
    k0_pay1 (iblk m c 0 t) (iblk m c 1 t) y
      = grad (m ((c : Thread nD τ).loc main_arg0)) (m ((c : Thread nD τ).loc main_arg1))
          (((cfg0.win 2).blk t).view.emb y) := by
  pointwise [k0_pay1, grad]
  refine (Finset.sum_congr rfl fun k _ => mul_comm (G := EReal) _ _).trans ?_
  blk_point [iblk, V, idx t]

/-- The array the kernel leaves is the reference's gradient: the blocks cover it. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2, outsAt0]
  frame_out
  exact point m c t y

end Cert.GwFf2Ideal.Grad

end
-- ==== Proof.GwFf1.lean ====
module
public import proofs.«01_k».proof.Proof.Gen.GwFf1Ideal.Value
public import proofs.«01_k».proof.Proof.Gen.GwFf1RefIdeal.Run
public import Idealize.ShloMosaic.Lib.Pipeline.ValueKit
public import Idealize.ShloMosaic.Lib.Pointwise

/-!
# The gradient of the first feed-forward matrix

The kernel walks a 4 × 4 grid.  At a grid point it holds all rows of 512 columns of the layer's
input and of 2048 columns of the incoming gradient, contracts over the rows, and writes one block of
the weight's gradient, whose columns lie in four shards.  Every block is
written once, so the array it leaves is the whole product.
-/

@[expose] public section

set_option maxRecDepth 16384

noncomputable section

open Idealize.ShloMosaic Idealize.ShloMosaic.TcCoe Idealize.SL.Sem
open Idealize.ShloMosaic.Pipeline (Dat)

namespace Cert.GwFf1Ideal.Grad
open Cert.GwFf1Ideal Cert.GwFf1Ideal.Gen

variable (m : (ℓ : Loc nD τ sig) → Buf (Elt Ideal) ℓ)

/-- The reference's gradient, as a function of the layer's input `X` and of the incoming gradient `G`:
    the transpose of `Gᵀ X`, its columns cut into four shards. -/
abbrev grad (X : FVec Ideal S2048x2048 .f32) (G : FVec Ideal S2048x8192 .f32) : FVec Ideal S4x2048x2048 .bf16 :=
  transpose Cert.GwFf1RefIdeal.S4x2048x2048 [1, 0, 2] (shapeCast Cert.GwFf1RefIdeal.S2048x4x2048 (truncf .bf16 (transpose Cert.GwFf1RefIdeal.S2048x8192 [1, 0] (Host.dotGeneral Cert.GwFf1RefIdeal.dot_S2048x8192_S2048x2048_S8192x2048_0_0_1_1_n_n none G X) Cert.GwFf1RefIdeal.Gen.transposes_S8192x2048_S2048x8192_1_0) Cert.GwFf1RefIdeal.Gen.bitsLt_bf16_f32)
      Cert.GwFf1RefIdeal.Gen.shapeCasts_S2048x8192_S2048x4x2048) Cert.GwFf1RefIdeal.Gen.transposes_S2048x4x2048_S4x2048x2048_1_0_2

/-- Which block each window is at, for every grid point. -/
theorem idx : ∀ t : Fin cfg0.N, win0_0.index t = ![0, t.val / 4]
    ∧ win0_1.index t = ![0, t.val % 4]
    ∧ win0_2.index t = ![t.val % 4, t.val / 4, 0] :=
  (by decide +kernel : ∀ t : Fin grid0.N, _)

/-- What a grid point stores at place `y` of its block is the gradient's element at the place of the
    array where `y` lies: both are the sum over the batch's rows of input times incoming gradient. -/
theorem point (c : Dev nD) (t : Fin cfg0.N) (y) :
    k0_pay1 (iblk m c 0 t) (iblk m c 1 t) y
      = grad (m ((c : Thread nD τ).loc main_arg0)) (m ((c : Thread nD τ).loc main_arg1))
          (((cfg0.win 2).blk t).view.emb y) := by
  pointwise [k0_pay1, grad]
  refine (Finset.sum_congr rfl fun k _ => mul_comm (G := EReal) _ _).trans ?_
  blk_point [iblk, V, idx t]

/-- The array the kernel leaves is the reference's gradient: the blocks cover it. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2, outsAt0]
  frame_out
  exact point m c t y

end Cert.GwFf1Ideal.Grad

end
-- ==== Proof.GwOut.lean ====
module
public import proofs.«01_k».proof.Proof.Gen.GwOutIdeal.Value
public import proofs.«01_k».proof.Proof.Gen.GwOutRefIdeal.Run
public import Idealize.ShloMosaic.Lib.Pipeline.ValueKit
public import Idealize.ShloMosaic.Lib.Pointwise

/-!
# The gradient of the output projection

The kernel walks a 4 × 1 grid.  At a grid point it holds all rows of 512 columns of the layer's
input and of 2048 columns of the incoming gradient, contracts over the rows, and writes one block of
the weight's gradient.  Every block is
written once, so the array it leaves is the whole product.
-/

@[expose] public section

set_option maxRecDepth 16384

noncomputable section

open Idealize.ShloMosaic Idealize.ShloMosaic.TcCoe Idealize.SL.Sem
open Idealize.ShloMosaic.Pipeline (Dat)

namespace Cert.GwOutIdeal.Grad
open Cert.GwOutIdeal Cert.GwOutIdeal.Gen

variable (m : (ℓ : Loc nD τ sig) → Buf (Elt Ideal) ℓ)

/-- The reference's gradient, as a function of the layer's input `X` and of the incoming gradient `G`:
    the transpose of `Gᵀ X`. -/
abbrev grad (X : FVec Ideal S2048x2048 .f32) (G : FVec Ideal S2048x2048 .f32) : FVec Ideal S2048x2048 .bf16 :=
  truncf .bf16 (transpose Cert.GwOutRefIdeal.S2048x2048 [1, 0] (Host.dotGeneral Cert.GwOutRefIdeal.dot_S2048x2048_S2048x2048_S2048x2048_0_0_1_1_n_n none G X) Cert.GwOutRefIdeal.Gen.transposes_S2048x2048_S2048x2048_1_0) Cert.GwOutRefIdeal.Gen.bitsLt_bf16_f32

/-- Which block each window is at, for every grid point. -/
theorem idx : ∀ t : Fin cfg0.N, win0_0.index t = ![0, t.val / 1]
    ∧ win0_1.index t = ![0, t.val % 1]
    ∧ win0_2.index t = ![t.val / 1, t.val % 1] :=
  (by decide +kernel : ∀ t : Fin grid0.N, _)

/-- What a grid point stores at place `y` of its block is the gradient's element at the place of the
    array where `y` lies: both are the sum over the batch's rows of input times incoming gradient. -/
theorem point (c : Dev nD) (t : Fin cfg0.N) (y) :
    k0_pay1 (iblk m c 0 t) (iblk m c 1 t) y
      = grad (m ((c : Thread nD τ).loc main_arg0)) (m ((c : Thread nD τ).loc main_arg1))
          (((cfg0.win 2).blk t).view.emb y) := by
  pointwise [k0_pay1, grad]
  refine (Finset.sum_congr rfl fun k _ => mul_comm (G := EReal) _ _).trans ?_
  blk_point [iblk, V, idx t]

/-- The array the kernel leaves is the reference's gradient: the blocks cover it. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2, outsAt0]
  frame_out
  exact point m c t y

end Cert.GwOutIdeal.Grad

end
-- ==== Proof.GwPa.lean ====
module
public import proofs.«01_k».proof.Proof.Gen.GwPaIdeal.Value
public import proofs.«01_k».proof.Proof.Gen.GwPaRefIdeal.Run
public import Idealize.ShloMosaic.Lib.Pipeline.ValueKit
public import Idealize.ShloMosaic.Lib.Pointwise

/-!
# The gradient of the attention branch's projection

The kernel walks a 1 × 4 grid.  At a grid point it holds all rows of 1024 columns of the layer's
input and of 512 columns of the incoming gradient, contracts over the rows, and writes one block of
the weight's gradient, whose columns lie in four shards.  Every block is
written once, so the array it leaves is the whole product.
-/

@[expose] public section

set_option maxRecDepth 16384

noncomputable section

open Idealize.ShloMosaic Idealize.ShloMosaic.TcCoe Idealize.SL.Sem
open Idealize.ShloMosaic.Pipeline (Dat)

namespace Cert.GwPaIdeal.Grad
open Cert.GwPaIdeal Cert.GwPaIdeal.Gen

variable (m : (ℓ : Loc nD τ sig) → Buf (Elt Ideal) ℓ)

/-- The reference's gradient, as a function of the layer's input `X` and of the incoming gradient `G`:
    the transpose of `Gᵀ X`, its columns cut into four shards. -/
abbrev grad (X : FVec Ideal S2048x1024 .f32) (G : FVec Ideal S2048x2048 .f32) : FVec Ideal S4x1024x512 .bf16 :=
  transpose Cert.GwPaRefIdeal.S4x1024x512 [1, 0, 2] (shapeCast Cert.GwPaRefIdeal.S1024x4x512 (truncf .bf16 (transpose Cert.GwPaRefIdeal.S1024x2048 [1, 0] (Host.dotGeneral Cert.GwPaRefIdeal.dot_S2048x2048_S2048x1024_S2048x1024_0_0_1_1_n_n none G X) Cert.GwPaRefIdeal.Gen.transposes_S2048x1024_S1024x2048_1_0) Cert.GwPaRefIdeal.Gen.bitsLt_bf16_f32)
      Cert.GwPaRefIdeal.Gen.shapeCasts_S1024x2048_S1024x4x512) Cert.GwPaRefIdeal.Gen.transposes_S1024x4x512_S4x1024x512_1_0_2

/-- Which block each window is at, for every grid point. -/
theorem idx : ∀ t : Fin cfg0.N, win0_0.index t = ![0, t.val / 4]
    ∧ win0_1.index t = ![0, t.val % 4]
    ∧ win0_2.index t = ![t.val % 4, t.val / 4, 0] :=
  (by decide +kernel : ∀ t : Fin grid0.N, _)

/-- What a grid point stores at place `y` of its block is the gradient's element at the place of the
    array where `y` lies: both are the sum over the batch's rows of input times incoming gradient. -/
theorem point (c : Dev nD) (t : Fin cfg0.N) (y) :
    k0_pay1 (iblk m c 0 t) (iblk m c 1 t) y
      = grad (m ((c : Thread nD τ).loc main_arg0)) (m ((c : Thread nD τ).loc main_arg1))
          (((cfg0.win 2).blk t).view.emb y) := by
  pointwise [k0_pay1, grad]
  refine (Finset.sum_congr rfl fun k _ => mul_comm (G := EReal) _ _).trans ?_
  blk_point [iblk, V, idx t]

/-- The array the kernel leaves is the reference's gradient: the blocks cover it. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2, outsAt0]
  frame_out
  exact point m c t y

end Cert.GwPaIdeal.Grad

end
-- ==== Proof.GwPb.lean ====
module
public import proofs.«01_k».proof.Proof.Gen.GwPbIdeal.Value
public import proofs.«01_k».proof.Proof.Gen.GwPbRefIdeal.Run
public import Idealize.ShloMosaic.Lib.Pipeline.ValueKit
public import Idealize.ShloMosaic.Lib.Pointwise

/-!
# The gradient of the gated branch's projection

The kernel walks a 1 × 4 grid.  At a grid point it holds all rows of 1024 columns of the layer's
input and of 512 columns of the incoming gradient, contracts over the rows, and writes one block of
the weight's gradient, whose columns lie in four shards.  Every block is
written once, so the array it leaves is the whole product.
-/

@[expose] public section

set_option maxRecDepth 16384

noncomputable section

open Idealize.ShloMosaic Idealize.ShloMosaic.TcCoe Idealize.SL.Sem
open Idealize.ShloMosaic.Pipeline (Dat)

namespace Cert.GwPbIdeal.Grad
open Cert.GwPbIdeal Cert.GwPbIdeal.Gen

variable (m : (ℓ : Loc nD τ sig) → Buf (Elt Ideal) ℓ)

/-- The reference's gradient, as a function of the layer's input `X` and of the incoming gradient `G`:
    the transpose of `Gᵀ X`, its columns cut into four shards. -/
abbrev grad (X : FVec Ideal S2048x1024 .f32) (G : FVec Ideal S2048x2048 .f32) : FVec Ideal S4x1024x512 .bf16 :=
  transpose Cert.GwPbRefIdeal.S4x1024x512 [1, 0, 2] (shapeCast Cert.GwPbRefIdeal.S1024x4x512 (truncf .bf16 (transpose Cert.GwPbRefIdeal.S1024x2048 [1, 0] (Host.dotGeneral Cert.GwPbRefIdeal.dot_S2048x2048_S2048x1024_S2048x1024_0_0_1_1_n_n none G X) Cert.GwPbRefIdeal.Gen.transposes_S2048x1024_S1024x2048_1_0) Cert.GwPbRefIdeal.Gen.bitsLt_bf16_f32)
      Cert.GwPbRefIdeal.Gen.shapeCasts_S1024x2048_S1024x4x512) Cert.GwPbRefIdeal.Gen.transposes_S1024x4x512_S4x1024x512_1_0_2

/-- Which block each window is at, for every grid point. -/
theorem idx : ∀ t : Fin cfg0.N, win0_0.index t = ![0, t.val / 4]
    ∧ win0_1.index t = ![0, t.val % 4]
    ∧ win0_2.index t = ![t.val % 4, t.val / 4, 0] :=
  (by decide +kernel : ∀ t : Fin grid0.N, _)

/-- What a grid point stores at place `y` of its block is the gradient's element at the place of the
    array where `y` lies: both are the sum over the batch's rows of input times incoming gradient. -/
theorem point (c : Dev nD) (t : Fin cfg0.N) (y) :
    k0_pay1 (iblk m c 0 t) (iblk m c 1 t) y
      = grad (m ((c : Thread nD τ).loc main_arg0)) (m ((c : Thread nD τ).loc main_arg1))
          (((cfg0.win 2).blk t).view.emb y) := by
  pointwise [k0_pay1, grad]
  refine (Finset.sum_congr rfl fun k _ => mul_comm (G := EReal) _ _).trans ?_
  blk_point [iblk, V, idx t]

/-- The array the kernel leaves is the reference's gradient: the blocks cover it. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2, outsAt0]
  frame_out
  exact point m c t y

end Cert.GwPbIdeal.Grad

end
-- ==== Proof.GwIn.lean ====
module
public import proofs.«01_k».proof.Proof.Gen.GwInIdeal.Value
public import proofs.«01_k».proof.Proof.Gen.GwInRefIdeal.Run
public import Idealize.ShloMosaic.Lib.Pipeline.ValueKit
public import Idealize.ShloMosaic.Lib.Pointwise

/-!
# The gradient of the input projection

The kernel walks a 4 × 4 grid.  At a grid point it holds all rows of 512 columns of the layer's
input and of 2304 columns of the incoming gradient, contracts over the rows, and writes one block of
the weight's gradient, whose columns lie in four shards.  Every block is
written once, so the array it leaves is the whole product.
-/

@[expose] public section

set_option maxRecDepth 16384

noncomputable section

open Idealize.ShloMosaic Idealize.ShloMosaic.TcCoe Idealize.SL.Sem
open Idealize.ShloMosaic.Pipeline (Dat)

namespace Cert.GwInIdeal.Grad
open Cert.GwInIdeal Cert.GwInIdeal.Gen

variable (m : (ℓ : Loc nD τ sig) → Buf (Elt Ideal) ℓ)

/-- The reference's gradient, as a function of the layer's input `X` and of the incoming gradient `G`:
    the transpose of `Gᵀ X`, its columns cut into four shards. -/
abbrev grad (X : FVec Ideal S2048x2048 .f32) (G : FVec Ideal S2048x9216 .f32) : FVec Ideal S4x2048x2304 .bf16 :=
  transpose Cert.GwInRefIdeal.S4x2048x2304 [1, 0, 2] (shapeCast Cert.GwInRefIdeal.S2048x4x2304 (truncf .bf16 (transpose Cert.GwInRefIdeal.S2048x9216 [1, 0] (Host.dotGeneral Cert.GwInRefIdeal.dot_S2048x9216_S2048x2048_S9216x2048_0_0_1_1_n_n none G X) Cert.GwInRefIdeal.Gen.transposes_S9216x2048_S2048x9216_1_0) Cert.GwInRefIdeal.Gen.bitsLt_bf16_f32)
      Cert.GwInRefIdeal.Gen.shapeCasts_S2048x9216_S2048x4x2304) Cert.GwInRefIdeal.Gen.transposes_S2048x4x2304_S4x2048x2304_1_0_2

/-- Which block each window is at, for every grid point. -/
theorem idx : ∀ t : Fin cfg0.N, win0_0.index t = ![0, t.val / 4]
    ∧ win0_1.index t = ![0, t.val % 4]
    ∧ win0_2.index t = ![t.val % 4, t.val / 4, 0] :=
  (by decide +kernel : ∀ t : Fin grid0.N, _)

/-- What a grid point stores at place `y` of its block is the gradient's element at the place of the
    array where `y` lies: both are the sum over the batch's rows of input times incoming gradient. -/
theorem point (c : Dev nD) (t : Fin cfg0.N) (y) :
    k0_pay1 (iblk m c 0 t) (iblk m c 1 t) y
      = grad (m ((c : Thread nD τ).loc main_arg0)) (m ((c : Thread nD τ).loc main_arg1))
          (((cfg0.win 2).blk t).view.emb y) := by
  pointwise [k0_pay1, grad]
  refine (Finset.sum_congr rfl fun k _ => mul_comm (G := EReal) _ _).trans ?_
  blk_point [iblk, V, idx t]

/-- The array the kernel leaves is the reference's gradient: the blocks cover it. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t _ y => ?_
  blk_simp
  rw [after0_2, outsAt0]
  frame_out
  exact point m c t y

end Cert.GwInIdeal.Grad

end
-- ==== Proof.Branch.lean ====
module
public import proofs.«01_k».proof.Proof.Gen.BranchIdeal.Value
public import proofs.«01_k».proof.Proof.Gen.BranchRefIdeal.Run
public import proofs.«01_k».proof.Proof.Sums
public import Idealize.ShloMosaic.Lib.Pipeline.ValueKit
public import Idealize.ShloMosaic.Lib.Pointwise

/-!
# The two branches' projections and their merging

At a grid point the kernel holds both branches' rows, one shard of columns of both projections and the
same columns of both gates' inputs; it stores the two products and their sum, each times its gate.  The
reference does the same on whole arrays.
-/

@[expose] public section

set_option maxRecDepth 16384

noncomputable section

open Idealize.ShloMosaic Idealize.ShloMosaic.TcCoe Idealize.SL.Sem
open Idealize.ShloMosaic.Pipeline (Dat)

namespace Cert.BranchIdeal.Grad
open Cert.BranchIdeal Cert.BranchIdeal.Gen

variable (m : (ℓ : Loc nD τ sig) → Buf (Elt Ideal) ℓ)

/-- A branch's projected output: `X W`. -/
abbrev prod (X : FVec Ideal S2048x1024 .f32) (W : FVec Ideal S1024x2048 .f32) : FVec Ideal S2048x2048 .f32 :=
  Host.dotGeneral Cert.BranchRefIdeal.dot_S2048x1024_S1024x2048_S2048x2048_1_0_0_1_n_n none X W

/-- The same, rounded. -/
abbrev proj (X : FVec Ideal S2048x1024 .f32) (W : FVec Ideal S1024x2048 .f32) :
    FVec Ideal S2048x2048 .bf16 :=
  truncf .bf16 (prod X W) Cert.BranchRefIdeal.Gen.bitsLt_bf16_f32

/-- The array of ones. -/
abbrev ones : FVec Ideal S2048x2048 .f32 :=
  broadcastInDim Cert.BranchRefIdeal.S2048x2048 ![] Cert.BranchRefIdeal.Gen.bcast_S_S2048x2048 (constant Cert.BranchRefIdeal.S_ .f32 0x3F800000#32)

/-- The logistic function of an array. -/
abbrev sigm (Z : FVec Ideal S2048x2048 .f32) : FVec Ideal S2048x2048 .f32 :=
  Host.divf ones (addf ones (Host.exp (Host.negf Z)))

/-- The attention branch's gate input: columns 5120 to 7168 of the projected input. -/
abbrev gateA (P : FVec Ideal S2048x9216 .f32) : FVec Ideal S2048x2048 .f32 :=
  extractStridedSlice Cert.BranchRefIdeal.S2048x2048 ![0, 5120] P Cert.BranchRefIdeal.Gen.slices_S2048x9216_S2048x2048_0_5120

/-- The gated branch's gate input: columns 7168 to 9216 of the projected input. -/
abbrev gateB (P : FVec Ideal S2048x9216 .f32) : FVec Ideal S2048x2048 .f32 :=
  extractStridedSlice Cert.BranchRefIdeal.S2048x2048 ![0, 7168] P Cert.BranchRefIdeal.Gen.slices_S2048x9216_S2048x2048_0_7168

/-- The two branches' outputs, each times its gate, added and rounded. -/
abbrev merged (X Y : FVec Ideal S2048x1024 .f32) (A B : FVec Ideal S1024x2048 .f32)
    (P : FVec Ideal S2048x9216 .f32) : FVec Ideal S2048x2048 .bf16 :=
  truncf .bf16 (addf (mulf (sigm (gateA P)) (prod X A)) (mulf (sigm (gateB P)) (prod Y B)))
    Cert.BranchRefIdeal.Gen.bitsLt_bf16_f32

/-- Which block each window is at, for every grid point. -/
theorem idx : ∀ t : Fin cfg0.N, win0_0.index t = ![0, 0] ∧ win0_1.index t = ![0, 0]
    ∧ win0_2.index t = ![t.val, 0, 0] ∧ win0_3.index t = ![t.val, 0, 0]
    ∧ win0_4.index t = ![0, 10 + t.val] ∧ win0_5.index t = ![0, 14 + t.val]
    ∧ win0_6.index t = ![0, t.val] ∧ win0_7.index t = ![0, t.val] ∧ win0_8.index t = ![0, t.val] :=
  (by decide +kernel : ∀ t : Fin grid0.N, _)

set_option maxHeartbeats 1600000 in
/-- What a grid point stores of the attention branch's projected output at place `y` of its block is the reference's at the place of the
    array where `y` lies. -/
theorem point6 (c : Dev nD) (t : Fin cfg0.N) (y) :
    k0_pay4 (iblk m c 0 t) (iblk m c 2 t) y
      = proj (m ((c : Thread nD τ).loc main_arg0)) (m ((c : Thread nD τ).loc main_arg2))
          (((cfg0.win 6).blk t).view.emb y) := by
  pointwise [k0_pay1, k0_pay2, k0_pay3, k0_pay4, k0_pay5, k0_pay6, k0_pay7, proj, merged, prod, sigm, ones, gateA, gateB]
  blk_point [iblk, V, idx t]

/-- The array of the attention branch's projected output the kernel leaves is the reference array: the blocks cover it. -/
theorem final6 (c : Dev nD) : (dats m 0 c).arrAt 6 (cfgs 0).N
    = proj (m ((c : Thread nD τ).loc main_arg0)) (m ((c : Thread nD τ).loc main_arg2)) := by
  refine (dats m 0 c).arrAt_eq_of_covers 6 _ (by decide +kernel) fun t _ y => ?_
  blk_simp
  rw [after0_6]
  frame_out
  exact point6 m c t y

set_option maxHeartbeats 1600000 in
/-- What a grid point stores of the gated branch's projected output at place `y` of its block is the reference's at the place of the
    array where `y` lies. -/
theorem point7 (c : Dev nD) (t : Fin cfg0.N) (y) :
    k0_pay5 (iblk m c 1 t) (iblk m c 3 t) y
      = proj (m ((c : Thread nD τ).loc main_arg1)) (m ((c : Thread nD τ).loc main_arg3))
          (((cfg0.win 7).blk t).view.emb y) := by
  pointwise [k0_pay1, k0_pay2, k0_pay3, k0_pay4, k0_pay5, k0_pay6, k0_pay7, proj, merged, prod, sigm, ones, gateA, gateB]
  blk_point [iblk, V, idx t]

/-- The array of the gated branch's projected output the kernel leaves is the reference array: the blocks cover it. -/
theorem final7 (c : Dev nD) : (dats m 0 c).arrAt 7 (cfgs 0).N
    = proj (m ((c : Thread nD τ).loc main_arg1)) (m ((c : Thread nD τ).loc main_arg3)) := by
  refine (dats m 0 c).arrAt_eq_of_covers 7 _ (by decide +kernel) fun t _ y => ?_
  blk_simp
  rw [after0_7]
  frame_out
  exact point7 m c t y

set_option maxHeartbeats 1600000 in
/-- What a grid point stores of the merged branches at place `y` of its block is the reference's at the place of the
    array where `y` lies. -/
theorem point8 (c : Dev nD) (t : Fin cfg0.N) (y) :
    k0_pay1 (k0_pay3 (iblk m c 1 t) (iblk m c 3 t))
        (k0_pay6 (iblk m c 0 t) (iblk m c 2 t) (iblk m c 4 t)) (k0_pay7 (iblk m c 5 t)) y
      = merged (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 8).blk t).view.emb y) := by
  pointwise [k0_pay1, k0_pay2, k0_pay3, k0_pay4, k0_pay5, k0_pay6, k0_pay7, proj, merged, prod, sigm, ones, gateA, gateB]
  simp only [Cert.Sums.zero_sub']
  blk_point [iblk, V, idx t]

/-- The array of the merged branches the kernel leaves is the reference array: the blocks cover it. -/
theorem final8 (c : Dev nD) : (dats m 0 c).arrAt 8 (cfgs 0).N
    = merged (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  frame_out
  exact point8 m c t y

end Cert.BranchIdeal.Grad

end
-- ==== Proof.OutLn.lean ====
module
public import proofs.«01_k».proof.Proof.Gen.OutLnIdeal.Value
public import proofs.«01_k».proof.Proof.Gen.OutLnRefIdeal.Run
public import Idealize.ShloMosaic.Lib.Pipeline.ValueKit
public import Idealize.ShloMosaic.Lib.Pointwise

/-!
# The output projection and the first layer norm

At a grid point the kernel holds a tile of rows of the merged branches and of the residual and the whole
output projection; it stores the tile's normalised rows, their reciprocal deviations and the layer norm's
output.  The reference does the same on whole arrays.
-/

@[expose] public section

set_option maxRecDepth 16384

noncomputable section

open Idealize.ShloMosaic Idealize.ShloMosaic.TcCoe Idealize.SL.Sem
open Idealize.ShloMosaic.Pipeline (Dat)

namespace Cert.OutLnIdeal.Grad
open Cert.OutLnIdeal Cert.OutLnIdeal.Gen

variable (m : (ℓ : Loc nD τ sig) → Buf (Elt Ideal) ℓ)

/-- A column holding one constant. -/
abbrev col (w : BitVec 32) : FVec Ideal Cert.OutLnRefIdeal.S2048x1 .f32 :=
  broadcastInDim Cert.OutLnRefIdeal.S2048x1 ![] Cert.OutLnRefIdeal.Gen.bcast_S_S2048x1 (constant Cert.OutLnRefIdeal.S_ .f32 w)

/-- A column spread over the width. -/
abbrev spread (X : FVec Ideal Cert.OutLnRefIdeal.S2048x1 .f32) : FVec Ideal S2048x2048 .f32 :=
  broadcastInDim Cert.OutLnRefIdeal.S2048x2048 ![0, 1] Cert.OutLnRefIdeal.Gen.bcast_S2048x1_S2048x2048_0_1 X

/-- The mean of each row. -/
abbrev mean (X : FVec Ideal S2048x2048 .f32) : FVec Ideal Cert.OutLnRefIdeal.S2048x1 .f32 :=
  Host.divf (broadcastInDim Cert.OutLnRefIdeal.S2048x1 ![0] Cert.OutLnRefIdeal.Gen.bcast_S2048_S2048x1_0
    (Host.reduceAdd X (constant Cert.OutLnRefIdeal.S_ .f32 0x00000000#32) Cert.OutLnRefIdeal.Gen.reducesTo_S2048x2048_S2048_d1 Cert.OutLnRefIdeal.Gen.h_S_))
    (col 0x45000000#32)

/-- The layer norm's input: the residual times its weight, plus the output projection `M W`. -/
abbrev pre (M W X : FVec Ideal S2048x2048 .f32) : FVec Ideal S2048x2048 .f32 :=
  addf (mulf (broadcastInDim Cert.OutLnRefIdeal.S2048x2048 ![] Cert.OutLnRefIdeal.Gen.bcast_S_S2048x2048 (constant Cert.OutLnRefIdeal.S_ .f32 0x3F9837F0#32)) X)
    (Host.dotGeneral Cert.OutLnRefIdeal.dot_S2048x2048_S2048x2048_S2048x2048_1_0_0_1_n_n none M W)

/-- Rows less their mean. -/
abbrev cen (X : FVec Ideal S2048x2048 .f32) : FVec Ideal S2048x2048 .f32 :=
  subf X (spread (mean X))

/-- The reciprocal deviation of each row. -/
abbrev rstd (X : FVec Ideal S2048x2048 .f32) : FVec Ideal Cert.OutLnRefIdeal.S2048x1 .f32 :=
  Host.rsqrt (addf (mean (mulf (cen X) (cen X))) (col 0x3727C5AC#32))

/-- The normalised rows. -/
abbrev xhat (M W X : FVec Ideal S2048x2048 .f32) : FVec Ideal S2048x2048 .f32 :=
  mulf (cen (pre M W X)) (spread (rstd (pre M W X)))

/-- The reciprocal deviations, 128 times beside each other. -/
abbrev dev (M W X : FVec Ideal S2048x2048 .f32) : FVec Ideal S2048x128 .f32 :=
  broadcastInDim Cert.OutLnRefIdeal.S2048x128 ![0, 1] Cert.OutLnRefIdeal.Gen.bcast_S2048x1_S2048x128_0_1 (rstd (pre M W X))

/-- The layer norm's output, rounded. -/
abbrev norm (M W X : FVec Ideal S2048x2048 .f32) (G B : FVec Ideal S1x2048 .f32) : FVec Ideal S2048x2048 .bf16 :=
  truncf .bf16 (addf (mulf (xhat M W X)
    (broadcastInDim Cert.OutLnRefIdeal.S2048x2048 ![0, 1] Cert.OutLnRefIdeal.Gen.bcast_S1x2048_S2048x2048_0_1 G))
    (broadcastInDim Cert.OutLnRefIdeal.S2048x2048 ![0, 1] Cert.OutLnRefIdeal.Gen.bcast_S1x2048_S2048x2048_0_1 B)) Cert.OutLnRefIdeal.Gen.bitsLt_bf16_f32

/-- Which block each window is at, for every grid point. -/
theorem idx : ∀ t : Fin cfg0.N, win0_0.index t = ![t.val, 0] ∧ win0_1.index t = ![0, 0]
    ∧ win0_2.index t = ![t.val, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

set_option maxHeartbeats 1600000 in
/-- What a grid point stores of the normalised rows at place `y` of its block is the reference's at the place of the
    array where `y` lies: it holds whole rows, and so their sums. -/
theorem point5 (c : Dev nD) (t : Fin cfg0.N) (y) :
    k0_pay3 (iblk m c 2 t) (iblk m c 0 t) (iblk m c 1 t) y
      = xhat (m ((c : Thread nD τ).loc main_arg0)) (m ((c : Thread nD τ).loc main_arg1)) (m ((c : Thread nD τ).loc main_arg2))
          (((cfg0.win 5).blk t).view.emb y) := by
  pointwise [k0_pay1, k0_pay2, k0_pay3, k0_pay4, k0_pay5, xhat, dev, norm, rstd, cen, pre, mean, spread, col]
  blk_point [iblk, V, idx t]

/-- The array of the normalised rows the kernel leaves is the reference array: the blocks cover it. -/
theorem final5 (c : Dev nD) : (dats m 0 c).arrAt 5 (cfgs 0).N
    = xhat (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

set_option maxHeartbeats 1600000 in
/-- What a grid point stores of the reciprocal deviations at place `y` of its block is the reference's at the place of the
    array where `y` lies: it holds whole rows, and so their sums. -/
theorem point6 (c : Dev nD) (t : Fin cfg0.N) (y) :
    k0_pay4 (iblk m c 2 t) (iblk m c 0 t) (iblk m c 1 t) y
      = dev (m ((c : Thread nD τ).loc main_arg0)) (m ((c : Thread nD τ).loc main_arg1)) (m ((c : Thread nD τ).loc main_arg2))
          (((cfg0.win 6).blk t).view.emb y) := by
  pointwise [k0_pay1, k0_pay2, k0_pay3, k0_pay4, k0_pay5, xhat, dev, norm, rstd, cen, pre, mean, spread, col]
  blk_point [iblk, V, idx t]

/-- The array of the reciprocal deviations the kernel leaves is the reference array: the blocks cover it. -/
theorem final6 (c : Dev nD) : (dats m 0 c).arrAt 6 (cfgs 0).N
    = dev (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  frame_out
  exact point6 m c t y

set_option maxHeartbeats 1600000 in
/-- What a grid point stores of the layer norm's output at place `y` of its block is the reference's at the place of the
    array where `y` lies: it holds whole rows, and so their sums. -/
theorem point7 (c : Dev nD) (t : Fin cfg0.N) (y) :
    k0_pay5 (iblk m c 2 t) (iblk m c 0 t) (iblk m c 1 t) (iblk m c 3 t) (iblk m c 4 t) y
      = norm (m ((c : Thread nD τ).loc main_arg0)) (m ((c : Thread nD τ).loc main_arg1)) (m ((c : Thread nD τ).loc main_arg2)) (m ((c : Thread nD τ).loc main_arg3)) (m ((c : Thread nD τ).loc main_arg4))
          (((cfg0.win 7).blk t).view.emb y) := by
  pointwise [k0_pay1, k0_pay2, k0_pay3, k0_pay4, k0_pay5, xhat, dev, norm, rstd, cen, pre, mean, spread, col]
  blk_point [iblk, V, idx t]

/-- The array of the layer norm's output the kernel leaves is the reference array: the blocks cover it. -/
theorem final7 (c : Dev nD) : (dats m 0 c).arrAt 7 (cfgs 0).N
    = norm (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  exact point7 m c t y

end Cert.OutLnIdeal.Grad

end
-- ==== Proof.Ff.lean ====
module
public import proofs.«01_k».proof.Proof.Gen.FfIdeal.Frame
public import proofs.«01_k».proof.Proof.Gen.FfRefIdeal.Run
public import Idealize.ShloMosaic.Lib.Pipeline.ValueKit
public import Idealize.ShloMosaic.Lib.Pointwise
public import Idealize.ShloMosaic.Lib.Claim

/-!
# The first feed-forward layer

Two calls share the result arrays: the first writes the left half of the columns, the second is handed both
arrays and writes the right half over them.  A grid point of either holds all rows and one tile of columns of
the weight; it stores the rectified product and its square.  The reference computes both arrays whole.
-/

@[expose] public section

set_option maxRecDepth 16384

noncomputable section

open Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Tactic Idealize.ShloMosaic.Rounds
open Idealize.ShloMosaic.Pipeline (Dat)

namespace Cert.FfIdeal.Grad
open Cert.FfIdeal Cert.FfIdeal.Gen

local notation "𝕄" => MT nD τ sig Unit (Elt Ideal) ℕ (UR sig nD τ) ℕ

/-- The rectified product with its bias. -/
abbrev rect (H : FVec Ideal S2048x2048 .f32) (W : FVec Ideal S2048x8192 .f32) (B : FVec Ideal S1x8192 .f32) :
    FVec Ideal S2048x8192 .f32 :=
  maximumf (addf (Host.dotGeneral Cert.FfRefIdeal.dot_S2048x2048_S2048x8192_S2048x8192_1_0_0_1_n_n none H W)
    (broadcastInDim Cert.FfRefIdeal.S2048x8192 ![0, 1] Cert.FfRefIdeal.Gen.bcast_S1x8192_S2048x8192_0_1 B))
    (broadcastInDim Cert.FfRefIdeal.S2048x8192 ![] Cert.FfRefIdeal.Gen.bcast_S_S2048x8192 (constant Cert.FfRefIdeal.S_ .f32 0x00000000#32))

/-- Its square, rounded. -/
abbrev act (H : FVec Ideal S2048x2048 .f32) (W : FVec Ideal S2048x8192 .f32) (B : FVec Ideal S1x8192 .f32) :
    FVec Ideal S2048x8192 .bf16 :=
  truncf .bf16 (mulf (rect H W B) (rect H W B)) Cert.FfRefIdeal.Gen.bitsLt_bf16_f32

/-- The rectified product, rounded. -/
abbrev rectB (H : FVec Ideal S2048x2048 .f32) (W : FVec Ideal S2048x8192 .f32) (B : FVec Ideal S1x8192 .f32) :
    FVec Ideal S2048x8192 .bf16 :=
  truncf .bf16 (rect H W B) Cert.FfRefIdeal.Gen.bitsLt_bf16_f32

/-- The weight as the kernel holds it: four column shards. -/
abbrev shards (W : FVec Ideal S2048x8192 .f32) : FVec Ideal S4x2048x2048 .bf16 :=
  transpose S4x2048x2048 [1, 0, 2] (shapeCast S2048x4x2048 (truncf .bf16 W bitsLt_bf16_f32) shapeCasts_S2048x8192_S2048x4x2048)
    transposes_S2048x4x2048_S4x2048x2048_1_0_2

/-- Which block each window of the first call is at. -/
theorem idx0 : ∀ t : Fin cfg0.N, win0_0.index t = ![0, 0] ∧ win0_1.index t = ![t.val / 4, 0, t.val % 4]
    ∧ win0_2.index t = ![0, t.val] ∧ win0_3.index t = ![0, t.val] ∧ win0_4.index t = ![0, t.val] :=
  (by decide +kernel : ∀ t : Fin grid0.N, _)

/-- Which block each window of the second call is at. -/
theorem idx1 : ∀ t : Fin cfg1.N, win1_0.index t = ![0, 0] ∧ win1_1.index t = ![2 + t.val / 4, 0, t.val % 4]
    ∧ win1_2.index t = ![0, 8 + t.val] ∧ win1_3.index t = ![0, 8 + t.val] ∧ win1_4.index t = ![0, 8 + t.val] :=
  (by decide +kernel : ∀ t : Fin grid1.N, _)

/-- The memory of one device's buffers between two host lines. -/
abbrev Mem := (c : Dev nD) → (b : Ref sig .tc) → Buf (Elt Ideal) ((c : Thread nD τ).loc b)

variable (V : Mem)

/-- Call 0's block of argument 0 is that array at the block's places. -/
theorem block0_0 (H : FVec Ideal S2048x2048 .f32) (c : Dev nD) (t : Fin cfg0.N) (h : V c main_v0 = truncf .bf16 H bitsLt_bf16_f32) :
    (iblk0 V c 0 t : FVec Ideal S2048x2048 .bf16) = fun y => (truncf .bf16 H bitsLt_bf16_f32) ((win0_0.blk t).view.emb y) := by
  funext y
  blk_simp [iblk0]
  rw [h]

/-- Call 0's block of argument 1 is that array at the block's places. -/
theorem block0_1 (W : FVec Ideal S2048x8192 .f32) (c : Dev nD) (t : Fin cfg0.N) (h : V c main_v3 = shards W) :
    (iblk0 V c 1 t : FVec Ideal S1x2048x512 .bf16) = fun y => (shards W) ((win0_1.blk t).view.emb y) := by
  funext y
  blk_simp [iblk0]
  rw [h]

/-- Call 0's block of argument 2 is that array at the block's places. -/
theorem block0_2 (B : FVec Ideal S1x8192 .f32) (c : Dev nD) (t : Fin cfg0.N) (h : V c main_arg2 = B) :
    (iblk0 V c 2 t : FVec Ideal S1x512 .f32) = fun y => (B) ((win0_2.blk t).view.emb y) := by
  funext y
  blk_simp [iblk0]
  rw [h]

set_option maxHeartbeats 1600000 in
/-- What a grid point of call 0 stores of the squares is the reference's at the same place. -/
theorem point0_3 (H : FVec Ideal S2048x2048 .f32) (W : FVec Ideal S2048x8192 .f32) (B : FVec Ideal S1x8192 .f32)
    (c : Dev nD) (t : Fin cfg0.N) (h0 : V c main_v0 = truncf .bf16 H bitsLt_bf16_f32) (h1 : V c main_v3 = shards W)
    (h2 : V c main_arg2 = B) (y) :
    k0_pay3 (iblk0 V c 0 t) (iblk0 V c 1 t) (iblk0 V c 2 t) y
      = act H W B (((cfg0.win 3).blk t).view.emb y) := by
  rw [block0_0 V H c t h0, block0_1 V W c t h1, block0_2 V B c t h2]
  pointwise [k0_pay1, k0_pay3, act, rect]
  blk_point [idx0 t]

set_option maxHeartbeats 1600000 in
/-- What a grid point of call 0 stores of the rectified products is the reference's at the same place. -/
theorem point0_4 (H : FVec Ideal S2048x2048 .f32) (W : FVec Ideal S2048x8192 .f32) (B : FVec Ideal S1x8192 .f32)
    (c : Dev nD) (t : Fin cfg0.N) (h0 : V c main_v0 = truncf .bf16 H bitsLt_bf16_f32) (h1 : V c main_v3 = shards W)
    (h2 : V c main_arg2 = B) (y) :
    k0_pay2 (iblk0 V c 0 t) (iblk0 V c 1 t) (iblk0 V c 2 t) y
      = rectB H W B (((cfg0.win 4).blk t).view.emb y) := by
  rw [block0_0 V H c t h0, block0_1 V W c t h1, block0_2 V B c t h2]
  pointwise [k0_pay1, k0_pay2, rectB, rect]
  blk_point [idx0 t]

/-- Call 1's block of argument 0 is that array at the block's places. -/
theorem block1_0 (H : FVec Ideal S2048x2048 .f32) (c : Dev nD) (t : Fin cfg1.N) (h : V c main_v0 = truncf .bf16 H bitsLt_bf16_f32) :
    (iblk1 V c 0 t : FVec Ideal S2048x2048 .bf16) = fun y => (truncf .bf16 H bitsLt_bf16_f32) ((win1_0.blk t).view.emb y) := by
  funext y
  blk_simp [iblk1]
  rw [h]

/-- Call 1's block of argument 1 is that array at the block's places. -/
theorem block1_1 (W : FVec Ideal S2048x8192 .f32) (c : Dev nD) (t : Fin cfg1.N) (h : V c main_v3 = shards W) :
    (iblk1 V c 1 t : FVec Ideal S1x2048x512 .bf16) = fun y => (shards W) ((win1_1.blk t).view.emb y) := by
  funext y
  blk_simp [iblk1]
  rw [h]

/-- Call 1's block of argument 2 is that array at the block's places. -/
theorem block1_2 (B : FVec Ideal S1x8192 .f32) (c : Dev nD) (t : Fin cfg1.N) (h : V c main_arg2 = B) :
    (iblk1 V c 2 t : FVec Ideal S1x512 .f32) = fun y => (B) ((win1_2.blk t).view.emb y) := by
  funext y
  blk_simp [iblk1]
  rw [h]

set_option maxHeartbeats 1600000 in
/-- What a grid point of call 1 stores of the squares is the reference's at the same place. -/
theorem point1_3 (H : FVec Ideal S2048x2048 .f32) (W : FVec Ideal S2048x8192 .f32) (B : FVec Ideal S1x8192 .f32)
    (c : Dev nD) (t : Fin cfg1.N) (h0 : V c main_v0 = truncf .bf16 H bitsLt_bf16_f32) (h1 : V c main_v3 = shards W)
    (h2 : V c main_arg2 = B) (y) :
    k1_pay3 (iblk1 V c 0 t) (iblk1 V c 1 t) (iblk1 V c 2 t) y
      = act H W B (((cfg1.win 3).blk t).view.emb y) := by
  rw [block1_0 V H c t h0, block1_1 V W c t h1, block1_2 V B c t h2]
  pointwise [k1_pay1, k1_pay3, act, rect]
  blk_point [idx1 t]

set_option maxHeartbeats 1600000 in
/-- What a grid point of call 1 stores of the rectified products is the reference's at the same place. -/
theorem point1_4 (H : FVec Ideal S2048x2048 .f32) (W : FVec Ideal S2048x8192 .f32) (B : FVec Ideal S1x8192 .f32)
    (c : Dev nD) (t : Fin cfg1.N) (h0 : V c main_v0 = truncf .bf16 H bitsLt_bf16_f32) (h1 : V c main_v3 = shards W)
    (h2 : V c main_arg2 = B) (y) :
    k1_pay2 (iblk1 V c 0 t) (iblk1 V c 1 t) (iblk1 V c 2 t) y
      = rectB H W B (((cfg1.win 4).blk t).view.emb y) := by
  rw [block1_0 V H c t h0, block1_1 V W c t h1, block1_2 V B c t h2]
  pointwise [k1_pay1, k1_pay2, rectB, rect]
  blk_point [idx1 t]

/-- After the first call the left half of the columns of the array of squares is the reference's. -/
theorem left3 (H : FVec Ideal S2048x2048 .f32) (W : FVec Ideal S2048x8192 .f32) (B : FVec Ideal S1x8192 .f32)
    (c : Dev nD) (h0 : V c main_v0 = truncf .bf16 H bitsLt_bf16_f32) (h1 : V c main_v3 = shards W)
    (h2 : V c main_arg2 = B) :
    (dat0 V c).arrAt 3 cfg0.N = fun i => if (i 1 : ℕ) / 512 < 8 then act H W B i else (dat0 V c).A 3 i := by
  refine (dat0 V c).arrAt_eq_of_coversWhere 3 _ (fun β => β (1 : Fin _) < 8) (by decide +kernel) (fun t _ y => ?_)
    (fun j => by blk_simp [Pipeline.Window.cell_apply])
  blk_simp
  rw [after0_3]
  frame_out
  exact point0_3 V H W B c t h0 h1 h2 y

/-- After the second call, handed the first's array, all of it is the reference's. -/
theorem whole3 (H : FVec Ideal S2048x2048 .f32) (W : FVec Ideal S2048x8192 .f32) (B : FVec Ideal S1x8192 .f32)
    (c : Dev nD) (h0 : V c main_v0 = truncf .bf16 H bitsLt_bf16_f32) (h1 : V c main_v3 = shards W)
    (h2 : V c main_arg2 = B)
    (hA : ∀ i : S2048x8192.Idx, (i 1 : ℕ) / 512 < 8 → V c main_v5_0 i = act H W B i) :
    (dat1 V c).arrAt 3 cfg1.N = act H W B := by
  refine (dat1 V c).arrAt_eq_of_coversWhere_of_agree 3 _ (fun β => 8 ≤ β (1 : Fin _)) (by decide +kernel)
    (fun t _ y => ?_) (fun j hj => ?_)
  · blk_simp
    rw [after1_3, outsAt1]
    frame_out
    exact point1_3 V H W B c t h0 h1 h2 y
  · rw [A_eq1]
    refine hA _ ?_
    blk_simp [Pipeline.Window.cell_apply] at hj ⊢
    omega

/-- After the first call the left half of the columns of the array of rectified products is the reference's. -/
theorem left4 (H : FVec Ideal S2048x2048 .f32) (W : FVec Ideal S2048x8192 .f32) (B : FVec Ideal S1x8192 .f32)
    (c : Dev nD) (h0 : V c main_v0 = truncf .bf16 H bitsLt_bf16_f32) (h1 : V c main_v3 = shards W)
    (h2 : V c main_arg2 = B) :
    (dat0 V c).arrAt 4 cfg0.N = fun i => if (i 1 : ℕ) / 512 < 8 then rectB H W B i else (dat0 V c).A 4 i := by
  refine (dat0 V c).arrAt_eq_of_coversWhere 4 _ (fun β => β (1 : Fin _) < 8) (by decide +kernel) (fun t _ y => ?_)
    (fun j => by blk_simp [Pipeline.Window.cell_apply])
  blk_simp
  rw [after0_4]
  frame_out
  exact point0_4 V H W B c t h0 h1 h2 y

/-- After the second call, handed the first's array, all of it is the reference's. -/
theorem whole4 (H : FVec Ideal S2048x2048 .f32) (W : FVec Ideal S2048x8192 .f32) (B : FVec Ideal S1x8192 .f32)
    (c : Dev nD) (h0 : V c main_v0 = truncf .bf16 H bitsLt_bf16_f32) (h1 : V c main_v3 = shards W)
    (h2 : V c main_arg2 = B)
    (hA : ∀ i : S2048x8192.Idx, (i 1 : ℕ) / 512 < 8 → V c main_v5_1 i = rectB H W B i) :
    (dat1 V c).arrAt 4 cfg1.N = rectB H W B := by
  refine (dat1 V c).arrAt_eq_of_coversWhere_of_agree 4 _ (fun β => 8 ≤ β (1 : Fin _)) (by decide +kernel)
    (fun t _ y => ?_) (fun j hj => ?_)
  · blk_simp
    rw [after1_4, outsAt1]
    frame_out
    exact point1_4 V H W B c t h0 h1 h2 y
  · rw [A_eq1]
    refine hA _ ?_
    blk_simp [Pipeline.Window.cell_apply] at hj ⊢
    omega

variable (m : (ℓ : Loc nD τ sig) → Buf (Elt Ideal) ℓ) (ρ : Dev nD → PrngReg)

/-- When the first call starts the input is in place. -/
theorem entry0 (c : Dev nD) : V1 m ρ c main_v0 = (truncf .bf16 (m ((c : Thread nD τ).loc main_arg0) : FVec Ideal S2048x2048 .f32) bitsLt_bf16_f32 : FVec Ideal S2048x2048 .bf16) := by
  show StableHlo.after hostOps0 (W0 m ρ c) _ = _
  after_results

/-- So is the weight, in shards. -/
theorem entry1 (c : Dev nD) : V1 m ρ c main_v3 = shards (m ((c : Thread nD τ).loc main_arg1)) := by
  show StableHlo.after hostOps0 (W0 m ρ c) _ = _
  after_results
  rfl

/-- So is the bias. -/
theorem entry2 (c : Dev nD) : V1 m ρ c main_arg2 = m ((c : Thread nD τ).loc main_arg2) :=
  W1_args m ρ c main_arg2 (by decide)

/-- The first call and the copies after it leave its arguments in place. -/
theorem keep0 (c : Dev nD) : V3 m ρ c main_v0 = V1 m ρ c main_v0 :=
  (W3_of m ρ c main_v0 (by decide)).trans (W2_of m ρ c main_v0 (by decide +kernel))

/-- So for the weight. -/
theorem keep1 (c : Dev nD) : V3 m ρ c main_v3 = V1 m ρ c main_v3 :=
  (W3_of m ρ c main_v3 (by decide)).trans (W2_of m ρ c main_v3 (by decide +kernel))

/-- So for the bias. -/
theorem keep2 (c : Dev nD) : V3 m ρ c main_arg2 = m ((c : Thread nD τ).loc main_arg2) :=
  W3_args m ρ c main_arg2 (by decide)

/-- The second call is handed the first's array of squares. -/
theorem handed3 (c : Dev nD) : V3 m ρ c main_v5_0 = (dat0 (V1 m ρ) c).arrAt 3 cfg0.N := by
  refine Eq.trans ?_ (W2_arr m ρ c 3)
  show StableHlo.after hostOps1 (W2 m ρ c) _ = _
  after_results
  rfl

/-- The array of squares both calls leave is the reference's. -/
theorem final3 (c : Dev nD) : W4 m ρ c (Proc.devRef .tc main_v5_0)
    = act (m ((c : Thread nD τ).loc main_arg0)) (m ((c : Thread nD τ).loc main_arg1)) (m ((c : Thread nD τ).loc main_arg2)) := by
  refine (W4_arr m ρ c 3).trans (whole3 (V3 m ρ) _ _ _ c ((keep0 m ρ c).trans (entry0 m ρ c))
    ((keep1 m ρ c).trans (entry1 m ρ c)) (keep2 m ρ c) fun i hi => ?_)
  rw [handed3, left3 (V1 m ρ) _ _ _ c (entry0 m ρ c) (entry1 m ρ c) (entry2 m ρ c)]
  exact if_pos hi

/-- The second call is handed the first's array of rectified products. -/
theorem handed4 (c : Dev nD) : V3 m ρ c main_v5_1 = (dat0 (V1 m ρ) c).arrAt 4 cfg0.N := by
  refine Eq.trans ?_ (W2_arr m ρ c 4)
  show StableHlo.after hostOps1 (W2 m ρ c) _ = _
  after_results
  rfl

/-- The array of rectified products both calls leave is the reference's. -/
theorem final4 (c : Dev nD) : W4 m ρ c (Proc.devRef .tc main_v5_1)
    = rectB (m ((c : Thread nD τ).loc main_arg0)) (m ((c : Thread nD τ).loc main_arg1)) (m ((c : Thread nD τ).loc main_arg2)) := by
  refine (W4_arr m ρ c 4).trans (whole4 (V3 m ρ) _ _ _ c ((keep0 m ρ c).trans (entry0 m ρ c))
    ((keep1 m ρ c).trans (entry1 m ρ c)) (keep2 m ρ c) fun i hi => ?_)
  rw [handed4, left4 (V1 m ρ) _ _ _ c (entry0 m ρ c) (entry1 m ρ c) (entry2 m ρ c)]
  exact if_pos hi

set_option backward.isDefEq.respectTransparency.types false in
/-- Both calls run to the end: the two result arrays hold what the second call leaves in them, and the
    arguments are as they were. -/
theorem run : θ_run defs (onTc (τ := τ) (main (F := Ideal))) ⟨m, fun _ => 0, ρ⟩ (fun r => ∀ c : Dev nD,
      r.2.mem ((c.tc : Thread nD τ).loc main_v5_0) = W4 m ρ c (Proc.devRef .tc main_v5_0)
      ∧ r.2.mem ((c.tc : Thread nD τ).loc main_v5_1) = W4 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨h c _ (mem_uc main_v5_0 (by decide)), h c _ (mem_uc main_v5_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.FfIdeal.Grad

end
-- ==== Proof.AdIn.lean ====
module
public import proofs.«01_k».proof.Proof.Gen.AdInIdeal.Value
public import proofs.«01_k».proof.Proof.Gen.AdInRefIdeal.Run
public import Idealize.ShloMosaic.Lib.Pipeline.ValueKit
public import Idealize.ShloMosaic.Lib.Pointwise

/-!
# The optimiser's step of the input projection

At a grid point the kernel holds a tile of rows of the weight, its gradient and its two moments, and
stores the step and the new moments.  The reference does the same on whole arrays.
-/

@[expose] public section

set_option maxRecDepth 16384

noncomputable section

open Idealize.ShloMosaic Idealize.ShloMosaic.TcCoe Idealize.SL.Sem
open Idealize.ShloMosaic.Pipeline (Dat)

namespace Cert.AdInIdeal.Grad
open Cert.AdInIdeal Cert.AdInIdeal.Gen

variable (m : (ℓ : Loc nD τ sig) → Buf (Elt Ideal) ℓ)

/-- An array holding one constant everywhere. -/
abbrev const (w : BitVec 32) : FVec Ideal S2048x2304 .f32 :=
  broadcastInDim Cert.AdInRefIdeal.S2048x2304 ![] Cert.AdInRefIdeal.Gen.bcast_S_S2048x2304 (constant Cert.AdInRefIdeal.S_ .f32 w)

/-- The new first moment: `β₁ M + (1 − β₁) G`. -/
abbrev first (G M : FVec Ideal S2048x2304 .f32) : FVec Ideal S2048x2304 .f32 :=
  addf (mulf (const 0x3F666666#32) M) (mulf (const 0x3DCCCCCD#32) G)

/-- The new second moment: `β₂ V + (1 − β₂) G²`. -/
abbrev second (G V : FVec Ideal S2048x2304 .f32) : FVec Ideal S2048x2304 .f32 :=
  addf (mulf (const 0x3F7FBE77#32) V) (mulf (const 0x3A83126F#32) (mulf G G))

/-- The step: minus the rate times the sum of the corrected first moment over the root of the corrected
    second moment, and of the weight's decay. -/
abbrev delta (W G M V : FVec Ideal S2048x2304 .f32) : FVec Ideal S2048x2304 .f32 :=
  mulf (const 0xBA83126F#32) (addf (Host.divf (Host.divf (first G M) (const 0x3F26BD02#32))
    (addf (Host.sqrt (Host.divf (second G V) (const 0x3C231ACC#32))) (const 0x322BCC77#32)))
    (mulf (const 0x3C23D70A#32) W))

/-- Every window is at the grid point's tile of rows. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

set_option maxHeartbeats 1600000 in
/-- What a grid point stores of the step at place `y` of its block is the reference's at the place of the
    array where `y` lies. -/
theorem point4 (c : Dev nD) (t : Fin cfg0.N) (y) :
    k0_pay3 (iblk m c 1 t) (iblk m c 2 t) (iblk m c 3 t) (iblk m c 0 t) y
      = delta (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, k0_pay2, k0_pay3, delta, first, second, const]
  blk_point [iblk, V, idx t]

/-- The array of the step the kernel leaves is the reference array: the blocks cover it. -/
theorem final4 (c : Dev nD) : (dats m 0 c).arrAt 4 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

set_option maxHeartbeats 1600000 in
/-- What a grid point stores of the first moment at place `y` of its block is the reference's at the place of the
    array where `y` lies. -/
theorem point5 (c : Dev nD) (t : Fin cfg0.N) (y) :
    k0_pay1 (iblk m c 1 t) (iblk m c 2 t) y
      = first (m ((c : Thread nD τ).loc main_arg1)) (m ((c : Thread nD τ).loc main_arg2))
          (((cfg0.win 5).blk t).view.emb y) := by
  pointwise [k0_pay1, k0_pay2, k0_pay3, delta, first, second, const]
  blk_point [iblk, V, idx t]

/-- The array of the first moment the kernel leaves is the reference array: the blocks cover it. -/
theorem final5 (c : Dev nD) : (dats m 0 c).arrAt 5 (cfgs 0).N
    = first (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

set_option maxHeartbeats 1600000 in
/-- What a grid point stores of the second moment at place `y` of its block is the reference's at the place of the
    array where `y` lies. -/
theorem point6 (c : Dev nD) (t : Fin cfg0.N) (y) :
    k0_pay2 (iblk m c 1 t) (iblk m c 3 t) y
      = second (m ((c : Thread nD τ).loc main_arg1)) (m ((c : Thread nD τ).loc main_arg3))
          (((cfg0.win 6).blk t).view.emb y) := by
  pointwise [k0_pay1, k0_pay2, k0_pay3, delta, first, second, const]
  blk_point [iblk, V, idx t]

/-- The array of the second moment the kernel leaves is the reference array: the blocks cover it. -/
theorem final6 (c : Dev nD) : (dats m 0 c).arrAt 6 (cfgs 0).N
    = second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point6 m c t y

end Cert.AdInIdeal.Grad

end
-- ==== Proof.AdFf.lean ====
module
public import proofs.«01_k».proof.Proof.Gen.AdFfIdeal.Value
public import proofs.«01_k».proof.Proof.Gen.AdFfRefIdeal.Run
public import Idealize.ShloMosaic.Lib.Pipeline.ValueKit
public import Idealize.ShloMosaic.Lib.Pointwise

/-!
# The optimiser's step of a feed-forward matrix

At a grid point the kernel holds a tile of rows of the weight, its gradient and its two moments, and
stores the step and the new moments.  The reference does the same on whole arrays.
-/

@[expose] public section

set_option maxRecDepth 16384

noncomputable section

open Idealize.ShloMosaic Idealize.ShloMosaic.TcCoe Idealize.SL.Sem
open Idealize.ShloMosaic.Pipeline (Dat)

namespace Cert.AdFfIdeal.Grad
open Cert.AdFfIdeal Cert.AdFfIdeal.Gen

variable (m : (ℓ : Loc nD τ sig) → Buf (Elt Ideal) ℓ)

/-- An array holding one constant everywhere. -/
abbrev const (w : BitVec 32) : FVec Ideal S2048x2048 .f32 :=
  broadcastInDim Cert.AdFfRefIdeal.S2048x2048 ![] Cert.AdFfRefIdeal.Gen.bcast_S_S2048x2048 (constant Cert.AdFfRefIdeal.S_ .f32 w)

/-- The new first moment: `β₁ M + (1 − β₁) G`. -/
abbrev first (G M : FVec Ideal S2048x2048 .f32) : FVec Ideal S2048x2048 .f32 :=
  addf (mulf (const 0x3F666666#32) M) (mulf (const 0x3DCCCCCD#32) G)

/-- The new second moment: `β₂ V + (1 − β₂) G²`. -/
abbrev second (G V : FVec Ideal S2048x2048 .f32) : FVec Ideal S2048x2048 .f32 :=
  addf (mulf (const 0x3F7FBE77#32) V) (mulf (const 0x3A83126F#32) (mulf G G))

/-- The step: minus the rate times the sum of the corrected first moment over the root of the corrected
    second moment, and of the weight's decay. -/
abbrev delta (W G M V : FVec Ideal S2048x2048 .f32) : FVec Ideal S2048x2048 .f32 :=
  mulf (const 0xBA83126F#32) (addf (Host.divf (Host.divf (first G M) (const 0x3F26BD02#32))
    (addf (Host.sqrt (Host.divf (second G V) (const 0x3C231ACC#32))) (const 0x322BCC77#32)))
    (mulf (const 0x3C23D70A#32) W))

/-- Every window is at the grid point's tile of rows. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

set_option maxHeartbeats 1600000 in
/-- What a grid point stores of the step at place `y` of its block is the reference's at the place of the
    array where `y` lies. -/
theorem point4 (c : Dev nD) (t : Fin cfg0.N) (y) :
    k0_pay3 (iblk m c 1 t) (iblk m c 2 t) (iblk m c 3 t) (iblk m c 0 t) y
      = delta (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, k0_pay2, k0_pay3, delta, first, second, const]
  blk_point [iblk, V, idx t]

/-- The array of the step the kernel leaves is the reference array: the blocks cover it. -/
theorem final4 (c : Dev nD) : (dats m 0 c).arrAt 4 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

set_option maxHeartbeats 1600000 in
/-- What a grid point stores of the first moment at place `y` of its block is the reference's at the place of the
    array where `y` lies. -/
theorem point5 (c : Dev nD) (t : Fin cfg0.N) (y) :
    k0_pay1 (iblk m c 1 t) (iblk m c 2 t) y
      = first (m ((c : Thread nD τ).loc main_arg1)) (m ((c : Thread nD τ).loc main_arg2))
          (((cfg0.win 5).blk t).view.emb y) := by
  pointwise [k0_pay1, k0_pay2, k0_pay3, delta, first, second, const]
  blk_point [iblk, V, idx t]

/-- The array of the first moment the kernel leaves is the reference array: the blocks cover it. -/
theorem final5 (c : Dev nD) : (dats m 0 c).arrAt 5 (cfgs 0).N
    = first (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

set_option maxHeartbeats 1600000 in
/-- What a grid point stores of the second moment at place `y` of its block is the reference's at the place of the
    array where `y` lies. -/
theorem point6 (c : Dev nD) (t : Fin cfg0.N) (y) :
    k0_pay2 (iblk m c 1 t) (iblk m c 3 t) y
      = second (m ((c : Thread nD τ).loc main_arg1)) (m ((c : Thread nD τ).loc main_arg3))
          (((cfg0.win 6).blk t).view.emb y) := by
  pointwise [k0_pay1, k0_pay2, k0_pay3, delta, first, second, const]
  blk_point [iblk, V, idx t]

/-- The array of the second moment the kernel leaves is the reference array: the blocks cover it. -/
theorem final6 (c : Dev nD) : (dats m 0 c).arrAt 6 (cfgs 0).N
    = second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point6 m c t y

end Cert.AdFfIdeal.Grad

end
-- ==== Proof.AdOut.lean ====
module
public import proofs.«01_k».proof.Proof.Gen.AdOutIdeal.Value
public import proofs.«01_k».proof.Proof.Gen.AdOutRefIdeal.Run
public import Idealize.ShloMosaic.Lib.Pipeline.ValueKit
public import Idealize.ShloMosaic.Lib.Pointwise

/-!
# The optimiser's step of the output projection

At a grid point the kernel holds a tile of rows of the weight, its gradient and its two moments, and
stores the step and the new moments.  The reference does the same on whole arrays.
-/

@[expose] public section

set_option maxRecDepth 16384

noncomputable section

open Idealize.ShloMosaic Idealize.ShloMosaic.TcCoe Idealize.SL.Sem
open Idealize.ShloMosaic.Pipeline (Dat)

namespace Cert.AdOutIdeal.Grad
open Cert.AdOutIdeal Cert.AdOutIdeal.Gen

variable (m : (ℓ : Loc nD τ sig) → Buf (Elt Ideal) ℓ)

/-- An array holding one constant everywhere. -/
abbrev const (w : BitVec 32) : FVec Ideal S512x2048 .f32 :=
  broadcastInDim Cert.AdOutRefIdeal.S512x2048 ![] Cert.AdOutRefIdeal.Gen.bcast_S_S512x2048 (constant Cert.AdOutRefIdeal.S_ .f32 w)

/-- The new first moment: `β₁ M + (1 − β₁) G`. -/
abbrev first (G M : FVec Ideal S512x2048 .f32) : FVec Ideal S512x2048 .f32 :=
  addf (mulf (const 0x3F666666#32) M) (mulf (const 0x3DCCCCCD#32) G)

/-- The new second moment: `β₂ V + (1 − β₂) G²`. -/
abbrev second (G V : FVec Ideal S512x2048 .f32) : FVec Ideal S512x2048 .f32 :=
  addf (mulf (const 0x3F7FBE77#32) V) (mulf (const 0x3A83126F#32) (mulf G G))

/-- The step: minus the rate times the sum of the corrected first moment over the root of the corrected
    second moment, and of the weight's decay. -/
abbrev delta (W G M V : FVec Ideal S512x2048 .f32) : FVec Ideal S512x2048 .f32 :=
  mulf (const 0xBA83126F#32) (addf (Host.divf (Host.divf (first G M) (const 0x3F26BD02#32))
    (addf (Host.sqrt (Host.divf (second G V) (const 0x3C231ACC#32))) (const 0x322BCC77#32)))
    (mulf (const 0x3C23D70A#32) W))

/-- Every window is at the grid point's tile of rows. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

set_option maxHeartbeats 1600000 in
/-- What a grid point stores of the step at place `y` of its block is the reference's at the place of the
    array where `y` lies. -/
theorem point4 (c : Dev nD) (t : Fin cfg0.N) (y) :
    k0_pay3 (iblk m c 1 t) (iblk m c 2 t) (iblk m c 3 t) (iblk m c 0 t) y
      = delta (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, k0_pay2, k0_pay3, delta, first, second, const]
  blk_point [iblk, V, idx t]

/-- The array of the step the kernel leaves is the reference array: the blocks cover it. -/
theorem final4 (c : Dev nD) : (dats m 0 c).arrAt 4 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

set_option maxHeartbeats 1600000 in
/-- What a grid point stores of the first moment at place `y` of its block is the reference's at the place of the
    array where `y` lies. -/
theorem point5 (c : Dev nD) (t : Fin cfg0.N) (y) :
    k0_pay1 (iblk m c 1 t) (iblk m c 2 t) y
      = first (m ((c : Thread nD τ).loc main_arg1)) (m ((c : Thread nD τ).loc main_arg2))
          (((cfg0.win 5).blk t).view.emb y) := by
  pointwise [k0_pay1, k0_pay2, k0_pay3, delta, first, second, const]
  blk_point [iblk, V, idx t]

/-- The array of the first moment the kernel leaves is the reference array: the blocks cover it. -/
theorem final5 (c : Dev nD) : (dats m 0 c).arrAt 5 (cfgs 0).N
    = first (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

set_option maxHeartbeats 1600000 in
/-- What a grid point stores of the second moment at place `y` of its block is the reference's at the place of the
    array where `y` lies. -/
theorem point6 (c : Dev nD) (t : Fin cfg0.N) (y) :
    k0_pay2 (iblk m c 1 t) (iblk m c 3 t) y
      = second (m ((c : Thread nD τ).loc main_arg1)) (m ((c : Thread nD τ).loc main_arg3))
          (((cfg0.win 6).blk t).view.emb y) := by
  pointwise [k0_pay1, k0_pay2, k0_pay3, delta, first, second, const]
  blk_point [iblk, V, idx t]

/-- The array of the second moment the kernel leaves is the reference array: the blocks cover it. -/
theorem final6 (c : Dev nD) : (dats m 0 c).arrAt 6 (cfgs 0).N
    = second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point6 m c t y

end Cert.AdOutIdeal.Grad

end
-- ==== Proof.AdPr.lean ====
module
public import proofs.«01_k».proof.Proof.Gen.AdPrIdeal.Value
public import proofs.«01_k».proof.Proof.Gen.AdPrRefIdeal.Run
public import Idealize.ShloMosaic.Lib.Pipeline.ValueKit
public import Idealize.ShloMosaic.Lib.Pointwise

/-!
# The optimiser's step of a branch's projection

At a grid point the kernel holds a tile of rows of the weight, its gradient and its two moments, and
stores the step and the new moments.  The reference does the same on whole arrays.
-/

@[expose] public section

set_option maxRecDepth 16384

noncomputable section

open Idealize.ShloMosaic Idealize.ShloMosaic.TcCoe Idealize.SL.Sem
open Idealize.ShloMosaic.Pipeline (Dat)

namespace Cert.AdPrIdeal.Grad
open Cert.AdPrIdeal Cert.AdPrIdeal.Gen

variable (m : (ℓ : Loc nD τ sig) → Buf (Elt Ideal) ℓ)

/-- An array holding one constant everywhere. -/
abbrev const (w : BitVec 32) : FVec Ideal S1024x512 .f32 :=
  broadcastInDim Cert.AdPrRefIdeal.S1024x512 ![] Cert.AdPrRefIdeal.Gen.bcast_S_S1024x512 (constant Cert.AdPrRefIdeal.S_ .f32 w)

/-- The new first moment: `β₁ M + (1 − β₁) G`. -/
abbrev first (G M : FVec Ideal S1024x512 .f32) : FVec Ideal S1024x512 .f32 :=
  addf (mulf (const 0x3F666666#32) M) (mulf (const 0x3DCCCCCD#32) G)

/-- The new second moment: `β₂ V + (1 − β₂) G²`. -/
abbrev second (G V : FVec Ideal S1024x512 .f32) : FVec Ideal S1024x512 .f32 :=
  addf (mulf (const 0x3F7FBE77#32) V) (mulf (const 0x3A83126F#32) (mulf G G))

/-- The step: minus the rate times the sum of the corrected first moment over the root of the corrected
    second moment, and of the weight's decay. -/
abbrev delta (W G M V : FVec Ideal S1024x512 .f32) : FVec Ideal S1024x512 .f32 :=
  mulf (const 0xBA83126F#32) (addf (Host.divf (Host.divf (first G M) (const 0x3F26BD02#32))
    (addf (Host.sqrt (Host.divf (second G V) (const 0x3C231ACC#32))) (const 0x322BCC77#32)))
    (mulf (const 0x3C23D70A#32) W))

/-- Every window is at the grid point's tile of rows. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

set_option maxHeartbeats 1600000 in
/-- What a grid point stores of the step at place `y` of its block is the reference's at the place of the
    array where `y` lies. -/
theorem point4 (c : Dev nD) (t : Fin cfg0.N) (y) :
    k0_pay3 (iblk m c 1 t) (iblk m c 2 t) (iblk m c 3 t) (iblk m c 0 t) y
      = delta (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, k0_pay2, k0_pay3, delta, first, second, const]
  blk_point [iblk, V, idx t]

/-- The array of the step the kernel leaves is the reference array: the blocks cover it. -/
theorem final4 (c : Dev nD) : (dats m 0 c).arrAt 4 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

set_option maxHeartbeats 1600000 in
/-- What a grid point stores of the first moment at place `y` of its block is the reference's at the place of the
    array where `y` lies. -/
theorem point5 (c : Dev nD) (t : Fin cfg0.N) (y) :
    k0_pay1 (iblk m c 1 t) (iblk m c 2 t) y
      = first (m ((c : Thread nD τ).loc main_arg1)) (m ((c : Thread nD τ).loc main_arg2))
          (((cfg0.win 5).blk t).view.emb y) := by
  pointwise [k0_pay1, k0_pay2, k0_pay3, delta, first, second, const]
  blk_point [iblk, V, idx t]

/-- The array of the first moment the kernel leaves is the reference array: the blocks cover it. -/
theorem final5 (c : Dev nD) : (dats m 0 c).arrAt 5 (cfgs 0).N
    = first (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

set_option maxHeartbeats 1600000 in
/-- What a grid point stores of the second moment at place `y` of its block is the reference's at the place of the
    array where `y` lies. -/
theorem point6 (c : Dev nD) (t : Fin cfg0.N) (y) :
    k0_pay2 (iblk m c 1 t) (iblk m c 3 t) y
      = second (m ((c : Thread nD τ).loc main_arg1)) (m ((c : Thread nD τ).loc main_arg3))
          (((cfg0.win 6).blk t).view.emb y) := by
  pointwise [k0_pay1, k0_pay2, k0_pay3, delta, first, second, const]
  blk_point [iblk, V, idx t]

/-- The array of the second moment the kernel leaves is the reference array: the blocks cover it. -/
theorem final6 (c : Dev nD) : (dats m 0 c).arrAt 6 (cfgs 0).N
    = second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point6 m c t y

end Cert.AdPrIdeal.Grad

end
-- ==== Proof.AdSm.lean ====
module
public import proofs.«01_k».proof.Proof.Gen.AdSmIdeal.Value
public import proofs.«01_k».proof.Proof.Gen.AdSmRefIdeal.Run
public import Idealize.ShloMosaic.Lib.Pipeline.ValueKit
public import Idealize.ShloMosaic.Lib.Pointwise

/-!
# The optimiser's step of the packed small weights

At a grid point the kernel holds a tile of rows of the weight, its gradient and its two moments, and
stores the step and the new moments.  The reference does the same on whole arrays.
-/

@[expose] public section

set_option maxRecDepth 16384

noncomputable section

open Idealize.ShloMosaic Idealize.ShloMosaic.TcCoe Idealize.SL.Sem
open Idealize.ShloMosaic.Pipeline (Dat)

namespace Cert.AdSmIdeal.Grad
open Cert.AdSmIdeal Cert.AdSmIdeal.Gen

variable (m : (ℓ : Loc nD τ sig) → Buf (Elt Ideal) ℓ)

/-- An array holding one constant everywhere. -/
abbrev const (w : BitVec 32) : FVec Ideal S1200x128 .f32 :=
  broadcastInDim Cert.AdSmRefIdeal.S1200x128 ![] Cert.AdSmRefIdeal.Gen.bcast_S_S1200x128 (constant Cert.AdSmRefIdeal.S_ .f32 w)

/-- The new first moment: `β₁ M + (1 − β₁) G`. -/
abbrev first (G M : FVec Ideal S1200x128 .f32) : FVec Ideal S1200x128 .f32 :=
  addf (mulf (const 0x3F666666#32) M) (mulf (const 0x3DCCCCCD#32) G)

/-- The new second moment: `β₂ V + (1 − β₂) G²`. -/
abbrev second (G V : FVec Ideal S1200x128 .f32) : FVec Ideal S1200x128 .f32 :=
  addf (mulf (const 0x3F7FBE77#32) V) (mulf (const 0x3A83126F#32) (mulf G G))

/-- The step: minus the rate times the sum of the corrected first moment over the root of the corrected
    second moment, and of the weight's decay. -/
abbrev delta (W G M V : FVec Ideal S1200x128 .f32) : FVec Ideal S1200x128 .f32 :=
  mulf (const 0xBA83126F#32) (addf (Host.divf (Host.divf (first G M) (const 0x3F26BD02#32))
    (addf (Host.sqrt (Host.divf (second G V) (const 0x3C231ACC#32))) (const 0x322BCC77#32)))
    (mulf (const 0x3C23D70A#32) W))

/-- Every window is at the grid point's tile of rows. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

set_option maxHeartbeats 1600000 in
/-- What a grid point stores of the step at place `y` of its block is the reference's at the place of the
    array where `y` lies. -/
theorem point4 (c : Dev nD) (t : Fin cfg0.N) (y) :
    k0_pay3 (iblk m c 1 t) (iblk m c 2 t) (iblk m c 3 t) (iblk m c 0 t) y
      = delta (m ((c : Thread nD τ).loc main_arg0)) (m ((c : Thread nD τ).loc main_arg1)) (m ((c : Thread nD τ).loc main_arg2)) (m ((c : Thread nD τ).loc main_arg3))
          (((cfg0.win 4).blk t).view.emb y) := by
  pointwise [k0_pay1, k0_pay2, k0_pay3, delta, first, second, const]
  blk_point [iblk, V, idx t]

/-- The array of the step the kernel leaves is the reference array: the blocks cover it. -/
theorem final4 (c : Dev nD) : (dats m 0 c).arrAt 4 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

set_option maxHeartbeats 1600000 in
/-- What a grid point stores of the first moment at place `y` of its block is the reference's at the place of the
    array where `y` lies. -/
theorem point5 (c : Dev nD) (t : Fin cfg0.N) (y) :
    k0_pay1 (iblk m c 1 t) (iblk m c 2 t) y
      = first (m ((c : Thread nD τ).loc main_arg1)) (m ((c : Thread nD τ).loc main_arg2))
          (((cfg0.win 5).blk t).view.emb y) := by
  pointwise [k0_pay1, k0_pay2, k0_pay3, delta, first, second, const]
  blk_point [iblk, V, idx t]

/-- The array of the first moment the kernel leaves is the reference array: the blocks cover it. -/
theorem final5 (c : Dev nD) : (dats m 0 c).arrAt 5 (cfgs 0).N
    = first (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

set_option maxHeartbeats 1600000 in
/-- What a grid point stores of the second moment at place `y` of its block is the reference's at the place of the
    array where `y` lies. -/
theorem point6 (c : Dev nD) (t : Fin cfg0.N) (y) :
    k0_pay2 (iblk m c 1 t) (iblk m c 3 t) y
      = second (m ((c : Thread nD τ).loc main_arg1)) (m ((c : Thread nD τ).loc main_arg3))
          (((cfg0.win 6).blk t).view.emb y) := by
  pointwise [k0_pay1, k0_pay2, k0_pay3, delta, first, second, const]
  blk_point [iblk, V, idx t]

/-- The array of the second moment the kernel leaves is the reference array: the blocks cover it. -/
theorem final6 (c : Dev nD) : (dats m 0 c).arrAt 6 (cfgs 0).N
    = second (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point6 m c t y

end Cert.AdSmIdeal.Grad

end
-- ==== Proof.ProjOwn.lean ====
module
public import proofs.«01_k».proof.Proof.Gen.ProjOwn.Frame
public import proofs.«01_k».proof.Proof.Gen.ProjOwnIdeal.Frame
public import proofs.«01_k».proof.Proof.Gen.ProjOwnRefIdeal.Run
public import Idealize.ShloMosaic.Lib.Pipeline.ValueKit
public import Idealize.ShloMosaic.Lib.Pointwise
public import Idealize.ShloMosaic.Lib.Claim

/-!
# The input projection, the first quarter of its columns

The kernel reads the chips whose shards of the weight it takes from a small table of integers, which the host fills with
constants.  A grid point holds the whole input and a third of one shard's columns, and writes the product to the same
columns of the whole weight.
-/

@[expose] public section

set_option maxRecDepth 16384

noncomputable section

open Idealize.ShloMosaic Idealize.ShloMosaic.TcCoe Idealize.SL.Sem
open Idealize.ShloMosaic.Pipeline (Dat)

namespace Cert.ProjOwnIdeal.Columns
open Cert.ProjOwnIdeal Cert.ProjOwnIdeal.Gen

section Table
variable {F : FTy → Type} [FloatOps F]
variable (m : (ℓ : Loc nD τ sig) → Buf (Elt F) ℓ)

/-- The table as the host fills it. -/
def chips : pre0.Contents (Elt F) := fun | ⟨0, _⟩ => (constantI S1 32 0#32) | ⟨_ + 1, h⟩ => absurd h (by simp)

/-- The region finds that table. -/
theorem tbl_eq : tbl m = chips := by
  funext j
  match j with
  | ⟨0, _⟩ =>
    show StableHlo.after hostOps0 _ _ = _
    after_results
    rfl

end Table

/-- At its numbers every block lies inside its array. -/
theorem ok_chips : ok0 (chips (F := Ideal)) := by decide +kernel

/-- The columns' blocks the grid writes. -/
theorem covers_chips : ((cfg0 ⟨chips (F := Ideal), ok_chips⟩).win 2).CoversWhere (fun β => 0 ≤ β (1 : Fin 2) ∧ β (1 : Fin 2) < 3) := by
  decide +kernel

/-- The same of any table with those numbers. -/
theorem covers (T : pre0.Contents (Elt Ideal)) (hT : T = chips) (h : ok0 T) :
    ((cfg0 ⟨T, h⟩).win 2).CoversWhere (fun β => 0 ≤ β (1 : Fin 2) ∧ β (1 : Fin 2) < 3) := by
  subst hT
  exact covers_chips

/-- Which block each window is at. -/
theorem idx (T : pre0.Contents (Elt Ideal)) (hT : T = chips) (h : ok0 T) :
    ∀ t : Fin (cfg0 ⟨T, h⟩).N, ((cfg0 ⟨T, h⟩).win 0).index t = ![0, 0] ∧ ((cfg0 ⟨T, h⟩).win 1).index t = ![0, 0, t.val % 3]
      ∧ ((cfg0 ⟨T, h⟩).win 2).index t = ![0, 3 * (0) + t.val % 3] := by
  subst hT
  exact (by decide +kernel : ∀ t : Fin grid0.N, ((cfg0 ⟨chips, ok_chips⟩).win 0).index t = ![0, 0]
      ∧ ((cfg0 ⟨chips, ok_chips⟩).win 1).index t = ![0, 0, t.val % 3]
      ∧ ((cfg0 ⟨chips, ok_chips⟩).win 2).index t = ![0, 3 * (0) + t.val % 3])

/-- The whole product. -/
abbrev product (X : FVec Ideal S2048x2048 .f32) (W : FVec Ideal S2048x9216 .f32) : FVec Ideal S2048x9216 .f32 :=
  Host.dotGeneral Cert.ProjOwnRefIdeal.dot_S2048x2048_S2048x9216_S2048x9216_1_0_0_1_n_n none X W

/-- The weight as the kernel holds it: four column shards. -/
abbrev shards (W : FVec Ideal S2048x9216 .f32) : FVec Ideal S4x2048x2304 .bf16 :=
  transpose S4x2048x2304 [1, 0, 2] (shapeCast S2048x4x2304 (truncf .bf16 W bitsLt_bf16_f32) shapeCasts_S2048x9216_S2048x4x2304)
    transposes_S2048x4x2304_S4x2048x2304_1_0_2

set_option maxHeartbeats 1600000 in
/-- What a grid point stores is the product at the same place. -/
theorem point_at (T : pre0.Contents (Elt Ideal)) (hT : T = chips) (h : ok0 T) (X : FVec Ideal S2048x2048 .f32) (W : FVec Ideal S2048x9216 .f32)
    (t : Fin (cfg0 ⟨T, h⟩).N) (y) :
    k0_pay1 (fun y => (truncf .bf16 X bitsLt_bf16_f32 : FVec Ideal S2048x2048 .bf16) ((((cfg0 ⟨T, h⟩).win 0).blk t).view.emb y))
        (fun y => shards W ((((cfg0 ⟨T, h⟩).win 1).blk t).view.emb y)) y
      = product X W ((((cfg0 ⟨T, h⟩).win 2).blk t).view.emb y) := by
  pointwise [k0_pay1, product]
  blk_point [idx T hT h t]

variable (m : (ℓ : Loc nD τ sig) → Buf (Elt Ideal) ℓ)

theorem ok : Ok m := by unfold Ok; rw [tbl_eq m]; exact ok_chips

theorem entry0 (c : Dev nD) : V m c main_v0 = (truncf .bf16 (m ((c : Thread nD τ).loc main_arg0) : FVec Ideal S2048x2048 .f32) bitsLt_bf16_f32 : FVec Ideal S2048x2048 .bf16) := by
  show StableHlo.after hostOps0 _ _ = _
  after_results

theorem entry1 (c : Dev nD) : V m c main_v3 = shards (m ((c : Thread nD τ).loc main_arg1)) := by
  show StableHlo.after hostOps0 _ _ = _
  after_results
  rfl

theorem block0 (c : Dev nD) (t : Fin (cfgM m (ok m)).N) :
    (iblk m (ok m) c 0 t : FVec Ideal S2048x2048 .bf16) = fun y => (truncf .bf16 (m ((c : Thread nD τ).loc main_arg0)) bitsLt_bf16_f32 : FVec Ideal S2048x2048 .bf16) ((((cfgM m (ok m)).win 0).blk t).view.emb y) := by
  rw [← entry0]; rfl

theorem block1 (c : Dev nD) (t : Fin (cfgM m (ok m)).N) :
    (iblk m (ok m) c 1 t : FVec Ideal S1x2048x768 .bf16) = fun y => shards (m ((c : Thread nD τ).loc main_arg1)) ((((cfgM m (ok m)).win 1).blk t).view.emb y) := by
  rw [← entry1]; rfl

/-- What a grid point stores is the product at the same place, in the program's run. -/
theorem point (c : Dev nD) (t : Fin (cfgM m (ok m)).N) (y) :
    k0_pay1 (iblk m (ok m) c 0 t) (iblk m (ok m) c 1 t) y
      = product (m ((c : Thread nD τ).loc main_arg0)) (m ((c : Thread nD τ).loc main_arg1))
          ((((cfgM m (ok m)).win 2).blk t).view.emb y) := by
  rw [block0 m c t, block1 m c t]
  exact point_at (tbl m) (tbl_eq m) (ok m) _ _ t y

/-- What the body leaves of any two blocks. -/
theorem out_eq (c : Dev nD) (i : grid0.Coords) (arg2 : Memref sig .tc .vmem S2048x2048 .bf16) (harg2 : arg2.IsWhole)
    (arg3 : Memref sig .tc .vmem S1x2048x768 .bf16) (harg3 : arg3.IsWhole) (arg4 : Memref sig .tc .vmem S2048x768 .f32) (harg4 : arg4.IsWhole)
    (x0 : Vec Ideal S2048x2048 .bf16) (x1 : Vec Ideal S1x2048x768 .bf16) (xt0 : TbBuf0 (F := Ideal) c tbM0_0) :
    out0_A_2 c i arg2 harg2 arg3 harg3 arg4 harg4 x0 x1 xt0 = k0_pay1 x0 x1 := by
  funext y
  frame_out

/-- What a point leaves in the output's buffer. -/
theorem after_eq (c : Dev nD) (t : Fin (cfgM m (ok m)).N) :
    (dats m (ok m) 0 c).after 2 t = k0_pay1 (iblk m (ok m) c 0 t) (iblk m (ok m) c 1 t) := by
  rw [after0_2]
  exact out_eq c _ _ _ _ _ _ _ _ _ _

set_option maxHeartbeats 800000 in
/-- The columns written hold the product. -/
theorem written (c : Dev nD) (i : S2048x9216.Idx) (hi : (i 1).val < 2304) :
    (dats m (ok m) 0 c).arrAt 2 (cfgM m (ok m)).N i = product (m ((c : Thread nD τ).loc main_arg0)) (m ((c : Thread nD τ).loc main_arg1)) i := by
  refine ((dats m (ok m) 0 c).arrAt_apply_of_coversWhere 2
    (product (m ((c : Thread nD τ).loc main_arg0)) (m ((c : Thread nD τ).loc main_arg1))) (P := fun i : S2048x9216.Idx => (i 1).val < 2304)
    (fun β => 0 ≤ β (1 : Fin 2) ∧ β (1 : Fin 2) < 3) (covers _ (tbl_eq m) (ok m)) (fun t _ y => ?_) (fun j => ?_) i).trans (if_pos hi)
  · refine Eq.trans ?_ (point m c t y)
    exact congrFun (after_eq m c t) y
  · have hc : ((cfgM m (ok m)).win 2).cell j (1 : Fin 2) = (j (1 : Fin 2)).val / 768 := rfl
    show (j (1 : Fin 2)).val < 2304 ↔ (0 ≤ ((cfgM m (ok m)).win 2).cell j (1 : Fin 2) ∧ ((cfgM m (ok m)).win 2).cell j (1 : Fin 2) < 3)
    rw [hc]
    omega

/-- The columns the host keeps. -/
abbrev kept (x : FVec Ideal S2048x9216 .f32) : FVec Ideal S2048x2304 .f32 :=
  extractStridedSlice S2048x2304 ![0, 0] x Cert.ProjOwnRefIdeal.Gen.slices_S2048x9216_S2048x2304_0_0

/-- Each kept element is the array's at the same place. -/
theorem kept_apply (y : S2048x2304.Idx) :
    ∃ i : S2048x9216.Idx, (i 1).val < 2304 ∧ ∀ x, kept x y = x i := by
  have hy : (y (1 : Fin 2)).val < 2304 := (y (1 : Fin 2)).isLt
  refine ⟨_, ?_, fun x => rfl⟩
  show 0 + (y (1 : Fin 2)).val < 2304
  omega

/-- What the host keeps of it is the reference's. -/
theorem final (c : Dev nD) : Pipeline.afterTail pcfgs (fun _ => adm m (ok m)) (dats m (ok m)) 0 (V0 m) [hostOps1] c main_v5
    = extractStridedSlice S2048x2304 ![0, 0] (product (m ((c : Thread nD τ).loc main_arg0)) (m ((c : Thread nD τ).loc main_arg1)))
        Cert.ProjOwnRefIdeal.Gen.slices_S2048x9216_S2048x2304_0_0 := by
  refine Eq.trans (b := kept ((dats m (ok m) 0 c).arrAt 2 (cfgM m (ok m)).N)) ?_ ?_
  · unfold Pipeline.afterTail
    simp only [List.flatten_cons, List.flatten_nil, List.append_nil]
    after_results
    exact congrArg kept (Pipeline.withArrays_arr spec0 winFacts0.arr_inj c _ _ 2)
  · funext y
    obtain ⟨i, hi, h⟩ := kept_apply y
    exact (h _).trans ((written m c i hi).trans (h _).symm)

/-- The run: the kept columns, the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v5) = Pipeline.afterTail pcfgs (fun _ => adm m (ok m)) (dats m (ok m)) 0 (V0 m) [hostOps1] c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h.2 c).2 main_v5 (by decide : main_v5 ∈ Pipeline.restRefs sig spec0), (h.1 c).1, (h.1 c).2⟩)
    (θ_run_and (unchanged m ρ (ok m)) (run_main m ρ (ok m)))

end Cert.ProjOwnIdeal.Columns

namespace Cert.ProjOwn.Columns
open Cert.ProjOwn Cert.ProjOwn.Gen

/-- The machine's program fills its table with the same numbers. -/
def chips : pre0.Contents (Elt Bits) := fun | ⟨0, _⟩ => (constantI S1 32 0#32) | ⟨_ + 1, h⟩ => absurd h (by simp)

/-- At those every block lies inside its array. -/
theorem ok_chips : ok0 chips := by decide +kernel

/-- So the machine's program is admitted from every memory. -/
theorem ok (m : (ℓ : Loc nD τ sig) → Buf (Elt Bits) ℓ) : Ok m := by
  have h : tbl m = chips := by
    funext j
    match j with
    | ⟨0, _⟩ =>
      show StableHlo.after hostOps0 _ _ = _
      after_results
      rfl
  unfold Ok
  rw [h]
  exact ok_chips

end Cert.ProjOwn.Columns

end
-- ==== Proof.ProjNear.lean ====
module
public import proofs.«01_k».proof.Proof.Gen.ProjNear.Frame
public import proofs.«01_k».proof.Proof.Gen.ProjNearIdeal.Frame
public import proofs.«01_k».proof.Proof.Gen.ProjNearRefIdeal.Run
public import Idealize.ShloMosaic.Lib.Pipeline.ValueKit
public import Idealize.ShloMosaic.Lib.Pointwise
public import Idealize.ShloMosaic.Lib.Claim

/-!
# The input projection, the two middle quarters of its columns

The kernel reads the chips whose shards of the weight it takes from a small table of integers, which the host fills with
constants.  A grid point holds the whole input and a third of one shard's columns, and writes the product to the same
columns of the whole weight.
-/

@[expose] public section

set_option maxRecDepth 16384

noncomputable section

open Idealize.ShloMosaic Idealize.ShloMosaic.TcCoe Idealize.SL.Sem
open Idealize.ShloMosaic.Pipeline (Dat)

namespace Cert.ProjNearIdeal.Columns
open Cert.ProjNearIdeal Cert.ProjNearIdeal.Gen

section Table
variable {F : FTy → Type} [FloatOps F]
variable (m : (ℓ : Loc nD τ sig) → Buf (Elt F) ℓ)

/-- The table as the host fills it. -/
def chips : pre0.Contents (Elt F) := fun | ⟨0, _⟩ => (fun i => lit0 (S2.rowMajor i)) | ⟨_ + 1, h⟩ => absurd h (by simp)

/-- The region finds that table. -/
theorem tbl_eq : tbl m = chips := by
  funext j
  match j with
  | ⟨0, _⟩ =>
    show StableHlo.after hostOps0 _ _ = _
    after_results
    rfl

end Table

/-- At its numbers every block lies inside its array. -/
theorem ok_chips : ok0 (chips (F := Ideal)) := by decide +kernel

/-- The columns' blocks the grid writes. -/
theorem covers_chips : ((cfg0 ⟨chips (F := Ideal), ok_chips⟩).win 2).CoversWhere (fun β => 3 ≤ β (1 : Fin 2) ∧ β (1 : Fin 2) < 9) := by
  decide +kernel

/-- The same of any table with those numbers. -/
theorem covers (T : pre0.Contents (Elt Ideal)) (hT : T = chips) (h : ok0 T) :
    ((cfg0 ⟨T, h⟩).win 2).CoversWhere (fun β => 3 ≤ β (1 : Fin 2) ∧ β (1 : Fin 2) < 9) := by
  subst hT
  exact covers_chips

/-- Which block each window is at. -/
theorem idx (T : pre0.Contents (Elt Ideal)) (hT : T = chips) (h : ok0 T) :
    ∀ t : Fin (cfg0 ⟨T, h⟩).N, ((cfg0 ⟨T, h⟩).win 0).index t = ![0, 0] ∧ ((cfg0 ⟨T, h⟩).win 1).index t = ![2 - t.val / 3, 0, t.val % 3]
      ∧ ((cfg0 ⟨T, h⟩).win 2).index t = ![0, 3 * (2 - t.val / 3) + t.val % 3] := by
  subst hT
  exact (by decide +kernel : ∀ t : Fin grid0.N, ((cfg0 ⟨chips, ok_chips⟩).win 0).index t = ![0, 0]
      ∧ ((cfg0 ⟨chips, ok_chips⟩).win 1).index t = ![2 - t.val / 3, 0, t.val % 3]
      ∧ ((cfg0 ⟨chips, ok_chips⟩).win 2).index t = ![0, 3 * (2 - t.val / 3) + t.val % 3])

/-- The whole product. -/
abbrev product (X : FVec Ideal S2048x2048 .f32) (W : FVec Ideal S2048x9216 .f32) : FVec Ideal S2048x9216 .f32 :=
  Host.dotGeneral Cert.ProjNearRefIdeal.dot_S2048x2048_S2048x9216_S2048x9216_1_0_0_1_n_n none X W

/-- The weight as the kernel holds it: four column shards. -/
abbrev shards (W : FVec Ideal S2048x9216 .f32) : FVec Ideal S4x2048x2304 .bf16 :=
  transpose S4x2048x2304 [1, 0, 2] (shapeCast S2048x4x2304 (truncf .bf16 W bitsLt_bf16_f32) shapeCasts_S2048x9216_S2048x4x2304)
    transposes_S2048x4x2304_S4x2048x2304_1_0_2

set_option maxHeartbeats 1600000 in
/-- What a grid point stores is the product at the same place. -/
theorem point_at (T : pre0.Contents (Elt Ideal)) (hT : T = chips) (h : ok0 T) (X : FVec Ideal S2048x2048 .f32) (W : FVec Ideal S2048x9216 .f32)
    (t : Fin (cfg0 ⟨T, h⟩).N) (y) :
    k0_pay1 (fun y => (truncf .bf16 X bitsLt_bf16_f32 : FVec Ideal S2048x2048 .bf16) ((((cfg0 ⟨T, h⟩).win 0).blk t).view.emb y))
        (fun y => shards W ((((cfg0 ⟨T, h⟩).win 1).blk t).view.emb y)) y
      = product X W ((((cfg0 ⟨T, h⟩).win 2).blk t).view.emb y) := by
  pointwise [k0_pay1, product]
  blk_point [idx T hT h t]

variable (m : (ℓ : Loc nD τ sig) → Buf (Elt Ideal) ℓ)

theorem ok : Ok m := by unfold Ok; rw [tbl_eq m]; exact ok_chips

theorem entry0 (c : Dev nD) : V m c main_v0 = (truncf .bf16 (m ((c : Thread nD τ).loc main_arg0) : FVec Ideal S2048x2048 .f32) bitsLt_bf16_f32 : FVec Ideal S2048x2048 .bf16) := by
  show StableHlo.after hostOps0 _ _ = _
  after_results

theorem entry1 (c : Dev nD) : V m c main_v3 = shards (m ((c : Thread nD τ).loc main_arg1)) := by
  show StableHlo.after hostOps0 _ _ = _
  after_results
  rfl

theorem block0 (c : Dev nD) (t : Fin (cfgM m (ok m)).N) :
    (iblk m (ok m) c 0 t : FVec Ideal S2048x2048 .bf16) = fun y => (truncf .bf16 (m ((c : Thread nD τ).loc main_arg0)) bitsLt_bf16_f32 : FVec Ideal S2048x2048 .bf16) ((((cfgM m (ok m)).win 0).blk t).view.emb y) := by
  rw [← entry0]; rfl

theorem block1 (c : Dev nD) (t : Fin (cfgM m (ok m)).N) :
    (iblk m (ok m) c 1 t : FVec Ideal S1x2048x768 .bf16) = fun y => shards (m ((c : Thread nD τ).loc main_arg1)) ((((cfgM m (ok m)).win 1).blk t).view.emb y) := by
  rw [← entry1]; rfl

/-- What a grid point stores is the product at the same place, in the program's run. -/
theorem point (c : Dev nD) (t : Fin (cfgM m (ok m)).N) (y) :
    k0_pay1 (iblk m (ok m) c 0 t) (iblk m (ok m) c 1 t) y
      = product (m ((c : Thread nD τ).loc main_arg0)) (m ((c : Thread nD τ).loc main_arg1))
          ((((cfgM m (ok m)).win 2).blk t).view.emb y) := by
  rw [block0 m c t, block1 m c t]
  exact point_at (tbl m) (tbl_eq m) (ok m) _ _ t y

/-- What the body leaves of any two blocks. -/
theorem out_eq (c : Dev nD) (i : grid0.Coords) (arg2 : Memref sig .tc .vmem S2048x2048 .bf16) (harg2 : arg2.IsWhole)
    (arg3 : Memref sig .tc .vmem S1x2048x768 .bf16) (harg3 : arg3.IsWhole) (arg5 : Memref sig .tc .vmem S2048x768 .f32) (harg5 : arg5.IsWhole)
    (x0 : Vec Ideal S2048x2048 .bf16) (x1 : Vec Ideal S1x2048x768 .bf16) (xt0 : TbBuf0 (F := Ideal) c tbM0_0) :
    out0_A_2 c i arg2 harg2 arg3 harg3 arg5 harg5 x0 x1 xt0 = k0_pay1 x0 x1 := by
  funext y
  frame_out

/-- What a point leaves in the output's buffer. -/
theorem after_eq (c : Dev nD) (t : Fin (cfgM m (ok m)).N) :
    (dats m (ok m) 0 c).after 2 t = k0_pay1 (iblk m (ok m) c 0 t) (iblk m (ok m) c 1 t) := by
  rw [after0_2]
  exact out_eq c _ _ _ _ _ _ _ _ _ _

/-- The reference's array: the product in the columns written, the array handed in elsewhere. -/
abbrev mixed (X : FVec Ideal S2048x2048 .f32) (W I : FVec Ideal S2048x9216 .f32) : FVec Ideal S2048x9216 .f32 :=
  concatenate Cert.ProjNearRefIdeal.S2048x9216 1 [⟨Cert.ProjNearRefIdeal.S2048x2304, (extractStridedSlice Cert.ProjNearRefIdeal.S2048x2304 ![0, 0] I Cert.ProjNearRefIdeal.Gen.slices_S2048x9216_S2048x2304_0_0)⟩, ⟨Cert.ProjNearRefIdeal.S2048x4608, (extractStridedSlice Cert.ProjNearRefIdeal.S2048x4608 ![0, 2304] (product X W) Cert.ProjNearRefIdeal.Gen.slices_S2048x9216_S2048x4608_0_2304)⟩, ⟨Cert.ProjNearRefIdeal.S2048x2304, (extractStridedSlice Cert.ProjNearRefIdeal.S2048x2304 ![0, 6912] I Cert.ProjNearRefIdeal.Gen.slices_S2048x9216_S2048x2304_0_6912)⟩] Cert.ProjNearRefIdeal.Gen.concatenates_S2048x2304_S2048x4608_S2048x2304_S2048x9216_d1

theorem mixed_in (X : FVec Ideal S2048x2048 .f32) (W I : FVec Ideal S2048x9216 .f32) (j : S2048x9216.Idx) (h : 2304 ≤ (j 1).val ∧ (j 1).val < 6912) :
    mixed X W I j = product X W j := by
  have hj : (j (1 : Fin 2)).val < 9216 := (j (1 : Fin 2)).isLt
  pointwise [mixed]
  rw [dif_neg (by omega), dif_pos (by omega)]
  exact Finset.sum_congr rfl fun k _ => congrArg (fun z => X (ix2 (j 0) k) * W (ix2 k z))
    (Fin.ext (show 2304 + ((j (1 : Fin 2)).val - 2304) = (j (1 : Fin 2)).val by omega))

theorem mixed_out (X : FVec Ideal S2048x2048 .f32) (W I : FVec Ideal S2048x9216 .f32) (j : S2048x9216.Idx) (h : ¬(2304 ≤ (j 1).val ∧ (j 1).val < 6912)) :
    mixed X W I j = I j := by
  have hj : (j (1 : Fin 2)).val < 9216 := (j (1 : Fin 2)).isLt
  pointwise [mixed]
  by_cases h1 : (j (1 : Fin 2)).val < 2304
  · rw [dif_pos h1]
  · rw [dif_neg h1, dif_neg (by omega)]
    refine congrArg I ?_
    funext x
    match x with
    | ⟨0, _⟩ => rfl
    | ⟨1, _⟩ => exact Fin.ext (show 6912 + ((j (1 : Fin 2)).val - 2304 - 4608) = (j (1 : Fin 2)).val by omega)

theorem entry2 (c : Dev nD) : V m c main_v4 = m ((c : Thread nD τ).loc main_arg2) := by
  show StableHlo.after hostOps0 _ _ = _
  after_results
  rfl

/-- A block's columns lie among those written. -/
theorem lies (T : pre0.Contents (Elt Ideal)) (hT : T = chips) (h : ok0 T) (t : Fin (cfg0 ⟨T, h⟩).N) (y : (cfg0 ⟨T, h⟩).win 2 |>.xblock ((cfg0 ⟨T, h⟩).grid.coords t) |>.Idx) :
    2304 ≤ ((((cfg0 ⟨T, h⟩).win 2).blk t).view.emb y (1 : Fin 2)).val ∧ ((((cfg0 ⟨T, h⟩).win 2).blk t).view.emb y (1 : Fin 2)).val < 6912 := by
  have hy : (y (1 : Fin 2)).val < 768 := (y (1 : Fin 2)).isLt
  have ht : t.val < 6 := lt_of_lt_of_eq t.isLt N_0
  blk_simp [idx T hT h t]
  omega

set_option maxHeartbeats 800000 in
/-- The array the call leaves is the reference's. -/
theorem final (c : Dev nD) : (dats m (ok m) 0 c).arrAt 2 (cfgM m (ok m)).N
    = mixed (m ((c : Thread nD τ).loc main_arg0)) (m ((c : Thread nD τ).loc main_arg1)) (m ((c : Thread nD τ).loc main_arg2)) := by
  refine (dats m (ok m) 0 c).arrAt_eq_of_coversWhere_of_agree 2 _
    (fun β => 3 ≤ β (1 : Fin 2) ∧ β (1 : Fin 2) < 9) (covers _ (tbl_eq m) (ok m)) (fun t _ y => ?_) (fun j hj => ?_)
  · refine Eq.trans ?_ (mixed_in _ _ _ _ (lies (tbl m) (tbl_eq m) (ok m) t y)).symm
    refine Eq.trans ?_ (point m c t y)
    exact congrFun (after_eq m c t) y
  · refine Eq.trans ?_ (mixed_out _ _ _ _ ?_).symm
    · rw [A_eq]
      exact congrFun (entry2 m c) _
    · have hc : ((cfgM m (ok m)).win 2).cell j (1 : Fin 2) = (j (1 : Fin 2)).val / 768 := rfl
      have hj' : ¬(3 ≤ ((cfgM m (ok m)).win 2).cell j (1 : Fin 2) ∧ ((cfgM m (ok m)).win 2).cell j (1 : Fin 2) < 9) := hj
      rw [hc] at hj'
      show ¬(2304 ≤ (j (1 : Fin 2)).val ∧ (j (1 : Fin 2)).val < 6912)
      omega

/-- The run: the reference's array, the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v4) = mixed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2 c).1 2).trans (final m c), (h.1 c).1, (h.1 c).2.1, (h.1 c).2.2⟩)
    (θ_run_and (unchanged m ρ (ok m)) (run_main m ρ (ok m)))

end Cert.ProjNearIdeal.Columns

namespace Cert.ProjNear.Columns
open Cert.ProjNear Cert.ProjNear.Gen

/-- The machine's program fills its table with the same numbers. -/
def chips : pre0.Contents (Elt Bits) := fun | ⟨0, _⟩ => (fun i => lit0 (S2.rowMajor i)) | ⟨_ + 1, h⟩ => absurd h (by simp)

/-- At those every block lies inside its array. -/
theorem ok_chips : ok0 chips := by decide +kernel

/-- So the machine's program is admitted from every memory. -/
theorem ok (m : (ℓ : Loc nD τ sig) → Buf (Elt Bits) ℓ) : Ok m := by
  have h : tbl m = chips := by
    funext j
    match j with
    | ⟨0, _⟩ =>
      show StableHlo.after hostOps0 _ _ = _
      after_results
      rfl
  unfold Ok
  rw [h]
  exact ok_chips

end Cert.ProjNear.Columns

end
-- ==== Proof.ProjFar.lean ====
module
public import proofs.«01_k».proof.Proof.Gen.ProjFar.Frame
public import proofs.«01_k».proof.Proof.Gen.ProjFarIdeal.Frame
public import proofs.«01_k».proof.Proof.Gen.ProjFarRefIdeal.Run
public import Idealize.ShloMosaic.Lib.Pipeline.ValueKit
public import Idealize.ShloMosaic.Lib.Pointwise
public import Idealize.ShloMosaic.Lib.Claim

/-!
# The input projection, the last quarter of its columns

The kernel reads the chips whose shards of the weight it takes from a small table of integers, which the host fills with
constants.  A grid point holds the whole input and a third of one shard's columns, and writes the product to the same
columns of the whole weight.
-/

@[expose] public section

set_option maxRecDepth 16384

noncomputable section

open Idealize.ShloMosaic Idealize.ShloMosaic.TcCoe Idealize.SL.Sem
open Idealize.ShloMosaic.Pipeline (Dat)

namespace Cert.ProjFarIdeal.Columns
open Cert.ProjFarIdeal Cert.ProjFarIdeal.Gen

section Table
variable {F : FTy → Type} [FloatOps F]
variable (m : (ℓ : Loc nD τ sig) → Buf (Elt F) ℓ)

/-- The table as the host fills it. -/
def chips : pre0.Contents (Elt F) := fun | ⟨0, _⟩ => (constantI S1 32 3#32) | ⟨_ + 1, h⟩ => absurd h (by simp)

/-- The region finds that table. -/
theorem tbl_eq : tbl m = chips := by
  funext j
  match j with
  | ⟨0, _⟩ =>
    show StableHlo.after hostOps0 _ _ = _
    after_results
    rfl

end Table

/-- At its numbers every block lies inside its array. -/
theorem ok_chips : ok0 (chips (F := Ideal)) := by decide +kernel

/-- The columns' blocks the grid writes. -/
theorem covers_chips : ((cfg0 ⟨chips (F := Ideal), ok_chips⟩).win 2).CoversWhere (fun β => 9 ≤ β (1 : Fin 2) ∧ β (1 : Fin 2) < 12) := by
  decide +kernel

/-- The same of any table with those numbers. -/
theorem covers (T : pre0.Contents (Elt Ideal)) (hT : T = chips) (h : ok0 T) :
    ((cfg0 ⟨T, h⟩).win 2).CoversWhere (fun β => 9 ≤ β (1 : Fin 2) ∧ β (1 : Fin 2) < 12) := by
  subst hT
  exact covers_chips

/-- Which block each window is at. -/
theorem idx (T : pre0.Contents (Elt Ideal)) (hT : T = chips) (h : ok0 T) :
    ∀ t : Fin (cfg0 ⟨T, h⟩).N, ((cfg0 ⟨T, h⟩).win 0).index t = ![0, 0] ∧ ((cfg0 ⟨T, h⟩).win 1).index t = ![3, 0, t.val % 3]
      ∧ ((cfg0 ⟨T, h⟩).win 2).index t = ![0, 3 * (3) + t.val % 3] := by
  subst hT
  exact (by decide +kernel : ∀ t : Fin grid0.N, ((cfg0 ⟨chips, ok_chips⟩).win 0).index t = ![0, 0]
      ∧ ((cfg0 ⟨chips, ok_chips⟩).win 1).index t = ![3, 0, t.val % 3]
      ∧ ((cfg0 ⟨chips, ok_chips⟩).win 2).index t = ![0, 3 * (3) + t.val % 3])

/-- The whole product. -/
abbrev product (X : FVec Ideal S2048x2048 .f32) (W : FVec Ideal S2048x9216 .f32) : FVec Ideal S2048x9216 .f32 :=
  Host.dotGeneral Cert.ProjFarRefIdeal.dot_S2048x2048_S2048x9216_S2048x9216_1_0_0_1_n_n none X W

/-- The weight as the kernel holds it: four column shards. -/
abbrev shards (W : FVec Ideal S2048x9216 .f32) : FVec Ideal S4x2048x2304 .bf16 :=
  transpose S4x2048x2304 [1, 0, 2] (shapeCast S2048x4x2304 (truncf .bf16 W bitsLt_bf16_f32) shapeCasts_S2048x9216_S2048x4x2304)
    transposes_S2048x4x2304_S4x2048x2304_1_0_2

set_option maxHeartbeats 1600000 in
/-- What a grid point stores is the product at the same place. -/
theorem point_at (T : pre0.Contents (Elt Ideal)) (hT : T = chips) (h : ok0 T) (X : FVec Ideal S2048x2048 .f32) (W : FVec Ideal S2048x9216 .f32)
    (t : Fin (cfg0 ⟨T, h⟩).N) (y) :
    k0_pay1 (fun y => (truncf .bf16 X bitsLt_bf16_f32 : FVec Ideal S2048x2048 .bf16) ((((cfg0 ⟨T, h⟩).win 0).blk t).view.emb y))
        (fun y => shards W ((((cfg0 ⟨T, h⟩).win 1).blk t).view.emb y)) y
      = product X W ((((cfg0 ⟨T, h⟩).win 2).blk t).view.emb y) := by
  pointwise [k0_pay1, product]
  blk_point [idx T hT h t]

variable (m : (ℓ : Loc nD τ sig) → Buf (Elt Ideal) ℓ)

theorem ok : Ok m := by unfold Ok; rw [tbl_eq m]; exact ok_chips

theorem entry0 (c : Dev nD) : V m c main_v0 = (truncf .bf16 (m ((c : Thread nD τ).loc main_arg0) : FVec Ideal S2048x2048 .f32) bitsLt_bf16_f32 : FVec Ideal S2048x2048 .bf16) := by
  show StableHlo.after hostOps0 _ _ = _
  after_results

theorem entry1 (c : Dev nD) : V m c main_v3 = shards (m ((c : Thread nD τ).loc main_arg1)) := by
  show StableHlo.after hostOps0 _ _ = _
  after_results
  rfl

theorem block0 (c : Dev nD) (t : Fin (cfgM m (ok m)).N) :
    (iblk m (ok m) c 0 t : FVec Ideal S2048x2048 .bf16) = fun y => (truncf .bf16 (m ((c : Thread nD τ).loc main_arg0)) bitsLt_bf16_f32 : FVec Ideal S2048x2048 .bf16) ((((cfgM m (ok m)).win 0).blk t).view.emb y) := by
  rw [← entry0]; rfl

theorem block1 (c : Dev nD) (t : Fin (cfgM m (ok m)).N) :
    (iblk m (ok m) c 1 t : FVec Ideal S1x2048x768 .bf16) = fun y => shards (m ((c : Thread nD τ).loc main_arg1)) ((((cfgM m (ok m)).win 1).blk t).view.emb y) := by
  rw [← entry1]; rfl

/-- What a grid point stores is the product at the same place, in the program's run. -/
theorem point (c : Dev nD) (t : Fin (cfgM m (ok m)).N) (y) :
    k0_pay1 (iblk m (ok m) c 0 t) (iblk m (ok m) c 1 t) y
      = product (m ((c : Thread nD τ).loc main_arg0)) (m ((c : Thread nD τ).loc main_arg1))
          ((((cfgM m (ok m)).win 2).blk t).view.emb y) := by
  rw [block0 m c t, block1 m c t]
  exact point_at (tbl m) (tbl_eq m) (ok m) _ _ t y

/-- What the body leaves of any two blocks. -/
theorem out_eq (c : Dev nD) (i : grid0.Coords) (arg2 : Memref sig .tc .vmem S2048x2048 .bf16) (harg2 : arg2.IsWhole)
    (arg3 : Memref sig .tc .vmem S1x2048x768 .bf16) (harg3 : arg3.IsWhole) (arg5 : Memref sig .tc .vmem S2048x768 .f32) (harg5 : arg5.IsWhole)
    (x0 : Vec Ideal S2048x2048 .bf16) (x1 : Vec Ideal S1x2048x768 .bf16) (xt0 : TbBuf0 (F := Ideal) c tbM0_0) :
    out0_A_2 c i arg2 harg2 arg3 harg3 arg5 harg5 x0 x1 xt0 = k0_pay1 x0 x1 := by
  funext y
  frame_out

/-- What a point leaves in the output's buffer. -/
theorem after_eq (c : Dev nD) (t : Fin (cfgM m (ok m)).N) :
    (dats m (ok m) 0 c).after 2 t = k0_pay1 (iblk m (ok m) c 0 t) (iblk m (ok m) c 1 t) := by
  rw [after0_2]
  exact out_eq c _ _ _ _ _ _ _ _ _ _

/-- The reference's array: the product in the columns written, the array handed in elsewhere. -/
abbrev mixed (X : FVec Ideal S2048x2048 .f32) (W I : FVec Ideal S2048x9216 .f32) : FVec Ideal S2048x9216 .f32 :=
  concatenate Cert.ProjFarRefIdeal.S2048x9216 1 [⟨Cert.ProjFarRefIdeal.S2048x6912, (extractStridedSlice Cert.ProjFarRefIdeal.S2048x6912 ![0, 0] I Cert.ProjFarRefIdeal.Gen.slices_S2048x9216_S2048x6912_0_0)⟩, ⟨Cert.ProjFarRefIdeal.S2048x2304, (extractStridedSlice Cert.ProjFarRefIdeal.S2048x2304 ![0, 6912] (product X W) Cert.ProjFarRefIdeal.Gen.slices_S2048x9216_S2048x2304_0_6912)⟩] Cert.ProjFarRefIdeal.Gen.concatenates_S2048x6912_S2048x2304_S2048x9216_d1

theorem mixed_in (X : FVec Ideal S2048x2048 .f32) (W I : FVec Ideal S2048x9216 .f32) (j : S2048x9216.Idx) (h : 6912 ≤ (j 1).val ∧ (j 1).val < 9216) :
    mixed X W I j = product X W j := by
  have hj : (j (1 : Fin 2)).val < 9216 := (j (1 : Fin 2)).isLt
  pointwise [mixed]
  rw [dif_neg (by omega)]
  exact Finset.sum_congr rfl fun k _ => congrArg (fun z => X (ix2 (j 0) k) * W (ix2 k z))
    (Fin.ext (show 6912 + ((j (1 : Fin 2)).val - 6912) = (j (1 : Fin 2)).val by omega))

theorem mixed_out (X : FVec Ideal S2048x2048 .f32) (W I : FVec Ideal S2048x9216 .f32) (j : S2048x9216.Idx) (h : ¬(6912 ≤ (j 1).val ∧ (j 1).val < 9216)) :
    mixed X W I j = I j := by
  have hj : (j (1 : Fin 2)).val < 9216 := (j (1 : Fin 2)).isLt
  pointwise [mixed]
  rw [dif_pos (by omega)]

theorem entry2 (c : Dev nD) : V m c main_v4 = m ((c : Thread nD τ).loc main_arg2) := by
  show StableHlo.after hostOps0 _ _ = _
  after_results
  rfl

/-- A block's columns lie among those written. -/
theorem lies (T : pre0.Contents (Elt Ideal)) (hT : T = chips) (h : ok0 T) (t : Fin (cfg0 ⟨T, h⟩).N) (y : (cfg0 ⟨T, h⟩).win 2 |>.xblock ((cfg0 ⟨T, h⟩).grid.coords t) |>.Idx) :
    6912 ≤ ((((cfg0 ⟨T, h⟩).win 2).blk t).view.emb y (1 : Fin 2)).val ∧ ((((cfg0 ⟨T, h⟩).win 2).blk t).view.emb y (1 : Fin 2)).val < 9216 := by
  have hy : (y (1 : Fin 2)).val < 768 := (y (1 : Fin 2)).isLt
  have ht : t.val < 3 := lt_of_lt_of_eq t.isLt N_0
  blk_simp [idx T hT h t]
  omega

set_option maxHeartbeats 800000 in
/-- The array the call leaves is the reference's. -/
theorem final (c : Dev nD) : (dats m (ok m) 0 c).arrAt 2 (cfgM m (ok m)).N
    = mixed (m ((c : Thread nD τ).loc main_arg0)) (m ((c : Thread nD τ).loc main_arg1)) (m ((c : Thread nD τ).loc main_arg2)) := by
  refine (dats m (ok m) 0 c).arrAt_eq_of_coversWhere_of_agree 2 _
    (fun β => 9 ≤ β (1 : Fin 2) ∧ β (1 : Fin 2) < 12) (covers _ (tbl_eq m) (ok m)) (fun t _ y => ?_) (fun j hj => ?_)
  · refine Eq.trans ?_ (mixed_in _ _ _ _ (lies (tbl m) (tbl_eq m) (ok m) t y)).symm
    refine Eq.trans ?_ (point m c t y)
    exact congrFun (after_eq m c t) y
  · refine Eq.trans ?_ (mixed_out _ _ _ _ ?_).symm
    · rw [A_eq]
      exact congrFun (entry2 m c) _
    · have hc : ((cfgM m (ok m)).win 2).cell j (1 : Fin 2) = (j (1 : Fin 2)).val / 768 := rfl
      have hj' : ¬(9 ≤ ((cfgM m (ok m)).win 2).cell j (1 : Fin 2) ∧ ((cfgM m (ok m)).win 2).cell j (1 : Fin 2) < 12) := hj
      rw [hc] at hj'
      show ¬(6912 ≤ (j (1 : Fin 2)).val ∧ (j (1 : Fin 2)).val < 9216)
      omega

/-- The run: the reference's array, the arguments as they were. -/
theorem run (ρ : Dev nD → PrngReg) : θ_run defs (onTc (τ := τ) (main (F := Ideal))) ⟨m, fun _ => 0, ρ⟩ (fun r => ∀ c : Dev nD,
      r.2.mem ((c.tc : Thread nD τ).loc main_v4) = mixed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2 c).1 2).trans (final m c), (h.1 c).1, (h.1 c).2.1, (h.1 c).2.2⟩)
    (θ_run_and (unchanged m ρ (ok m)) (run_main m ρ (ok m)))

end Cert.ProjFarIdeal.Columns

namespace Cert.ProjFar.Columns
open Cert.ProjFar Cert.ProjFar.Gen

/-- The machine's program fills its table with the same numbers. -/
def chips : pre0.Contents (Elt Bits) := fun | ⟨0, _⟩ => (constantI S1 32 3#32) | ⟨_ + 1, h⟩ => absurd h (by simp)

/-- At those every block lies inside its array. -/
theorem ok_chips : ok0 chips := by decide +kernel

/-- So the machine's program is admitted from every memory. -/
theorem ok (m : (ℓ : Loc nD τ sig) → Buf (Elt Bits) ℓ) : Ok m := by
  have h : tbl m = chips := by
    funext j
    match j with
    | ⟨0, _⟩ =>
      show StableHlo.after hostOps0 _ _ = _
      after_results
      rfl
  unfold Ok
  rw [h]
  exact ok_chips

end Cert.ProjFar.Columns

end
-- ==== Proof.Gmlp.lean ====
module
public import proofs.«01_k».proof.Proof.Gen.GmlpIdeal.Value
public import proofs.«01_k».proof.Proof.Gen.GmlpRefIdeal.Run
public import Idealize.ShloMosaic.Lib.Pipeline.ValueKit
public import Idealize.ShloMosaic.Lib.Pointwise

/-!
# The gated spatial unit

The reference rectifies both halves of the branch's columns, normalises the rows of the second, weights each chunk of 128
rows by a lower triangular matrix per group of 128 columns, and gates the first half with that.  The kernel does so chunk
by chunk, one group of columns after the other.  Both sides are read at one place of the output: there each is the
rectified first half times a sum over the chunk's rows plus the row's shift.
-/

@[expose] public section

set_option maxRecDepth 16384

noncomputable section

open Idealize.ShloMosaic Idealize.ShloMosaic.TcCoe Idealize.SL.Sem
open Idealize.ShloMosaic.Pipeline (Dat)

namespace Cert.GmlpRefIdeal.Unit
open Cert.GmlpRefIdeal Cert.GmlpRefIdeal.Gen

/-- The smooth rectifier of one number. -/
def gel (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- A plane holding one constant. -/
abbrev plane (w : BitVec 32) : FVec Ideal S2048x1024 .f32 :=
  broadcastInDim S2048x1024 ![] bcast_S_S2048x1024 (constant S_ .f32 w)

/-- The smooth rectifier of a plane. -/
def gelu (X : FVec Ideal S2048x1024 .f32) : FVec Ideal S2048x1024 .f32 :=
  mulf X (mulf (plane 0x3F000000#32) (addf (plane 0x3F800000#32) (Host.tanh (mulf (plane 0x3F4C422A#32)
    (addf X (mulf (plane 0x3D372713#32) (mulf (mulf X X) X)))))))

/-- Read at an index, the smooth rectifier of a plane is that of the number there. -/
theorem gelu_apply (X : FVec Ideal S2048x1024 .f32) (i) : gelu X i = gel (X i) := by
  pointwise [gelu, plane, gel]

/-- A column holding one constant. -/
abbrev col (w : BitVec 32) : FVec Ideal S2048x1 .f32 :=
  broadcastInDim S2048x1 ![] bcast_S_S2048x1 (constant S_ .f32 w)

/-- A column spread over the width. -/
abbrev spread (X : FVec Ideal S2048x1 .f32) : FVec Ideal S2048x1024 .f32 :=
  broadcastInDim S2048x1024 ![0, 1] bcast_S2048x1_S2048x1024_0_1 X

/-- The mean of each row. -/
abbrev mean (X : FVec Ideal S2048x1024 .f32) : FVec Ideal S2048x1 .f32 :=
  Host.divf (broadcastInDim S2048x1 ![0] bcast_S2048_S2048x1_0
    (Host.reduceAdd X (constant S_ .f32 0x00000000#32) reducesTo_S2048x1024_S2048_d1 h_S_)) (col 0x44800000#32)

/-- Rows less their mean. -/
abbrev cen (X : FVec Ideal S2048x1024 .f32) : FVec Ideal S2048x1024 .f32 := subf X (spread (mean X))

/-- A row vector spread over the rows. -/
abbrev rows (g : FVec Ideal S1x1024 .f32) : FVec Ideal S2048x1024 .f32 :=
  broadcastInDim S2048x1024 ![0, 1] bcast_S1x1024_S2048x1024_0_1 (broadcastInDim S1x1024 ![1] bcast_S1024_S1x1024_1
    (shapeCast _ g shapeCasts_S1x1024_S1024))

/-- The layer norm of a plane. -/
def layerNorm (X : FVec Ideal S2048x1024 .f32) (g b : FVec Ideal S1x1024 .f32) : FVec Ideal S2048x1024 .f32 :=
  addf (mulf (mulf (cen X) (spread (Host.rsqrt (addf (mean (mulf (cen X) (cen X))) (col 0x3727C5AC#32))))) (rows g)) (rows b)

/-- The spatial weights, zero above the diagonal. -/
def lower (w : FVec Ideal S1x8x128x128 .f32) : FVec Ideal S8x128x128 .f32 :=
  select (broadcastInDim S8x128x128 ![1, 2] bcast_S128x128_S8x128x128_1_2
      (cmpi .sge (broadcastInDim S128x128 ![0, 1] bcast_S128x1_S128x128_0_1 (broadcastInDim S128x1 ![0] bcast_S128_S128x1_0 (iotaInDim S128 32 0)))
        (broadcastInDim S128x128 ![0, 1] bcast_S1x128_S128x128_0_1 (broadcastInDim S1x128 ![1] bcast_S128_S1x128_1 (iotaInDim S128 32 0)))))
    (shapeCast _ w shapeCasts_S1x8x128x128_S8x128x128) (broadcastInDim S8x128x128 ![] bcast_S_S8x128x128 (constant S_ .f32 0x00000000#32))

/-- The spatial bias, for every chunk and column. -/
abbrev shift (b : FVec Ideal S1x8x128 .f32) : FVec Ideal S16x128x8x128 .f32 :=
  broadcastInDim S16x128x8x128 ![0, 1, 2, 3] bcast_S1x128x8x1_S16x128x8x128_0_1_2_3 (broadcastInDim S1x128x8x1 ![1, 2] bcast_S128x8_S1x128x8x1_1_2
    (transpose S128x8 [1, 0] (shapeCast _ b shapeCasts_S1x8x128_S8x128) transposes_S8x128_S128x8_1_0))

/-- The columns of the gated branch's first half. -/
abbrev left (P : FVec Ideal S2048x9216 .f32) : FVec Ideal S2048x1024 .f32 :=
  extractStridedSlice S2048x1024 ![0, 3072] P slices_S2048x9216_S2048x1024_0_3072

/-- The columns of its second half. -/
abbrev right (P : FVec Ideal S2048x9216 .f32) : FVec Ideal S2048x1024 .f32 :=
  extractStridedSlice S2048x1024 ![0, 4096] P slices_S2048x9216_S2048x1024_0_4096

/-- The gated spatial unit's output from its two rectified halves. -/
def gated (U N : FVec Ideal S2048x1024 .f32) (W : FVec Ideal S8x128x128 .f32) (b : FVec Ideal S1x8x128 .f32) :
    FVec Ideal S2048x1024 .bf16 :=
  truncf .bf16 (shapeCast _ (mulf (shapeCast _ U shapeCasts_S2048x1024_S16x128x8x128)
    (addf (transpose S16x128x8x128 [1, 3, 0, 2] (Host.dotGeneral dot_S16x128x8x128_S8x128x128_S8x16x128x128_1_2_03_1_2_0 none
      (shapeCast _ N shapeCasts_S2048x1024_S16x128x8x128) W) transposes_S8x16x128x128_S16x128x8x128_1_3_0_2) (shift b)))
    shapeCasts_S16x128x8x128_S2048x1024) bitsLt_bf16_f32

/-- The reference's result, in these terms. -/
theorem res (m : (ℓ : Loc nD τ sig) → Buf (Elt Ideal) ℓ) (c : Dev nD) :
    Cert.GmlpRefIdeal.Value.res_main_v76 m c = gated (gelu (left (m ((c.tc : Thread nD τ).loc main_arg0))))
      (layerNorm (gelu (right (m ((c.tc : Thread nD τ).loc main_arg0)))) (m ((c.tc : Thread nD τ).loc main_arg3)) (m ((c.tc : Thread nD τ).loc main_arg4)))
      (lower (m ((c.tc : Thread nD τ).loc main_arg1))) (m ((c.tc : Thread nD τ).loc main_arg2)) := rfl

/-- The gated spatial unit's output at a place: the places of the same chunk and the same column, weighted. -/
theorem gated_apply (U N : FVec Ideal S2048x1024 .f32) (W : FVec Ideal S8x128x128 .f32) (b : FVec Ideal S1x8x128 .f32)
    (k : S2048x1024.Idx) :
    gated U N W b k = U k * (∑ x : Fin 128, N (ix2 ⟨(k 0).val / 128 * 128 + x.val, by have := (k 0).isLt; have := x.isLt; dsimp at *; omega⟩ (k 1))
        * W (ix3 ⟨(k 1).val / 128, Nat.div_lt_of_lt_mul (k 1).isLt⟩ ⟨(k 0).val % 128, Nat.mod_lt _ (by decide)⟩ x)
      + b (ix3 0 ⟨(k 1).val / 128, Nat.div_lt_of_lt_mul (k 1).isLt⟩ ⟨(k 0).val % 128, Nat.mod_lt _ (by decide)⟩)) := by
  pointwise [gated, shift]

/-- The spatial weights at a place. -/
theorem lower_apply (w : FVec Ideal S1x8x128x128 .f32) (k : S8x128x128.Idx) :
    lower w k = Scalar.select (IntOp.cmpi CmpIPredicate.sge (BitVec.ofNat 32 (k 1)) (BitVec.ofNat 32 (k 2)))
      (w (ix4 0 (k 0) (k 1) (k 2))) 0 := by
  pointwise [lower]

end Cert.GmlpRefIdeal.Unit

namespace Cert.GmlpIdeal.Grad
open Cert.GmlpIdeal Cert.GmlpIdeal.Gen Cert.GmlpRefIdeal.Unit

variable (m : (ℓ : Loc nD τ sig) → Buf (Elt Ideal) ℓ)

/-- The kernel's rectifier groups its factors differently. -/
theorem rect_apply (X : Vec Ideal S128x1024 .f32) (y) : k0_pay3 X y = gel (X y) := by
  pointwise [k0_pay3, gel]
  simp only [mul_assoc, mul_left_comm, mul_comm]

/-- A block's rows less their mean. -/
abbrev cenB (X : FVec Ideal S128x1024 .f32) : FVec Ideal S128x1024 .f32 :=
  subf X (broadcastTo S128x1024 (divf (shapeCast S128x1 (multiReduction .add [1] S128 X 0x00000000#32 reduces_S128x1024_S128 (.inl rfl) rfl) shapeCasts_S128_S128x1)
    (broadcast S128x1 (Scalar.ofBits .f32 0x44800000#32))) broadcasts_S128x1_S128x1024)

/-- The reciprocal deviation of each of a block's rows. -/
abbrev rstdB (X : FVec Ideal S128x1024 .f32) : FVec Ideal S128x1 .f32 :=
  rsqrt (addf (divf (shapeCast S128x1 (multiReduction .add [1] S128 (mulf (cenB X) (cenB X)) 0x00000000#32 reduces_S128x1024_S128 (.inl rfl) rfl) shapeCasts_S128_S128x1)
    (broadcast S128x1 (Scalar.ofBits .f32 0x44800000#32))) (broadcast S128x1 (Scalar.ofBits .f32 0x3727C5AC#32)))

/-- A block's layer norm. -/
abbrev normB (X : FVec Ideal S128x1024 .f32) (g b : FVec Ideal S1x1024 .f32) : FVec Ideal S128x1024 .f32 :=
  k0_pay6 (cenB X) (rstdB X) g b

/-- Which block each window is at, for every grid point. -/
theorem idx : ∀ t : Fin cfg0.N, win0_0.index t = ![t.val, 3] ∧ win0_1.index t = ![t.val, 4]
    ∧ win0_2.index t = ![0, 0, 0] ∧ win0_3.index t = ![0, 0, 0] ∧ win0_4.index t = ![0, 0]
    ∧ win0_5.index t = ![0, 0] ∧ win0_6.index t = ![t.val, 0] :=
  (by decide +kernel : ∀ t : Fin grid0.N, _)

set_option maxHeartbeats 1600000 in
/-- A block holds whole rows, so its layer norm is the array's there. -/
theorem norm_block (c : Dev nD) (t : Fin cfg0.N) (y) :
    normB (k0_pay3 (iblk m c 1 t)) (iblk m c 4 t) (iblk m c 5 t) y
      = layerNorm (gelu (right (m ((c : Thread nD τ).loc main_arg0)))) (m ((c : Thread nD τ).loc main_arg3)) (m ((c : Thread nD τ).loc main_arg4))
          (((cfg0.win 6).blk t).view.emb y) := by
  pointwise [normB, k0_pay6, cenB, rstdB, layerNorm, cen, rows, spread, mean, col]
  simp only [rect_apply, gelu_apply]
  pointwise [right]
  blk_point [iblk, V, idx t]

/-- The weights the host hands over are the argument without its leading axis. -/
theorem weights (c : Dev nD) : V m c main_v3 = shapeCast S8x128x128 (m ((c : Thread nD τ).loc main_arg1)) shapeCasts_S1x8x128x128_S8x128x128 := by
  show StableHlo.after hostOps0 (fun b => m (c, b)) _ = _
  after_results
  rfl

/-- The shifts it hands over are the argument's, each repeated along the columns. -/
theorem shifts (c : Dev nD) : V m c main_v2 = broadcastInDim S8x128x128 ![0, 1, 2] bcast_S8x128x1_S8x128x128_0_1_2
      (broadcastInDim S8x128x1 ![0, 1] bcast_S8x128_S8x128x1_0_1 (shapeCast S8x128 (m ((c : Thread nD τ).loc main_arg2)) shapeCasts_S1x8x128_S8x128)) := by
  show StableHlo.after hostOps0 (fun b => m (c, b)) _ = _
  after_results
  rfl

/-- A block of the output from the call's blocks: at a place, the rectified first half times the masked sum over the
    block's rows plus the shift of the column's group. -/
def unitB (x0 x1 : FVec Ideal S128x1024 .f32) (x2 x3 : FVec Ideal S8x128x128 .f32) (x4 x5 : FVec Ideal S1x1024 .f32) :
    FVec Ideal S128x1024 .bf16 := fun y =>
  gel (x0 y) * (∑ j : Fin 128, Scalar.select (IntOp.cmpi CmpIPredicate.sge (BitVec.ofNat 32 (y 0).val) (BitVec.ofNat 32 j.val))
      (x2 (ix3 ⟨(y 1).val / 128, Nat.div_lt_of_lt_mul (y 1).isLt⟩ (y 0) j) * normB (k0_pay3 x1) x4 x5 (ix2 j (y 1))) 0
    + x3 (ix3 ⟨(y 1).val / 128, Nat.div_lt_of_lt_mul (y 1).isLt⟩ (y 0) ⟨(y 1).val % 128, Nat.mod_lt _ (by decide)⟩))

/-- The same at a column given by its group and its place there. -/
theorem unit_at (x0 x1 : FVec Ideal S128x1024 .f32) (x2 x3 : FVec Ideal S8x128x128 .f32) (x4 x5 : FVec Ideal S1x1024 .f32)
    (g : Fin 8) (p q : Fin 128) (l : Fin 1024) (h : l.val = g.val * 128 + q.val) :
    unitB x0 x1 x2 x3 x4 x5 (ix2 p l)
      = gel (x0 (ix2 p l)) * (∑ j : Fin 128, Scalar.select (IntOp.cmpi CmpIPredicate.sge (BitVec.ofNat 32 p.val) (BitVec.ofNat 32 j.val))
          (x2 (ix3 g p j) * normB (k0_pay3 x1) x4 x5 (ix2 j l)) 0 + x3 (ix3 g p q)) := by
  have h1 : l.val / 128 = g.val := by omega
  have h2 : l.val % 128 = q.val := by omega
  have e1 : (⟨l.val / 128, Nat.div_lt_of_lt_mul l.isLt⟩ : Fin 8) = g := Fin.ext h1
  have e2 : (⟨l.val % 128, Nat.mod_lt _ (by decide)⟩ : Fin 128) = q := Fin.ext h2
  show gel (x0 (ix2 p l)) * (∑ j : Fin 128, Scalar.select (IntOp.cmpi CmpIPredicate.sge (BitVec.ofNat 32 p.val) (BitVec.ofNat 32 j.val))
      (x2 (ix3 ⟨l.val / 128, Nat.div_lt_of_lt_mul l.isLt⟩ p j) * normB (k0_pay3 x1) x4 x5 (ix2 j l)) 0
    + x3 (ix3 ⟨l.val / 128, Nat.div_lt_of_lt_mul l.isLt⟩ p ⟨l.val % 128, Nat.mod_lt _ (by decide)⟩)) = _
  rw [e1, e2]

/-- The first group's columns. -/
theorem piece0 (x0 x1 : FVec Ideal S128x1024 .f32) (x2 x3 : FVec Ideal S8x128x128 .f32) (x4 x5 : FVec Ideal S1x1024 .f32)
    (y : r0_3.shape.Idx) :
    k0_pay8 (k0_pay3 x0) (cenB (k0_pay3 x1)) (rstdB (k0_pay3 x1)) x4 x5 (View.ld x2 r0_2) (View.ld x3 r0_2) y
      = unitB x0 x1 x2 x3 x4 x5 (r0_3.emb y) := by
  have h1 : (y 1).val < 128 := (y 1).isLt
  have e : r0_3.emb y = (ix2 (show Fin 128 from y 0) (⟨0 + (y 1).val, by omega⟩ : Fin 1024) : S128x1024.Idx) := by
    idx_ext
  refine Eq.trans ?_ ((congrArg (unitB x0 x1 x2 x3 x4 x5) e).trans (unit_at x0 x1 x2 x3 x4 x5 0 (y 0) (y 1) _ rfl)).symm
  pointwise [k0_pay8, k0_pay7]
  rw [rect_apply]

/-- The second group's columns. -/
theorem piece1 (x0 x1 : FVec Ideal S128x1024 .f32) (x2 x3 : FVec Ideal S8x128x128 .f32) (x4 x5 : FVec Ideal S1x1024 .f32)
    (y : r0_5.shape.Idx) :
    k0_pay10 (k0_pay3 x0) (k0_pay9 (cenB (k0_pay3 x1)) (rstdB (k0_pay3 x1)) x4 x5 (View.ld x2 r0_4) (View.ld x3 r0_4)) y
      = unitB x0 x1 x2 x3 x4 x5 (r0_5.emb y) := by
  have h1 : (y 1).val < 128 := (y 1).isLt
  have e : r0_5.emb y = (ix2 (show Fin 128 from y 0) (⟨128 + (y 1).val, by omega⟩ : Fin 1024) : S128x1024.Idx) := by
    idx_ext
  refine Eq.trans ?_ ((congrArg (unitB x0 x1 x2 x3 x4 x5) e).trans (unit_at x0 x1 x2 x3 x4 x5 1 (y 0) (y 1) _ rfl)).symm
  pointwise [k0_pay10, k0_pay9, k0_pay7]
  rw [rect_apply]

/-- The third group's columns. -/
theorem piece2 (x0 x1 : FVec Ideal S128x1024 .f32) (x2 x3 : FVec Ideal S8x128x128 .f32) (x4 x5 : FVec Ideal S1x1024 .f32)
    (y : r0_7.shape.Idx) :
    k0_pay11 (k0_pay3 x0) (normB (k0_pay3 x1) x4 x5) k0_pay7 (View.ld x2 r0_6) (View.ld x3 r0_6) y
      = unitB x0 x1 x2 x3 x4 x5 (r0_7.emb y) := by
  have h1 : (y 1).val < 128 := (y 1).isLt
  have e : r0_7.emb y = (ix2 (show Fin 128 from y 0) (⟨256 + (y 1).val, by omega⟩ : Fin 1024) : S128x1024.Idx) := by
    idx_ext
  refine Eq.trans ?_ ((congrArg (unitB x0 x1 x2 x3 x4 x5) e).trans (unit_at x0 x1 x2 x3 x4 x5 2 (y 0) (y 1) _ rfl)).symm
  pointwise [k0_pay11, k0_pay7]
  rw [rect_apply]

/-- The fourth group's columns. -/
theorem piece3 (x0 x1 : FVec Ideal S128x1024 .f32) (x2 x3 : FVec Ideal S8x128x128 .f32) (x4 x5 : FVec Ideal S1x1024 .f32)
    (y : r0_9.shape.Idx) :
    k0_pay12 (k0_pay3 x0) (normB (k0_pay3 x1) x4 x5) k0_pay7 (View.ld x2 r0_8) (View.ld x3 r0_8) y
      = unitB x0 x1 x2 x3 x4 x5 (r0_9.emb y) := by
  have h1 : (y 1).val < 128 := (y 1).isLt
  have e : r0_9.emb y = (ix2 (show Fin 128 from y 0) (⟨384 + (y 1).val, by omega⟩ : Fin 1024) : S128x1024.Idx) := by
    idx_ext
  refine Eq.trans ?_ ((congrArg (unitB x0 x1 x2 x3 x4 x5) e).trans (unit_at x0 x1 x2 x3 x4 x5 3 (y 0) (y 1) _ rfl)).symm
  pointwise [k0_pay12, k0_pay7]
  rw [rect_apply]

/-- The fifth group's columns. -/
theorem piece4 (x0 x1 : FVec Ideal S128x1024 .f32) (x2 x3 : FVec Ideal S8x128x128 .f32) (x4 x5 : FVec Ideal S1x1024 .f32)
    (y : r0_11.shape.Idx) :
    k0_pay13 (k0_pay3 x0) (normB (k0_pay3 x1) x4 x5) k0_pay7 (View.ld x2 r0_10) (View.ld x3 r0_10) y
      = unitB x0 x1 x2 x3 x4 x5 (r0_11.emb y) := by
  have h1 : (y 1).val < 128 := (y 1).isLt
  have e : r0_11.emb y = (ix2 (show Fin 128 from y 0) (⟨512 + (y 1).val, by omega⟩ : Fin 1024) : S128x1024.Idx) := by
    idx_ext
  refine Eq.trans ?_ ((congrArg (unitB x0 x1 x2 x3 x4 x5) e).trans (unit_at x0 x1 x2 x3 x4 x5 4 (y 0) (y 1) _ rfl)).symm
  pointwise [k0_pay13, k0_pay7]
  rw [rect_apply]

/-- The sixth group's columns. -/
theorem piece5 (x0 x1 : FVec Ideal S128x1024 .f32) (x2 x3 : FVec Ideal S8x128x128 .f32) (x4 x5 : FVec Ideal S1x1024 .f32)
    (y : r0_13.shape.Idx) :
    k0_pay14 (k0_pay3 x0) (normB (k0_pay3 x1) x4 x5) k0_pay7 (View.ld x2 r0_12) (View.ld x3 r0_12) y
      = unitB x0 x1 x2 x3 x4 x5 (r0_13.emb y) := by
  have h1 : (y 1).val < 128 := (y 1).isLt
  have e : r0_13.emb y = (ix2 (show Fin 128 from y 0) (⟨640 + (y 1).val, by omega⟩ : Fin 1024) : S128x1024.Idx) := by
    idx_ext
  refine Eq.trans ?_ ((congrArg (unitB x0 x1 x2 x3 x4 x5) e).trans (unit_at x0 x1 x2 x3 x4 x5 5 (y 0) (y 1) _ rfl)).symm
  pointwise [k0_pay14, k0_pay7]
  rw [rect_apply]

/-- The seventh group's columns. -/
theorem piece6 (x0 x1 : FVec Ideal S128x1024 .f32) (x2 x3 : FVec Ideal S8x128x128 .f32) (x4 x5 : FVec Ideal S1x1024 .f32)
    (y : r0_15.shape.Idx) :
    k0_pay1 (k0_pay3 x0) (normB (k0_pay3 x1) x4 x5) (k0_pay15 k0_pay7 (View.ld x2 r0_14)) (View.ld x3 r0_14) y
      = unitB x0 x1 x2 x3 x4 x5 (r0_15.emb y) := by
  have h1 : (y 1).val < 128 := (y 1).isLt
  have e : r0_15.emb y = (ix2 (show Fin 128 from y 0) (⟨768 + (y 1).val, by omega⟩ : Fin 1024) : S128x1024.Idx) := by
    idx_ext
  refine Eq.trans ?_ ((congrArg (unitB x0 x1 x2 x3 x4 x5) e).trans (unit_at x0 x1 x2 x3 x4 x5 6 (y 0) (y 1) _ rfl)).symm
  pointwise [k0_pay1, k0_pay15, k0_pay7]
  rw [rect_apply]

/-- The eighth group's columns. -/
theorem piece7 (x0 x1 : FVec Ideal S128x1024 .f32) (x2 x3 : FVec Ideal S8x128x128 .f32) (x4 x5 : FVec Ideal S1x1024 .f32)
    (y : r0_17.shape.Idx) :
    k0_pay2 (k0_pay3 x0) (normB (k0_pay3 x1) x4 x5) k0_pay7 (View.ld x2 r0_16) (View.ld x3 r0_16) y
      = unitB x0 x1 x2 x3 x4 x5 (r0_17.emb y) := by
  have h1 : (y 1).val < 128 := (y 1).isLt
  have e : r0_17.emb y = (ix2 (show Fin 128 from y 0) (⟨896 + (y 1).val, by omega⟩ : Fin 1024) : S128x1024.Idx) := by
    idx_ext
  refine Eq.trans ?_ ((congrArg (unitB x0 x1 x2 x3 x4 x5) e).trans (unit_at x0 x1 x2 x3 x4 x5 7 (y 0) (y 1) _ rfl)).symm
  pointwise [k0_pay2, k0_pay7]
  rw [rect_apply]

/-- What a grid point leaves in its block. -/
theorem out_eq (x0 x1 : FVec Ideal S128x1024 .f32) (x2 x3 : FVec Ideal S8x128x128 .f32) (x4 x5 : FVec Ideal S1x1024 .f32)
    (y : S128x1024.Idx) : out0_6 (F := Ideal) x0 x1 x2 x3 x4 x5 y = unitB x0 x1 x2 x3 x4 x5 y := by
  unfold_out out0_6
  simp (disch := decide) only [View.ld_unit_lit]
  refine View.canon_apply_of_pieces (Val := Elt Ideal) (unitB x0 x1 x2 x3 x4 x5) _ ?_ y (cover0_6 _ _ _ _ _ _ _ _ y)
  simp only [List.forall_mem_cons]
  exact ⟨piece7 x0 x1 x2 x3 x4 x5, piece6 x0 x1 x2 x3 x4 x5, piece5 x0 x1 x2 x3 x4 x5, piece4 x0 x1 x2 x3 x4 x5,
    piece3 x0 x1 x2 x3 x4 x5, piece2 x0 x1 x2 x3 x4 x5, piece1 x0 x1 x2 x3 x4 x5, piece0 x0 x1 x2 x3 x4 x5, fun _ h => absurd h (by simp)⟩

/-- Window 2's block is its whole array. -/
theorem emb2 (t : Fin cfg0.N) (a : Fin 8) (p q : Fin 128) : (win0_2.blk t).view.emb (ix3 a p q) = ix3 a p q := by
  funext d
  refine Fin.ext ?_
  match d with
  | ⟨0, _⟩ =>
    show win0_2.index t 0 * 8 + 1 * a.val = a.val
    rw [(idx t).2.2.1]
    show 0 * 8 + 1 * a.val = _
    omega
  | ⟨1, _⟩ =>
    show win0_2.index t 1 * 128 + 1 * p.val = p.val
    rw [(idx t).2.2.1]
    show 0 * 128 + 1 * p.val = _
    omega
  | ⟨2, _⟩ =>
    show win0_2.index t 2 * 128 + 1 * q.val = q.val
    rw [(idx t).2.2.1]
    show 0 * 128 + 1 * q.val = _
    omega

/-- Window 3's block is its whole array. -/
theorem emb3 (t : Fin cfg0.N) (a : Fin 8) (p q : Fin 128) : (win0_3.blk t).view.emb (ix3 a p q) = ix3 a p q := by
  funext d
  refine Fin.ext ?_
  match d with
  | ⟨0, _⟩ =>
    show win0_3.index t 0 * 8 + 1 * a.val = a.val
    rw [(idx t).2.2.2.1]
    show 0 * 8 + 1 * a.val = _
    omega
  | ⟨1, _⟩ =>
    show win0_3.index t 1 * 128 + 1 * p.val = p.val
    rw [(idx t).2.2.2.1]
    show 0 * 128 + 1 * p.val = _
    omega
  | ⟨2, _⟩ =>
    show win0_3.index t 2 * 128 + 1 * q.val = q.val
    rw [(idx t).2.2.2.1]
    show 0 * 128 + 1 * q.val = _
    omega

/-- The weights without their leading axis, at a place. -/
theorem flat_apply (w : FVec Ideal S1x8x128x128 .f32) (a : Fin 8) (p q : Fin 128) :
    shapeCast S8x128x128 w shapeCasts_S1x8x128x128_S8x128x128 (ix3 a p q) = w (ix4 0 a p q) := by
  pointwise

/-- The shifts repeated along the columns, at a place. -/
theorem widen_apply (b : FVec Ideal S1x8x128 .f32) (a : Fin 8) (p q : Fin 128) :
    broadcastInDim S8x128x128 ![0, 1, 2] bcast_S8x128x1_S8x128x128_0_1_2
      (broadcastInDim S8x128x1 ![0, 1] bcast_S8x128_S8x128x1_0_1 (shapeCast S8x128 b shapeCasts_S1x8x128_S8x128)) (ix3 a p q)
      = b (ix3 0 a p) := by
  pointwise

/-- The block of weights is the whole array of weights. -/
theorem weight_block (c : Dev nD) (t : Fin cfg0.N) (a : Fin 8) (p q : Fin 128) :
    iblk m c 2 t (ix3 a p q) = m ((c : Thread nD τ).loc main_arg1) (ix4 0 a p q) := by
  refine (congrArg (V m c main_v3 : FVec Ideal S8x128x128 .f32) (emb2 t a p q)).trans ?_
  rw [weights]
  exact flat_apply (m ((c : Thread nD τ).loc main_arg1)) a p q

/-- The block of shifts holds each group's shift of a row in every column. -/
theorem shift_block (c : Dev nD) (t : Fin cfg0.N) (a : Fin 8) (p q : Fin 128) :
    iblk m c 3 t (ix3 a p q) = m ((c : Thread nD τ).loc main_arg2) (ix3 0 a p) := by
  refine (congrArg (V m c main_v2 : FVec Ideal S8x128x128 .f32) (emb3 t a p q)).trans ?_
  rw [shifts]
  exact widen_apply (m ((c : Thread nD τ).loc main_arg2)) a p q

/-- The block of rows that is gated is a chunk of the left half. -/
theorem left_block (c : Dev nD) (t : Fin cfg0.N) (y) :
    iblk m c 0 t y = left (m ((c : Thread nD τ).loc main_arg0)) (((cfg0.win 6).blk t).view.emb y) := by
  pointwise [left]
  blk_point [iblk, V, idx t]

/-- The row of the array at which a row of a grid point's block lies. -/
theorem emb_row (t : Fin cfg0.N) (y : S128x1024.Idx) :
    ((((cfg0.win 6).blk t).view.emb y) 0).val = 128 * t.val + (y 0).val := by
  have h := (idx t).2.2.2.2.2.2
  show win0_6.index t 0 * 128 + 1 * (y 0).val = _
  rw [h]
  show t.val * 128 + 1 * (y 0).val = _
  omega

/-- Its column is the block's own. -/
theorem emb_col (t : Fin cfg0.N) (y : S128x1024.Idx) :
    ((((cfg0.win 6).blk t).view.emb y) 1).val = (y 1).val := by
  have h := (idx t).2.2.2.2.2.2
  show win0_6.index t 1 * 1024 + 1 * (y 1).val = _
  rw [h]
  show 0 * 1024 + 1 * (y 1).val = _
  omega

/-- Masking a factor masks the product. -/
theorem select_mul (b : BitVec 1) (w n : EReal) :
    Scalar.select b (w * n) (0 : EReal) = n * Scalar.select b w (0 : EReal) := by
  simp only [Scalar.select]
  split <;> simp [mul_comm]

/-- A masked weight depends on its place alone. -/
theorem masked_congr (A : FVec Ideal S1x8x128x128 .f32) (x : Fin 128) {a a' : Fin 8} {p p' : Fin 128} (ha : a = a') (hp : p = p') :
    Scalar.select (IntOp.cmpi CmpIPredicate.sge (BitVec.ofNat 32 p.val) (BitVec.ofNat 32 x.val)) (A (ix4 0 a p x)) (0 : EReal)
      = Scalar.select (IntOp.cmpi CmpIPredicate.sge (BitVec.ofNat 32 p'.val) (BitVec.ofNat 32 x.val)) (A (ix4 0 a' p' x)) 0 := by
  subst ha hp
  rfl

set_option maxHeartbeats 1600000 in
/-- So at a place of its block a grid point leaves the reference's output at the place of the array where it lies. -/
theorem point (c : Dev nD) (t : Fin cfg0.N) (y) :
    unitB (iblk m c 0 t) (iblk m c 1 t) (iblk m c 2 t) (iblk m c 3 t) (iblk m c 4 t) (iblk m c 5 t) y
      = gated (gelu (left (m ((c : Thread nD τ).loc main_arg0))))
          (layerNorm (gelu (right (m ((c : Thread nD τ).loc main_arg0)))) (m ((c : Thread nD τ).loc main_arg3)) (m ((c : Thread nD τ).loc main_arg4)))
          (lower (m ((c : Thread nD τ).loc main_arg1))) (m ((c : Thread nD τ).loc main_arg2)) (((cfg0.win 6).blk t).view.emb y) := by
  have h0 : (y 0).val < 128 := (y 0).isLt
  have r0 := emb_row t y
  have r1 := emb_col t y
  have d0 : ((((cfg0.win 6).blk t).view.emb y) 0).val % 128 = (y 0).val := by omega
  have d1 : ((((cfg0.win 6).blk t).view.emb y) 0).val / 128 = t.val := by omega
  rw [gated_apply]
  unfold unitB
  simp only [norm_block, gelu_apply, lower_apply, weight_block, shift_block, left_block]
  congr 1
  congr 1
  · refine Finset.sum_congr rfl fun x _ => ?_
    refine (select_mul _ _ _).trans ?_
    refine congrArg₂ (· * ·) (congrArg (layerNorm _ _ _) ?_) ?_
    · funext d
      refine Fin.ext ?_
      match d with
      | ⟨0, _⟩ =>
        refine (emb_row t (ix2 x (y 1))).trans ?_
        show 128 * t.val + x.val = ((((cfg0.win 6).blk t).view.emb y) 0).val / 128 * 128 + x.val
        omega
      | ⟨1, _⟩ => exact (emb_col t (ix2 x (y 1))).trans r1.symm
    · refine (congrArg (fun w => Scalar.select _ w (0 : EReal)) (weight_block m c t _ _ _)).trans ?_
      exact masked_congr (m ((c : Thread nD τ).loc main_arg1)) x (Fin.ext (congrArg (· / 128) r1.symm)) (Fin.ext d0.symm)
  · refine (shift_block m c t _ _ _).trans (congrArg (m ((c : Thread nD τ).loc main_arg2)) ?_)
    exact congrArg₂ (ix3 (0 : Fin 1)) (Fin.ext (congrArg (· / 128) r1.symm)) (Fin.ext d0.symm)

/-- What the call leaves is the reference's gated rows. -/
theorem final (c : Dev nD) :
    (dats m 0 c).arrAt 6 (cfgs 0).N
      = gated (gelu (left (m ((c : Thread nD τ).loc main_arg0))))
          (layerNorm (gelu (right (m ((c : Thread nD τ).loc main_arg0)))) (m ((c : Thread nD τ).loc main_arg3)) (m ((c : Thread nD τ).loc main_arg4)))
          (lower (m ((c : Thread nD τ).loc main_arg1))) (m ((c : Thread nD τ).loc main_arg2)) := by
  refine (dats m 0 c).arrAt_eq_of_covers 6 _ (by decide +kernel) fun t _ y => ?_
  blk_simp
  rw [after0_6, out_eq]
  exact point m c t y

end Cert.GmlpIdeal.Grad

end
-- ==== Proof.LnRows.lean ====
/-
One pass of the row loop of the layer norm's backward call, and the loop: what the block of 128 rows it takes
leaves in the two outputs and in the two rows of sums.
-/
module

public import proofs.«01_k».proof.Proof.Gen.LnIdeal.Frame.RunB
public import Idealize.ShloMosaic.Lib.WritesUnit
public import Idealize.ShloMosaic.Lib.VecWindow

@[expose] public section

set_option maxRecDepth 16384

noncomputable section

namespace Cert.LnIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LnIdeal Cert.LnIdeal.Gen

variable {F : FTy → Type} [FloatOps F]

local notation "𝕄" => MT nD τ sig Unit (Elt F) ℕ (UR sig nD τ) ℕ

/-- The rows pass `k` takes lie in the array. -/
theorem rows_in : ∀ (k : Fin k0_t1_loop.trips) (a : Fin S512x2048.rank), k0_off1 k a + S128x2048.size a ≤ S512x2048.size a := by decide +kernel
/-- So do the rows of the first lane of the reciprocal deviations. -/
theorem lane_in : ∀ (k : Fin k0_t1_loop.trips) (a : Fin S512x128.rank), k0_off2 k a + S128x1.size a ≤ S512x128.size a := by decide +kernel

/-- The rectangle of pass `k`. -/
abbrev rect (k : Fin k0_t1_loop.trips) : Rect S512x2048 := Rect.unit (k0_off1 k) S128x2048.size (rows_in k)

/-- The rows of pass `k` of an array. -/
def cut {e : EltTy} (k : Fin k0_t1_loop.trips) (X : Vec F S512x2048 e) : Vec F S128x2048 e := fun x => X ((rect k).emb x)
/-- The reciprocal deviations of the rows of pass `k`. -/
def lane {e : EltTy} (k : Fin k0_t1_loop.trips) (X : Vec F S512x128 e) : Vec F S128x1 e :=
  fun x => X ((Rect.unit (s := S512x128) (k0_off2 k) S128x1.size (lane_in k)).emb x)

section Values
variable (d2 xh : Vec F S512x2048 .f32) (rs : Vec F S512x128 .f32) (g : Vec F S1x2048 .f32) (acc : Vec F S512x2048 .f32)

/-- What pass `k` leaves in its rows of the gradient. -/
def rows (k : Fin k0_t1_loop.trips) : FVec F S128x2048 .f32 :=
  k0_pay8 (cut k d2) (cut k acc) (cut k xh) g (lane k rs)
/-- The same rounded. -/
def rowsB (k : Fin k0_t1_loop.trips) : FVec F S128x2048 .bf16 :=
  k0_pay9 (cut k d2) (cut k acc) (cut k xh) g (lane k rs)

/-- The rectangle of a row of the sums. -/
abbrev line0 : Rect S8x2048 := Rect.unit (s := S8x2048) ![0, 0] S1x2048.size inb_S8x2048_S1x2048_0_0
abbrev line1 : Rect S8x2048 := Rect.unit (s := S8x2048) ![1, 0] S1x2048.size inb_S8x2048_S1x2048_1_0

/-- One pass's step of the sums: row 0 gains the products with the normalised rows, row 1 the rows themselves. -/
def sumStep (k : Fin k0_t1_loop.trips) (X : Vec F S8x2048 .f32) : Vec F S8x2048 .f32 := fun y =>
  if h : ∀ a, (![1, 0] : Fin 2 → ℕ) a ≤ (y a).val ∧ (y a).val < (![1, 0] : Fin 2 → ℕ) a + S1x2048.size a then
    k0_pay5 (k0_pay6 (cut k d2) (cut k acc)) (fun x => X (line1.emb x)) (Rect.unitLocal (s := S8x2048) (off := ![1, 0]) (size := S1x2048.size) y h)
  else if h : ∀ a, (![0, 0] : Fin 2 → ℕ) a ≤ (y a).val ∧ (y a).val < (![0, 0] : Fin 2 → ℕ) a + S1x2048.size a then
    k0_pay4 (k0_pay6 (cut k d2) (cut k acc)) (k0_pay7 (cut k xh)) (k0_pay10 fun x => X (line0.emb x)) (Rect.unitLocal (s := S8x2048) (off := ![0, 0]) (size := S1x2048.size) y h)
  else X y
end Values

/-- The sums after `n` passes. -/
def sums (d2 xh acc : Vec F S512x2048 .f32) (st : Vec F S8x2048 .f32) : ℕ → Vec F S8x2048 .f32
  | 0 => st
  | n + 1 => if h : n < k0_t1_loop.trips then sumStep d2 xh acc ⟨n, h⟩ (sums d2 xh acc st n) else sums d2 xh acc st n

section Loop
variable (c : Dev nD) (i : grid0.Coords)
  (arg2 : Memref sig .tc .vmem S512x1024 .bf16) (harg2 : arg2.IsWhole)
  (arg3 : Memref sig .tc .vmem S1x2048x1024 .bf16) (harg3 : arg3.IsWhole)
  (arg4 : Memref sig .tc .vmem S512x2048 .f32) (harg4 : arg4.IsWhole)
  (arg5 : Memref sig .tc .vmem S512x2048 .f32) (harg5 : arg5.IsWhole)
  (arg6 : Memref sig .tc .vmem S512x128 .f32) (harg6 : arg6.IsWhole)
  (arg7 : Memref sig .tc .vmem S1x2048 .f32) (harg7 : arg7.IsWhole)
  (arg8 : Memref sig .tc .vmem S512x2048 .f32) (harg8 : arg8.IsWhole)
  (arg9 : Memref sig .tc .vmem S512x2048 .bf16) (harg9 : arg9.IsWhole)
  (arg10 : Memref sig .tc .vmem S8x2048 .f32) (harg10 : arg10.IsWhole)
  (arg11 : Memref sig .tc .vmem S512x2048 .f32) (harg11 : arg11.IsWhole)
  (k0_h3 : k0_cond3 i = 1#1)
  (d2 xh : Vec F S512x2048 .f32) (rs : Vec F S512x128 .f32) (g : Vec F S1x2048 .f32) (acc : Vec F S512x2048 .f32) (st : Vec F S8x2048 .f32)

/-- What a pass finds: the blocks it reads, the rows before its own written in both outputs, the sums so far. -/
def before (n : ℕ) (_ : PUnit) : sProp 𝕄 :=
  iprop((arg4.view.loc (c : Thread nD τ) ↦[arg4.view.set]{fullShare} harg4.unread d2) ∗ (arg5.view.loc (c : Thread nD τ) ↦[arg5.view.set]{fullShare} harg5.unread xh) ∗ (arg6.view.loc (c : Thread nD τ) ↦[arg6.view.set]{fullShare} harg6.unread rs) ∗ (arg7.view.loc (c : Thread nD τ) ↦[arg7.view.set]{fullShare} harg7.unread g) ∗ (arg11.view.loc (c : Thread nD τ) ↦[arg11.view.set]{fullShare} harg11.unread acc)
    ∗ (∃ f, (arg8.view.loc (c : Thread nD τ) ↦[arg8.view.set]{fullShare} f) ∗ ⌜∀ j : Fin k0_t1_loop.trips, j.val < n → ∀ x, arg8.view.read (Elt F) f ((rect j).emb x) = rows d2 xh rs g acc j x⌝)
    ∗ (∃ f, (arg9.view.loc (c : Thread nD τ) ↦[arg9.view.set]{fullShare} f) ∗ ⌜∀ j : Fin k0_t1_loop.trips, j.val < n → ∀ x, arg9.view.read (Elt F) f ((rect j).emb x) = rowsB d2 xh rs g acc j x⌝)
    ∗ (arg10.view.loc (c : Thread nD τ) ↦[arg10.view.set]{fullShare} harg10.unread (sums d2 xh acc st n)))

/-- Rows of two different passes differ. -/
theorem rows_apart (j k : Fin k0_t1_loop.trips) (h : j.val < k.val) (x : (rect j).shape.Idx) :
    (rect j).emb x ∉ (rect k).set := by
  have e1 := Gen.k0_off1_eq j
  have e2 := Gen.k0_off1_eq k
  have h0 : ((rect j).emb x (0 : Fin 2)).val = k0_off1 j 0 + 1 * (x (0 : Fin 2)).val := rfl
  have hx : (x (0 : Fin 2)).val < 128 := (x (0 : Fin 2)).isLt
  rw [Rect.mem_set_unit]
  intro hall
  have := (hall (0 : Fin 2)).1
  rw [h0, e1, e2] at this
  simp at this
  omega

/-- A load of a rectangle of an array reads the array there. -/
theorem load_at {s : Shape} {e : EltTy} (a : Memref sig .tc .vmem s e) (h : a.IsWhole) (X : Vec F s e) (r : Rect s) :
    a.view.readAt (Elt F) r.toLoadRect (h.unread X) = fun x => X (r.emb x) := by
  funext x
  show a.view.read (Elt F) (h.unread X) _ = _
  rw [h.read_unread]
  rfl

/-- A load of a whole array reads it. -/
theorem load_all {s : Shape} {e : EltTy} (a : Memref sig .tc .vmem s e) (h : a.IsWhole) (X : Vec F s e) {off : Fin s.rank → ℕ}
    (inb : ∀ a, off a + s.size a ≤ s.size a) :
    a.view.readAt (Elt F) (Rect.unit off s.size inb).toLoadRect (h.unread X) = X := by
  rw [View.readAt_full, h.read_unread]

/-- After a store of a whole array the buffer holds it, whatever was stored before. -/
theorem store_all {s : Shape} {e : EltTy} (a : Memref sig .tc .vmem s e) (h : a.IsWhole) (f : a.view.ty.Contents (Elt F)) {off : Fin s.rank → ℕ}
    (inb : ∀ a, off a + s.size a ≤ s.size a) (w : Vec F s e) (L : List (View.Piece (Elt F) s e)) :
    a.view.read (Elt F) (a.view.writes (Elt F) f (⟨Rect.unit off s.size inb, w⟩ :: L)) = w :=
  View.read_writes_full _ _ inb w L

/-- The rows before pass `k` stay, its own are the stored ones. -/
theorem rows_next {e : EltTy} (a : Memref sig .tc .vmem S512x2048 e) (f : a.view.ty.Contents (Elt F))
    (G : Fin k0_t1_loop.trips → Vec F S128x2048 e) (k : Fin k0_t1_loop.trips)
    (h : ∀ j : Fin k0_t1_loop.trips, j.val < k.val → ∀ x, a.view.read (Elt F) f ((rect j).emb x) = G j x)
    (w : Vec F S128x2048 e) (hw : w = G k) :
    ∀ j : Fin k0_t1_loop.trips, j.val < k.val + 1 → ∀ x,
      a.view.read (Elt F) (a.view.writes (Elt F) f [⟨rect k, w⟩]) ((rect j).emb x) = G j x := by
  intro j hj x
  rcases Nat.lt_or_ge j.val k.val with hlt | hge
  · rw [View.writes_cons, View.read_slice_write_of_not_mem]
    · exact h j hlt x
    · rw [Rect.map_emb_univ]; exact rows_apart j k hlt x
  · obtain rfl : j = k := Fin.ext (by omega)
    rw [View.read_writes_cons_emb, hw]

/-- The sums after a pass, from the two stores. -/
theorem sums_next (a : Memref sig .tc .vmem S8x2048 .f32) (ha : a.IsWhole) (X : Vec F S8x2048 .f32) (w1 w0 : Vec F S1x2048 .f32)
    (Y : Vec F S8x2048 .f32) (w1' w0' : Vec F S1x2048 .f32) (h1 : w1 = w1') (h0 : w0 = w0')
    (h : ∀ y, Y y = if h : ∀ a, (![1, 0] : Fin 2 → ℕ) a ≤ (y a).val ∧ (y a).val < (![1, 0] : Fin 2 → ℕ) a + S1x2048.size a then
        w1' (Rect.unitLocal (s := S8x2048) (off := ![1, 0]) (size := S1x2048.size) y h)
      else if h : ∀ a, (![0, 0] : Fin 2 → ℕ) a ≤ (y a).val ∧ (y a).val < (![0, 0] : Fin 2 → ℕ) a + S1x2048.size a then
        w0' (Rect.unitLocal (s := S8x2048) (off := ![0, 0]) (size := S1x2048.size) y h)
      else X y) :
    a.view.writes (Elt F) (ha.unread X) [⟨line1, w1⟩, ⟨line0, w0⟩] = ha.unread Y := by
  subst h1 h0
  refine ha.eq_unread (funext fun y => ?_)
  rw [h y, View.read_writes_cons_unit _ _ _ _ _ _ rfl]
  congr 1
  funext _
  rw [View.read_writes_cons_unit _ _ _ _ _ _ rfl]
  congr 1
  funext _
  rw [View.writes_nil, ha.read_unread]

set_option maxHeartbeats 1600000 in
/-- One pass. -/
theorem pass (E : Set ℕ) (k : Fin k0_t1_loop.trips) (u : PUnit) :
    before (F := F) c arg4 harg4 arg5 harg5 arg6 harg6 arg7 harg7 arg8 arg9 arg10 harg10 arg11 harg11 d2 xh rs g acc st k.val u
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 k0_h3 k u)
          (before (F := F) c arg4 harg4 arg5 harg5 arg6 harg6 arg7 harg7 arg8 arg9 arg10 harg10 arg11 harg11 d2 xh rs g acc st (k.val + 1)) := by
  have hk : k.val < 4 := Nat.lt_of_lt_of_le k.isLt k0_t1_abs.2.1
  unfold before k0_t1_body
  iintro ⟨H4, H5, H6, H7, H11, ⟨%f8, H8, %h8⟩, ⟨%f9, H9, %h9⟩, H10⟩
  sl_exec
  sl_step
  isplitl [H4]; · iexact H4
  isplitl [H5]; · iexact H5
  isplitl [H6]; · iexact H6
  isplitl [H7]; · iexact H7
  isplitl [H11]; · iexact H11
  isplitl [H8]
  · iexists _; isplitl [H8]; · iexact H8
    ipureintro
    exact rows_next arg8 f8 (rows d2 xh rs g acc) k h8 _ (by
      unfold rows cut lane
      rw [load_all arg7 harg7, load_at arg4 harg4, load_at arg5 harg5, load_at arg6 harg6, load_at arg11 harg11]
      rfl)
  isplitl [H9]
  · iexists _; isplitl [H9]; · iexact H9
    ipureintro
    exact rows_next arg9 f9 (rowsB d2 xh rs g acc) k h9 _ (by
      unfold rowsB cut lane
      rw [load_all arg7 harg7, load_at arg4 harg4, load_at arg5 harg5, load_at arg6 harg6, load_at arg11 harg11]
      rfl)
  rw [sums_next arg10 harg10 (sums d2 xh acc st k.val) _ _ (sums d2 xh acc st (k.val + 1))
    (k0_pay5 (k0_pay6 (cut k d2) (cut k acc)) (fun x => sums d2 xh acc st k.val (line1.emb x)))
    (k0_pay4 (k0_pay6 (cut k d2) (cut k acc)) (k0_pay7 (cut k xh)) (k0_pay10 fun x => sums d2 xh acc st k.val (line0.emb x)))
    (by
      show k0_pay5 (k0_pay6 (arg4.view.readAt (Elt F) (rect k).toLoadRect (harg4.unread d2)) (arg11.view.readAt (Elt F) (rect k).toLoadRect (harg11.unread acc)))
        (arg10.view.readAt (Elt F) line1.toLoadRect (harg10.unread (sums d2 xh acc st k.val))) = _
      rw [load_at arg4, load_at arg11, load_at arg10]
      rfl)
    (by
      show k0_pay4 (k0_pay6 (arg4.view.readAt (Elt F) (rect k).toLoadRect (harg4.unread d2)) (arg11.view.readAt (Elt F) (rect k).toLoadRect (harg11.unread acc)))
        (k0_pay7 (arg5.view.readAt (Elt F) (rect k).toLoadRect (harg5.unread xh)))
        (k0_pay10 (arg10.view.readAt (Elt F) line0.toLoadRect (harg10.unread (sums d2 xh acc st k.val)))) = _
      rw [load_at arg4, load_at arg5, load_at arg11, load_at arg10]
      rfl)
    (fun y => by
      rw [sums, dif_pos k.isLt]
      rfl)]
  iexact H10

/-- The row loop by its passes. -/
@[reducible] def loop (E : Set ℕ) : LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 k0_h3 where
  inv := before (F := F) c arg4 harg4 arg5 harg5 arg6 harg6 arg7 harg7 arg8 arg9 arg10 harg10 arg11 harg11 d2 xh rs g acc st
  step k u := pass c i arg2 harg2 arg3 harg3 arg4 harg4 arg5 harg5 arg6 harg6 arg7 harg7 arg8 harg8 arg9 harg9 arg10 harg10 arg11 harg11 k0_h3 d2 xh rs g acc st E k u

end Loop

/-- There are four passes. -/
theorem four : k0_t1_loop.trips = 4 := by decide +kernel

/-- An array from its four blocks of rows. -/
theorem block_in {e : EltTy} (y : S512x2048.Idx) : ∀ a, (![128 * ((y (0 : Fin 2)).val / 128), 0] : Fin 2 → ℕ) a ≤ (y a).val
    ∧ (y a).val < (![128 * ((y (0 : Fin 2)).val / 128), 0] : Fin 2 → ℕ) a + S128x2048.size a := by
  have h1 : (y (1 : Fin 2)).val < 2048 := (y (1 : Fin 2)).isLt
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The pass that takes a row. -/
def passOf (y : S512x2048.Idx) : Fin k0_t1_loop.trips :=
  ⟨(y (0 : Fin 2)).val / 128, by have h : (y (0 : Fin 2)).val < 512 := (y (0 : Fin 2)).isLt; rw [four]; omega⟩

def join {e : EltTy} (G : Fin k0_t1_loop.trips → Vec F S128x2048 e) : Vec F S512x2048 e := fun y =>
  G (passOf y) (Rect.unitLocal (s := S512x2048) (off := ![128 * ((y (0 : Fin 2)).val / 128), 0]) (size := S128x2048.size) y (block_in (e := e) y))

/-- An array that holds every block holds their join. -/
theorem eq_join {e : EltTy} (G : Fin k0_t1_loop.trips → Vec F S128x2048 e) (X : Vec F S512x2048 e)
    (h : ∀ j : Fin k0_t1_loop.trips, j.val < k0_t1_loop.trips → ∀ x, X ((rect j).emb x) = G j x) : X = join G := by
  funext y
  unfold join
  rw [← h (passOf y) (passOf y).isLt]
  congr 1
  funext a
  refine Fin.ext ?_
  have e1 := Gen.k0_off1_eq (passOf y)
  show (y a).val = k0_off1 (passOf y) a + 1 * (Rect.unitLocal (s := S512x2048) (off := ![128 * ((y (0 : Fin 2)).val / 128), 0]) (size := S128x2048.size) y (block_in (e := e) y) a).val
  rw [e1, Rect.unitLocal_val]
  have := (block_in (e := e) y a).1
  show _ = (![128 * ((y (0 : Fin 2)).val / 128), 0] : Fin 2 → ℕ) a + _
  omega

section Runs
variable (c : Dev nD) (i : grid0.Coords)
  (arg2 : Memref sig .tc .vmem S512x1024 .bf16) (harg2 : arg2.IsWhole)
  (arg3 : Memref sig .tc .vmem S1x2048x1024 .bf16) (harg3 : arg3.IsWhole)
  (arg4 : Memref sig .tc .vmem S512x2048 .f32) (harg4 : arg4.IsWhole)
  (arg5 : Memref sig .tc .vmem S512x2048 .f32) (harg5 : arg5.IsWhole)
  (arg6 : Memref sig .tc .vmem S512x128 .f32) (harg6 : arg6.IsWhole)
  (arg7 : Memref sig .tc .vmem S1x2048 .f32) (harg7 : arg7.IsWhole)
  (arg8 : Memref sig .tc .vmem S512x2048 .f32) (harg8 : arg8.IsWhole)
  (arg9 : Memref sig .tc .vmem S512x2048 .bf16) (harg9 : arg9.IsWhole)
  (arg10 : Memref sig .tc .vmem S8x2048 .f32) (harg10 : arg10.IsWhole)
  (arg11 : Memref sig .tc .vmem S512x2048 .f32) (harg11 : arg11.IsWhole)

set_option maxHeartbeats 1600000 in
/-- The first point: the sums and the accumulator are cleared, the first product is added. -/
theorem run_first (hc0 : cond0_0 i) (hc1 : cond0_1 i) (hc2 : ¬cond0_2 i) (a : Vec F S512x1024 .bf16) (w : Vec F S1x2048x1024 .bf16)
    (E : Set ℕ) (K : PUnit → sProp 𝕄) :
    iprop(owns (c : Thread nD τ) arg2 fullShare a ∗ owns (c : Thread nD τ) arg3 fullShare w ∗ (∃ d, owns (c : Thread nD τ) arg10 fullShare d) ∗ (∃ d, owns (c : Thread nD τ) arg11 fullShare d)
      ∗ (iprop(owns (c : Thread nD τ) arg2 fullShare a ∗ owns (c : Thread nD τ) arg3 fullShare w ∗ owns (c : Thread nD τ) arg10 fullShare (k0_pay2 (F := F))
          ∗ owns (c : Thread nD τ) arg11 fullShare (k0_pay3 k0_pay1 a w)) -∗ K ⟨⟩))
      ⊢ wp frame (wpE (defs₀ (F := F)) Variants.none c none) E (cc0_d_h1_ln1 i arg2 harg2 arg3 harg3 arg4 harg4 arg5 harg5 arg6 harg6 arg7 harg7 arg8 harg8 arg9 harg9 arg10 harg10 arg11 harg11) K := by
  simp only [cc0_d_h1_ln1_eq_skeleton]; unfold cc0_d_h1_ln1_skel
  unfold owns
  iintro ⟨⟨%f0, %hf0, H0⟩, ⟨%f1, %hf1, H1⟩, ⟨%d8, %f8, -, H8⟩, ⟨%ds, %fs, -, HS⟩, Hk⟩
  obtain rfl := harg2.eq_unread hf0; obtain rfl := harg3.eq_unread hf1
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  isplitl [H8]
  · iexists _; isplitr
    swap; · iexact H8
    ipureintro; exact store_all arg10 harg10 _ _ _ _
  iexists _; isplitr
  swap; · iexact HS
  ipureintro
  refine (store_all arg11 harg11 _ _ _ _).trans ?_
  rw [load_all arg2 harg2, load_all arg3 harg3]
  congr 1
  unfold run_first.sl.v8 run_first.sl.HS_1
  exact View.readAt_writes_full _ _ _ _ _ _

set_option maxHeartbeats 1600000 in
/-- The first column of a later row of blocks: the accumulator is cleared, the first product is added. -/
theorem run_row (hc0 : cond0_0 i) (hc1 : ¬cond0_1 i) (hc2 : ¬cond0_2 i) (a : Vec F S512x1024 .bf16) (w : Vec F S1x2048x1024 .bf16)
    (E : Set ℕ) (K : PUnit → sProp 𝕄) :
    iprop(owns (c : Thread nD τ) arg2 fullShare a ∗ owns (c : Thread nD τ) arg3 fullShare w ∗ (∃ d, owns (c : Thread nD τ) arg11 fullShare d)
      ∗ (iprop(owns (c : Thread nD τ) arg2 fullShare a ∗ owns (c : Thread nD τ) arg3 fullShare w
          ∗ owns (c : Thread nD τ) arg11 fullShare (k0_pay3 k0_pay1 a w)) -∗ K ⟨⟩))
      ⊢ wp frame (wpE (defs₀ (F := F)) Variants.none c none) E (cc0_d_h1_ln1 i arg2 harg2 arg3 harg3 arg4 harg4 arg5 harg5 arg6 harg6 arg7 harg7 arg8 harg8 arg9 harg9 arg10 harg10 arg11 harg11) K := by
  simp only [cc0_d_h1_ln1_eq_skeleton]; unfold cc0_d_h1_ln1_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  refine (store_all arg11 harg11 _ _ _ _).trans ?_
  rw [load_all arg2 harg2, load_all arg3 harg3]
  congr 1
  unfold run_row.sl.v8 run_row.sl.HS_1
  exact View.readAt_writes_full _ _ _ _ _ _

set_option maxHeartbeats 1600000 in
/-- A middle column: the product is added. -/
theorem run_mid (hc0 : ¬cond0_0 i) (hc1 : ¬cond0_1 i) (hc2 : ¬cond0_2 i) (a : Vec F S512x1024 .bf16) (w : Vec F S1x2048x1024 .bf16) (acc : Vec F S512x2048 .f32)
    (E : Set ℕ) (K : PUnit → sProp 𝕄) :
    iprop(owns (c : Thread nD τ) arg2 fullShare a ∗ owns (c : Thread nD τ) arg3 fullShare w ∗ owns (c : Thread nD τ) arg11 fullShare acc
      ∗ (iprop(owns (c : Thread nD τ) arg2 fullShare a ∗ owns (c : Thread nD τ) arg3 fullShare w
          ∗ owns (c : Thread nD τ) arg11 fullShare (k0_pay3 acc a w)) -∗ K ⟨⟩))
      ⊢ wp frame (wpE (defs₀ (F := F)) Variants.none c none) E (cc0_d_h1_ln1 i arg2 harg2 arg3 harg3 arg4 harg4 arg5 harg5 arg6 harg6 arg7 harg7 arg8 harg8 arg9 harg9 arg10 harg10 arg11 harg11) K := by
  simp only [cc0_d_h1_ln1_eq_skeleton]; unfold cc0_d_h1_ln1_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg11.eq_unread hfs
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  refine (store_all arg11 harg11 _ _ _ _).trans ?_
  rw [load_all arg2 harg2, load_all arg3 harg3, load_all arg11 harg11]

set_option maxHeartbeats 1600000 in
/-- A last column: the product is added and the row loop runs. -/
theorem run_last (hc0 : ¬cond0_0 i) (hc1 : ¬cond0_1 i) (hc2 : cond0_2 i) (a : Vec F S512x1024 .bf16) (w : Vec F S1x2048x1024 .bf16)
    (d2 xh : Vec F S512x2048 .f32) (rs : Vec F S512x128 .f32) (g : Vec F S1x2048 .f32) (acc : Vec F S512x2048 .f32) (st : Vec F S8x2048 .f32)
    (E : Set ℕ) (K : PUnit → sProp 𝕄) :
    iprop(owns (c : Thread nD τ) arg2 fullShare a ∗ owns (c : Thread nD τ) arg3 fullShare w ∗ owns (c : Thread nD τ) arg4 fullShare d2 ∗ owns (c : Thread nD τ) arg5 fullShare xh
      ∗ owns (c : Thread nD τ) arg6 fullShare rs ∗ owns (c : Thread nD τ) arg7 fullShare g ∗ (∃ d, owns (c : Thread nD τ) arg8 fullShare d) ∗ (∃ d, owns (c : Thread nD τ) arg9 fullShare d)
      ∗ owns (c : Thread nD τ) arg10 fullShare st ∗ owns (c : Thread nD τ) arg11 fullShare acc
      ∗ (iprop(owns (c : Thread nD τ) arg2 fullShare a ∗ owns (c : Thread nD τ) arg3 fullShare w ∗ owns (c : Thread nD τ) arg4 fullShare d2 ∗ owns (c : Thread nD τ) arg5 fullShare xh
      ∗ owns (c : Thread nD τ) arg6 fullShare rs ∗ owns (c : Thread nD τ) arg7 fullShare g
      ∗ owns (c : Thread nD τ) arg8 fullShare (join (rows d2 xh rs g (k0_pay3 acc a w)))
      ∗ owns (c : Thread nD τ) arg9 fullShare (join (rowsB d2 xh rs g (k0_pay3 acc a w)))
      ∗ owns (c : Thread nD τ) arg10 fullShare (sums d2 xh (k0_pay3 acc a w) st 4)
          ∗ owns (c : Thread nD τ) arg11 fullShare (k0_pay3 acc a w)) -∗ K ⟨⟩))
      ⊢ wp frame (wpE (defs₀ (F := F)) Variants.none c none) E (cc0_d_h1_ln1 i arg2 harg2 arg3 harg3 arg4 harg4 arg5 harg5 arg6 harg6 arg7 harg7 arg8 harg8 arg9 harg9 arg10 harg10 arg11 harg11) K := by
  simp only [cc0_d_h1_ln1_eq_skeleton]; unfold cc0_d_h1_ln1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hfs
  let L := loop c i arg2 harg2 arg3 harg3 arg4 harg4 arg5 harg5 arg6 harg6 arg7 harg7 arg8 harg8 arg9 harg9 arg10 harg10 arg11 harg11 hc2 d2 xh rs g (k0_pay3 acc a w) st E
  sl_exec (disch := first | sl_exact hc0 | sl_exact hc1 | sl_exact hc2)
  unfold run_last.sl.HS_1
  rw [harg11.eq_unread (store_all arg11 harg11 _ _ _ _), load_all arg2 harg2, load_all arg3 harg3, load_all arg11 harg11]
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro; exact eq_join _ _ hL6
  isplitl [H7]
  · iexists _; isplitr
    swap; · iexact H7
    ipureintro; exact eq_join _ _ hL8
  isplitl [H8]
  · iexists _; isplitr
    swap; · iexact H8
    ipureintro
    rw [harg10.read_unread]
    exact congrArg _ four
  iexists _; isplitr
  swap; · iexact HS
  ipureintro; exact harg11.read_unread _

end Runs

end Cert.LnIdeal.Rows

end
-- ==== Proof.LnFrame.lean ====
/-
The frame of the layer norm's backward call: what its buffers hold after each point of the grid, the body's
triple at every point, the run of the whole program.
-/
module

public import proofs.«01_k».proof.Proof.LnRows
public import Idealize.ShloMosaic.Lib.Claim

@[expose] public section

set_option maxRecDepth 16384

noncomputable section

namespace Cert.LnIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LnIdeal Cert.LnIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body reads at a point, at their types. -/
abbrev blk0 (c : Dev nD) (t : Fin cfg0.N) : Vec F S512x1024 .bf16 := iblk m c 0 t
abbrev blk1 (c : Dev nD) (t : Fin cfg0.N) : Vec F S1x2048x1024 .bf16 := iblk m c 1 t
abbrev blk2 (c : Dev nD) (t : Fin cfg0.N) : Vec F S512x2048 .f32 := iblk m c 2 t
abbrev blk3 (c : Dev nD) (t : Fin cfg0.N) : Vec F S512x2048 .f32 := iblk m c 3 t
abbrev blk4 (c : Dev nD) (t : Fin cfg0.N) : Vec F S512x128 .f32 := iblk m c 4 t
abbrev blk5 (c : Dev nD) (t : Fin cfg0.N) : Vec F S1x2048 .f32 := iblk m c 5 t

/-- The accumulator after a point: begun anew in the first of the eight columns of blocks. -/
def acc (c : Dev nD) : (n : ℕ) → n < cfg0.N → Vec F S512x2048 .f32
  | 0, hn => k0_pay3 k0_pay1 (blk0 m c ⟨0, hn⟩) (blk1 m c ⟨0, hn⟩)
  | n + 1, hn => k0_pay3 (if (n + 1) % 8 = 0 then k0_pay1 else acc c n (Nat.lt_of_succ_lt hn)) (blk0 m c ⟨n + 1, hn⟩) (blk1 m c ⟨n + 1, hn⟩)

/-- The sums after a point: four passes at every last column. -/
def sum (c : Dev nD) : (n : ℕ) → n < cfg0.N → Vec F S8x2048 .f32
  | 0, _ => k0_pay2
  | n + 1, hn => if (n + 1) % 8 = 7 then sums (blk2 m c ⟨n + 1, hn⟩) (blk3 m c ⟨n + 1, hn⟩) (acc m c (n + 1) hn) (sum c n (Nat.lt_of_succ_lt hn)) 4
      else sum c n (Nat.lt_of_succ_lt hn)

/-- The gradient's rows at a point, as the row loop computes them from the accumulator there. -/
def grad (c : Dev nD) (t : Fin cfg0.N) : Vec F S512x2048 .f32 :=
  join (rows (blk2 m c t) (blk3 m c t) (blk4 m c t) (blk5 m c t) (acc m c t.val t.isLt))
/-- The same rounded. -/
def gradB (c : Dev nD) (t : Fin cfg0.N) : Vec F S512x2048 .bf16 :=
  join (rowsB (blk2 m c t) (blk3 m c t) (blk4 m c t) (blk5 m c t) (acc m c t.val t.isLt))

theorem acc_first (c : Dev nD) (t : Fin cfg0.N) (h : t.val % 8 = 0) :
    acc m c t.val t.isLt = k0_pay3 k0_pay1 (blk0 m c t) (blk1 m c t) := by
  obtain ⟨n, hn⟩ := t
  cases n with
  | zero => rfl
  | succ n => exact congrArg (fun x => k0_pay3 x _ _) (if_pos h)

theorem acc_next (c : Dev nD) (t : Fin cfg0.N) (h : ¬t.val % 8 = 0) :
    acc m c t.val t.isLt = k0_pay3 (acc m c (t.val - 1) (by omega)) (blk0 m c t) (blk1 m c t) := by
  obtain ⟨n, hn⟩ := t
  cases n with
  | zero => exact absurd (Nat.zero_mod 8) h
  | succ n => exact congrArg (fun x => k0_pay3 x _ _) (if_neg h)

theorem sum_first (c : Dev nD) (t : Fin cfg0.N) (h : t.val = 0) : sum m c t.val t.isLt = k0_pay2 := by
  obtain ⟨n, hn⟩ := t
  cases n with
  | zero => rfl
  | succ n => exact absurd h (Nat.succ_ne_zero n)

theorem sum_last (c : Dev nD) (t : Fin cfg0.N) (h : t.val % 8 = 7) :
    sum m c t.val t.isLt = sums (blk2 m c t) (blk3 m c t) (acc m c t.val t.isLt) (sum m c (t.val - 1) (by omega)) 4 := by
  obtain ⟨n, hn⟩ := t
  cases n with
  | zero => exact absurd (show 0 % 8 = 7 from h) (by decide)
  | succ n => exact if_pos h

theorem sum_mid (c : Dev nD) (t : Fin cfg0.N) (h0 : t.val ≠ 0) (h : ¬t.val % 8 = 7) :
    sum m c t.val t.isLt = sum m c (t.val - 1) (by omega) := by
  obtain ⟨n, hn⟩ := t
  cases n with
  | zero => exact absurd rfl h0
  | succ n => exact if_neg h

/-- What is held between points: the accumulator at its contents, the generator's register at some state. -/
def carry (c : Dev nD) : (n : ℕ) → n ≤ cfg0.N → sProp 𝕄
  | 0, _ => Pipeline.ΦA spec0 c
  | n + 1, hn => iprop(iprop(owns (c : Thread nD τ) scM0_0 fullShare (acc m c n hn)) ∗ (∃ r, prngReg c r))

theorem carry_zero (c : Dev nD) (n : ℕ) (h : n ≤ cfg0.N) (hz : n = 0) : carry m c n h = Pipeline.ΦA spec0 c := by
  subst hz; rfl

theorem carry_pos (c : Dev nD) (n : ℕ) (h : n ≤ cfg0.N) (hz : n ≠ 0) :
    carry m c n h = iprop(iprop(owns (c : Thread nD τ) scM0_0 fullShare (acc m c (n - 1) (by omega))) ∗ (∃ r, prngReg c r)) := by
  cases n with
  | zero => exact absurd rfl hz
  | succ n => rfl

/-- The pipeline's data: arrays as the host leaves them, inputs at their blocks, the outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => grad m c t
    | ⟨7, _⟩ => gradB m c t
    | ⟨8, _⟩ => sum m c t.val t.isLt
  Φ t := carry m c t.val (Nat.le_of_lt_succ t.isLt)
  q _ := fullShare
  owed _ := 0

theorem A_eq (c : Dev nD) (w : Fin cfg0.W) : (dats m 0 c).A w = V m c (Pipeline.arrRef spec0 w) := by dsimp only [dats]

theorem carry_castSucc (c : Dev nD) (t : Fin cfg0.N) : (dats m 0 c).Φ t.castSucc = carry m c t.val (Nat.le_of_lt t.isLt) := by
  dsimp only [dats]; exact Pipeline.Dat.Φ_castSucc (carry m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = grad m c t := by dsimp only [dats]
theorem after_7 (c : Dev nD) (t : Fin cfg0.N) : (dats m 0 c).after 7 t = gradB m c t := by dsimp only [dats]
theorem after_8 (c : Dev nD) (t : Fin cfg0.N) : (dats m 0 c).after 8 t = sum m c t.val t.isLt := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- Where the sums' buffer is left alone it holds what it held. -/
theorem sum_kept (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := by
  intro t h0 hi _
  have hN : t.val < 32 := lt_of_lt_of_eq t.isLt N_0
  rw [after_8, after_8]
  by_cases h2 : t.val % 8 = 7
  · rw [liveAt0_8_C t (fun h => by have := (hcond0_0 t).mp h; omega) (fun h => by have := (hcond0_1 t).mp h; omega) ((hcond0_2 t).mpr h2)] at hi
    exact absurd hi Bool.false_ne_true
  · exact sum_mid m c t h0 h2

/-- At a last column the body finds the sums of the point before. -/
theorem before_8 (c : Dev nD) (t : Fin cfg0.N) (h2 : t.val % 8 = 7) (d) : (dats m 0 c).before 8 t d = sum m c (t.val - 1) (by omega) := by
  rw [Dat.before_out_traj _ 8 rfl (fun _ _ => rfl) (sum_kept m c) t.val t rfl d,
    if_neg (by rw [notFresh0_8_C t (fun h => by have := (hcond0_0 t).mp h; omega) (fun h => by have := (hcond0_1 t).mp h; omega) ((hcond0_2 t).mpr h2)]; exact Bool.false_ne_true)]
  dsimp only [dats]

set_option maxHeartbeats 1600000 in
/-- The body's triple at every point. -/
theorem body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d)))
      ⊢ wp frame (wpE (defs₀ (F := F)) Variants.none c none) Set.univ (bodyAt0 t) (fun _ =>
        iprop((dats m 0 c).Φ t.succ ∗ (dats m 0 c).owesAt () t.succ
          ∗ (dats m 0 c).leavesExact 0 t
          ∗ (dats m 0 c).leavesExact 1 t
          ∗ (dats m 0 c).leavesExact 2 t
          ∗ (dats m 0 c).leavesExact 3 t
          ∗ (dats m 0 c).leavesExact 4 t
          ∗ (dats m 0 c).leavesExact 5 t
          ∗ (dats m 0 c).leavesExact 6 t
          ∗ (dats m 0 c).leavesExact 7 t
          ∗ (dats m 0 c).leavesExact 8 t)) := by
  unfold bodyAt0
  simp only [before_0, before_1, before_2, before_3, before_4, before_5]
  rw [show (dats m 0 c).owesAt () t.succ = (dats m 0 c).owesAt () t.castSucc from rfl]
  rw [show (dats m 0 c).Φ t.succ = iprop(iprop(owns (c : Thread nD τ) scM0_0 fullShare (acc m c t.val t.isLt)) ∗ (∃ r, prngReg c r)) from rfl]
  have hN : t.val < 32 := lt_of_lt_of_eq t.isLt N_0
  by_cases h0 : t.val % 8 = 0
  · have h2 : ¬t.val % 8 = 7 := by omega
    by_cases h1 : t.val % 32 = 0
    · have hz : t.val = 0 := by omega
      rw [show (dats m 0 c).leavesExact 0 t = owns (c : Thread nD τ) (ms0_0 t) fullShare ((dats m 0 c).after 0 t) from by unfold Dat.leavesExact; rw [liveAt0_0 t], after_0]
      rw [show (dats m 0 c).leavesExact 1 t = owns (c : Thread nD τ) (ms0_1 t) fullShare ((dats m 0 c).after 1 t) from by unfold Dat.leavesExact; rw [liveAt0_1 t], after_1]
      rw [show (dats m 0 c).leavesExact 2 t = owns (c : Thread nD τ) (ms0_2 t) fullShare ((dats m 0 c).after 2 t) from by unfold Dat.leavesExact; rw [liveAt0_2 t], after_2]
      rw [show (dats m 0 c).leavesExact 3 t = owns (c : Thread nD τ) (ms0_3 t) fullShare ((dats m 0 c).after 3 t) from by unfold Dat.leavesExact; rw [liveAt0_3 t], after_3]
      rw [show (dats m 0 c).leavesExact 4 t = owns (c : Thread nD τ) (ms0_4 t) fullShare ((dats m 0 c).after 4 t) from by unfold Dat.leavesExact; rw [liveAt0_4 t], after_4]
      rw [show (dats m 0 c).leavesExact 5 t = owns (c : Thread nD τ) (ms0_5 t) fullShare ((dats m 0 c).after 5 t) from by unfold Dat.leavesExact; rw [liveAt0_5 t], after_5]
      rw [Dat.leavesExact_idle (dats m 0 c) 6 t (idleAt0_6_A t ((hcond0_0 t).mpr h0) ((hcond0_1 t).mpr h1) (fun h => h2 ((hcond0_2 t).mp h))) (noFlush0_6_A t ((hcond0_0 t).mpr h0) ((hcond0_1 t).mpr h1) (fun h => h2 ((hcond0_2 t).mp h)))]
      rw [Dat.leavesExact_idle (dats m 0 c) 7 t (idleAt0_7_A t ((hcond0_0 t).mpr h0) ((hcond0_1 t).mpr h1) (fun h => h2 ((hcond0_2 t).mp h))) (noFlush0_7_A t ((hcond0_0 t).mpr h0) ((hcond0_1 t).mpr h1) (fun h => h2 ((hcond0_2 t).mp h)))]
      rw [show (dats m 0 c).leavesExact 8 t = owns (c : Thread nD τ) (ms0_8 t) fullShare ((dats m 0 c).after 8 t) from by unfold Dat.leavesExact; rw [liveAt0_8_A t ((hcond0_0 t).mpr h0) ((hcond0_1 t).mpr h1) (fun h => h2 ((hcond0_2 t).mp h))], after_8]
      rw [carry_castSucc m c t, carry_zero m c _ _ (by omega), PhiA0_eq, acc_first m c t h0, sum_first m c t (by omega)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) ((hcond0_1 t).mpr h1) (fun h => h2 ((hcond0_2 t).mp h)) _ _ Set.univ _)
      isplitl [H0]; · iexact H0
      isplitl [H1]; · iexact H1
      isplitl [H8]; · iexists _; iexact H8
      isplitl [HS]; · iexact HS
      iintro ⟨H0, H1, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexact H8
    · have hz : t.val ≠ 0 := by omega
      rw [show (dats m 0 c).leavesExact 0 t = owns (c : Thread nD τ) (ms0_0 t) fullShare ((dats m 0 c).after 0 t) from by unfold Dat.leavesExact; rw [liveAt0_0 t], after_0]
      rw [show (dats m 0 c).leavesExact 1 t = owns (c : Thread nD τ) (ms0_1 t) fullShare ((dats m 0 c).after 1 t) from by unfold Dat.leavesExact; rw [liveAt0_1 t], after_1]
      rw [show (dats m 0 c).leavesExact 2 t = owns (c : Thread nD τ) (ms0_2 t) fullShare ((dats m 0 c).after 2 t) from by unfold Dat.leavesExact; rw [liveAt0_2 t], after_2]
      rw [show (dats m 0 c).leavesExact 3 t = owns (c : Thread nD τ) (ms0_3 t) fullShare ((dats m 0 c).after 3 t) from by unfold Dat.leavesExact; rw [liveAt0_3 t], after_3]
      rw [show (dats m 0 c).leavesExact 4 t = owns (c : Thread nD τ) (ms0_4 t) fullShare ((dats m 0 c).after 4 t) from by unfold Dat.leavesExact; rw [liveAt0_4 t], after_4]
      rw [show (dats m 0 c).leavesExact 5 t = owns (c : Thread nD τ) (ms0_5 t) fullShare ((dats m 0 c).after 5 t) from by unfold Dat.leavesExact; rw [liveAt0_5 t], after_5]
      rw [Dat.leavesExact_idle (dats m 0 c) 6 t (idleAt0_6_D t ((hcond0_0 t).mpr h0) (fun h => h1 ((hcond0_1 t).mp h)) (fun h => h2 ((hcond0_2 t).mp h))) (noFlush0_6_D t ((hcond0_0 t).mpr h0) (fun h => h1 ((hcond0_1 t).mp h)) (fun h => h2 ((hcond0_2 t).mp h)))]
      rw [Dat.leavesExact_idle (dats m 0 c) 7 t (idleAt0_7_D t ((hcond0_0 t).mpr h0) (fun h => h1 ((hcond0_1 t).mp h)) (fun h => h2 ((hcond0_2 t).mp h))) (noFlush0_7_D t ((hcond0_0 t).mpr h0) (fun h => h1 ((hcond0_1 t).mp h)) (fun h => h2 ((hcond0_2 t).mp h)))]
      rw [Dat.leavesExact_idle (dats m 0 c) 8 t (idleAt0_8_D t ((hcond0_0 t).mpr h0) (fun h => h1 ((hcond0_1 t).mp h)) (fun h => h2 ((hcond0_2 t).mp h))) (noFlush0_8_D t ((hcond0_0 t).mpr h0) (fun h => h1 ((hcond0_1 t).mp h)) (fun h => h2 ((hcond0_2 t).mp h)))]
      rw [carry_castSucc m c t, carry_pos m c _ _ (by omega)]
      rw [acc_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (fun h => h2 ((hcond0_2 t).mp h)) _ _ Set.univ _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
  · have h1 : ¬t.val % 32 = 0 := by omega
    have hz : t.val ≠ 0 := by omega
    by_cases h2 : t.val % 8 = 7
    · rw [show (dats m 0 c).leavesExact 0 t = owns (c : Thread nD τ) (ms0_0 t) fullShare ((dats m 0 c).after 0 t) from by unfold Dat.leavesExact; rw [liveAt0_0 t], after_0]
      rw [show (dats m 0 c).leavesExact 1 t = owns (c : Thread nD τ) (ms0_1 t) fullShare ((dats m 0 c).after 1 t) from by unfold Dat.leavesExact; rw [liveAt0_1 t], after_1]
      rw [show (dats m 0 c).leavesExact 2 t = owns (c : Thread nD τ) (ms0_2 t) fullShare ((dats m 0 c).after 2 t) from by unfold Dat.leavesExact; rw [liveAt0_2 t], after_2]
      rw [show (dats m 0 c).leavesExact 3 t = owns (c : Thread nD τ) (ms0_3 t) fullShare ((dats m 0 c).after 3 t) from by unfold Dat.leavesExact; rw [liveAt0_3 t], after_3]
      rw [show (dats m 0 c).leavesExact 4 t = owns (c : Thread nD τ) (ms0_4 t) fullShare ((dats m 0 c).after 4 t) from by unfold Dat.leavesExact; rw [liveAt0_4 t], after_4]
      rw [show (dats m 0 c).leavesExact 5 t = owns (c : Thread nD τ) (ms0_5 t) fullShare ((dats m 0 c).after 5 t) from by unfold Dat.leavesExact; rw [liveAt0_5 t], after_5]
      rw [show (dats m 0 c).leavesExact 6 t = owns (c : Thread nD τ) (ms0_6 t) fullShare ((dats m 0 c).after 6 t) from by unfold Dat.leavesExact; rw [liveAt0_6_C t (fun h => h0 ((hcond0_0 t).mp h)) (fun h => h1 ((hcond0_1 t).mp h)) ((hcond0_2 t).mpr h2)], after_6]
      rw [show (dats m 0 c).leavesExact 7 t = owns (c : Thread nD τ) (ms0_7 t) fullShare ((dats m 0 c).after 7 t) from by unfold Dat.leavesExact; rw [liveAt0_7_C t (fun h => h0 ((hcond0_0 t).mp h)) (fun h => h1 ((hcond0_1 t).mp h)) ((hcond0_2 t).mpr h2)], after_7]
      rw [show (dats m 0 c).leavesExact 8 t = owns (c : Thread nD τ) (ms0_8 t) fullShare ((dats m 0 c).after 8 t) from by unfold Dat.leavesExact; rw [liveAt0_8_C t (fun h => h0 ((hcond0_0 t).mp h)) (fun h => h1 ((hcond0_1 t).mp h)) ((hcond0_2 t).mpr h2)], after_8]
      rw [carry_castSucc m c t, carry_pos m c _ _ (by omega)]
      rw [sum_last m c t h2]
      simp only [before_8 m c t h2]
      unfold grad gradB
      rw [acc_next m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) ((hcond0_2 t).mpr h2) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [show (dats m 0 c).leavesExact 0 t = owns (c : Thread nD τ) (ms0_0 t) fullShare ((dats m 0 c).after 0 t) from by unfold Dat.leavesExact; rw [liveAt0_0 t], after_0]
      rw [show (dats m 0 c).leavesExact 1 t = owns (c : Thread nD τ) (ms0_1 t) fullShare ((dats m 0 c).after 1 t) from by unfold Dat.leavesExact; rw [liveAt0_1 t], after_1]
      rw [show (dats m 0 c).leavesExact 2 t = owns (c : Thread nD τ) (ms0_2 t) fullShare ((dats m 0 c).after 2 t) from by unfold Dat.leavesExact; rw [liveAt0_2 t], after_2]
      rw [show (dats m 0 c).leavesExact 3 t = owns (c : Thread nD τ) (ms0_3 t) fullShare ((dats m 0 c).after 3 t) from by unfold Dat.leavesExact; rw [liveAt0_3 t], after_3]
      rw [show (dats m 0 c).leavesExact 4 t = owns (c : Thread nD τ) (ms0_4 t) fullShare ((dats m 0 c).after 4 t) from by unfold Dat.leavesExact; rw [liveAt0_4 t], after_4]
      rw [show (dats m 0 c).leavesExact 5 t = owns (c : Thread nD τ) (ms0_5 t) fullShare ((dats m 0 c).after 5 t) from by unfold Dat.leavesExact; rw [liveAt0_5 t], after_5]
      rw [Dat.leavesExact_idle (dats m 0 c) 6 t (idleAt0_6_B t (fun h => h0 ((hcond0_0 t).mp h)) (fun h => h1 ((hcond0_1 t).mp h)) (fun h => h2 ((hcond0_2 t).mp h))) (noFlush0_6_B t (fun h => h0 ((hcond0_0 t).mp h)) (fun h => h1 ((hcond0_1 t).mp h)) (fun h => h2 ((hcond0_2 t).mp h)))]
      rw [Dat.leavesExact_idle (dats m 0 c) 7 t (idleAt0_7_B t (fun h => h0 ((hcond0_0 t).mp h)) (fun h => h1 ((hcond0_1 t).mp h)) (fun h => h2 ((hcond0_2 t).mp h))) (noFlush0_7_B t (fun h => h0 ((hcond0_0 t).mp h)) (fun h => h1 ((hcond0_1 t).mp h)) (fun h => h2 ((hcond0_2 t).mp h)))]
      rw [Dat.leavesExact_idle (dats m 0 c) 8 t (idleAt0_8_B t (fun h => h0 ((hcond0_0 t).mp h)) (fun h => h1 ((hcond0_1 t).mp h)) (fun h => h2 ((hcond0_2 t).mp h))) (noFlush0_8_B t (fun h => h0 ((hcond0_0 t).mp h)) (fun h => h1 ((hcond0_1 t).mp h)) (fun h => h2 ((hcond0_2 t).mp h)))]
      rw [carry_castSucc m c t, carry_pos m c _ _ (by omega)]
      rw [acc_next m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (fun h => h2 ((hcond0_2 t).mp h)) _ _ _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body m c t) rfl .rfl fun _ => .rfl

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  rw [show (dats m 0 c).Φ (Fin.last cfg0.N) = carry m c (Fin.last cfg0.N).val (Nat.le_of_lt_succ (Fin.last cfg0.N).isLt) from rfl,
    carry_pos m c _ _ (by rw [Fin.val_last]; have : cfg0.N = 32 := N_0; omega), PhiA0_eq]
  iintro ⟨HS, Hg⟩
  isplitl [HS]
  · iexists _; iexact HS
  iexact Hg

set_option backward.isDefEq.respectTransparency.types false in
/-- The whole program's run, with every counter at nought at the end. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_all m ρ)

/-- The frame: the arguments end as they began, every counter at nought. -/
theorem frame_rows : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_all m ρ))

end Cert.LnIdeal.Rows

end
-- ==== Proof.LnRow.lean ====
/-
One row of the layer norm's gradient, over the reals and then over the extended reals at finite numbers: the
kernel's centred form is the reference's sum of the direct part, the part through the variance and the part
through the mean.
-/
module
public import Idealize.ShloMosaic.PureOps.Ideal
public import Mathlib.Analysis.SpecialFunctions.Pow.Real

@[expose] public section

noncomputable section

namespace Cert.LayerNorm
open Idealize.ShloMosaic

/-- Over the reals: `r` is the reciprocal root of the variance `s`, `c` the centred row. -/
theorem real_row {n : ℕ} (c G : Fin n → ℝ) (N r s : ℝ) (hs : s ≠ 0) (hr : r * r = s⁻¹) (hc : ∑ k, c k = 0) (j : Fin n) :
    r * (G j - (∑ k, G k) * (1 / N) - c j * r * ((∑ k, G k * (c k * r)) * (1 / N)))
      = G j * r + (∑ k, c k * G k) * (-(1 / 2) * (r * (1 / s))) * (1 / N) * (2 * c j)
        + (∑ k, -(G k * r) + ∑ k, -((∑ k, c k * G k) * (-(1 / 2) * (r * (1 / s))) * (1 / N) * (2 * c k))) * (1 / N) := by
  have h1 : ∑ k, -((∑ k, c k * G k) * (-(1 / 2) * (r * (1 / s))) * (1 / N) * (2 * c k)) = 0 := by
    rw [Finset.sum_neg_distrib, ← Finset.mul_sum, ← Finset.mul_sum, hc]; ring
  have h2 : ∑ k, -(G k * r) = -((∑ k, G k) * r) := by rw [Finset.sum_neg_distrib, ← Finset.sum_mul]
  have h3 : ∑ k, G k * (c k * r) = (∑ k, c k * G k) * r := by
    rw [Finset.sum_mul]; exact Finset.sum_congr rfl fun k _ => by ring
  rw [h1, h2, h3, show (1 : ℝ) / s = r * r by rw [hr, one_div]]
  ring

/-- A centred row adds up to nought. -/
theorem centred {n : ℕ} (x : Fin n → ℝ) (N : ℝ) (hN : N = n) (h0 : N ≠ 0) : ∑ k, (x k - (∑ k, x k) * (1 / N)) = 0 := by
  rw [Finset.sum_sub_distrib, Finset.sum_const, Finset.card_univ, Fintype.card_fin, nsmul_eq_mul, ← hN]
  field_simp
  ring

/-- A finite number. -/
def Fin' (x : EReal) : Prop := ∃ r : ℝ, x = r

/-- A sum of reals among the extended reals. -/
theorem coe_sum {ι : Type*} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

theorem real_sum {ι : Type*} (s : Finset ι) (f : ι → EReal) (h : ∀ k, Fin' (f k)) : Fin' (∑ k ∈ s, f k) := by
  choose g hg using h
  exact ⟨∑ k ∈ s, g k, by rw [coe_sum]; exact Finset.sum_congr rfl fun k _ => hg k⟩
theorem real_add {x y : EReal} (hx : Fin' x) (hy : Fin' y) : Fin' (x + y) := by
  obtain ⟨a, rfl⟩ := hx; obtain ⟨b, rfl⟩ := hy; exact ⟨a + b, (EReal.coe_add a b).symm⟩
theorem real_mul {x y : EReal} (hx : Fin' x) (hy : Fin' y) : Fin' (x * y) := by
  obtain ⟨a, rfl⟩ := hx; obtain ⟨b, rfl⟩ := hy; exact ⟨a * b, (EReal.coe_mul a b).symm⟩

theorem rsqrt_pos {s : ℝ} (h : 0 < s) : Ideal.rsqrt (s : EReal) = (((Real.sqrt s)⁻¹ : ℝ) : EReal) := by
  rw [Ideal.rsqrt_coe, if_neg (not_lt.mpr h.le), if_neg h.ne']

/-- The row's mean, its centred numbers, its variance with the small number, and the reciprocal root, as the programs
    spell them. -/
abbrev mean {n : ℕ} (N : EReal) (x : Fin n → EReal) : EReal := Ideal.div (∑ k, x k) N
abbrev cen {n : ℕ} (N : EReal) (x : Fin n → EReal) (j : Fin n) : EReal := x j - mean N x
abbrev dev {n : ℕ} (N e : EReal) (x : Fin n → EReal) : EReal := Ideal.div (∑ k, cen N x k * cen N x k) N + e

/-- The part of a row's gradient through the variance. -/
abbrev through {n : ℕ} (N e a b : EReal) (x G : Fin n → EReal) (j : Fin n) : EReal :=
  Ideal.div ((∑ k, cen N x k * G k) * (a * Ideal.div (Ideal.rsqrt (dev N e x)) (dev N e x))) N * (b * cen N x j)

/-- Over the extended reals, at finite numbers: the kernel's row is the reference's. -/
theorem row {n : ℕ} (x G : Fin n → EReal) (hx : ∀ k, Fin' (x k)) (hG : ∀ k, Fin' (G k)) (N e a b : EReal) (hN : N = ((n : ℝ) : EReal)) (hn : 0 < n)
    (he : ∃ r : ℝ, 0 < r ∧ e = r) (ha : a = ((-(1 / 2) : ℝ) : EReal)) (hb : b = ((2 : ℝ) : EReal)) (j : Fin n) :
    Ideal.rsqrt (dev N e x) * (G j - Ideal.div (∑ k, G k) N
        - cen N x j * Ideal.rsqrt (dev N e x) * Ideal.div (∑ k, G k * (cen N x k * Ideal.rsqrt (dev N e x))) N)
      = G j * Ideal.rsqrt (dev N e x) + through N e a b x G j
        + Ideal.div (∑ k, -(G k * Ideal.rsqrt (dev N e x)) + ∑ k, -through N e a b x G k) N := by
  choose x' hx' using hx
  choose G' hG' using hG
  obtain rfl : x = fun k => (x' k : EReal) := funext hx'
  obtain rfl : G = fun k => (G' k : EReal) := funext hG'
  obtain ⟨e', he', rfl⟩ := he
  subst hN ha hb
  have n0 : (n : ℝ) ≠ 0 := by exact_mod_cast hn.ne'
  have hm : mean ((n : ℝ) : EReal) (fun k => (x' k : EReal)) = (((∑ k, x' k) * (1 / n) : ℝ) : EReal) := by
    rw [mean, Ideal.div_coe n0, ← coe_sum, ← EReal.coe_mul]
  have hc : ∀ k, cen ((n : ℝ) : EReal) (fun k => (x' k : EReal)) k = ((x' k - (∑ k, x' k) * (1 / n) : ℝ) : EReal) := fun k => by
    rw [cen, hm, ← EReal.coe_sub]
  set c : Fin n → ℝ := fun k => x' k - (∑ k, x' k) * (1 / n) with hcdef
  have hd : dev ((n : ℝ) : EReal) (e' : EReal) (fun k => (x' k : EReal)) = (((∑ k, c k * c k) * (1 / n) + e' : ℝ) : EReal) := by
    rw [dev]
    simp only [hc]
    rw [Ideal.div_coe n0]
    simp only [← EReal.coe_mul, ← coe_sum, ← EReal.coe_add]
    rfl
  set s : ℝ := (∑ k, c k * c k) * (1 / n) + e' with hsdef
  have hs : 0 < s := add_pos_of_nonneg_of_pos
    (mul_nonneg (Finset.sum_nonneg fun k _ => mul_self_nonneg (c k)) (by positivity)) he'
  have hr : Ideal.rsqrt (dev ((n : ℝ) : EReal) (e' : EReal) (fun k => (x' k : EReal))) = (((Real.sqrt s)⁻¹ : ℝ) : EReal) := by
    rw [hd, rsqrt_pos hs]
  have hrr : (Real.sqrt s)⁻¹ * (Real.sqrt s)⁻¹ = s⁻¹ := by rw [← mul_inv, Real.mul_self_sqrt hs.le]
  have h := real_row c G' n (Real.sqrt s)⁻¹ s hs.ne' hrr (centred x' n rfl n0) j
  have ht : ∀ k, through ((n : ℝ) : EReal) (e' : EReal) ((-(1 / 2) : ℝ) : EReal) ((2 : ℝ) : EReal) (fun k => (x' k : EReal)) (fun k => (G' k : EReal)) k
      = (((∑ k, c k * G' k) * (-(1 / 2) * ((Real.sqrt s)⁻¹ * (1 / s))) * (1 / n) * (2 * c k) : ℝ) : EReal) := fun k => by
    rw [through, hr, hd]
    simp only [hc]
    rw [Ideal.div_coe n0, Ideal.div_coe hs.ne']
    simp only [← EReal.coe_mul, ← coe_sum]
    rfl
  simp only [ht, hr, hc]
  rw [Ideal.div_coe n0, Ideal.div_coe n0, Ideal.div_coe n0]
  simp only [← EReal.coe_mul, ← coe_sum, ← EReal.coe_add, ← EReal.coe_sub, ← EReal.coe_neg]
  exact congrArg (fun z : ℝ => (z : EReal)) h

end Cert.LayerNorm
end
-- ==== Proof.LnPre.lean ====
/-
What the precondition of the layer norm's backward call says: every element of the five arguments is a real number.
-/
module

public import proofs.«01_k».proof.Pre_finite_norm
public import proofs.«01_k».proof.Proof.LnRow
public import Idealize.ShloMosaic.Lib.ReduceAll

@[expose] public section

set_option maxRecDepth 16384

noncomputable section

namespace Cert.LayerNorm

open Idealize.ShloMosaic
open Cert.Pre_finite_norm

instance : Subsingleton S_.Idx := ⟨fun _ _ => funext fun a => a.elim0⟩

/-- An element whose absolute value is below infinity is a real number. -/
theorem real_of_lt (x : EReal) (h : Ideal.cmp .olt (max x (-x)) (Ideal.ofBits .f32 0x7F800000#32) = 1#1) : Fin' x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  have hb : x ≠ ⊥ := by
    rintro rfl
    simp at hlt
  exact ⟨x.toReal, (EReal.coe_toReal (ne_of_lt hlt.1) hb).symm⟩

/-- Two flags are set where their conjunction is. -/
theorem both {a b : BitVec 1} (h : a &&& b = 1#1) : a = 1#1 ∧ b = 1#1 := by
  revert h; revert a b; decide

/-- All elements of an array whose absolute values are all below infinity are real numbers. -/
theorem all_real {s : Shape} {axes : List (Fin s.rank)} (x : FVec Ideal s .f32) (hb : S_.BroadcastsInDim s ![]) (h : s.ReducesTo axes S_) (hu : 0 < S_.numel)
    (j : S_.Idx) (e : Host.reduce IntOp.andi (cmpf .olt (Host.absf x) (broadcastInDim s ![] hb (constant S_ .f32 0x7F800000#32))) (constantI S_ 1 1#1) h hu j = 1#1)
    (i : s.Idx) : Fin' (x i) :=
  real_of_lt _ (Host.reduce_andi_all _ _ _ _ j e i)

/-- The precondition, read off. -/
theorem finite_of [Facts] (a w : FVec Ideal S2048x8192 .f32) (d x : FVec Ideal S2048x2048 .f32) (g b : FVec Ideal S1x2048 .f32)
    (h : fn (F := Ideal) a w d x g b = fun _ => 1#1) :
    (∀ i, Fin' (a i)) ∧ (∀ i, Fin' (w i)) ∧ (∀ i, Fin' (d i)) ∧ (∀ i, Fin' (x i)) ∧ (∀ i, Fin' (g i)) := by
  have e := congrFun h (fun a => a.elim0)
  unfold fn fn_part1 at e
  obtain ⟨e, hg⟩ := both e
  obtain ⟨e, hx⟩ := both e
  obtain ⟨e, hd⟩ := both e
  obtain ⟨e, hw⟩ := both e
  obtain ⟨_, ha⟩ := both e
  exact ⟨all_real a _ _ _ _ ha, all_real w _ _ _ _ hw, all_real d _ _ _ _ hd, all_real x _ _ _ _ hx, all_real g _ _ _ _ hg⟩

end Cert.LayerNorm
end
-- ==== Proof.LnStage.lean ====
/-
What the layer norm's gradient is in the reference, stage by stage: the rows' means, deviations and the three
results at an index, as sums over extended reals.
-/
module
public import proofs.«01_k».proof.Proof.Gen.LnRefIdeal.Run
public import proofs.«01_k».proof.Proof.LnRow
public import Idealize.ShloMosaic.Lib.Pipeline.ValueKit
public import Idealize.ShloMosaic.Lib.Pointwise

@[expose] public section

set_option maxRecDepth 16384

noncomputable section

namespace Cert.LnRefIdeal.Stage
open Idealize.ShloMosaic Idealize.ShloMosaic.TcCoe Idealize.SL.Sem
open Cert.LnRefIdeal Cert.LnRefIdeal.Gen

abbrev Sq := FVec Ideal S2048x2048 .f32
abbrev Col := FVec Ideal S2048x1 .f32

/-- A number in every row. -/
abbrev all (b : BitVec 32) : Col := broadcastInDim S2048x1 ![] bcast_S_S2048x1 (constant S_ .f32 b)
/-- A column along the rows. -/
abbrev along (x : Col) : Sq := broadcastInDim S2048x2048 ![0, 1] bcast_S2048x1_S2048x2048_0_1 x
/-- A row's sum. -/
abbrev rowSum (x : Sq) : FVec Ideal S2048 .f32 := Host.reduceAdd x (constant S_ .f32 0x00000000#32) reducesTo_S2048x2048_S2048_d1 h_S_
/-- A column's sum. -/
abbrev colSum (x : Sq) : FVec Ideal S2048 .f32 := Host.reduceAdd x (constant S_ .f32 0x00000000#32) reducesTo_S2048x2048_S2048_d0 h_S_

/-- The rows' means. -/
def mean (x : Sq) : Col := Host.divf (broadcastInDim S2048x1 ![0] bcast_S2048_S2048x1_0 (rowSum x)) (all 0x45000000#32)
/-- The rows less their means. -/
def cen (x : Sq) : Sq := subf x (along (mean x))
/-- The rows' variances and the small number. -/
def dev (x : Sq) : Col :=
  addf (Host.divf (broadcastInDim S2048x1 ![0] bcast_S2048_S2048x1_0 (rowSum (mulf (cen x) (cen x)))) (all 0x45000000#32)) (all 0x3727C5AC#32)
/-- The reciprocal deviations. -/
def rec (x : Sq) : Col := Host.rsqrt (dev x)
/-- The gradient that reaches the layer norm's result. -/
def reach (a w : FVec Ideal S2048x8192 .f32) (d : Sq) : Sq :=
  addf (Host.dotGeneral dot_S2048x8192_S2048x8192_S2048x2048_1_1_0_0_n_n none a w)
    (mulf (broadcastInDim S2048x2048 ![] bcast_S_S2048x2048 (constant S_ .f32 0x3F9837F0#32)) d)
/-- That times the gain. -/
def gained (h : Sq) (g : FVec Ideal S1x2048 .f32) : Sq :=
  mulf h (broadcastInDim S2048x2048 ![0, 1] bcast_S1x2048_S2048x2048_0_1 (broadcastInDim S1x2048 ![1] bcast_S2048_S1x2048_1 (shapeCast S2048 g shapeCasts_S1x2048_S2048)))
/-- The part that goes through the variances. -/
def through (x : Sq) (g : Sq) : Sq :=
  mulf (broadcastInDim S2048x2048 ![0] bcast_S2048_S2048x2048_0 (Host.reduceAdd (Host.divf (mulf (shapeCast S2048x1 (rowSum (mulf (cen x) g)) shapeCasts_S2048_S2048x1)
      (mulf (all 0xBF000000#32) (Host.divf (rec x) (dev x)))) (all 0x45000000#32)) (constant S_ .f32 0x00000000#32) reducesTo_S2048x1_S2048_d1 h_S_))
    (mulf (broadcastInDim S2048x2048 ![] bcast_S_S2048x2048 (constant S_ .f32 0x40000000#32)) (cen x))
/-- The direct part. -/
def direct (x : Sq) (g : Sq) : Sq := mulf g (along (rec x))
/-- The gradient of the layer norm's input. -/
def total (x g : Sq) : Sq :=
  addf (addf (direct x g) (through x g)) (broadcastInDim S2048x2048 ![0] bcast_S2048_S2048x2048_0 (Host.reduceAdd (Host.divf
    (addf (shapeCast S2048x1 (rowSum (Host.negf (direct x g))) shapeCasts_S2048_S2048x1) (shapeCast S2048x1 (rowSum (Host.negf (through x g))) shapeCasts_S2048_S2048x1))
    (all 0x45000000#32)) (constant S_ .f32 0x00000000#32) reducesTo_S2048x1_S2048_d1 h_S_))
/-- The sums over the rows, as one row each. -/
def asRow (x : Sq) : FVec Ideal S1x2048 .f32 :=
  broadcastInDim S1x2048 ![1] bcast_S2048_S1x2048_1 (Host.reduceAdd (shapeCast S1x2048 (colSum x) shapeCasts_S2048_S1x2048)
    (constant S_ .f32 0x00000000#32) reducesTo_S1x2048_S2048_d0 h_S_)
/-- The gain's gradient, the bias's, six rows of noughts. -/
def sums (x h : Sq) : FVec Ideal S8x2048 .f32 :=
  concatenate S8x2048 0 [⟨S1x2048, asRow (mulf (mulf (cen x) (along (rec x))) h)⟩, ⟨S1x2048, asRow h⟩,
    ⟨S6x2048, broadcastInDim S6x2048 ![] bcast_S_S6x2048 (constant S_ .f32 0x00000000#32)⟩] concatenates_S1x2048_S1x2048_S6x2048_S8x2048_d0

variable (m : (ℓ : Loc nD τ sig) → Buf (Elt Ideal) ℓ) (c : Dev nD)

theorem total_eq : Value.res_main_v70 m c = total (m ((c.tc : Thread nD τ).loc main_arg3)) (gained (reach (m ((c.tc : Thread nD τ).loc main_arg0))
    (m ((c.tc : Thread nD τ).loc main_arg1)) (m ((c.tc : Thread nD τ).loc main_arg2))) (m ((c.tc : Thread nD τ).loc main_arg4))) := by
  unfold Value.res_main_v70; rfl

theorem rounded_eq : Value.res_main_v71 m c = truncf .bf16 (total (m ((c.tc : Thread nD τ).loc main_arg3)) (gained (reach (m ((c.tc : Thread nD τ).loc main_arg0))
    (m ((c.tc : Thread nD τ).loc main_arg1)) (m ((c.tc : Thread nD τ).loc main_arg2))) (m ((c.tc : Thread nD τ).loc main_arg4)))) bitsLt_bf16_f32 := by
  unfold Value.res_main_v71; rfl

variable (x g h : Sq) (i : S2048x2048.Idx)

/-- The width, the small number, minus a half and two, as the programs spell them. -/
abbrev width : EReal := Ideal.ofBits .f32 0x45000000#32
abbrev small : EReal := Ideal.ofBits .f32 0x3727C5AC#32
theorem width_eq : width = (((2048 : ℕ) : ℝ) : EReal) := by
  simp [Ideal.ofBits, Ideal.ieee, -EReal.coe_mul]; norm_num
theorem half_eq : Ideal.ofBits .f32 0xBF000000#32 = ((-(1 / 2) : ℝ) : EReal) := by
  simp [Ideal.ofBits, Ideal.ieee, -EReal.coe_mul, -EReal.coe_neg]; norm_num
theorem two_eq : Ideal.ofBits .f32 0x40000000#32 = ((2 : ℝ) : EReal) := by
  simp [Ideal.ofBits, Ideal.ieee, -EReal.coe_mul]; norm_num
theorem small_eq : ∃ e : ℝ, 0 < e ∧ small = (e : EReal) :=
  ⟨10995116 * 2 ^ (-40 : ℤ), by norm_num, by simp [Ideal.ofBits, Ideal.ieee, -EReal.coe_mul]⟩
theorem alpha_eq : ∃ e : ℝ, Ideal.ofBits .f32 0x3F9837F0#32 = (e : EReal) :=
  ⟨9975792 * 2 ^ (-23 : ℤ), by simp [Ideal.ofBits, Ideal.ieee, -EReal.coe_mul]⟩

/-- An index is its row's and its column's. -/
theorem at_row (i : S2048x2048.Idx) : i = ix2 (i 0) (i 1) := by
  funext a
  match a with
  | ⟨0, _⟩ => rfl
  | ⟨1, _⟩ => rfl

/-- A row of an array. -/
abbrev rowOf (x : Sq) (i : Fin 2048) : Fin 2048 → EReal := fun k => x (ix2 i k)

variable (x g h : Sq) (i : S2048x2048.Idx)

theorem mean_apply (j : S2048x1.Idx) : mean x j = LayerNorm.mean width (rowOf x (j 0)) := by
  pointwise [mean]

theorem cen_apply : cen x i = LayerNorm.cen width (rowOf x (i 0)) (i 1) := by
  pointwise [cen, mean]
  exact congrArg (fun z => x z - _) (at_row i)

theorem dev_apply (j : S2048x1.Idx) : dev x j = LayerNorm.dev width small (rowOf x (j 0)) := by
  pointwise [dev, cen, mean]

theorem rec_apply (j : S2048x1.Idx) : rec x j = Ideal.rsqrt (LayerNorm.dev width small (rowOf x (j 0))) := by
  pointwise [rec]
  rw [dev_apply]

theorem direct_apply : direct x g i = g i * Ideal.rsqrt (LayerNorm.dev width small (rowOf x (i 0))) := by
  pointwise [direct]
  rw [rec_apply]
  rfl

theorem through_apply : through x g i = LayerNorm.through width small (Ideal.ofBits .f32 0xBF000000#32) (Ideal.ofBits .f32 0x40000000#32)
    (rowOf x (i 0)) (rowOf g (i 0)) (i 1) := by
  pointwise [through]
  rw [Fin.sum_univ_one, rec_apply, dev_apply]
  simp only [cen_apply]
  rfl

/-- The gradient of the layer norm's input at finite numbers, in the kernel's form. -/
theorem total_apply (hx : ∀ i, LayerNorm.Fin' (x i)) (hg : ∀ i, LayerNorm.Fin' (g i)) : total x g i
    = Ideal.rsqrt (LayerNorm.dev width small (rowOf x (i 0))) * (g i - Ideal.div (∑ k, g (ix2 (i 0) k)) width
        - LayerNorm.cen width (rowOf x (i 0)) (i 1) * Ideal.rsqrt (LayerNorm.dev width small (rowOf x (i 0)))
          * Ideal.div (∑ k, g (ix2 (i 0) k) * (LayerNorm.cen width (rowOf x (i 0)) k * Ideal.rsqrt (LayerNorm.dev width small (rowOf x (i 0))))) width) := by
  have e : g i = rowOf g (i 0) (i 1) := congrArg g (at_row i)
  rw [e]
  refine Eq.trans ?_ (LayerNorm.row (rowOf x (i 0)) (rowOf g (i 0)) (fun k => hx _) (fun k => hg _) width small _ _ width_eq (by norm_num) small_eq half_eq two_eq (i 1)).symm
  pointwise [total]
  rw [Fin.sum_univ_one]
  simp only [direct_apply, through_apply]
  rw [e]
  rfl

theorem gained_apply (gain : FVec Ideal S1x2048 .f32) : gained h gain i = h i * gain (ix2 0 (i 1)) := by
  pointwise [gained]

theorem reach_apply (a w : FVec Ideal S2048x8192 .f32) : reach a w g i
    = ∑ k, a (ix2 (i 0) k) * w (ix2 (i 1) k) + Ideal.ofBits .f32 0x3F9837F0#32 * g i := by
  pointwise [reach]

theorem sums_apply (j : S8x2048.Idx) : sums x h j
    = if (j 0).val = 0 then ∑ k, LayerNorm.cen width (rowOf x k) (j 1) * Ideal.rsqrt (LayerNorm.dev width small (rowOf x k)) * h (ix2 k (j 1))
      else if (j 0).val = 1 then ∑ k, h (ix2 k (j 1)) else 0 := by
  pointwise [sums, asRow]
  simp only [Fin.sum_univ_one, cen_apply, rec_apply]
  by_cases h0 : (j 0).val = 0
  · rw [dif_pos (by omega), if_pos h0]; rfl
  · by_cases h1 : (j 0).val = 1
    · rw [dif_neg (by omega), dif_pos (by omega), if_neg h0, if_pos h1]
    · rw [dif_neg (by omega), dif_neg (by omega), if_neg h0, if_neg h1]

/-- The gradient that reaches the layer norm is finite at finite arguments. -/
theorem reach_real (a w : FVec Ideal S2048x8192 .f32) (ha : ∀ i, LayerNorm.Fin' (a i)) (hw : ∀ i, LayerNorm.Fin' (w i)) (hg : ∀ i, LayerNorm.Fin' (g i)) :
    LayerNorm.Fin' (reach a w g i) := by
  rw [reach_apply]
  exact LayerNorm.real_add (LayerNorm.real_sum _ _ fun k => LayerNorm.real_mul (ha _) (hw _)) (LayerNorm.real_mul alpha_eq (hg _))

theorem gained_real (gain : FVec Ideal S1x2048 .f32) (hh : ∀ i, LayerNorm.Fin' (h i)) (hg : ∀ i, LayerNorm.Fin' (gain i)) :
    LayerNorm.Fin' (gained h gain i) := by
  rw [gained_apply]
  exact LayerNorm.real_mul (hh _) (hg _)

end Cert.LnRefIdeal.Stage
end
-- ==== Proof.LnBlock.lean ====
/-
What the layer norm's backward call reads at a point of its grid, as elements of the arguments, and what its
accumulator holds there over the reals: the product's sum over the columns taken so far.
-/
module

public import proofs.«01_k».proof.Proof.LnFrame
public import proofs.«01_k».proof.Proof.LnStage
public import Idealize.ShloMosaic.Lib.Pipeline.ValueKit
public import Idealize.ShloMosaic.Lib.Pointwise

@[expose] public section

set_option maxRecDepth 16384

noncomputable section

namespace Cert.LnIdeal.Rows

open Idealize.ShloMosaic Idealize.ShloMosaic.TcCoe Idealize.SL.Sem
open Cert.LnIdeal Cert.LnIdeal.Gen

variable (m : (ℓ : Loc nD τ sig) → Buf (Elt Ideal) ℓ) (c : Dev nD)

/-- The arguments. -/
abbrev argA : FVec Ideal S2048x8192 .f32 := m ((c.tc : Thread nD τ).loc main_arg0)
abbrev argW : FVec Ideal S2048x8192 .f32 := m ((c.tc : Thread nD τ).loc main_arg1)
abbrev argD : FVec Ideal S2048x2048 .f32 := m ((c.tc : Thread nD τ).loc main_arg2)
abbrev argX : FVec Ideal S2048x2048 .f32 := m ((c.tc : Thread nD τ).loc main_arg3)
abbrev argG : FVec Ideal S1x2048 .f32 := m ((c.tc : Thread nD τ).loc main_arg4)

/-- The normalised rows, as the host computes them. -/
abbrev hat (X : FVec Ideal S2048x2048 .f32) : FVec Ideal S2048x2048 .f32 :=
  mulf (LnRefIdeal.Stage.cen X) (LnRefIdeal.Stage.along (LnRefIdeal.Stage.rec X))
/-- Their reciprocal deviations, over 128 lanes. -/
abbrev lanes (X : FVec Ideal S2048x2048 .f32) : FVec Ideal S2048x128 .f32 :=
  broadcastInDim S2048x128 ![0, 1] bcast_S2048x1_S2048x128_0_1 (LnRefIdeal.Stage.rec X)
/-- The weight's four column shards. -/
abbrev shards (W : FVec Ideal S2048x8192 .f32) : FVec Ideal S4x2048x2048 .bf16 :=
  transpose S4x2048x2048 [1, 0, 2] (shapeCast S2048x4x2048 (truncf .bf16 W bitsLt_bf16_f32) shapeCasts_S2048x8192_S2048x4x2048)
    transposes_S2048x4x2048_S4x2048x2048_1_0_2

theorem entry0 : V m c main_v19 = (truncf .bf16 (argA m c) bitsLt_bf16_f32 : FVec Ideal S2048x8192 .bf16) := by
  show StableHlo.after hostOps0 _ _ = _
  after_results
theorem entry1 : V m c main_v22 = shards (argW m c) := by
  show StableHlo.after hostOps0 _ _ = _
  after_results
  rfl
theorem entry2 : V m c main_arg2 = argD m c := by
  show StableHlo.after hostOps0 _ _ = _
  after_results
theorem entry3 : V m c main_v17 = hat (argX m c) := by
  show StableHlo.after hostOps0 _ _ = _
  after_results
  rfl
theorem entry4 : V m c main_v18 = lanes (argX m c) := by
  show StableHlo.after hostOps0 _ _ = _
  after_results
  rfl
theorem entry5 : V m c main_arg4 = argG m c := by
  show StableHlo.after hostOps0 _ _ = _
  after_results

/-- Which block each window is at. -/
theorem idx : ∀ t : Fin cfg0.N, win0_0.index t = ![t.val / 8, t.val % 8] ∧ win0_1.index t = ![t.val % 8 / 2, 0, t.val % 8 % 2]
    ∧ win0_2.index t = ![t.val / 8, 0] ∧ win0_3.index t = ![t.val / 8, 0] ∧ win0_4.index t = ![t.val / 8, 0] ∧ win0_5.index t = ![0, 0]
    ∧ win0_6.index t = ![t.val / 8, 0] ∧ win0_7.index t = ![t.val / 8, 0] ∧ win0_8.index t = ![0, 0] :=
  (by decide +kernel : ∀ t : Fin grid0.N, _)

theorem point_lt (t : Fin cfg0.N) : t.val < 32 := lt_of_lt_of_eq t.isLt N_0

/-- Row `p` of the row block at point `n`. -/
abbrev rowAt (n : ℕ) (hn : n < 32) (p : Fin 512) : Fin 2048 := ⟨512 * (n / 8) + p.val, by omega⟩
/-- Column `k` of the column block there. -/
abbrev colAt (n : ℕ) (hn : n < 32) (k : Fin 1024) : Fin 8192 := ⟨1024 * (n % 8) + k.val, by omega⟩

theorem blk0_at (t : Fin cfg0.N) (p : Fin 512) (k : Fin 1024) :
    blk0 m c t (ix2 p k) = argA m c (ix2 (rowAt t.val (point_lt t) p) (colAt t.val (point_lt t) k)) := by
  show (V m c main_v19 : FVec Ideal S2048x8192 .bf16) ((win0_0.blk t).view.emb (ix2 p k)) = _
  rw [entry0]
  pointwise
  blk_point [idx t]

theorem blk1_at (t : Fin cfg0.N) (j : Fin 2048) (k : Fin 1024) :
    blk1 m c t (ix3 0 j k) = argW m c (ix2 j (colAt t.val (point_lt t) k)) := by
  show (V m c main_v22 : FVec Ideal S4x2048x2048 .bf16) ((win0_1.blk t).view.emb (ix3 0 j k)) = _
  rw [entry1]
  pointwise [shards]
  blk_point [idx t]

theorem blk2_at (t : Fin cfg0.N) (p : Fin 512) (j : Fin 2048) : blk2 m c t (ix2 p j) = argD m c (ix2 (rowAt t.val (point_lt t) p) j) := by
  show (V m c main_arg2 : FVec Ideal S2048x2048 .f32) ((win0_2.blk t).view.emb (ix2 p j)) = _
  rw [entry2]
  blk_point [idx t]

theorem blk3_at (t : Fin cfg0.N) (p : Fin 512) (j : Fin 2048) : blk3 m c t (ix2 p j) = hat (argX m c) (ix2 (rowAt t.val (point_lt t) p) j) := by
  show (V m c main_v17 : FVec Ideal S2048x2048 .f32) ((win0_3.blk t).view.emb (ix2 p j)) = _
  rw [entry3]
  generalize hat (argX m c) = z
  blk_point [idx t]

theorem blk4_at (t : Fin cfg0.N) (p : Fin 512) (l : Fin 128) : blk4 m c t (ix2 p l) = LnRefIdeal.Stage.rec (argX m c) (ix2 (rowAt t.val (point_lt t) p) 0) := by
  show (V m c main_v18 : FVec Ideal S2048x128 .f32) ((win0_4.blk t).view.emb (ix2 p l)) = _
  rw [entry4]
  pointwise [lanes]
  generalize LnRefIdeal.Stage.rec (argX m c) = z
  blk_point [idx t]

theorem blk5_at (t : Fin cfg0.N) (j : Fin 2048) : blk5 m c t (ix2 0 j) = argG m c (ix2 0 j) := by
  show (V m c main_arg4 : FVec Ideal S1x2048 .f32) ((win0_5.blk t).view.emb (ix2 0 j)) = _
  rw [entry5]
  blk_point [idx t]

/-- One step of the accumulator at an index. -/
theorem pay3_at (x : Vec Ideal S512x2048 .f32) (a : Vec Ideal S512x1024 .bf16) (w : Vec Ideal S1x2048x1024 .bf16) (p : Fin 512) (j : Fin 2048) :
    (k0_pay3 x a w (ix2 p j) : EReal) = (x (ix2 p j) : EReal) + ∑ k : Fin 1024, (a (ix2 p k) : EReal) * (w (ix3 0 j k) : EReal) := by
  pointwise [k0_pay3]
theorem pay1_at (y : S512x2048.Idx) : (k0_pay1 (F := Ideal) y : EReal) = 0 := by
  pointwise [k0_pay1]

/-- The product's term at column `k`, nought beyond the columns. -/
def term (i j : Fin 2048) (k : ℕ) : EReal :=
  if h : k < 8192 then argA m c (ix2 i ⟨k, h⟩) * argW m c (ix2 j ⟨k, h⟩) else 0

/-- What a point adds. -/
theorem step_at (t : Fin cfg0.N) (p : Fin 512) (j : Fin 2048) :
    ∑ k : Fin 1024, (blk0 m c t (ix2 p k) : EReal) * (blk1 m c t (ix3 0 j k) : EReal)
      = ∑ k ∈ Finset.range 1024, term m c (rowAt t.val (point_lt t) p) j (1024 * (t.val % 8) + k) := by
  rw [Finset.sum_range]
  refine Finset.sum_congr rfl fun k _ => ?_
  rw [blk0_at, blk1_at, term, dif_pos (by omega)]

/-- The accumulator after a point: the product's sum over the columns taken so far. -/
theorem acc_at (n : ℕ) (hn : n < cfg0.N) (p : Fin 512) (j : Fin 2048) :
    (acc m c n hn (ix2 p j) : EReal)
      = ∑ k ∈ Finset.range (1024 * (n % 8 + 1)), term m c (rowAt n (point_lt ⟨n, hn⟩) p) j k := by
  induction n with
  | zero =>
    have h := acc_first m c ⟨0, hn⟩ rfl
    rw [show acc m c 0 hn = _ from h, pay3_at, pay1_at, zero_add, step_at]
    simp
  | succ n ih =>
    by_cases h8 : (n + 1) % 8 = 0
    · rw [show acc m c (n + 1) hn = _ from acc_first m c ⟨n + 1, hn⟩ h8, pay3_at, pay1_at, zero_add, step_at]
      simp [h8]
    · rw [show acc m c (n + 1) hn = _ from acc_next m c ⟨n + 1, hn⟩ h8, pay3_at, step_at]
      have e : 1024 * ((n + 1) % 8 + 1) = 1024 * ((n + 1) % 8) + 1024 := by ring
      have e1 : n % 8 + 1 = (n + 1) % 8 := by omega
      have e2 : rowAt (n + 1) (point_lt ⟨n + 1, hn⟩) p = rowAt n (point_lt ⟨n, by omega⟩) p := Fin.ext (by show 512 * ((n + 1) / 8) + p.val = 512 * (n / 8) + p.val; omega)
      rw [e, Finset.sum_range_add, e2, ← e1]
      refine congrArg₂ _ ?_ ?_
      · exact ih (by omega)
      · rfl

/-- After the last column the accumulator and the scaled gradient make the gradient that reaches the layer norm. -/
theorem reach_at (t : Fin cfg0.N) (h : t.val % 8 = 7) (p : Fin 512) (j : Fin 2048) :
    Ideal.ofBits .f32 0x3F9837F0#32 * (blk2 m c t (ix2 p j) : EReal) + (acc m c t.val t.isLt (ix2 p j) : EReal)
      = LnRefIdeal.Stage.reach (argA m c) (argW m c) (argD m c) (ix2 (rowAt t.val (point_lt t) p) j) := by
  rw [LnRefIdeal.Stage.reach_apply, acc_at, h, blk2_at, add_comm]
  refine congrArg₂ _ ?_ rfl
  rw [Finset.sum_range]
  exact Finset.sum_congr rfl fun k _ => dif_pos k.isLt

end Cert.LnIdeal.Rows
end
-- ==== Proof.LnPoint.lean ====
/-
What a last-column point of the layer norm's backward call leaves in its three outputs, over the reals: the
gradient's rows, the same rounded, and the two rows of sums over the rows taken so far.
-/
module

public import proofs.«01_k».proof.Proof.LnBlock

@[expose] public section

set_option maxRecDepth 16384

noncomputable section

namespace Cert.LnIdeal.Rows

open Idealize.ShloMosaic Idealize.ShloMosaic.TcCoe Idealize.SL.Sem
open Cert.LnIdeal Cert.LnIdeal.Gen

theorem pass_lt (k : Fin k0_t1_loop.trips) : k.val < 4 := lt_of_lt_of_eq k.isLt four

/-- Row `p` of pass `k`. -/
abbrev passRow (k : Fin k0_t1_loop.trips) (p : Fin 128) : Fin 512 := ⟨128 * k.val + p.val, by have := pass_lt k; omega⟩

theorem cut_at (k : Fin k0_t1_loop.trips) (X : Vec Ideal S512x2048 .f32) (p : Fin 128) (j : Fin 2048) :
    cut k X (ix2 p j) = X (ix2 (passRow k p) j) := by
  refine congrArg X (funext fun a => Fin.ext ?_)
  match a with
  | ⟨0, _⟩ =>
    show k0_off1 k 0 + 1 * p.val = 128 * k.val + p.val
    rw [Gen.k0_off1_eq k]; simp
  | ⟨1, _⟩ =>
    show k0_off1 k 1 + 1 * j.val = j.val
    rw [Gen.k0_off1_eq k]; simp

theorem lane_at (k : Fin k0_t1_loop.trips) (X : Vec Ideal S512x128 .f32) (p : Fin 128) :
    lane k X (ix2 p 0) = X (ix2 (passRow k p) 0) := by
  refine congrArg X (funext fun a => Fin.ext ?_)
  match a with
  | ⟨0, _⟩ =>
    show k0_off2 k 0 + 1 * p.val = 128 * k.val + p.val
    rw [Gen.k0_off2_eq k]; simp
  | ⟨1, _⟩ =>
    show k0_off2 k 1 + 1 * 0 = 0
    rw [Gen.k0_off2_eq k]; simp

/-- The gradient that reaches the layer norm, in the kernel's order. -/
theorem pay6_at (d a : Vec Ideal S128x2048 .f32) (y : S128x2048.Idx) :
    (k0_pay6 d a y : EReal) = Ideal.ofBits .f32 0x3F9837F0#32 * (d y : EReal) + (a y : EReal) := by
  pointwise [k0_pay6]
theorem pay7_at (x : Vec Ideal S128x2048 .f32) (y : S128x2048.Idx) : (k0_pay7 x y : EReal) = x y := by
  pointwise [k0_pay7]
theorem pay10_at (x : Vec Ideal S1x2048 .f32) (y : S1x2048.Idx) : (k0_pay10 x y : EReal) = x y := by
  pointwise [k0_pay10]
theorem pay2_at (y : S8x2048.Idx) : (k0_pay2 (F := Ideal) y : EReal) = 0 := by
  pointwise [k0_pay2]

/-- One row of the gradient, from the row that reaches the layer norm. -/
theorem pay8_at (d a xh : Vec Ideal S128x2048 .f32) (g : Vec Ideal S1x2048 .f32) (r : Vec Ideal S128x1 .f32) (p : Fin 128) (j : Fin 2048) :
    (k0_pay8 d a xh g r (ix2 p j) : EReal) = (r (ix2 p 0) : EReal)
      * ((k0_pay6 d a (ix2 p j) : EReal) * (g (ix2 0 j) : EReal)
        - Ideal.div (∑ k : Fin 2048, (k0_pay6 d a (ix2 p k) : EReal) * (g (ix2 0 k) : EReal)) (Ideal.ofBits .f32 0x45000000#32)
        - (xh (ix2 p j) : EReal) * Ideal.div (∑ k : Fin 2048, (k0_pay6 d a (ix2 p k) : EReal) * (g (ix2 0 k) : EReal) * (xh (ix2 p k) : EReal)) (Ideal.ofBits .f32 0x45000000#32)) := by
  simp only [← pay7_at xh]
  unfold k0_pay8
  generalize k0_pay6 d a = z
  generalize k0_pay7 xh = u
  pointwise

theorem pay9_at (d a xh : Vec Ideal S128x2048 .f32) (g : Vec Ideal S1x2048 .f32) (r : Vec Ideal S128x1 .f32) (y : S128x2048.Idx) :
    (k0_pay9 d a xh g r y : EReal) = k0_pay8 d a xh g r y := by
  unfold k0_pay9
  generalize k0_pay8 d a xh g r = z
  pointwise

theorem pay4_at (d xh : Vec Ideal S128x2048 .f32) (g : Vec Ideal S1x2048 .f32) (j : Fin 2048) :
    (k0_pay4 (F := Ideal) d xh g (ix2 0 j) : EReal) = (g (ix2 0 j) : EReal) + ∑ p : Fin 128, (d (ix2 p j) : EReal) * (xh (ix2 p j) : EReal) := by
  pointwise [k0_pay4]
theorem pay5_at (d : Vec Ideal S128x2048 .f32) (g : Vec Ideal S1x2048 .f32) (j : Fin 2048) :
    (k0_pay5 (F := Ideal) d g (ix2 0 j) : EReal) = (g (ix2 0 j) : EReal) + ∑ p : Fin 128, (d (ix2 p j) : EReal) := by
  pointwise [k0_pay5]

variable (m : (ℓ : Loc nD τ sig) → Buf (Elt Ideal) ℓ) (c : Dev nD)

/-- The gradient that reaches the layer norm. -/
abbrev reached : FVec Ideal S2048x2048 .f32 := LnRefIdeal.Stage.reach (argA m c) (argW m c) (argD m c)
/-- The gradient of its input, as the reference has it. -/
abbrev wanted : FVec Ideal S2048x2048 .f32 := LnRefIdeal.Stage.total (argX m c) (LnRefIdeal.Stage.gained (reached m c) (argG m c))

theorem hat_at (X : FVec Ideal S2048x2048 .f32) (i j : Fin 2048) : hat X (ix2 i j)
    = LayerNorm.cen LnRefIdeal.Stage.width (LnRefIdeal.Stage.rowOf X i) j
      * Ideal.rsqrt (LayerNorm.dev LnRefIdeal.Stage.width LnRefIdeal.Stage.small (LnRefIdeal.Stage.rowOf X i)) := by
  show LnRefIdeal.Stage.cen X (ix2 i j) * LnRefIdeal.Stage.along (LnRefIdeal.Stage.rec X) (ix2 i j) = _
  rw [LnRefIdeal.Stage.cen_apply]
  refine congrArg₂ _ rfl (Eq.trans ?_ (LnRefIdeal.Stage.rec_apply X (ix2 i 0)))
  pointwise

/-- The row of pass `k` that reaches the layer norm. -/
theorem cut_reach (t : Fin cfg0.N) (h : t.val % 8 = 7) (k : Fin k0_t1_loop.trips) (p : Fin 128) (j : Fin 2048) :
    (k0_pay6 (cut k (blk2 m c t)) (cut k (acc m c t.val t.isLt)) (ix2 p j) : EReal)
      = reached m c (ix2 (rowAt t.val (point_lt t) (passRow k p)) j) := by
  rw [pay6_at, cut_at, cut_at]
  exact reach_at m c t h (passRow k p) j

theorem cut_hat (t : Fin cfg0.N) (k : Fin k0_t1_loop.trips) (p : Fin 128) (j : Fin 2048) :
    (cut k (blk3 m c t) (ix2 p j) : EReal) = hat (argX m c) (ix2 (rowAt t.val (point_lt t) (passRow k p)) j) := by
  rw [cut_at]
  exact blk3_at m c t (passRow k p) j

theorem rows_at (hA : ∀ i, LayerNorm.Fin' (argA m c i)) (hW : ∀ i, LayerNorm.Fin' (argW m c i)) (hD : ∀ i, LayerNorm.Fin' (argD m c i))
    (hX : ∀ i, LayerNorm.Fin' (argX m c i)) (hG : ∀ i, LayerNorm.Fin' (argG m c i))
    (t : Fin cfg0.N) (h : t.val % 8 = 7) (k : Fin k0_t1_loop.trips) (p : Fin 128) (j : Fin 2048) :
    (rows (blk2 m c t) (blk3 m c t) (blk4 m c t) (blk5 m c t) (acc m c t.val t.isLt) k (ix2 p j) : EReal)
      = wanted m c (ix2 (rowAt t.val (point_lt t) (passRow k p)) j) := by
  unfold rows
  rw [pay8_at]
  simp only [cut_reach m c t h, cut_hat, lane_at, blk4_at, blk5_at, hat_at]
  refine Eq.trans ?_ (LnRefIdeal.Stage.total_apply _ _ _ hX fun i => LnRefIdeal.Stage.gained_real _ i _
    (fun i => LnRefIdeal.Stage.reach_real _ i _ _ hA hW hD) hG).symm
  simp only [LnRefIdeal.Stage.gained_apply]
  rw [LnRefIdeal.Stage.rec_apply]
  rfl

theorem rowsB_at (t : Fin cfg0.N) (k : Fin k0_t1_loop.trips) (y : S128x2048.Idx) :
    (rowsB (blk2 m c t) (blk3 m c t) (blk4 m c t) (blk5 m c t) (acc m c t.val t.isLt) k y : EReal)
      = rows (blk2 m c t) (blk3 m c t) (blk4 m c t) (blk5 m c t) (acc m c t.val t.isLt) k y := pay9_at _ _ _ _ _ _

/-- Where a row of the joined blocks comes from. -/
theorem join_at {e : EltTy} (G : Fin k0_t1_loop.trips → Vec Ideal S128x2048 e) (p : Fin 512) (j : Fin 2048) :
    join G (ix2 p j) = G (passOf (ix2 p j)) (ix2 ⟨p.val % 128, by omega⟩ j) := by
  unfold join
  refine congrArg (G _) (funext fun a => Fin.ext ?_)
  match a with
  | ⟨0, _⟩ =>
    show p.val - 128 * (p.val / 128) = p.val % 128
    omega
  | ⟨1, _⟩ => rfl

theorem row_back (p : Fin 512) (j : Fin 2048) (q : Fin 128) (hq : q.val = p.val % 128) : passRow (passOf (ix2 p j)) q = p :=
  Fin.ext (by show 128 * (p.val / 128) + q.val = p.val; omega)

section Real
variable (hA : ∀ i, LayerNorm.Fin' (argA m c i)) (hW : ∀ i, LayerNorm.Fin' (argW m c i)) (hD : ∀ i, LayerNorm.Fin' (argD m c i))
    (hX : ∀ i, LayerNorm.Fin' (argX m c i)) (hG : ∀ i, LayerNorm.Fin' (argG m c i))
include hA hW hD hX hG

/-- The gradient's rows at a last-column point. -/
theorem grad_at (t : Fin cfg0.N) (h : t.val % 8 = 7) (p : Fin 512) (j : Fin 2048) :
    (grad m c t (ix2 p j) : EReal) = wanted m c (ix2 (rowAt t.val (point_lt t) p) j) := by
  unfold grad
  rw [join_at, rows_at m c hA hW hD hX hG t h, row_back p j _ rfl]

/-- The same rounded. -/
theorem gradB_at (t : Fin cfg0.N) (h : t.val % 8 = 7) (p : Fin 512) (j : Fin 2048) :
    (gradB m c t (ix2 p j) : EReal) = wanted m c (ix2 (rowAt t.val (point_lt t) p) j) := by
  unfold gradB
  rw [join_at, rowsB_at, rows_at m c hA hW hD hX hG t h, row_back p j _ rfl]
end Real

/-- What row `a` of the sums gains from row `i` of the arrays: the gain's part, the bias's, nothing. -/
def part (a : ℕ) (j : Fin 2048) (i : ℕ) : EReal :=
  if h : i < 2048 then
    if a = 0 then reached m c (ix2 ⟨i, h⟩ j) * hat (argX m c) (ix2 ⟨i, h⟩ j) else if a = 1 then reached m c (ix2 ⟨i, h⟩ j) else 0
  else 0

/-- One pass's step of the sums. -/
theorem step_sums (t : Fin cfg0.N) (h : t.val % 8 = 7) (k : Fin k0_t1_loop.trips) (X : Vec Ideal S8x2048 .f32) (a : Fin 8) (j : Fin 2048) :
    (sumStep (blk2 m c t) (blk3 m c t) (acc m c t.val t.isLt) k X (ix2 a j) : EReal)
      = X (ix2 a j) + ∑ p ∈ Finset.range 128, part m c a.val j (512 * (t.val / 8) + 128 * k.val + p) := by
  have hk := pass_lt k
  have ht := point_lt t
  rw [Finset.sum_range]
  by_cases h1 : a.val = 1
  · have ha : a = 1 := Fin.ext h1
    subst ha
    unfold sumStep
    rw [dif_pos (Fin.forall_fin_two.mpr ⟨by show 1 ≤ 1 ∧ 1 < 1 + 1; omega, by show 0 ≤ j.val ∧ j.val < 0 + 2048; omega⟩)]
    refine Eq.trans (congrArg (k0_pay5 _ _) (show _ = ix2 (0 : Fin 1) j from ?_)) ?_
    · funext b; refine Fin.ext ?_
      match b with
      | ⟨0, _⟩ => rfl
      | ⟨1, _⟩ => rfl
    rw [pay5_at]
    refine congrArg₂ _ (congrArg X ?_) (Finset.sum_congr rfl fun p _ => ?_)
    · funext b; refine Fin.ext ?_
      match b with
      | ⟨0, _⟩ => rfl
      | ⟨1, _⟩ => show 0 + 1 * j.val = j.val; omega
    · rw [cut_reach m c t h, part, dif_pos (by omega), if_neg (by decide), if_pos (by decide)]
      refine congrArg (fun r => reached m c (ix2 r j)) (Fin.ext ?_)
      exact (Nat.add_assoc _ _ _).symm
  · by_cases h0 : a.val = 0
    · have ha : a = 0 := Fin.ext h0
      subst ha
      unfold sumStep
      rw [dif_neg (fun hh => by have : 1 ≤ 0 := (hh 0).1; omega),
        dif_pos (Fin.forall_fin_two.mpr ⟨by show 0 ≤ 0 ∧ 0 < 0 + 1; omega, by show 0 ≤ j.val ∧ j.val < 0 + 2048; omega⟩)]
      refine Eq.trans (congrArg (k0_pay4 _ _ _) (show _ = ix2 (0 : Fin 1) j from ?_)) ?_
      · funext b; refine Fin.ext ?_
        match b with
        | ⟨0, _⟩ => rfl
        | ⟨1, _⟩ => rfl
      rw [pay4_at, pay10_at]
      refine congrArg₂ _ (congrArg X ?_) (Finset.sum_congr rfl fun p _ => ?_)
      · funext b; refine Fin.ext ?_
        match b with
        | ⟨0, _⟩ => rfl
        | ⟨1, _⟩ => show 0 + 1 * j.val = j.val; omega
      · have e : (⟨512 * (t.val / 8) + 128 * k.val + p.val, by omega⟩ : Fin 2048) = rowAt t.val (point_lt t) (passRow k p) :=
          Fin.ext (Nat.add_assoc _ _ _)
        rw [cut_reach m c t h, pay7_at, cut_hat, part, dif_pos (by omega), if_pos (by decide), e]
    · unfold sumStep
      rw [dif_neg (fun hh => h1 (by have h2 : a.val < 1 + 1 := (hh 0).2; have h3 : 1 ≤ a.val := (hh 0).1; omega)),
        dif_neg (fun hh => h0 (by have h2 : a.val < 0 + 1 := (hh 0).2; omega))]
      refine ((add_zero _).symm.trans (congrArg _ (Eq.symm ?_)))
      exact Finset.sum_eq_zero fun p _ => by rw [part, dif_pos (by omega), if_neg h0, if_neg h1]

/-- The sums after `n` passes of a last-column point. -/
theorem sums_at (t : Fin cfg0.N) (h : t.val % 8 = 7) (X : Vec Ideal S8x2048 .f32) (a : Fin 8) (j : Fin 2048) (n : ℕ) (hn : n ≤ 4) :
    (sums (blk2 m c t) (blk3 m c t) (acc m c t.val t.isLt) X n (ix2 a j) : EReal)
      = X (ix2 a j) + ∑ p ∈ Finset.range (128 * n), part m c a.val j (512 * (t.val / 8) + p) := by
  induction n with
  | zero => simp [sums]
  | succ n ih =>
    rw [sums, dif_pos (by rw [four]; omega), step_sums m c t h, ih (by omega), show 128 * (n + 1) = 128 * n + 128 by ring,
      Finset.sum_range_add, add_assoc]
    simp only [Nat.add_assoc]

/-- The sums after a point: over the rows of the row blocks finished. -/
theorem sum_at (n : ℕ) (hn : n < cfg0.N) (a : Fin 8) (j : Fin 2048) :
    (sum m c n hn (ix2 a j) : EReal) = ∑ p ∈ Finset.range (512 * ((n + 1) / 8)), part m c a.val j p := by
  induction n with
  | zero => rw [show sum m c 0 hn = _ from sum_first m c ⟨0, hn⟩ rfl, pay2_at]; rfl
  | succ n ih =>
    have ih' := ih (by omega)
    by_cases h7 : (n + 1) % 8 = 7
    · rw [show sum m c (n + 1) hn = _ from sum_last m c ⟨n + 1, hn⟩ h7, sums_at m c ⟨n + 1, hn⟩ h7 _ _ _ 4 (by omega)]
      rw [show 512 * ((n + 1 + 1) / 8) = 512 * ((n + 1) / 8) + 512 by omega, Finset.sum_range_add]
      exact congrArg₂ _ ih' rfl
    · rw [show sum m c (n + 1) hn = _ from sum_mid m c ⟨n + 1, hn⟩ (Nat.succ_ne_zero n) h7,
        show (n + 1 + 1) / 8 = (n + 1) / 8 by omega]
      exact ih'

/-- All the rows' sums are the reference's two rows. -/
theorem sum_end (n : ℕ) (hn : n < cfg0.N) (h : (n + 1) / 8 = 4) (a : Fin 8) (j : Fin 2048) :
    (sum m c n hn (ix2 a j) : EReal) = LnRefIdeal.Stage.sums (argX m c) (reached m c) (ix2 a j) := by
  rw [sum_at, h, LnRefIdeal.Stage.sums_apply, show 512 * 4 = 2048 from rfl, Finset.sum_range]
  show _ = if a.val = 0 then _ else if a.val = 1 then _ else 0
  by_cases h0 : a.val = 0
  · rw [if_pos h0]
    refine Finset.sum_congr rfl fun p _ => ?_
    rw [part, dif_pos p.isLt, if_pos h0, hat_at, mul_comm]
    rfl
  · by_cases h1 : a.val = 1
    · rw [if_neg h0, if_pos h1]
      refine Finset.sum_congr rfl fun p _ => ?_
      rw [part, dif_pos p.isLt, if_neg h0, if_pos h1]
      rfl
    · rw [if_neg h0, if_neg h1]
      exact Finset.sum_eq_zero fun p _ => by rw [part, dif_pos p.isLt, if_neg h0, if_neg h1]

end Cert.LnIdeal.Rows
end
-- ==== Proof.LnValue.lean ====
/-
The layer norm's backward call over the reals: its three result arrays, and its run, which leaves its arguments
as they were.
-/
module

public import proofs.«01_k».proof.Proof.LnPoint

@[expose] public section

set_option maxRecDepth 16384

noncomputable section

namespace Cert.LnIdeal.Rows

open Idealize.ShloMosaic Idealize.ShloMosaic.TcCoe Idealize.SL.Sem
open Cert.LnIdeal Cert.LnIdeal.Gen

variable (m : (ℓ : Loc nD τ sig) → Buf (Elt Ideal) ℓ) (ρ : Dev nD → PrngReg)

/-- Where an element of the row block sits in the array. -/
theorem emb6 (t : Fin cfg0.N) (p : Fin 512) (j : Fin 2048) : (win0_6.blk t).view.emb (ix2 p j) = ix2 (rowAt t.val (point_lt t) p) j := by
  funext a
  refine Fin.ext ?_
  match a with
  | ⟨0, _⟩ =>
    show win0_6.index t 0 * 512 + 1 * p.val = 512 * (t.val / 8) + p.val
    rw [(idx t).2.2.2.2.2.2.1]
    show t.val / 8 * 512 + 1 * p.val = _
    omega
  | ⟨1, _⟩ =>
    show win0_6.index t 1 * 2048 + 1 * j.val = j.val
    rw [(idx t).2.2.2.2.2.2.1]
    show 0 * 2048 + 1 * j.val = j.val
    omega

section Real
variable (c : Dev nD) (hA : ∀ i, LayerNorm.Fin' (argA m c i)) (hW : ∀ i, LayerNorm.Fin' (argW m c i)) (hD : ∀ i, LayerNorm.Fin' (argD m c i))
    (hX : ∀ i, LayerNorm.Fin' (argX m c i)) (hG : ∀ i, LayerNorm.Fin' (argG m c i))
include hA hW hD hX hG

/-- The gradient of the layer norm's input. -/
theorem final6 : (dats m 0 c).arrAt 6 (cfgs 0).N = wanted m c := by
  refine (dats m 0 c).arrAt_eq_of_covers 6 _ (by decide +kernel) fun t hf y => ?_
  obtain ⟨p, j, rfl⟩ : ∃ (p : Fin 512) (j : Fin 2048), y = ix2 p j := ⟨y 0, y 1, eq_ix2 y⟩
  refine Eq.trans (congrFun (after_6 m c t) (ix2 p j)) (Eq.trans (grad_at m c hA hW hD hX hG t ((flush0_6 t).mp hf) p j) ?_)
  exact (congrArg (wanted m c) (emb6 t p j)).symm

/-- The same rounded. -/
theorem final7 : (dats m 0 c).arrAt 7 (cfgs 0).N = (truncf .bf16 (wanted m c) bitsLt_bf16_f32 : FVec Ideal S2048x2048 .bf16) := by
  refine (dats m 0 c).arrAt_eq_of_covers 7 _ (by decide +kernel) fun t hf y => ?_
  obtain ⟨p, j, rfl⟩ : ∃ (p : Fin 512) (j : Fin 2048), y = ix2 p j := ⟨y 0, y 1, eq_ix2 y⟩
  refine Eq.trans (congrFun (after_7 m c t) (ix2 p j)) (Eq.trans (gradB_at m c hA hW hD hX hG t ((flush0_7 t).mp hf) p j) ?_)
  exact (congrArg (wanted m c) (emb6 t p j)).symm
end Real

/-- The gain's and the bias's gradients. -/
theorem final8 (c : Dev nD) : (dats m 0 c).arrAt 8 (cfgs 0).N = LnRefIdeal.Stage.sums (argX m c) (reached m c) := by
  refine (dats m 0 c).arrAt_eq_of_covers 8 _ (by decide +kernel) fun t hf y => ?_
  have h31 := (flush0_8 t).mp hf
  have ht := point_lt t
  obtain ⟨p, j, rfl⟩ : ∃ (p : Fin 8) (j : Fin 2048), y = ix2 p j := ⟨y 0, y 1, eq_ix2 y⟩
  refine Eq.trans (congrFun (after_8 m c t) (ix2 p j)) (Eq.trans (sum_end m c t.val t.isLt (by omega) p j) ?_)
  refine congrArg (LnRefIdeal.Stage.sums (argX m c) (reached m c)) (funext fun a => Fin.ext ?_)
  match a with
  | ⟨0, _⟩ =>
    show p.val = win0_8.index t 0 * 8 + 1 * p.val
    rw [(idx t).2.2.2.2.2.2.2.2]
    show p.val = 0 * 8 + 1 * p.val
    omega
  | ⟨1, _⟩ =>
    show j.val = win0_8.index t 1 * 2048 + 1 * j.val
    rw [(idx t).2.2.2.2.2.2.2.2]
    show j.val = 0 * 2048 + 1 * j.val
    omega

/-- At finite numbers the call runs to the end, its results the reference's, its arguments unchanged. -/
theorem run (hA : ∀ c i, LayerNorm.Fin' (argA m c i)) (hW : ∀ c i, LayerNorm.Fin' (argW m c i)) (hD : ∀ c i, LayerNorm.Fin' (argD m c i))
    (hX : ∀ c i, LayerNorm.Fin' (argX m c i)) (hG : ∀ c i, LayerNorm.Fin' (argG m c i)) :
    θ_run defs (onTc (τ := τ) (main (F := Ideal))) ⟨m, fun _ => 0, ρ⟩ (fun r => ∀ c : Dev nD,
      r.2.mem ((c.tc : Thread nD τ).loc main_v23_0) = wanted m c
      ∧ r.2.mem ((c.tc : Thread nD τ).loc main_v23_1) = (truncf .bf16 (wanted m c) bitsLt_bf16_f32 : FVec Ideal S2048x2048 .bf16)
      ∧ r.2.mem ((c.tc : Thread nD τ).loc main_v23_2) = LnRefIdeal.Stage.sums (argX m c) (reached m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono
    (fun r h c => ⟨((h.1 c).1 6).trans (final6 m c (hA c) (hW c) (hD c) (hX c) (hG c)),
      ((h.1 c).1 7).trans (final7 m c (hA c) (hW c) (hD c) (hX c) (hG c)), ((h.1 c).1 8).trans (final8 m c), h.2.1 c⟩)
    (θ_run_and (run_main m ρ) (frame_rows m ρ))

end Cert.LnIdeal.Rows
end
-- ==== Proof.LossRows.lean ====
/-
One pass of the row loop of the second layer norm and loss head's call, and the loop: what the block of 128 rows it
takes leaves in the two outputs and in the four rows of sums.
-/
module

public import proofs.«01_k».proof.Proof.Gen.LossIdeal.Frame.RunB
public import Idealize.ShloMosaic.Lib.WritesUnit
public import Idealize.ShloMosaic.Lib.VecWindow

@[expose] public section

set_option maxRecDepth 16384

noncomputable section

namespace Cert.LossIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LossIdeal Cert.LossIdeal.Gen

variable {F : FTy → Type} [FloatOps F]

local notation "𝕄" => MT nD τ sig Unit (Elt F) ℕ (UR sig nD τ) ℕ

/-- The rows pass `k` takes lie in the array. -/
theorem rows_in : ∀ (k : Fin k0_t1_loop.trips) (a : Fin S512x2048.rank), k0_off1 k a + S128x2048.size a ≤ S512x2048.size a := by decide +kernel

/-- The rectangle of pass `k`. -/
abbrev rect (k : Fin k0_t1_loop.trips) : Rect S512x2048 := Rect.unit (k0_off1 k) S128x2048.size (rows_in k)

/-- The rows of pass `k` of an array. -/
def cut {e : EltTy} (k : Fin k0_t1_loop.trips) (X : Vec F S512x2048 e) : Vec F S128x2048 e := fun x => X ((rect k).emb x)

section Values
variable (xh tg : Vec F S512x2048 .f32) (g1 b1 b2 g2 be2 : Vec F S1x2048 .f32) (acc : Vec F S512x2048 .f32)

/-- The reciprocal deviations of the rows of pass `k`. -/
def dev (k : Fin k0_t1_loop.trips) : FVec F S128x1 .f32 := k0_pay8 (cut k xh) g1 b1 (cut k acc) b2
/-- Their normalised rows. -/
def hat (k : Fin k0_t1_loop.trips) : FVec F S128x2048 .f32 := k0_pay9 (cut k xh) g1 b1 (cut k acc) b2
/-- The normalised rows times the gain. -/
def gained (k : Fin k0_t1_loop.trips) : FVec F S128x2048 .f32 := k0_pay10 (cut k xh) g1 b1 (cut k acc) b2 g2

/-- What pass `k` leaves in its rows of the gradient. -/
def rows (k : Fin k0_t1_loop.trips) : FVec F S128x2048 .f32 :=
  k0_pay14 (dev xh g1 b1 b2 acc k) (hat xh g1 b1 b2 acc k) (gained xh g1 b1 b2 g2 acc k) (k0_pay11 be2) (cut k tg) g2
/-- The same rounded. -/
def rowsB (k : Fin k0_t1_loop.trips) : FVec F S128x2048 .bf16 :=
  k0_pay15 (dev xh g1 b1 b2 acc k) (hat xh g1 b1 b2 acc k) (gained xh g1 b1 b2 g2 acc k) (k0_pay11 be2) (cut k tg) g2

/-- The rectangle of a row of the sums. -/
abbrev line0 : Rect S8x2048 := Rect.unit (s := S8x2048) ![0, 0] S1x2048.size inb_S8x2048_S1x2048_0_0
abbrev line1 : Rect S8x2048 := Rect.unit (s := S8x2048) ![1, 0] S1x2048.size inb_S8x2048_S1x2048_1_0
abbrev line2 : Rect S8x2048 := Rect.unit (s := S8x2048) ![2, 0] S1x2048.size inb_S8x2048_S1x2048_2_0
abbrev line3 : Rect S8x2048 := Rect.unit (s := S8x2048) ![3, 0] S1x2048.size inb_S8x2048_S1x2048_3_0

/-- Row 0 of the sums after pass `k`: it gains the products with the normalised rows. -/
def next0 (k : Fin k0_t1_loop.trips) (X : Vec F S8x2048 .f32) : FVec F S1x2048 .f32 :=
  k0_pay16 (hat xh g1 b1 b2 acc k) (gained xh g1 b1 b2 g2 acc k) (k0_pay11 be2) (cut k tg) (fun x => X (line0.emb x))
/-- Row 1: it gains the rows of the layer norm's cotangent. -/
def next1 (k : Fin k0_t1_loop.trips) (X : Vec F S8x2048 .f32) : FVec F S1x2048 .f32 :=
  k0_pay4 (k0_pay13 (gained xh g1 b1 b2 g2 acc k) (k0_pay11 be2) (cut k tg)) (k0_pay17 fun x => X (line1.emb x))
/-- Row 2: it gains the rows of the gradient. -/
def next2 (k : Fin k0_t1_loop.trips) (X : Vec F S8x2048 .f32) : FVec F S1x2048 .f32 :=
  k0_pay5 (rows xh tg g1 b1 b2 g2 be2 acc k) (fun x => X (line2.emb x))
/-- Row 3: it gains the sum of the squared errors. -/
def next3 (k : Fin k0_t1_loop.trips) (X : Vec F S8x2048 .f32) : FVec F S1x2048 .f32 :=
  k0_pay6 (k0_pay12 (gained xh g1 b1 b2 g2 acc k) (k0_pay11 be2) (cut k tg)) (fun x => X (line3.emb x))

/-- One pass's step of the sums. -/
def sumStep (k : Fin k0_t1_loop.trips) (X : Vec F S8x2048 .f32) : Vec F S8x2048 .f32 := fun y =>
  if h : ∀ a, (![3, 0] : Fin 2 → ℕ) a ≤ (y a).val ∧ (y a).val < (![3, 0] : Fin 2 → ℕ) a + S1x2048.size a then
    next3 xh tg g1 b1 b2 g2 be2 acc k X (Rect.unitLocal (s := S8x2048) (off := ![3, 0]) (size := S1x2048.size) y h)
  else if h : ∀ a, (![2, 0] : Fin 2 → ℕ) a ≤ (y a).val ∧ (y a).val < (![2, 0] : Fin 2 → ℕ) a + S1x2048.size a then
    next2 xh tg g1 b1 b2 g2 be2 acc k X (Rect.unitLocal (s := S8x2048) (off := ![2, 0]) (size := S1x2048.size) y h)
  else if h : ∀ a, (![1, 0] : Fin 2 → ℕ) a ≤ (y a).val ∧ (y a).val < (![1, 0] : Fin 2 → ℕ) a + S1x2048.size a then
    next1 xh tg g1 b1 b2 g2 be2 acc k X (Rect.unitLocal (s := S8x2048) (off := ![1, 0]) (size := S1x2048.size) y h)
  else if h : ∀ a, (![0, 0] : Fin 2 → ℕ) a ≤ (y a).val ∧ (y a).val < (![0, 0] : Fin 2 → ℕ) a + S1x2048.size a then
    next0 xh tg g1 b1 b2 g2 be2 acc k X (Rect.unitLocal (s := S8x2048) (off := ![0, 0]) (size := S1x2048.size) y h)
  else X y
end Values

/-- The sums after `n` passes. -/
def sums (xh tg : Vec F S512x2048 .f32) (g1 b1 b2 g2 be2 : Vec F S1x2048 .f32) (acc : Vec F S512x2048 .f32) (st : Vec F S8x2048 .f32) : ℕ → Vec F S8x2048 .f32
  | 0 => st
  | n + 1 => if h : n < k0_t1_loop.trips then sumStep xh tg g1 b1 b2 g2 be2 acc ⟨n, h⟩ (sums xh tg g1 b1 b2 g2 be2 acc st n) else sums xh tg g1 b1 b2 g2 be2 acc st n

section Loop
variable (c : Dev nD) (i : grid0.Coords)
  (arg2 : Memref sig .tc .vmem S512x1024 .bf16) (harg2 : arg2.IsWhole)
  (arg3 : Memref sig .tc .vmem S1024x2048 .bf16) (harg3 : arg3.IsWhole)
  (arg4 : Memref sig .tc .vmem S512x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S512x2048 .f32) (harg10 : arg10.IsWhole)
  (arg11 : Memref sig .tc .vmem S512x2048 .f32) (harg11 : arg11.IsWhole)
  (arg12 : Memref sig .tc .vmem S512x2048 .bf16) (harg12 : arg12.IsWhole)
  (arg13 : Memref sig .tc .vmem S8x2048 .f32) (harg13 : arg13.IsWhole)
  (arg14 : Memref sig .tc .vmem S512x2048 .f32) (harg14 : arg14.IsWhole)
  (k0_h3 : k0_cond3 i = 1#1)
  (xh tg : Vec F S512x2048 .f32) (g1 b1 b2 g2 be2 : Vec F S1x2048 .f32) (acc : Vec F S512x2048 .f32) (st : Vec F S8x2048 .f32)

/-- What a pass finds: the blocks it reads, the rows before its own written in both outputs, the sums so far. -/
def before (n : ℕ) (_ : PUnit) : sProp 𝕄 :=
  iprop((arg4.view.loc (c : Thread nD τ) ↦[arg4.view.set]{fullShare} harg4.unread xh) ∗ (arg5.view.loc (c : Thread nD τ) ↦[arg5.view.set]{fullShare} harg5.unread g1) ∗ (arg6.view.loc (c : Thread nD τ) ↦[arg6.view.set]{fullShare} harg6.unread b1) ∗ (arg7.view.loc (c : Thread nD τ) ↦[arg7.view.set]{fullShare} harg7.unread b2) ∗ (arg8.view.loc (c : Thread nD τ) ↦[arg8.view.set]{fullShare} harg8.unread g2) ∗ (arg9.view.loc (c : Thread nD τ) ↦[arg9.view.set]{fullShare} harg9.unread be2) ∗ (arg10.view.loc (c : Thread nD τ) ↦[arg10.view.set]{fullShare} harg10.unread tg) ∗ (arg14.view.loc (c : Thread nD τ) ↦[arg14.view.set]{fullShare} harg14.unread acc)
    ∗ (∃ f, (arg11.view.loc (c : Thread nD τ) ↦[arg11.view.set]{fullShare} f) ∗ ⌜∀ j : Fin k0_t1_loop.trips, j.val < n → ∀ x, arg11.view.read (Elt F) f ((rect j).emb x) = rows xh tg g1 b1 b2 g2 be2 acc j x⌝)
    ∗ (∃ f, (arg12.view.loc (c : Thread nD τ) ↦[arg12.view.set]{fullShare} f) ∗ ⌜∀ j : Fin k0_t1_loop.trips, j.val < n → ∀ x, arg12.view.read (Elt F) f ((rect j).emb x) = rowsB xh tg g1 b1 b2 g2 be2 acc j x⌝)
    ∗ (arg13.view.loc (c : Thread nD τ) ↦[arg13.view.set]{fullShare} harg13.unread (sums xh tg g1 b1 b2 g2 be2 acc st n)))

/-- Rows of two different passes differ. -/
theorem rows_apart (j k : Fin k0_t1_loop.trips) (h : j.val < k.val) (x : (rect j).shape.Idx) :
    (rect j).emb x ∉ (rect k).set := by
  have e1 := Gen.k0_off1_eq j
  have e2 := Gen.k0_off1_eq k
  have h0 : ((rect j).emb x (0 : Fin 2)).val = k0_off1 j 0 + 1 * (x (0 : Fin 2)).val := rfl
  have hx : (x (0 : Fin 2)).val < 128 := (x (0 : Fin 2)).isLt
  rw [Rect.mem_set_unit]
  intro hall
  have := (hall (0 : Fin 2)).1
  rw [h0, e1, e2] at this
  simp at this
  omega

/-- A load of a rectangle of an array reads the array there. -/
theorem load_at {s : Shape} {e : EltTy} (a : Memref sig .tc .vmem s e) (h : a.IsWhole) (X : Vec F s e) (r : Rect s) :
    a.view.readAt (Elt F) r.toLoadRect (h.unread X) = fun x => X (r.emb x) := by
  funext x
  show a.view.read (Elt F) (h.unread X) _ = _
  rw [h.read_unread]
  rfl

/-- A load of a whole array reads it. -/
theorem load_all {s : Shape} {e : EltTy} (a : Memref sig .tc .vmem s e) (h : a.IsWhole) (X : Vec F s e) {off : Fin s.rank → ℕ}
    (inb : ∀ a, off a + s.size a ≤ s.size a) :
    a.view.readAt (Elt F) (Rect.unit off s.size inb).toLoadRect (h.unread X) = X := by
  rw [View.readAt_full, h.read_unread]

/-- After a store of a whole array the buffer holds it, whatever was stored before. -/
theorem store_all {s : Shape} {e : EltTy} (a : Memref sig .tc .vmem s e) (h : a.IsWhole) (f : a.view.ty.Contents (Elt F)) {off : Fin s.rank → ℕ}
    (inb : ∀ a, off a + s.size a ≤ s.size a) (w : Vec F s e) (L : List (View.Piece (Elt F) s e)) :
    a.view.read (Elt F) (a.view.writes (Elt F) f (⟨Rect.unit off s.size inb, w⟩ :: L)) = w :=
  View.read_writes_full _ _ inb w L

/-- The rows before pass `k` stay, its own are the stored ones. -/
theorem rows_next {e : EltTy} (a : Memref sig .tc .vmem S512x2048 e) (f : a.view.ty.Contents (Elt F))
    (G : Fin k0_t1_loop.trips → Vec F S128x2048 e) (k : Fin k0_t1_loop.trips)
    (h : ∀ j : Fin k0_t1_loop.trips, j.val < k.val → ∀ x, a.view.read (Elt F) f ((rect j).emb x) = G j x)
    (w : Vec F S128x2048 e) (hw : w = G k) :
    ∀ j : Fin k0_t1_loop.trips, j.val < k.val + 1 → ∀ x,
      a.view.read (Elt F) (a.view.writes (Elt F) f [⟨rect k, w⟩]) ((rect j).emb x) = G j x := by
  intro j hj x
  rcases Nat.lt_or_ge j.val k.val with hlt | hge
  · rw [View.writes_cons, View.read_slice_write_of_not_mem]
    · exact h j hlt x
    · rw [Rect.map_emb_univ]; exact rows_apart j k hlt x
  · obtain rfl : j = k := Fin.ext (by omega)
    rw [View.read_writes_cons_emb, hw]

/-- The sums after a pass, from the four stores. -/
theorem sums_next (a : Memref sig .tc .vmem S8x2048 .f32) (ha : a.IsWhole) (X : Vec F S8x2048 .f32) (w3 w2 w1 w0 : Vec F S1x2048 .f32)
    (Y : Vec F S8x2048 .f32) (w3' w2' w1' w0' : Vec F S1x2048 .f32) (h3 : w3 = w3') (h2 : w2 = w2') (h1 : w1 = w1') (h0 : w0 = w0')
    (h : ∀ y, Y y = if h : ∀ a, (![3, 0] : Fin 2 → ℕ) a ≤ (y a).val ∧ (y a).val < (![3, 0] : Fin 2 → ℕ) a + S1x2048.size a then
    w3' (Rect.unitLocal (s := S8x2048) (off := ![3, 0]) (size := S1x2048.size) y h)
  else if h : ∀ a, (![2, 0] : Fin 2 → ℕ) a ≤ (y a).val ∧ (y a).val < (![2, 0] : Fin 2 → ℕ) a + S1x2048.size a then
    w2' (Rect.unitLocal (s := S8x2048) (off := ![2, 0]) (size := S1x2048.size) y h)
  else if h : ∀ a, (![1, 0] : Fin 2 → ℕ) a ≤ (y a).val ∧ (y a).val < (![1, 0] : Fin 2 → ℕ) a + S1x2048.size a then
    w1' (Rect.unitLocal (s := S8x2048) (off := ![1, 0]) (size := S1x2048.size) y h)
  else if h : ∀ a, (![0, 0] : Fin 2 → ℕ) a ≤ (y a).val ∧ (y a).val < (![0, 0] : Fin 2 → ℕ) a + S1x2048.size a then
    w0' (Rect.unitLocal (s := S8x2048) (off := ![0, 0]) (size := S1x2048.size) y h)
  else X y) :
    a.view.writes (Elt F) (ha.unread X) [⟨line3, w3⟩, ⟨line2, w2⟩, ⟨line1, w1⟩, ⟨line0, w0⟩] = ha.unread Y := by
  subst h3 h2 h1 h0
  refine ha.eq_unread (funext fun y => ?_)
  rw [h y]
  rw [View.read_writes_cons_unit _ _ _ _ _ _ rfl]
  congr 1
  funext _
  rw [View.read_writes_cons_unit _ _ _ _ _ _ rfl]
  congr 1
  funext _
  rw [View.read_writes_cons_unit _ _ _ _ _ _ rfl]
  congr 1
  funext _
  rw [View.read_writes_cons_unit _ _ _ _ _ _ rfl]
  congr 1
  funext _
  rw [View.writes_nil, ha.read_unread]

set_option maxHeartbeats 1600000 in
/-- One pass. -/
theorem pass (E : Set ℕ) (k : Fin k0_t1_loop.trips) (u : PUnit) :
    before (F := F) c arg4 harg4 arg5 harg5 arg6 harg6 arg7 harg7 arg8 harg8 arg9 harg9 arg10 harg10 arg11 arg12 arg13 harg13 arg14 harg14 xh tg g1 b1 b2 g2 be2 acc st k.val u
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 k0_h3 k u)
          (before (F := F) c arg4 harg4 arg5 harg5 arg6 harg6 arg7 harg7 arg8 harg8 arg9 harg9 arg10 harg10 arg11 arg12 arg13 harg13 arg14 harg14 xh tg g1 b1 b2 g2 be2 acc st (k.val + 1)) := by
  have hk : k.val < 4 := Nat.lt_of_lt_of_le k.isLt k0_t1_abs.2.1
  unfold before k0_t1_body
  iintro ⟨H4, H5, H6, H7, H8, H9, H10, H14, ⟨%f11, H11, %h11⟩, ⟨%f12, H12, %h12⟩, H13⟩
  sl_exec
  sl_step
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H14]; · iexact H14
  isplitl [H11]
  · iexists _; isplitl [H11]; · iexact H11
    ipureintro
    exact rows_next arg11 f11 (rows xh tg g1 b1 b2 g2 be2 acc) k h11 _ (by
      unfold pass.sl.r pass.sl.r_1 pass.sl.r_2 pass.sl.r_3 rows dev hat gained cut
      rw [load_all arg5 harg5, load_all arg6 harg6, load_all arg7 harg7, load_all arg8 harg8, load_all arg9 harg9, load_at arg4 harg4, load_at arg10 harg10, load_at arg14 harg14]
      rfl)
  isplitl [H12]
  · iexists _; isplitl [H12]; · iexact H12
    ipureintro
    exact rows_next arg12 f12 (rowsB xh tg g1 b1 b2 g2 be2 acc) k h12 _ (by
      unfold pass.sl.r pass.sl.r_1 pass.sl.r_2 pass.sl.r_3 rowsB dev hat gained cut
      rw [load_all arg5 harg5, load_all arg6 harg6, load_all arg7 harg7, load_all arg8 harg8, load_all arg9 harg9, load_at arg4 harg4, load_at arg10 harg10, load_at arg14 harg14]
      rfl)
  rw [sums_next arg13 harg13 (sums xh tg g1 b1 b2 g2 be2 acc st k.val) _ _ _ _ (sums xh tg g1 b1 b2 g2 be2 acc st (k.val + 1))
    (next3 xh tg g1 b1 b2 g2 be2 acc k (sums xh tg g1 b1 b2 g2 be2 acc st k.val)) (next2 xh tg g1 b1 b2 g2 be2 acc k (sums xh tg g1 b1 b2 g2 be2 acc st k.val))
    (next1 xh tg g1 b1 b2 g2 be2 acc k (sums xh tg g1 b1 b2 g2 be2 acc st k.val)) (next0 xh tg g1 b1 b2 g2 be2 acc k (sums xh tg g1 b1 b2 g2 be2 acc st k.val))
    (by
      unfold pass.sl.r_4 pass.sl.r_2 pass.sl.r_3 pass.sl.v111 next3 gained cut
      rw [load_all arg5 harg5, load_all arg6 harg6, load_all arg7 harg7, load_all arg8 harg8, load_all arg9 harg9, load_at arg4 harg4, load_at arg10 harg10, load_at arg14 harg14, load_at arg13 harg13]
      rfl)
    (by
      unfold pass.sl.r_6 pass.sl.r pass.sl.r_1 pass.sl.r_2 pass.sl.r_3 pass.sl.v105 next2 rows dev hat gained cut
      rw [load_all arg5 harg5, load_all arg6 harg6, load_all arg7 harg7, load_all arg8 harg8, load_all arg9 harg9, load_at arg4 harg4, load_at arg10 harg10, load_at arg14 harg14, load_at arg13 harg13]
      rfl)
    (by
      unfold pass.sl.r_5 pass.sl.r_2 pass.sl.r_3 pass.sl.r_7 pass.sl.v99 next1 gained cut
      rw [load_all arg5 harg5, load_all arg6 harg6, load_all arg7 harg7, load_all arg8 harg8, load_all arg9 harg9, load_at arg4 harg4, load_at arg10 harg10, load_at arg14 harg14, load_at arg13 harg13]
      rfl)
    (by
      unfold pass.sl.r_1 pass.sl.r_2 pass.sl.r_3 next0 hat gained cut
      rw [load_all arg5 harg5, load_all arg6 harg6, load_all arg7 harg7, load_all arg8 harg8, load_all arg9 harg9, load_at arg4 harg4, load_at arg10 harg10, load_at arg14 harg14, load_at arg13 harg13]
      rfl)
    (fun y => by
      rw [sums, dif_pos k.isLt]
      rfl)]
  iexact H13

/-- The row loop by its passes. -/
@[reducible] def loop (E : Set ℕ) : LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 k0_h3 where
  inv := before (F := F) c arg4 harg4 arg5 harg5 arg6 harg6 arg7 harg7 arg8 harg8 arg9 harg9 arg10 harg10 arg11 arg12 arg13 harg13 arg14 harg14 xh tg g1 b1 b2 g2 be2 acc st
  step k u := pass c i arg2 harg2 arg3 harg3 arg4 harg4 arg5 harg5 arg6 harg6 arg7 harg7 arg8 harg8 arg9 harg9 arg10 harg10 arg11 harg11 arg12 harg12 arg13 harg13 arg14 harg14 k0_h3 xh tg g1 b1 b2 g2 be2 acc st E k u

end Loop

/-- There are four passes. -/
theorem four : k0_t1_loop.trips = 4 := by decide +kernel

/-- An array from its four blocks of rows. -/
theorem block_in {e : EltTy} (y : S512x2048.Idx) : ∀ a, (![128 * ((y (0 : Fin 2)).val / 128), 0] : Fin 2 → ℕ) a ≤ (y a).val
    ∧ (y a).val < (![128 * ((y (0 : Fin 2)).val / 128), 0] : Fin 2 → ℕ) a + S128x2048.size a := by
  have h1 : (y (1 : Fin 2)).val < 2048 := (y (1 : Fin 2)).isLt
  refine Fin.forall_fin_two.mpr ⟨?_, ?_⟩
  · show 128 * ((y (0 : Fin 2)).val / 128) ≤ (y (0 : Fin 2)).val ∧ (y (0 : Fin 2)).val < 128 * ((y (0 : Fin 2)).val / 128) + 128
    omega
  · show 0 ≤ (y (1 : Fin 2)).val ∧ (y (1 : Fin 2)).val < 0 + 2048
    omega

/-- The pass that takes a row. -/
def passOf (y : S512x2048.Idx) : Fin k0_t1_loop.trips :=
  ⟨(y (0 : Fin 2)).val / 128, by have h : (y (0 : Fin 2)).val < 512 := (y (0 : Fin 2)).isLt; rw [four]; omega⟩

def join {e : EltTy} (G : Fin k0_t1_loop.trips → Vec F S128x2048 e) : Vec F S512x2048 e := fun y =>
  G (passOf y) (Rect.unitLocal (s := S512x2048) (off := ![128 * ((y (0 : Fin 2)).val / 128), 0]) (size := S128x2048.size) y (block_in (e := e) y))

/-- An array that holds every block holds their join. -/
theorem eq_join {e : EltTy} (G : Fin k0_t1_loop.trips → Vec F S128x2048 e) (X : Vec F S512x2048 e)
    (h : ∀ j : Fin k0_t1_loop.trips, j.val < k0_t1_loop.trips → ∀ x, X ((rect j).emb x) = G j x) : X = join G := by
  funext y
  unfold join
  rw [← h (passOf y) (passOf y).isLt]
  congr 1
  funext a
  refine Fin.ext ?_
  have e1 := Gen.k0_off1_eq (passOf y)
  show (y a).val = k0_off1 (passOf y) a + 1 * (Rect.unitLocal (s := S512x2048) (off := ![128 * ((y (0 : Fin 2)).val / 128), 0]) (size := S128x2048.size) y (block_in (e := e) y) a).val
  rw [e1, Rect.unitLocal_val]
  have := (block_in (e := e) y a).1
  show _ = (![128 * ((y (0 : Fin 2)).val / 128), 0] : Fin 2 → ℕ) a + _
  omega

section Runs
variable (c : Dev nD) (i : grid0.Coords)
  (arg2 : Memref sig .tc .vmem S512x1024 .bf16) (harg2 : arg2.IsWhole)
  (arg3 : Memref sig .tc .vmem S1024x2048 .bf16) (harg3 : arg3.IsWhole)
  (arg4 : Memref sig .tc .vmem S512x2048 .f32) (harg4 : arg4.IsWhole)
  (arg5 : Memref sig .tc .vmem S1x2048 .f32) (harg5 : arg5.IsWhole)
  (arg6 : Memref sig .tc .vmem S1x2048 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S512x2048 .f32) (harg10 : arg10.IsWhole)
  (arg11 : Memref sig .tc .vmem S512x2048 .f32) (harg11 : arg11.IsWhole)
  (arg12 : Memref sig .tc .vmem S512x2048 .bf16) (harg12 : arg12.IsWhole)
  (arg13 : Memref sig .tc .vmem S8x2048 .f32) (harg13 : arg13.IsWhole)
  (arg14 : Memref sig .tc .vmem S512x2048 .f32) (harg14 : arg14.IsWhole)

set_option maxHeartbeats 1600000 in
/-- The first point: the sums and the accumulator are cleared, the first product is added. -/
theorem run_first (hc0 : cond0_0 i) (hc1 : cond0_1 i) (hc2 : ¬cond0_2 i) (a : Vec F S512x1024 .bf16) (w : Vec F S1024x2048 .bf16)
    (E : Set ℕ) (K : PUnit → sProp 𝕄) :
    iprop(owns (c : Thread nD τ) arg2 fullShare a ∗ owns (c : Thread nD τ) arg3 fullShare w ∗ (∃ d, owns (c : Thread nD τ) arg13 fullShare d) ∗ (∃ d, owns (c : Thread nD τ) arg14 fullShare d)
      ∗ (iprop(owns (c : Thread nD τ) arg2 fullShare a ∗ owns (c : Thread nD τ) arg3 fullShare w ∗ owns (c : Thread nD τ) arg13 fullShare (k0_pay2 (F := F))
          ∗ owns (c : Thread nD τ) arg14 fullShare (k0_pay3 k0_pay1 a w)) -∗ K ⟨⟩))
      ⊢ wp frame (wpE (defs₀ (F := F)) Variants.none c none) E (cc0_ff2_ln2_loss i arg2 harg2 arg3 harg3 arg4 harg4 arg5 harg5 arg6 harg6 arg7 harg7 arg8 harg8 arg9 harg9 arg10 harg10 arg11 harg11 arg12 harg12 arg13 harg13 arg14 harg14) K := by
  simp only [cc0_ff2_ln2_loss_eq_skeleton]; unfold cc0_ff2_ln2_loss_skel
  unfold owns
  iintro ⟨⟨%f0, %hf0, H0⟩, ⟨%f1, %hf1, H1⟩, ⟨%d8, %f8, -, H8⟩, ⟨%ds, %fs, -, HS⟩, Hk⟩
  obtain rfl := harg2.eq_unread hf0; obtain rfl := harg3.eq_unread hf1
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  isplitl [H8]
  · iexists _; isplitr
    swap; · iexact H8
    ipureintro; exact store_all arg13 harg13 _ _ _ _
  iexists _; isplitr
  swap; · iexact HS
  ipureintro
  refine (store_all arg14 harg14 _ _ _ _).trans ?_
  rw [load_all arg2 harg2, load_all arg3 harg3]
  congr 1
  unfold run_first.sl.v8 run_first.sl.HS_1
  exact View.readAt_writes_full _ _ _ _ _ _

set_option maxHeartbeats 1600000 in
/-- The first column of a later row of blocks: the accumulator is cleared, the first product is added. -/
theorem run_row (hc0 : cond0_0 i) (hc1 : ¬cond0_1 i) (hc2 : ¬cond0_2 i) (a : Vec F S512x1024 .bf16) (w : Vec F S1024x2048 .bf16)
    (E : Set ℕ) (K : PUnit → sProp 𝕄) :
    iprop(owns (c : Thread nD τ) arg2 fullShare a ∗ owns (c : Thread nD τ) arg3 fullShare w ∗ (∃ d, owns (c : Thread nD τ) arg14 fullShare d)
      ∗ (iprop(owns (c : Thread nD τ) arg2 fullShare a ∗ owns (c : Thread nD τ) arg3 fullShare w
          ∗ owns (c : Thread nD τ) arg14 fullShare (k0_pay3 k0_pay1 a w)) -∗ K ⟨⟩))
      ⊢ wp frame (wpE (defs₀ (F := F)) Variants.none c none) E (cc0_ff2_ln2_loss i arg2 harg2 arg3 harg3 arg4 harg4 arg5 harg5 arg6 harg6 arg7 harg7 arg8 harg8 arg9 harg9 arg10 harg10 arg11 harg11 arg12 harg12 arg13 harg13 arg14 harg14) K := by
  simp only [cc0_ff2_ln2_loss_eq_skeleton]; unfold cc0_ff2_ln2_loss_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  refine (store_all arg14 harg14 _ _ _ _).trans ?_
  rw [load_all arg2 harg2, load_all arg3 harg3]
  congr 1
  unfold run_row.sl.v8 run_row.sl.HS_1
  exact View.readAt_writes_full _ _ _ _ _ _

set_option maxHeartbeats 1600000 in
/-- A middle column: the product is added. -/
theorem run_mid (hc0 : ¬cond0_0 i) (hc1 : ¬cond0_1 i) (hc2 : ¬cond0_2 i) (a : Vec F S512x1024 .bf16) (w : Vec F S1024x2048 .bf16) (acc : Vec F S512x2048 .f32)
    (E : Set ℕ) (K : PUnit → sProp 𝕄) :
    iprop(owns (c : Thread nD τ) arg2 fullShare a ∗ owns (c : Thread nD τ) arg3 fullShare w ∗ owns (c : Thread nD τ) arg14 fullShare acc
      ∗ (iprop(owns (c : Thread nD τ) arg2 fullShare a ∗ owns (c : Thread nD τ) arg3 fullShare w
          ∗ owns (c : Thread nD τ) arg14 fullShare (k0_pay3 acc a w)) -∗ K ⟨⟩))
      ⊢ wp frame (wpE (defs₀ (F := F)) Variants.none c none) E (cc0_ff2_ln2_loss i arg2 harg2 arg3 harg3 arg4 harg4 arg5 harg5 arg6 harg6 arg7 harg7 arg8 harg8 arg9 harg9 arg10 harg10 arg11 harg11 arg12 harg12 arg13 harg13 arg14 harg14) K := by
  simp only [cc0_ff2_ln2_loss_eq_skeleton]; unfold cc0_ff2_ln2_loss_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg14.eq_unread hfs
  sl_exec (disch := first | sl_exact hc0 | sl_exact hc1 | sl_exact hc2)
  sl_step
  iapply Hk
  isplitl [H0]
  · iexists _; isplitr; · ipureintro; exact hf0
    iexact H0
  isplitl [H1]
  · iexists _; isplitr; · ipureintro; exact hf1
    iexact H1
  iexists _; isplitr
  swap; · iexact HS
  ipureintro
  refine (store_all arg14 harg14 _ _ _ _).trans ?_
  rw [load_all arg2 harg2, load_all arg3 harg3, load_all arg14 harg14]

set_option maxHeartbeats 1600000 in
/-- A last column: the product is added and the row loop runs. -/
theorem run_last (hc0 : ¬cond0_0 i) (hc1 : ¬cond0_1 i) (hc2 : cond0_2 i) (a : Vec F S512x1024 .bf16) (w : Vec F S1024x2048 .bf16)
    (xh : Vec F S512x2048 .f32) (g1 b1 b2 g2 be2 : Vec F S1x2048 .f32) (tg acc : Vec F S512x2048 .f32) (st : Vec F S8x2048 .f32)
    (E : Set ℕ) (K : PUnit → sProp 𝕄) :
    iprop(owns (c : Thread nD τ) arg2 fullShare a ∗ owns (c : Thread nD τ) arg3 fullShare w ∗ owns (c : Thread nD τ) arg4 fullShare xh ∗ owns (c : Thread nD τ) arg5 fullShare g1 ∗ owns (c : Thread nD τ) arg6 fullShare b1 ∗ owns (c : Thread nD τ) arg7 fullShare b2 ∗ owns (c : Thread nD τ) arg8 fullShare g2 ∗ owns (c : Thread nD τ) arg9 fullShare be2 ∗ owns (c : Thread nD τ) arg10 fullShare tg
      ∗ (∃ d, owns (c : Thread nD τ) arg11 fullShare d) ∗ (∃ d, owns (c : Thread nD τ) arg12 fullShare d)
      ∗ owns (c : Thread nD τ) arg13 fullShare st ∗ owns (c : Thread nD τ) arg14 fullShare acc
      ∗ (iprop(owns (c : Thread nD τ) arg2 fullShare a ∗ owns (c : Thread nD τ) arg3 fullShare w ∗ owns (c : Thread nD τ) arg4 fullShare xh ∗ owns (c : Thread nD τ) arg5 fullShare g1 ∗ owns (c : Thread nD τ) arg6 fullShare b1 ∗ owns (c : Thread nD τ) arg7 fullShare b2 ∗ owns (c : Thread nD τ) arg8 fullShare g2 ∗ owns (c : Thread nD τ) arg9 fullShare be2 ∗ owns (c : Thread nD τ) arg10 fullShare tg
      ∗ owns (c : Thread nD τ) arg11 fullShare (join (rows xh tg g1 b1 b2 g2 be2 (k0_pay3 acc a w)))
      ∗ owns (c : Thread nD τ) arg12 fullShare (join (rowsB xh tg g1 b1 b2 g2 be2 (k0_pay3 acc a w)))
      ∗ owns (c : Thread nD τ) arg13 fullShare (sums xh tg g1 b1 b2 g2 be2 (k0_pay3 acc a w) st 4)
          ∗ owns (c : Thread nD τ) arg14 fullShare (k0_pay3 acc a w)) -∗ K ⟨⟩))
      ⊢ wp frame (wpE (defs₀ (F := F)) Variants.none c none) E (cc0_ff2_ln2_loss i arg2 harg2 arg3 harg3 arg4 harg4 arg5 harg5 arg6 harg6 arg7 harg7 arg8 harg8 arg9 harg9 arg10 harg10 arg11 harg11 arg12 harg12 arg13 harg13 arg14 harg14) K := by
  simp only [cc0_ff2_ln2_loss_eq_skeleton]; unfold cc0_ff2_ln2_loss_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg14.eq_unread hfs
  let L := loop c i arg2 harg2 arg3 harg3 arg4 harg4 arg5 harg5 arg6 harg6 arg7 harg7 arg8 harg8 arg9 harg9 arg10 harg10 arg11 harg11 arg12 harg12 arg13 harg13 arg14 harg14 hc2 xh tg g1 b1 b2 g2 be2 (k0_pay3 acc a w) st E
  sl_exec (disch := first | sl_exact hc0 | sl_exact hc1 | sl_exact hc2)
  unfold run_last.sl.HS_1
  rw [harg14.eq_unread (store_all arg14 harg14 _ _ _ _), load_all arg2 harg2, load_all arg3 harg3, load_all arg14 harg14]
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr
    swap; · iexact H9
    ipureintro; exact eq_join _ _ hL9
  isplitl [H10]
  · iexists _; isplitr
    swap; · iexact H10
    ipureintro; exact eq_join _ _ hL11
  isplitl [H11]
  · iexists _; isplitr
    swap; · iexact H11
    ipureintro
    rw [harg13.read_unread]
    exact congrArg _ four
  iexists _; isplitr
  swap; · iexact HS
  ipureintro; exact harg14.read_unread _

end Runs

end Cert.LossIdeal.Rows

end
-- ==== Proof.LossFrame.lean ====
/-
The frame of the second layer norm and loss head's call: what its buffers hold after each point of the grid, the body's
triple at every point, the run of the whole program.
-/
module

public import proofs.«01_k».proof.Proof.LossRows
public import Idealize.ShloMosaic.Lib.Claim

@[expose] public section

set_option maxRecDepth 16384

noncomputable section

namespace Cert.LossIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LossIdeal Cert.LossIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the body reads at a point, at their types. -/
abbrev blk0 (c : Dev nD) (t : Fin cfg0.N) : Vec F S512x1024 .bf16 := iblk m c 0 t
abbrev blk1 (c : Dev nD) (t : Fin cfg0.N) : Vec F S1024x2048 .bf16 := iblk m c 1 t
abbrev blk2 (c : Dev nD) (t : Fin cfg0.N) : Vec F S512x2048 .f32 := iblk m c 2 t
abbrev blk3 (c : Dev nD) (t : Fin cfg0.N) : Vec F S1x2048 .f32 := iblk m c 3 t
abbrev blk4 (c : Dev nD) (t : Fin cfg0.N) : Vec F S1x2048 .f32 := iblk m c 4 t
abbrev blk5 (c : Dev nD) (t : Fin cfg0.N) : Vec F S1x2048 .f32 := iblk m c 5 t
abbrev blk6 (c : Dev nD) (t : Fin cfg0.N) : Vec F S1x2048 .f32 := iblk m c 6 t
abbrev blk7 (c : Dev nD) (t : Fin cfg0.N) : Vec F S1x2048 .f32 := iblk m c 7 t
abbrev blk8 (c : Dev nD) (t : Fin cfg0.N) : Vec F S512x2048 .f32 := iblk m c 8 t

/-- The accumulator after a point: begun anew in the first of the eight columns of blocks. -/
def acc (c : Dev nD) : (n : ℕ) → n < cfg0.N → Vec F S512x2048 .f32
  | 0, hn => k0_pay3 k0_pay1 (blk0 m c ⟨0, hn⟩) (blk1 m c ⟨0, hn⟩)
  | n + 1, hn => k0_pay3 (if (n + 1) % 8 = 0 then k0_pay1 else acc c n (Nat.lt_of_succ_lt hn)) (blk0 m c ⟨n + 1, hn⟩) (blk1 m c ⟨n + 1, hn⟩)

/-- The sums after a point: four passes at every last column. -/
def sum (c : Dev nD) : (n : ℕ) → n < cfg0.N → Vec F S8x2048 .f32
  | 0, _ => k0_pay2
  | n + 1, hn => if (n + 1) % 8 = 7 then sums (blk2 m c ⟨n + 1, hn⟩) (blk8 m c ⟨n + 1, hn⟩) (blk3 m c ⟨n + 1, hn⟩) (blk4 m c ⟨n + 1, hn⟩) (blk5 m c ⟨n + 1, hn⟩) (blk6 m c ⟨n + 1, hn⟩) (blk7 m c ⟨n + 1, hn⟩) (acc m c (n + 1) hn) (sum c n (Nat.lt_of_succ_lt hn)) 4
      else sum c n (Nat.lt_of_succ_lt hn)

/-- The gradient's rows at a point, as the row loop computes them from the accumulator there. -/
def grad (c : Dev nD) (t : Fin cfg0.N) : Vec F S512x2048 .f32 :=
  join (rows (blk2 m c t) (blk8 m c t) (blk3 m c t) (blk4 m c t) (blk5 m c t) (blk6 m c t) (blk7 m c t) (acc m c t.val t.isLt))
/-- The same rounded. -/
def gradB (c : Dev nD) (t : Fin cfg0.N) : Vec F S512x2048 .bf16 :=
  join (rowsB (blk2 m c t) (blk8 m c t) (blk3 m c t) (blk4 m c t) (blk5 m c t) (blk6 m c t) (blk7 m c t) (acc m c t.val t.isLt))

theorem acc_first (c : Dev nD) (t : Fin cfg0.N) (h : t.val % 8 = 0) :
    acc m c t.val t.isLt = k0_pay3 k0_pay1 (blk0 m c t) (blk1 m c t) := by
  obtain ⟨n, hn⟩ := t
  cases n with
  | zero => rfl
  | succ n => exact congrArg (fun x => k0_pay3 x _ _) (if_pos h)

theorem acc_next (c : Dev nD) (t : Fin cfg0.N) (h : ¬t.val % 8 = 0) :
    acc m c t.val t.isLt = k0_pay3 (acc m c (t.val - 1) (by omega)) (blk0 m c t) (blk1 m c t) := by
  obtain ⟨n, hn⟩ := t
  cases n with
  | zero => exact absurd (Nat.zero_mod 8) h
  | succ n => exact congrArg (fun x => k0_pay3 x _ _) (if_neg h)

theorem sum_first (c : Dev nD) (t : Fin cfg0.N) (h : t.val = 0) : sum m c t.val t.isLt = k0_pay2 := by
  obtain ⟨n, hn⟩ := t
  cases n with
  | zero => rfl
  | succ n => exact absurd h (Nat.succ_ne_zero n)

theorem sum_last (c : Dev nD) (t : Fin cfg0.N) (h : t.val % 8 = 7) :
    sum m c t.val t.isLt = sums (blk2 m c t) (blk8 m c t) (blk3 m c t) (blk4 m c t) (blk5 m c t) (blk6 m c t) (blk7 m c t) (acc m c t.val t.isLt) (sum m c (t.val - 1) (by omega)) 4 := by
  obtain ⟨n, hn⟩ := t
  cases n with
  | zero => exact absurd (show 0 % 8 = 7 from h) (by decide)
  | succ n => exact if_pos h

theorem sum_mid (c : Dev nD) (t : Fin cfg0.N) (h0 : t.val ≠ 0) (h : ¬t.val % 8 = 7) :
    sum m c t.val t.isLt = sum m c (t.val - 1) (by omega) := by
  obtain ⟨n, hn⟩ := t
  cases n with
  | zero => exact absurd rfl h0
  | succ n => exact if_neg h

/-- What is held between points: the accumulator at its contents, the generator's register at some state. -/
def carry (c : Dev nD) : (n : ℕ) → n ≤ cfg0.N → sProp 𝕄
  | 0, _ => Pipeline.ΦA spec0 c
  | n + 1, hn => iprop(iprop(owns (c : Thread nD τ) scM0_0 fullShare (acc m c n hn)) ∗ (∃ r, prngReg c r))

theorem carry_zero (c : Dev nD) (n : ℕ) (h : n ≤ cfg0.N) (hz : n = 0) : carry m c n h = Pipeline.ΦA spec0 c := by
  subst hz; rfl

theorem carry_pos (c : Dev nD) (n : ℕ) (h : n ≤ cfg0.N) (hz : n ≠ 0) :
    carry m c n h = iprop(iprop(owns (c : Thread nD τ) scM0_0 fullShare (acc m c (n - 1) (by omega))) ∗ (∃ r, prngReg c r)) := by
  cases n with
  | zero => exact absurd rfl hz
  | succ n => rfl

/-- The pipeline's data: arrays as the host leaves them, inputs at their blocks, the outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => grad m c t
    | ⟨10, _⟩ => gradB m c t
    | ⟨11, _⟩ => sum m c t.val t.isLt
  Φ t := carry m c t.val (Nat.le_of_lt_succ t.isLt)
  q _ := fullShare
  owed _ := 0

theorem A_eq (c : Dev nD) (w : Fin cfg0.W) : (dats m 0 c).A w = V m c (Pipeline.arrRef spec0 w) := by dsimp only [dats]

theorem carry_castSucc (c : Dev nD) (t : Fin cfg0.N) : (dats m 0 c).Φ t.castSucc = carry m c t.val (Nat.le_of_lt t.isLt) := by
  dsimp only [dats]; exact Pipeline.Dat.Φ_castSucc (carry m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = grad m c t := by dsimp only [dats]
theorem after_10 (c : Dev nD) (t : Fin cfg0.N) : (dats m 0 c).after 10 t = gradB m c t := by dsimp only [dats]
theorem after_11 (c : Dev nD) (t : Fin cfg0.N) : (dats m 0 c).after 11 t = sum m c t.val t.isLt := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d

/-- Where the sums' buffer is left alone it holds what it held. -/
theorem sum_kept (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t h0 hi _
  have hN : t.val < 32 := lt_of_lt_of_eq t.isLt N_0
  rw [after_11, after_11]
  by_cases h2 : t.val % 8 = 7
  · rw [liveAt0_11_C t (fun h => by have := (hcond0_0 t).mp h; omega) (fun h => by have := (hcond0_1 t).mp h; omega) ((hcond0_2 t).mpr h2)] at hi
    exact absurd hi Bool.false_ne_true
  · exact sum_mid m c t h0 h2

/-- At a last column the body finds the sums of the point before. -/
theorem before_11 (c : Dev nD) (t : Fin cfg0.N) (h2 : t.val % 8 = 7) (d) : (dats m 0 c).before 11 t d = sum m c (t.val - 1) (by omega) := by
  rw [Dat.before_out_traj _ 11 rfl (fun _ _ => rfl) (sum_kept m c) t.val t rfl d,
    if_neg (by rw [notFresh0_11_C t (fun h => by have := (hcond0_0 t).mp h; omega) (fun h => by have := (hcond0_1 t).mp h; omega) ((hcond0_2 t).mpr h2)]; exact Bool.false_ne_true)]
  dsimp only [dats]

set_option maxHeartbeats 1600000 in
/-- The body's triple at every point. -/
theorem body (c : Dev nD) (t : Fin cfg0.N) :
    iprop((dats m 0 c).Φ t.castSucc ∗ (dats m 0 c).owesAt () t.castSucc
      ∗ (∃ d, owns (c : Thread nD τ) (ms0_0 t) fullShare ((dats m 0 c).before 0 t d))
      ∗ (∃ d, owns (c : Thread nD τ) (ms0_1 t) fullShare ((dats m 0 c).before 1 t d))
      ∗ (∃ d, owns (c : Thread nD τ) (ms0_2 t) fullShare ((dats m 0 c).before 2 t d))
      ∗ (∃ d, owns (c : Thread nD τ) (ms0_3 t) fullShare ((dats m 0 c).before 3 t d))
      ∗ (∃ d, owns (c : Thread nD τ) (ms0_4 t) fullShare ((dats m 0 c).before 4 t d))
      ∗ (∃ d, owns (c : Thread nD τ) (ms0_5 t) fullShare ((dats m 0 c).before 5 t d))
      ∗ (∃ d, owns (c : Thread nD τ) (ms0_6 t) fullShare ((dats m 0 c).before 6 t d))
      ∗ (∃ d, owns (c : Thread nD τ) (ms0_7 t) fullShare ((dats m 0 c).before 7 t d))
      ∗ (∃ d, owns (c : Thread nD τ) (ms0_8 t) fullShare ((dats m 0 c).before 8 t d))
      ∗ (∃ d, owns (c : Thread nD τ) (ms0_9 t) fullShare ((dats m 0 c).before 9 t d))
      ∗ (∃ d, owns (c : Thread nD τ) (ms0_10 t) fullShare ((dats m 0 c).before 10 t d))
      ∗ (∃ d, owns (c : Thread nD τ) (ms0_11 t) fullShare ((dats m 0 c).before 11 t d)))
      ⊢ wp frame (wpE (defs₀ (F := F)) Variants.none c none) Set.univ (bodyAt0 t) (fun _ =>
        iprop((dats m 0 c).Φ t.succ ∗ (dats m 0 c).owesAt () t.succ
          ∗ (dats m 0 c).leavesExact 0 t
          ∗ (dats m 0 c).leavesExact 1 t
          ∗ (dats m 0 c).leavesExact 2 t
          ∗ (dats m 0 c).leavesExact 3 t
          ∗ (dats m 0 c).leavesExact 4 t
          ∗ (dats m 0 c).leavesExact 5 t
          ∗ (dats m 0 c).leavesExact 6 t
          ∗ (dats m 0 c).leavesExact 7 t
          ∗ (dats m 0 c).leavesExact 8 t
          ∗ (dats m 0 c).leavesExact 9 t
          ∗ (dats m 0 c).leavesExact 10 t
          ∗ (dats m 0 c).leavesExact 11 t)) := by
  unfold bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(iprop(owns (c : Thread nD τ) scM0_0 fullShare (acc m c t.val t.isLt)) ∗ (∃ r, prngReg c r)) from rfl]
  have hN : t.val < 32 := lt_of_lt_of_eq t.isLt N_0
  by_cases h0 : t.val % 8 = 0
  · have h2 : ¬t.val % 8 = 7 := by omega
    by_cases h1 : t.val % 32 = 0
    · have hz : t.val = 0 := by omega
      rw [show (dats m 0 c).leavesExact 0 t = owns (c : Thread nD τ) (ms0_0 t) fullShare ((dats m 0 c).after 0 t) from by unfold Dat.leavesExact; rw [liveAt0_0 t], after_0]
      rw [show (dats m 0 c).leavesExact 1 t = owns (c : Thread nD τ) (ms0_1 t) fullShare ((dats m 0 c).after 1 t) from by unfold Dat.leavesExact; rw [liveAt0_1 t], after_1]
      rw [show (dats m 0 c).leavesExact 2 t = owns (c : Thread nD τ) (ms0_2 t) fullShare ((dats m 0 c).after 2 t) from by unfold Dat.leavesExact; rw [liveAt0_2 t], after_2]
      rw [show (dats m 0 c).leavesExact 3 t = owns (c : Thread nD τ) (ms0_3 t) fullShare ((dats m 0 c).after 3 t) from by unfold Dat.leavesExact; rw [liveAt0_3 t], after_3]
      rw [show (dats m 0 c).leavesExact 4 t = owns (c : Thread nD τ) (ms0_4 t) fullShare ((dats m 0 c).after 4 t) from by unfold Dat.leavesExact; rw [liveAt0_4 t], after_4]
      rw [show (dats m 0 c).leavesExact 5 t = owns (c : Thread nD τ) (ms0_5 t) fullShare ((dats m 0 c).after 5 t) from by unfold Dat.leavesExact; rw [liveAt0_5 t], after_5]
      rw [show (dats m 0 c).leavesExact 6 t = owns (c : Thread nD τ) (ms0_6 t) fullShare ((dats m 0 c).after 6 t) from by unfold Dat.leavesExact; rw [liveAt0_6 t], after_6]
      rw [show (dats m 0 c).leavesExact 7 t = owns (c : Thread nD τ) (ms0_7 t) fullShare ((dats m 0 c).after 7 t) from by unfold Dat.leavesExact; rw [liveAt0_7 t], after_7]
      rw [show (dats m 0 c).leavesExact 8 t = owns (c : Thread nD τ) (ms0_8 t) fullShare ((dats m 0 c).after 8 t) from by unfold Dat.leavesExact; rw [liveAt0_8 t], after_8]
      rw [Dat.leavesExact_idle (dats m 0 c) 9 t (idleAt0_9_A t ((hcond0_0 t).mpr h0) ((hcond0_1 t).mpr h1) (fun h => h2 ((hcond0_2 t).mp h))) (noFlush0_9_A t ((hcond0_0 t).mpr h0) ((hcond0_1 t).mpr h1) (fun h => h2 ((hcond0_2 t).mp h)))]
      rw [Dat.leavesExact_idle (dats m 0 c) 10 t (idleAt0_10_A t ((hcond0_0 t).mpr h0) ((hcond0_1 t).mpr h1) (fun h => h2 ((hcond0_2 t).mp h))) (noFlush0_10_A t ((hcond0_0 t).mpr h0) ((hcond0_1 t).mpr h1) (fun h => h2 ((hcond0_2 t).mp h)))]
      rw [show (dats m 0 c).leavesExact 11 t = owns (c : Thread nD τ) (ms0_11 t) fullShare ((dats m 0 c).after 11 t) from by unfold Dat.leavesExact; rw [liveAt0_11_A t ((hcond0_0 t).mpr h0) ((hcond0_1 t).mpr h1) (fun h => h2 ((hcond0_2 t).mp h))], after_11]
      rw [carry_castSucc m c t, carry_zero m c _ _ (by omega), PhiA0_eq, acc_first m c t h0, sum_first m c t (by omega)]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) _ _ Set.univ _)
      isplitl [H0]; · iexact H0
      isplitl [H1]; · iexact H1
      isplitl [H11]; · iexists _; iexact H11
      isplitl [HS]; · iexact HS
      iintro ⟨H0, H1, H11, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iexact H11
    · have hz : t.val ≠ 0 := by omega
      rw [show (dats m 0 c).leavesExact 0 t = owns (c : Thread nD τ) (ms0_0 t) fullShare ((dats m 0 c).after 0 t) from by unfold Dat.leavesExact; rw [liveAt0_0 t], after_0]
      rw [show (dats m 0 c).leavesExact 1 t = owns (c : Thread nD τ) (ms0_1 t) fullShare ((dats m 0 c).after 1 t) from by unfold Dat.leavesExact; rw [liveAt0_1 t], after_1]
      rw [show (dats m 0 c).leavesExact 2 t = owns (c : Thread nD τ) (ms0_2 t) fullShare ((dats m 0 c).after 2 t) from by unfold Dat.leavesExact; rw [liveAt0_2 t], after_2]
      rw [show (dats m 0 c).leavesExact 3 t = owns (c : Thread nD τ) (ms0_3 t) fullShare ((dats m 0 c).after 3 t) from by unfold Dat.leavesExact; rw [liveAt0_3 t], after_3]
      rw [show (dats m 0 c).leavesExact 4 t = owns (c : Thread nD τ) (ms0_4 t) fullShare ((dats m 0 c).after 4 t) from by unfold Dat.leavesExact; rw [liveAt0_4 t], after_4]
      rw [show (dats m 0 c).leavesExact 5 t = owns (c : Thread nD τ) (ms0_5 t) fullShare ((dats m 0 c).after 5 t) from by unfold Dat.leavesExact; rw [liveAt0_5 t], after_5]
      rw [show (dats m 0 c).leavesExact 6 t = owns (c : Thread nD τ) (ms0_6 t) fullShare ((dats m 0 c).after 6 t) from by unfold Dat.leavesExact; rw [liveAt0_6 t], after_6]
      rw [show (dats m 0 c).leavesExact 7 t = owns (c : Thread nD τ) (ms0_7 t) fullShare ((dats m 0 c).after 7 t) from by unfold Dat.leavesExact; rw [liveAt0_7 t], after_7]
      rw [show (dats m 0 c).leavesExact 8 t = owns (c : Thread nD τ) (ms0_8 t) fullShare ((dats m 0 c).after 8 t) from by unfold Dat.leavesExact; rw [liveAt0_8 t], after_8]
      rw [Dat.leavesExact_idle (dats m 0 c) 9 t (idleAt0_9_D t ((hcond0_0 t).mpr h0) (fun h => h1 ((hcond0_1 t).mp h)) (fun h => h2 ((hcond0_2 t).mp h))) (noFlush0_9_D t ((hcond0_0 t).mpr h0) (fun h => h1 ((hcond0_1 t).mp h)) (fun h => h2 ((hcond0_2 t).mp h)))]
      rw [Dat.leavesExact_idle (dats m 0 c) 10 t (idleAt0_10_D t ((hcond0_0 t).mpr h0) (fun h => h1 ((hcond0_1 t).mp h)) (fun h => h2 ((hcond0_2 t).mp h))) (noFlush0_10_D t ((hcond0_0 t).mpr h0) (fun h => h1 ((hcond0_1 t).mp h)) (fun h => h2 ((hcond0_2 t).mp h)))]
      rw [Dat.leavesExact_idle (dats m 0 c) 11 t (idleAt0_11_D t ((hcond0_0 t).mpr h0) (fun h => h1 ((hcond0_1 t).mp h)) (fun h => h2 ((hcond0_2 t).mp h))) (noFlush0_11_D t ((hcond0_0 t).mpr h0) (fun h => h1 ((hcond0_1 t).mp h)) (fun h => h2 ((hcond0_2 t).mp h)))]
      rw [carry_castSucc m c t, carry_pos m c _ _ (by omega)]
      rw [acc_first m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (fun h => h1 ((hcond0_1 t).mp h)) (fun h => h2 ((hcond0_2 t).mp h)) _ _ Set.univ _)
      isplitl [H0]; · iexact H0
      isplitl [H1]; · iexact H1
      isplitl [HS]; · iexists _; iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iexists _; iexact H11
  · have h1 : ¬t.val % 32 = 0 := by omega
    have hz : t.val ≠ 0 := by omega
    by_cases h2 : t.val % 8 = 7
    · rw [show (dats m 0 c).leavesExact 0 t = owns (c : Thread nD τ) (ms0_0 t) fullShare ((dats m 0 c).after 0 t) from by unfold Dat.leavesExact; rw [liveAt0_0 t], after_0]
      rw [show (dats m 0 c).leavesExact 1 t = owns (c : Thread nD τ) (ms0_1 t) fullShare ((dats m 0 c).after 1 t) from by unfold Dat.leavesExact; rw [liveAt0_1 t], after_1]
      rw [show (dats m 0 c).leavesExact 2 t = owns (c : Thread nD τ) (ms0_2 t) fullShare ((dats m 0 c).after 2 t) from by unfold Dat.leavesExact; rw [liveAt0_2 t], after_2]
      rw [show (dats m 0 c).leavesExact 3 t = owns (c : Thread nD τ) (ms0_3 t) fullShare ((dats m 0 c).after 3 t) from by unfold Dat.leavesExact; rw [liveAt0_3 t], after_3]
      rw [show (dats m 0 c).leavesExact 4 t = owns (c : Thread nD τ) (ms0_4 t) fullShare ((dats m 0 c).after 4 t) from by unfold Dat.leavesExact; rw [liveAt0_4 t], after_4]
      rw [show (dats m 0 c).leavesExact 5 t = owns (c : Thread nD τ) (ms0_5 t) fullShare ((dats m 0 c).after 5 t) from by unfold Dat.leavesExact; rw [liveAt0_5 t], after_5]
      rw [show (dats m 0 c).leavesExact 6 t = owns (c : Thread nD τ) (ms0_6 t) fullShare ((dats m 0 c).after 6 t) from by unfold Dat.leavesExact; rw [liveAt0_6 t], after_6]
      rw [show (dats m 0 c).leavesExact 7 t = owns (c : Thread nD τ) (ms0_7 t) fullShare ((dats m 0 c).after 7 t) from by unfold Dat.leavesExact; rw [liveAt0_7 t], after_7]
      rw [show (dats m 0 c).leavesExact 8 t = owns (c : Thread nD τ) (ms0_8 t) fullShare ((dats m 0 c).after 8 t) from by unfold Dat.leavesExact; rw [liveAt0_8 t], after_8]
      rw [show (dats m 0 c).leavesExact 9 t = owns (c : Thread nD τ) (ms0_9 t) fullShare ((dats m 0 c).after 9 t) from by unfold Dat.leavesExact; rw [liveAt0_9_C t (fun h => h0 ((hcond0_0 t).mp h)) (fun h => h1 ((hcond0_1 t).mp h)) ((hcond0_2 t).mpr h2)], after_9]
      rw [show (dats m 0 c).leavesExact 10 t = owns (c : Thread nD τ) (ms0_10 t) fullShare ((dats m 0 c).after 10 t) from by unfold Dat.leavesExact; rw [liveAt0_10_C t (fun h => h0 ((hcond0_0 t).mp h)) (fun h => h1 ((hcond0_1 t).mp h)) ((hcond0_2 t).mpr h2)], after_10]
      rw [show (dats m 0 c).leavesExact 11 t = owns (c : Thread nD τ) (ms0_11 t) fullShare ((dats m 0 c).after 11 t) from by unfold Dat.leavesExact; rw [liveAt0_11_C t (fun h => h0 ((hcond0_0 t).mp h)) (fun h => h1 ((hcond0_1 t).mp h)) ((hcond0_2 t).mpr h2)], after_11]
      rw [carry_castSucc m c t, carry_pos m c _ _ (by omega)]
      rw [sum_last m c t h2]
      simp only [before_11 m c t h2]
      unfold grad gradB
      rw [acc_next m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) _ _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [HS]; · iexact HS
      iintro ⟨H0, H1, H2, H3, H4, H5, H6, H7, H8, H9, H10, H11, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [show (dats m 0 c).leavesExact 0 t = owns (c : Thread nD τ) (ms0_0 t) fullShare ((dats m 0 c).after 0 t) from by unfold Dat.leavesExact; rw [liveAt0_0 t], after_0]
      rw [show (dats m 0 c).leavesExact 1 t = owns (c : Thread nD τ) (ms0_1 t) fullShare ((dats m 0 c).after 1 t) from by unfold Dat.leavesExact; rw [liveAt0_1 t], after_1]
      rw [show (dats m 0 c).leavesExact 2 t = owns (c : Thread nD τ) (ms0_2 t) fullShare ((dats m 0 c).after 2 t) from by unfold Dat.leavesExact; rw [liveAt0_2 t], after_2]
      rw [show (dats m 0 c).leavesExact 3 t = owns (c : Thread nD τ) (ms0_3 t) fullShare ((dats m 0 c).after 3 t) from by unfold Dat.leavesExact; rw [liveAt0_3 t], after_3]
      rw [show (dats m 0 c).leavesExact 4 t = owns (c : Thread nD τ) (ms0_4 t) fullShare ((dats m 0 c).after 4 t) from by unfold Dat.leavesExact; rw [liveAt0_4 t], after_4]
      rw [show (dats m 0 c).leavesExact 5 t = owns (c : Thread nD τ) (ms0_5 t) fullShare ((dats m 0 c).after 5 t) from by unfold Dat.leavesExact; rw [liveAt0_5 t], after_5]
      rw [show (dats m 0 c).leavesExact 6 t = owns (c : Thread nD τ) (ms0_6 t) fullShare ((dats m 0 c).after 6 t) from by unfold Dat.leavesExact; rw [liveAt0_6 t], after_6]
      rw [show (dats m 0 c).leavesExact 7 t = owns (c : Thread nD τ) (ms0_7 t) fullShare ((dats m 0 c).after 7 t) from by unfold Dat.leavesExact; rw [liveAt0_7 t], after_7]
      rw [show (dats m 0 c).leavesExact 8 t = owns (c : Thread nD τ) (ms0_8 t) fullShare ((dats m 0 c).after 8 t) from by unfold Dat.leavesExact; rw [liveAt0_8 t], after_8]
      rw [Dat.leavesExact_idle (dats m 0 c) 9 t (idleAt0_9_B t (fun h => h0 ((hcond0_0 t).mp h)) (fun h => h1 ((hcond0_1 t).mp h)) (fun h => h2 ((hcond0_2 t).mp h))) (noFlush0_9_B t (fun h => h0 ((hcond0_0 t).mp h)) (fun h => h1 ((hcond0_1 t).mp h)) (fun h => h2 ((hcond0_2 t).mp h)))]
      rw [Dat.leavesExact_idle (dats m 0 c) 10 t (idleAt0_10_B t (fun h => h0 ((hcond0_0 t).mp h)) (fun h => h1 ((hcond0_1 t).mp h)) (fun h => h2 ((hcond0_2 t).mp h))) (noFlush0_10_B t (fun h => h0 ((hcond0_0 t).mp h)) (fun h => h1 ((hcond0_1 t).mp h)) (fun h => h2 ((hcond0_2 t).mp h)))]
      rw [Dat.leavesExact_idle (dats m 0 c) 11 t (idleAt0_11_B t (fun h => h0 ((hcond0_0 t).mp h)) (fun h => h1 ((hcond0_1 t).mp h)) (fun h => h2 ((hcond0_2 t).mp h))) (noFlush0_11_B t (fun h => h0 ((hcond0_0 t).mp h)) (fun h => h1 ((hcond0_1 t).mp h)) (fun h => h2 ((hcond0_2 t).mp h)))]
      rw [carry_castSucc m c t, carry_pos m c _ _ (by omega)]
      rw [acc_next m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (run_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) (fun h => h2 ((hcond0_2 t).mp h)) _ _ _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      iexists _; iexact H11

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body m c t) rfl .rfl fun _ => .rfl

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  rw [show (dats m 0 c).Φ (Fin.last cfg0.N) = carry m c (Fin.last cfg0.N).val (Nat.le_of_lt_succ (Fin.last cfg0.N).isLt) from rfl,
    carry_pos m c _ _ (by rw [Fin.val_last]; have : cfg0.N = 32 := N_0; omega), PhiA0_eq]
  iintro ⟨HS, Hg⟩
  isplitl [HS]
  · iexists _; iexact HS
  iexact Hg

set_option backward.isDefEq.respectTransparency.types false in
/-- The whole program's run, with every counter at nought at the end. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_all m ρ)

/-- The frame: the arguments end as they began, every counter at nought. -/
theorem frame_rows : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_all m ρ))

end Cert.LossIdeal.Rows

end
-- ==== Proof.LossPre.lean ====
/-
What the precondition of the second layer norm and loss head's call says: every element of the nine arguments is a real
number.
-/
module

public import proofs.«01_k».proof.Pre_finite_loss
public import proofs.«01_k».proof.Proof.LnPre

@[expose] public section

set_option maxRecDepth 16384

noncomputable section

namespace Cert.LayerNorm

open Idealize.ShloMosaic
open Cert.Pre_finite_loss

/-- The precondition, read off. -/
theorem finite_loss_of [Facts] (a : FVec Ideal S2048x8192 .f32) (w : FVec Ideal S8192x2048 .f32) (x : FVec Ideal S2048x2048 .f32)
    (g1 b1 b2 g2 be : FVec Ideal S1x2048 .f32) (t : FVec Ideal S2048x2048 .f32) (h : fn (F := Ideal) a w x g1 b1 b2 g2 be t = fun _ => 1#1) :
    (∀ i, Fin' (a i)) ∧ (∀ i, Fin' (w i)) ∧ (∀ i, Fin' (x i)) ∧ (∀ i, Fin' (g1 i)) ∧ (∀ i, Fin' (b1 i)) ∧ (∀ i, Fin' (b2 i)) ∧ (∀ i, Fin' (g2 i))
      ∧ (∀ i, Fin' (be i)) ∧ (∀ i, Fin' (t i)) := by
  have e := congrFun h (fun a => a.elim0)
  unfold fn fn_part1 fn_part2 at e
  obtain ⟨e, h8⟩ := both e
  obtain ⟨e, h7⟩ := both e
  obtain ⟨e, h6⟩ := both e
  obtain ⟨e, h5⟩ := both e
  obtain ⟨e, h4⟩ := both e
  obtain ⟨e, h3⟩ := both e
  obtain ⟨e, h2⟩ := both e
  obtain ⟨e, h1⟩ := both e
  obtain ⟨_, h0⟩ := both e
  exact ⟨all_real a _ _ _ _ h0, all_real w _ _ _ _ h1, all_real x _ _ _ _ h2, all_real g1 _ _ _ _ h3, all_real b1 _ _ _ _ h4, all_real b2 _ _ _ _ h5,
    all_real g2 _ _ _ _ h6, all_real be _ _ _ _ h7, all_real t _ _ _ _ h8⟩

end Cert.LayerNorm
end
-- ==== Proof.LossStage.lean ====
/-
What the loss's gradient is in the reference, stage by stage: the second layer norm's rows, the errors, the
gradient that reaches the layer norm, the gradient of its input and the rows of sums.
-/
module
public import proofs.«01_k».proof.Proof.Gen.LossRefIdeal.Run
public import proofs.«01_k».proof.Proof.LnStage

@[expose] public section

set_option maxRecDepth 16384

noncomputable section

namespace Cert.LayerNorm
open Idealize.ShloMosaic

theorem real_sub {x y : EReal} (hx : Fin' x) (hy : Fin' y) : Fin' (x - y) := by
  obtain ⟨a, rfl⟩ := hx; obtain ⟨b, rfl⟩ := hy; exact ⟨a - b, (EReal.coe_sub a b).symm⟩
theorem real_div {x : EReal} {r : ℝ} (hr : r ≠ 0) (hx : Fin' x) : Fin' (Ideal.div x (r : EReal)) := by
  rw [Ideal.div_coe hr]; exact real_mul hx ⟨_, rfl⟩

theorem real_cen {n : ℕ} {r : ℝ} (hr : r ≠ 0) (x : Fin n → EReal) (hx : ∀ k, Fin' (x k)) (j : Fin n) : Fin' (cen (r : EReal) x j) :=
  real_sub (hx j) (real_div hr (real_sum _ _ hx))

/-- A normalised row's numbers are finite where the row's are. -/
theorem real_hat {n : ℕ} {r : ℝ} (hr : 0 < r) {e : EReal} (he : ∃ s : ℝ, 0 < s ∧ e = s) (x : Fin n → EReal) (hx : ∀ k, Fin' (x k)) (j : Fin n) :
    Fin' (cen (r : EReal) x j * Ideal.rsqrt (dev (r : EReal) e x)) := by
  refine real_mul (real_cen hr.ne' x hx j) ?_
  choose c hc using fun k => real_cen hr.ne' x hx k
  obtain ⟨s, hs, rfl⟩ := he
  have hd : dev (r : EReal) (s : EReal) x = (((∑ k, c k * c k) * (1 / r) + s : ℝ) : EReal) := by
    rw [dev]
    simp only [hc]
    rw [Ideal.div_coe hr.ne']
    simp only [← EReal.coe_mul, ← coe_sum, ← EReal.coe_add]
  rw [hd, rsqrt_pos (add_pos_of_nonneg_of_pos (mul_nonneg (Finset.sum_nonneg fun k _ => mul_self_nonneg (c k)) (by positivity)) hs)]
  exact ⟨_, rfl⟩

end Cert.LayerNorm

namespace Cert.LossRefIdeal.Stage
open Idealize.ShloMosaic Idealize.ShloMosaic.TcCoe Idealize.SL.Sem Idealize.ShloMosaic.StableHlo
open Cert.LossRefIdeal Cert.LossRefIdeal.Gen
open Cert.LnRefIdeal.Stage (Sq Col all along rowSum colSum mean cen dev rec gained total asRow width small rowOf)

abbrev Row := FVec Ideal S1x2048 .f32

/-- A row under every row. -/
abbrev under (x : Row) : Sq := broadcastInDim S2048x2048 ![0, 1] bcast_S1x2048_S2048x2048_0_1 x
/-- A row by way of a vector. -/
abbrev flat (x : Row) : Row := broadcastInDim S1x2048 ![1] bcast_S2048_S1x2048_1 (shapeCast S2048 x shapeCasts_S1x2048_S2048)
/-- The normalised rows. -/
def hat (x : Sq) : Sq := mulf (cen x) (along (rec x))
/-- The second layer norm's input: the first one's result scaled, the feed-forward's product and its bias. -/
def pre (a : FVec Ideal S2048x8192 .f32) (w : FVec Ideal S8192x2048 .f32) (x : Sq) (g1 b1 b2 : Row) : Sq :=
  addf (mulf (broadcastInDim S2048x2048 ![] bcast_S_S2048x2048 (constant S_ .f32 0x3F9837F0#32)) (addf (mulf (hat x) (under g1)) (under b1)))
    (addf (Host.dotGeneral dot_S2048x8192_S8192x2048_S2048x2048_1_0_0_1_n_n none a w) (under (flat b2)))
/-- The errors. -/
def err (y : Sq) (g2 be2 : Row) (t : Sq) : Sq := subf (addf (mulf (hat y) (under (flat g2))) (under (flat be2))) t
/-- The gradient that reaches the second layer norm's result. -/
def reach (e : Sq) : Sq :=
  mulf (broadcastInDim S2048x2048 ![0] bcast_S2048_S2048x2048_0 (Host.divf (broadcastInDim S2048 ![] bcast_S_S2048 (mulf (constant S_ .f32 0x3F000000#32) (constant S_ .f32 0x3F800000#32)))
    (broadcastInDim S2048 ![] bcast_S_S2048 (constant S_ .f32 0x45000000#32)))) (mulf (broadcastInDim S2048x2048 ![] bcast_S_S2048x2048 (constant S_ .f32 0x40000000#32)) e)
/-- The loss times twice the width. -/
def scaled (e : Sq) : FVec Ideal S_ .f32 :=
  mulf (constant S_ .f32 0x45800000#32) (mulf (constant S_ .f32 0x3F000000#32) (Host.reduceAdd (Host.divf (rowSum (mulf e e))
    (broadcastInDim S2048 ![] bcast_S_S2048 (constant S_ .f32 0x45000000#32))) (constant S_ .f32 0x00000000#32) reducesTo_S2048_S_d0 h_S_))
/-- The gain's gradient, the bias's, the feed-forward bias's, the scaled loss, four rows of noughts. -/
def four (z r d e : Sq) : FVec Ideal S8x2048 .f32 :=
  concatenate S8x2048 0 [⟨S1x2048, asRow (mulf z r)⟩, ⟨S1x2048, asRow r⟩, ⟨S1x2048, asRow d⟩,
    ⟨S1x2048, broadcastInDim S1x2048 ![] bcast_S_S1x2048 (scaled e)⟩,
    ⟨S4x2048, broadcastInDim S4x2048 ![] bcast_S_S4x2048 (constant S_ .f32 0x00000000#32)⟩] concatenates_S1x2048_S1x2048_S1x2048_S1x2048_S4x2048_S8x2048_d0
/-- The same from the second layer norm's input. -/
def sums (y r d e : Sq) : FVec Ideal S8x2048 .f32 := four (hat y) r d e

section Results
variable (m : (ℓ : Loc nD τ sig) → Buf (Elt Ideal) ℓ) (c : Dev nD)

abbrev inp : Sq := pre (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
abbrev off : Sq := err (inp m c) (m ((c.tc : Thread nD τ).loc main_arg6)) (m ((c.tc : Thread nD τ).loc main_arg7)) (m ((c.tc : Thread nD τ).loc main_arg8))

theorem inp_eq : Value.res_main_v31 (launchContents m c) = inp m c := by
  unfold Value.res_main_v31 Value.res_main_v5 Value.res_main_v3; rfl

theorem off_eq : Value.res_main_v61 (launchContents m c) = off m c := by
  unfold Value.res_main_v61 Value.res_main_v54 Value.res_main_v55 Value.res_main_v46 Value.res_main_v49 Value.res_main_v48 Value.res_main_v37 Value.res_main_v35
  rw [inp_eq]; rfl

theorem reach_eq : Value.res_main_v75 (launchContents m c) = reach (off m c) := by
  unfold Value.res_main_v75
  rw [off_eq]; rfl

theorem total_eq : Value.res_main_v108 (launchContents m c) = total (inp m c) (gained (reach (off m c)) (m ((c.tc : Thread nD τ).loc main_arg6))) := by
  unfold Value.res_main_v108 Value.res_main_v98 Value.res_main_v89 Value.res_main_v83 Value.res_main_v55 Value.res_main_v46 Value.res_main_v49 Value.res_main_v48
    Value.res_main_v37 Value.res_main_v35
  rw [reach_eq, inp_eq]; rfl

theorem hat_eq : Value.res_main_v54 (launchContents m c) = hat (inp m c) := by
  unfold Value.res_main_v54 Value.res_main_v46 Value.res_main_v49 Value.res_main_v48 Value.res_main_v37 Value.res_main_v35
  rw [inp_eq]; rfl

/-- The reference runs to the end, its results by these names, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v108) = total (inp m c) (gained (reach (off m c)) (m ((c.tc : Thread nD τ).loc main_arg6)))
      ∧ r.2.mem ((c.tc : Thread nD τ).loc main_v112)
        = truncf .bf16 (total (inp m c) (gained (reach (off m c)) (m ((c.tc : Thread nD τ).loc main_arg6)))) bitsLt_bf16_f32
      ∧ r.2.mem ((c.tc : Thread nD τ).loc main_v119)
        = sums (inp m c) (reach (off m c)) (total (inp m c) (gained (reach (off m c)) (m ((c.tc : Thread nD τ).loc main_arg6)))) (off m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Value.run (F := Ideal) m ρ)
  obtain ⟨h0, h1, h2, h3⟩ := h c
  refine ⟨h0.trans (total_eq m c), ?_, ?_, h3⟩
  · rw [h1, total_eq]
  · refine h2.trans ?_
    show four (Value.res_main_v54 (launchContents m c)) (Value.res_main_v75 (launchContents m c)) (Value.res_main_v108 (launchContents m c))
      (Value.res_main_v61 (launchContents m c)) = _
    rw [hat_eq, reach_eq, total_eq, off_eq]
    rfl
end Results

variable (x g h : Sq) (i : S2048x2048.Idx)

theorem hat_apply : hat x i = LayerNorm.cen width (rowOf x (i 0)) (i 1) * Ideal.rsqrt (LayerNorm.dev width small (rowOf x (i 0))) := by
  unfold hat
  show cen x i * along (rec x) i = _
  rw [Cert.LnRefIdeal.Stage.cen_apply]
  refine congrArg₂ _ rfl (Eq.trans ?_ (Cert.LnRefIdeal.Stage.rec_apply x (ix2 (i 0) 0)))
  pointwise

theorem pre_apply (a : FVec Ideal S2048x8192 .f32) (w : FVec Ideal S8192x2048 .f32) (g1 b1 b2 : Row) : pre a w x g1 b1 b2 i
    = Ideal.ofBits .f32 0x3F9837F0#32 * (hat x i * g1 (ix2 0 (i 1)) + b1 (ix2 0 (i 1)))
      + (∑ k, a (ix2 (i 0) k) * w (ix2 k (i 1)) + b2 (ix2 0 (i 1))) := by
  unfold pre
  generalize hat x = z
  pointwise

theorem err_apply (y : Sq) (g2 be2 : Row) (t : Sq) : err y g2 be2 t i = hat y i * g2 (ix2 0 (i 1)) + be2 (ix2 0 (i 1)) - t i := by
  unfold err
  generalize hat y = z
  pointwise

/-- The cotangent is the error by 2⁻¹¹. -/
theorem reach_apply (e : Sq) : reach e i = e i * Ideal.ofBits .f32 0x3A000000#32 := by
  have h : reach e i = Ideal.div (Ideal.ofBits .f32 0x3F000000#32 * Ideal.ofBits .f32 0x3F800000#32) (Ideal.ofBits .f32 0x45000000#32)
      * (Ideal.ofBits .f32 0x40000000#32 * e i) := by
    pointwise [reach]
  have e1 : Ideal.ofBits .f32 0x3F000000#32 = ((1 / 2 : ℝ) : EReal) := by
    simp [Ideal.ofBits, Ideal.ieee, -EReal.coe_mul]; norm_num
  have e2 : Ideal.ofBits .f32 0x3F800000#32 = ((1 : ℝ) : EReal) := by
    simp [Ideal.ofBits, Ideal.ieee, -EReal.coe_mul]; norm_num
  have e3 : Ideal.ofBits .f32 0x3A000000#32 = ((1 / 2048 : ℝ) : EReal) := by
    simp [Ideal.ofBits, Ideal.ieee, -EReal.coe_mul]; norm_num
  rw [h, e1, e2, e3, Cert.LnRefIdeal.Stage.two_eq, show Ideal.ofBits .f32 0x45000000#32 = _ from Cert.LnRefIdeal.Stage.width_eq, Ideal.div_coe (by norm_num), ← mul_assoc, ← EReal.coe_mul, ← EReal.coe_mul,
    ← EReal.coe_mul, mul_comm]
  congr 2
  norm_num

theorem scaled_apply (e : Sq) (u : S_.Idx) : scaled e u
    = Ideal.ofBits .f32 0x45800000#32 * (Ideal.ofBits .f32 0x3F000000#32 * ∑ k : Fin 2048, Ideal.div (∑ l : Fin 2048, e (ix2 k l) * e (ix2 k l)) width) := by
  pointwise [scaled]

/-- At finite errors the scaled loss is the sum of their squares. -/
theorem scaled_real (e : Sq) (he : ∀ i, LayerNorm.Fin' (e i)) (u : S_.Idx) : scaled e u = ∑ k : Fin 2048, ∑ l : Fin 2048, e (ix2 k l) * e (ix2 k l) := by
  rw [scaled_apply]
  choose f hf using he
  have e1 : Ideal.ofBits .f32 0x3F000000#32 = ((1 / 2 : ℝ) : EReal) := by
    simp [Ideal.ofBits, Ideal.ieee, -EReal.coe_mul]; norm_num
  have e2 : Ideal.ofBits .f32 0x45800000#32 = ((4096 : ℝ) : EReal) := by
    simp [Ideal.ofBits, Ideal.ieee, -EReal.coe_mul]; norm_num
  rw [e1, e2, Cert.LnRefIdeal.Stage.width_eq]
  simp only [hf, Ideal.div_coe (show ((2048 : ℕ) : ℝ) ≠ 0 by norm_num), ← EReal.coe_mul, ← LayerNorm.coe_sum]
  congr 1
  rw [← Finset.sum_mul]
  push_cast
  ring

theorem sums_apply (y r d e : Sq) (j : S8x2048.Idx) : sums y r d e j
    = if (j 0).val = 0 then ∑ k, hat y (ix2 k (j 1)) * r (ix2 k (j 1))
      else if (j 0).val = 1 then ∑ k, r (ix2 k (j 1)) else if (j 0).val = 2 then ∑ k, d (ix2 k (j 1))
      else if (j 0).val = 3 then scaled e (fun a => a.elim0) else 0 := by
  unfold sums four
  generalize hat y = z
  generalize scaled e = s
  pointwise [asRow]
  simp only [Fin.sum_univ_one]
  by_cases h0 : (j 0).val = 0
  · rw [dif_pos (by omega), if_pos h0]
  · by_cases h1 : (j 0).val = 1
    · rw [dif_neg (by omega), dif_pos (by omega), if_neg h0, if_pos h1]
    · by_cases h2 : (j 0).val = 2
      · rw [dif_neg (by omega), dif_neg (by omega), dif_pos (by omega), if_neg h0, if_neg h1, if_pos h2]
      · by_cases h3 : (j 0).val = 3
        · rw [dif_neg (by omega), dif_neg (by omega), dif_neg (by omega), dif_pos (by omega), if_neg h0, if_neg h1, if_neg h2, if_pos h3]
          exact congrArg s (funext fun a => a.elim0)
        · rw [dif_neg (by omega), dif_neg (by omega), dif_neg (by omega), dif_neg (by omega), if_neg h0, if_neg h1, if_neg h2, if_neg h3]

/-! Finite arguments give finite numbers. -/

theorem width_real : width = ((2048 : ℝ) : EReal) := by rw [Cert.LnRefIdeal.Stage.width_eq]; norm_num

theorem hat_real (hx : ∀ i, LayerNorm.Fin' (x i)) : LayerNorm.Fin' (hat x i) := by
  rw [hat_apply, width_real]
  exact LayerNorm.real_hat (by norm_num) Cert.LnRefIdeal.Stage.small_eq _ (fun k => hx _) _

theorem pre_real (a : FVec Ideal S2048x8192 .f32) (w : FVec Ideal S8192x2048 .f32) (g1 b1 b2 : Row) (ha : ∀ i, LayerNorm.Fin' (a i))
    (hw : ∀ i, LayerNorm.Fin' (w i)) (hx : ∀ i, LayerNorm.Fin' (x i)) (hg : ∀ i, LayerNorm.Fin' (g1 i)) (hb : ∀ i, LayerNorm.Fin' (b1 i))
    (hb2 : ∀ i, LayerNorm.Fin' (b2 i)) : LayerNorm.Fin' (pre a w x g1 b1 b2 i) := by
  rw [pre_apply]
  exact LayerNorm.real_add (LayerNorm.real_mul Cert.LnRefIdeal.Stage.alpha_eq (LayerNorm.real_add (LayerNorm.real_mul (hat_real x i hx) (hg _)) (hb _)))
    (LayerNorm.real_add (LayerNorm.real_sum _ _ fun k => LayerNorm.real_mul (ha _) (hw _)) (hb2 _))

theorem err_real (y : Sq) (g2 be2 : Row) (t : Sq) (hy : ∀ i, LayerNorm.Fin' (y i)) (hg : ∀ i, LayerNorm.Fin' (g2 i)) (hb : ∀ i, LayerNorm.Fin' (be2 i))
    (ht : ∀ i, LayerNorm.Fin' (t i)) : LayerNorm.Fin' (err y g2 be2 t i) := by
  rw [err_apply]
  exact LayerNorm.real_sub (LayerNorm.real_add (LayerNorm.real_mul (hat_real y i hy) (hg _)) (hb _)) (ht _)

theorem reach_real (e : Sq) (he : ∀ i, LayerNorm.Fin' (e i)) : LayerNorm.Fin' (reach e i) := by
  rw [reach_apply]
  exact LayerNorm.real_mul (he _) ⟨1 / 2048, by simp [Ideal.ofBits, Ideal.ieee, -EReal.coe_mul]; norm_num⟩

end Cert.LossRefIdeal.Stage
end
-- ==== Proof.LossBlock.lean ====
/-
What the second layer norm and loss head's call reads at a point of its grid, as elements of the arguments, and what
its accumulator holds there over the reals: the product's sum over the columns taken so far.
-/
module

public import proofs.«01_k».proof.Proof.LossFrame
public import proofs.«01_k».proof.Proof.LossStage
public import Idealize.ShloMosaic.Lib.Pipeline.ValueKit
public import Idealize.ShloMosaic.Lib.Pointwise

@[expose] public section

set_option maxRecDepth 16384

noncomputable section

namespace Cert.LossIdeal.Rows

open Idealize.ShloMosaic Idealize.ShloMosaic.TcCoe Idealize.SL.Sem
open Cert.LossIdeal Cert.LossIdeal.Gen

variable (m : (ℓ : Loc nD τ sig) → Buf (Elt Ideal) ℓ) (c : Dev nD)

/-- The arguments: the activations, the matrix, the first layer norm's input, its gain and bias, the product's bias,
the second layer norm's gain and bias, the target. -/
abbrev argA : FVec Ideal S2048x8192 .f32 := m ((c.tc : Thread nD τ).loc main_arg0)
abbrev argW : FVec Ideal S8192x2048 .f32 := m ((c.tc : Thread nD τ).loc main_arg1)
abbrev argX : FVec Ideal S2048x2048 .f32 := m ((c.tc : Thread nD τ).loc main_arg2)
abbrev argG1 : FVec Ideal S1x2048 .f32 := m ((c.tc : Thread nD τ).loc main_arg3)
abbrev argB1 : FVec Ideal S1x2048 .f32 := m ((c.tc : Thread nD τ).loc main_arg4)
abbrev argB2 : FVec Ideal S1x2048 .f32 := m ((c.tc : Thread nD τ).loc main_arg5)
abbrev argG2 : FVec Ideal S1x2048 .f32 := m ((c.tc : Thread nD τ).loc main_arg6)
abbrev argBe : FVec Ideal S1x2048 .f32 := m ((c.tc : Thread nD τ).loc main_arg7)
abbrev argT : FVec Ideal S2048x2048 .f32 := m ((c.tc : Thread nD τ).loc main_arg8)

theorem entry0 : V m c main_v19 = (truncf .bf16 (argA m c) bitsLt_bf16_f32 : FVec Ideal S2048x8192 .bf16) := by
  show StableHlo.after hostOps0 _ _ = _
  after_results
theorem entry1 : V m c main_v20 = (truncf .bf16 (argW m c) bitsLt_bf16_f32 : FVec Ideal S8192x2048 .bf16) := by
  show StableHlo.after hostOps0 _ _ = _
  after_results
theorem entry2 : V m c main_v17 = LossRefIdeal.Stage.hat (argX m c) := by
  show StableHlo.after hostOps0 _ _ = _
  after_results
  rfl
theorem entry3 : V m c main_arg3 = argG1 m c := by
  show StableHlo.after hostOps0 _ _ = _
  after_results
theorem entry4 : V m c main_arg4 = argB1 m c := by
  show StableHlo.after hostOps0 _ _ = _
  after_results
theorem entry5 : V m c main_arg5 = argB2 m c := by
  show StableHlo.after hostOps0 _ _ = _
  after_results
theorem entry6 : V m c main_arg6 = argG2 m c := by
  show StableHlo.after hostOps0 _ _ = _
  after_results
theorem entry7 : V m c main_arg7 = argBe m c := by
  show StableHlo.after hostOps0 _ _ = _
  after_results
theorem entry8 : V m c main_arg8 = argT m c := by
  show StableHlo.after hostOps0 _ _ = _
  after_results

/-- Which block each window is at. -/
theorem idx : ∀ t : Fin cfg0.N, win0_0.index t = ![t.val / 8, t.val % 8] ∧ win0_1.index t = ![t.val % 8, 0]
    ∧ win0_2.index t = ![t.val / 8, 0] ∧ win0_3.index t = ![0, 0] ∧ win0_4.index t = ![0, 0] ∧ win0_5.index t = ![0, 0]
    ∧ win0_6.index t = ![0, 0] ∧ win0_7.index t = ![0, 0] ∧ win0_8.index t = ![t.val / 8, 0]
    ∧ win0_9.index t = ![t.val / 8, 0] ∧ win0_10.index t = ![t.val / 8, 0] ∧ win0_11.index t = ![0, 0] :=
  (by decide +kernel : ∀ t : Fin grid0.N, _)

theorem point_lt (t : Fin cfg0.N) : t.val < 32 := lt_of_lt_of_eq t.isLt N_0

/-- Row `p` of the row block at point `n`. -/
abbrev rowAt (n : ℕ) (hn : n < 32) (p : Fin 512) : Fin 2048 := ⟨512 * (n / 8) + p.val, by omega⟩
/-- Column `k` of the column block there. -/
abbrev colAt (n : ℕ) (hn : n < 32) (k : Fin 1024) : Fin 8192 := ⟨1024 * (n % 8) + k.val, by omega⟩

theorem blk0_at (t : Fin cfg0.N) (p : Fin 512) (k : Fin 1024) :
    blk0 m c t (ix2 p k) = argA m c (ix2 (rowAt t.val (point_lt t) p) (colAt t.val (point_lt t) k)) := by
  show (V m c main_v19 : FVec Ideal S2048x8192 .bf16) ((win0_0.blk t).view.emb (ix2 p k)) = _
  rw [entry0]
  pointwise
  blk_point [idx t]

theorem blk1_at (t : Fin cfg0.N) (k : Fin 1024) (j : Fin 2048) :
    blk1 m c t (ix2 k j) = argW m c (ix2 (colAt t.val (point_lt t) k) j) := by
  show (V m c main_v20 : FVec Ideal S8192x2048 .bf16) ((win0_1.blk t).view.emb (ix2 k j)) = _
  rw [entry1]
  pointwise
  blk_point [idx t]

theorem blk2_at (t : Fin cfg0.N) (p : Fin 512) (j : Fin 2048) :
    blk2 m c t (ix2 p j) = LossRefIdeal.Stage.hat (argX m c) (ix2 (rowAt t.val (point_lt t) p) j) := by
  show (V m c main_v17 : FVec Ideal S2048x2048 .f32) ((win0_2.blk t).view.emb (ix2 p j)) = _
  rw [entry2]
  generalize LossRefIdeal.Stage.hat (argX m c) = z
  blk_point [idx t]

theorem blk3_at (t : Fin cfg0.N) (j : Fin 2048) : blk3 m c t (ix2 0 j) = argG1 m c (ix2 0 j) := by
  show (V m c main_arg3 : FVec Ideal S1x2048 .f32) ((win0_3.blk t).view.emb (ix2 0 j)) = _
  rw [entry3]
  blk_point [idx t]

theorem blk4_at (t : Fin cfg0.N) (j : Fin 2048) : blk4 m c t (ix2 0 j) = argB1 m c (ix2 0 j) := by
  show (V m c main_arg4 : FVec Ideal S1x2048 .f32) ((win0_4.blk t).view.emb (ix2 0 j)) = _
  rw [entry4]
  blk_point [idx t]

theorem blk5_at (t : Fin cfg0.N) (j : Fin 2048) : blk5 m c t (ix2 0 j) = argB2 m c (ix2 0 j) := by
  show (V m c main_arg5 : FVec Ideal S1x2048 .f32) ((win0_5.blk t).view.emb (ix2 0 j)) = _
  rw [entry5]
  blk_point [idx t]

theorem blk6_at (t : Fin cfg0.N) (j : Fin 2048) : blk6 m c t (ix2 0 j) = argG2 m c (ix2 0 j) := by
  show (V m c main_arg6 : FVec Ideal S1x2048 .f32) ((win0_6.blk t).view.emb (ix2 0 j)) = _
  rw [entry6]
  blk_point [idx t]

theorem blk7_at (t : Fin cfg0.N) (j : Fin 2048) : blk7 m c t (ix2 0 j) = argBe m c (ix2 0 j) := by
  show (V m c main_arg7 : FVec Ideal S1x2048 .f32) ((win0_7.blk t).view.emb (ix2 0 j)) = _
  rw [entry7]
  blk_point [idx t]

theorem blk8_at (t : Fin cfg0.N) (p : Fin 512) (j : Fin 2048) : blk8 m c t (ix2 p j) = argT m c (ix2 (rowAt t.val (point_lt t) p) j) := by
  show (V m c main_arg8 : FVec Ideal S2048x2048 .f32) ((win0_8.blk t).view.emb (ix2 p j)) = _
  rw [entry8]
  blk_point [idx t]

/-- One step of the accumulator at an index. -/
theorem pay3_at (x : Vec Ideal S512x2048 .f32) (a : Vec Ideal S512x1024 .bf16) (w : Vec Ideal S1024x2048 .bf16) (p : Fin 512) (j : Fin 2048) :
    (k0_pay3 x a w (ix2 p j) : EReal) = (x (ix2 p j) : EReal) + ∑ k : Fin 1024, (a (ix2 p k) : EReal) * (w (ix2 k j) : EReal) := by
  pointwise [k0_pay3]
theorem pay1_at (y : S512x2048.Idx) : (k0_pay1 (F := Ideal) y : EReal) = 0 := by
  pointwise [k0_pay1]

/-- The product's term at column `k`, nought beyond the columns. -/
def term (i j : Fin 2048) (k : ℕ) : EReal :=
  if h : k < 8192 then argA m c (ix2 i ⟨k, h⟩) * argW m c (ix2 ⟨k, h⟩ j) else 0

/-- What a point adds. -/
theorem step_at (t : Fin cfg0.N) (p : Fin 512) (j : Fin 2048) :
    ∑ k : Fin 1024, (blk0 m c t (ix2 p k) : EReal) * (blk1 m c t (ix2 k j) : EReal)
      = ∑ k ∈ Finset.range 1024, term m c (rowAt t.val (point_lt t) p) j (1024 * (t.val % 8) + k) := by
  rw [Finset.sum_range]
  refine Finset.sum_congr rfl fun k _ => ?_
  rw [blk0_at, blk1_at, term, dif_pos (by omega)]

/-- The accumulator after a point: the product's sum over the columns taken so far. -/
theorem acc_at (n : ℕ) (hn : n < cfg0.N) (p : Fin 512) (j : Fin 2048) :
    (acc m c n hn (ix2 p j) : EReal)
      = ∑ k ∈ Finset.range (1024 * (n % 8 + 1)), term m c (rowAt n (point_lt ⟨n, hn⟩) p) j k := by
  induction n with
  | zero =>
    have h := acc_first m c ⟨0, hn⟩ rfl
    rw [show acc m c 0 hn = _ from h, pay3_at, pay1_at, zero_add, step_at]
    simp
  | succ n ih =>
    by_cases h8 : (n + 1) % 8 = 0
    · rw [show acc m c (n + 1) hn = _ from acc_first m c ⟨n + 1, hn⟩ h8, pay3_at, pay1_at, zero_add, step_at]
      simp [h8]
    · rw [show acc m c (n + 1) hn = _ from acc_next m c ⟨n + 1, hn⟩ h8, pay3_at, step_at]
      have e : 1024 * ((n + 1) % 8 + 1) = 1024 * ((n + 1) % 8) + 1024 := by ring
      have e1 : n % 8 + 1 = (n + 1) % 8 := by omega
      have e2 : rowAt (n + 1) (point_lt ⟨n + 1, hn⟩) p = rowAt n (point_lt ⟨n, by omega⟩) p := Fin.ext (by show 512 * ((n + 1) / 8) + p.val = 512 * (n / 8) + p.val; omega)
      rw [e, Finset.sum_range_add, e2, ← e1]
      refine congrArg₂ _ ?_ ?_
      · exact ih (by omega)
      · rfl

/-- The second layer norm's input. -/
abbrev input : FVec Ideal S2048x2048 .f32 := LossRefIdeal.Stage.pre (argA m c) (argW m c) (argX m c) (argG1 m c) (argB1 m c) (argB2 m c)

/-- After the last column the accumulator is the product; with the scaled normalised rows and the bias it makes the
second layer norm's input. -/
theorem input_at (t : Fin cfg0.N) (h : t.val % 8 = 7) (p : Fin 512) (j : Fin 2048) :
    Ideal.ofBits .f32 0x3F9837F0#32 * ((blk2 m c t (ix2 p j) : EReal) * (blk3 m c t (ix2 0 j) : EReal) + (blk4 m c t (ix2 0 j) : EReal))
      + (acc m c t.val t.isLt (ix2 p j) : EReal) + (blk5 m c t (ix2 0 j) : EReal)
      = input m c (ix2 (rowAt t.val (point_lt t) p) j) := by
  refine Eq.trans ?_ (LossRefIdeal.Stage.pre_apply (argX m c) (ix2 (rowAt t.val (point_lt t) p) j) (argA m c) (argW m c) (argG1 m c) (argB1 m c) (argB2 m c)).symm
  rw [acc_at, h, blk2_at, blk3_at, blk4_at, blk5_at, add_assoc]
  refine congrArg₂ _ rfl (congrArg₂ _ ?_ rfl)
  rw [Finset.sum_range]
  exact Finset.sum_congr rfl fun k _ => dif_pos k.isLt

end Cert.LossIdeal.Rows
end
-- ==== Proof.LossPoint.lean ====
/-
What a last-column point of the second layer norm and loss head's call leaves in its rows, over the reals: the errors,
the gradient that reaches the layer norm, the gradient of its input and the same rounded.
-/
module

public import proofs.«01_k».proof.Proof.LossBlock

@[expose] public section

set_option maxRecDepth 16384

noncomputable section

namespace Cert.LossIdeal.Rows

open Idealize.ShloMosaic Idealize.ShloMosaic.TcCoe Idealize.SL.Sem
open Cert.LossIdeal Cert.LossIdeal.Gen

theorem pass_lt (k : Fin k0_t1_loop.trips) : k.val < 4 := lt_of_lt_of_eq k.isLt four

/-- Row `p` of pass `k`. -/
abbrev passRow (k : Fin k0_t1_loop.trips) (p : Fin 128) : Fin 512 := ⟨128 * k.val + p.val, by have := pass_lt k; omega⟩

theorem cut_at (k : Fin k0_t1_loop.trips) (X : Vec Ideal S512x2048 .f32) (p : Fin 128) (j : Fin 2048) :
    cut k X (ix2 p j) = X (ix2 (passRow k p) j) := by
  refine congrArg X (funext fun a => Fin.ext ?_)
  match a with
  | ⟨0, _⟩ =>
    show k0_off1 k 0 + 1 * p.val = 128 * k.val + p.val
    rw [Gen.k0_off1_eq k]; simp
  | ⟨1, _⟩ =>
    show k0_off1 k 1 + 1 * j.val = j.val
    rw [Gen.k0_off1_eq k]; simp

section Payloads
variable (xh a t h z u : Vec Ideal S128x2048 .f32) (g1 b1 b2 g2 be : Vec Ideal S1x2048 .f32) (r : Vec Ideal S128x1 .f32) (p : Fin 128) (j : Fin 2048)

/-- A row of the second layer norm's input, in the kernel's order. -/
def line (j : Fin 2048) : EReal :=
  Ideal.ofBits .f32 0x3F9837F0#32 * ((xh (ix2 p j) : EReal) * (g1 (ix2 0 j) : EReal) + (b1 (ix2 0 j) : EReal)) + (a (ix2 p j) : EReal) + (b2 (ix2 0 j) : EReal)

theorem pay7_at : (k0_pay7 xh g1 b1 a b2 (ix2 p j) : EReal) = LayerNorm.cen LnRefIdeal.Stage.width (line xh a g1 b1 b2 p) j := by
  pointwise [k0_pay7]
  rfl

theorem pay8_at : (k0_pay8 xh g1 b1 a b2 (ix2 p 0) : EReal)
    = Ideal.rsqrt (LayerNorm.dev LnRefIdeal.Stage.width LnRefIdeal.Stage.small (line xh a g1 b1 b2 p)) := by
  have e : (k0_pay8 xh g1 b1 a b2 (ix2 p 0) : EReal) = Ideal.rsqrt (Ideal.div (∑ k : Fin 2048, (k0_pay7 xh g1 b1 a b2 (ix2 p k) : EReal) * (k0_pay7 xh g1 b1 a b2 (ix2 p k) : EReal))
      (Ideal.ofBits .f32 0x45000000#32) + Ideal.ofBits .f32 0x3727C5AC#32) := by
    unfold k0_pay8
    generalize k0_pay7 xh g1 b1 a b2 = z
    pointwise
  rw [e]
  simp only [pay7_at]

theorem pay9_at : (k0_pay9 xh g1 b1 a b2 (ix2 p j) : EReal) = LayerNorm.cen LnRefIdeal.Stage.width (line xh a g1 b1 b2 p) j
    * Ideal.rsqrt (LayerNorm.dev LnRefIdeal.Stage.width LnRefIdeal.Stage.small (line xh a g1 b1 b2 p)) := by
  rw [← pay7_at, ← pay8_at]
  unfold k0_pay9
  generalize k0_pay7 xh g1 b1 a b2 = z
  generalize k0_pay8 xh g1 b1 a b2 = u
  pointwise

theorem pay10_at : (k0_pay10 xh g1 b1 a b2 g2 (ix2 p j) : EReal) = (k0_pay9 xh g1 b1 a b2 (ix2 p j) : EReal) * (g2 (ix2 0 j) : EReal) := by
  unfold k0_pay10
  generalize k0_pay9 xh g1 b1 a b2 = z
  pointwise

theorem pay11_at : (k0_pay11 be (ix2 p j) : EReal) = be (ix2 0 j) := by
  pointwise [k0_pay11]

theorem pay12_at : (k0_pay12 z u t (ix2 p j) : EReal) = (z (ix2 p j) : EReal) + (u (ix2 p j) : EReal) - (t (ix2 p j) : EReal) := by
  pointwise [k0_pay12]

theorem pay13_at : (k0_pay13 z u t (ix2 p j) : EReal) = (k0_pay12 z u t (ix2 p j) : EReal) * Ideal.ofBits .f32 0x3A000000#32 := by
  unfold k0_pay13
  generalize k0_pay12 z u t = e
  pointwise

/-- One row of the gradient, from the row that reaches the layer norm. -/
theorem pay14_at : (k0_pay14 r h z u t g2 (ix2 p j) : EReal) = (r (ix2 p 0) : EReal)
      * ((k0_pay13 z u t (ix2 p j) : EReal) * (g2 (ix2 0 j) : EReal)
        - Ideal.div (∑ k : Fin 2048, (k0_pay13 z u t (ix2 p k) : EReal) * (g2 (ix2 0 k) : EReal)) (Ideal.ofBits .f32 0x45000000#32)
        - (h (ix2 p j) : EReal) * Ideal.div (∑ k : Fin 2048, (k0_pay13 z u t (ix2 p k) : EReal) * (g2 (ix2 0 k) : EReal) * (h (ix2 p k) : EReal)) (Ideal.ofBits .f32 0x45000000#32)) := by
  unfold k0_pay14
  generalize k0_pay13 z u t = e
  pointwise

theorem pay15_at (y : S128x2048.Idx) : (k0_pay15 r h z u t g2 y : EReal) = k0_pay14 r h z u t g2 y := by
  unfold k0_pay15
  generalize k0_pay14 r h z u t g2 = e
  pointwise

theorem pay16_at (x : Vec Ideal S1x2048 .f32) : (k0_pay16 h z u t x (ix2 0 j) : EReal)
    = (x (ix2 0 j) : EReal) + ∑ p : Fin 128, (k0_pay13 z u t (ix2 p j) : EReal) * (h (ix2 p j) : EReal) := by
  unfold k0_pay16
  generalize k0_pay13 z u t = e
  pointwise

theorem pay17_at (x : Vec Ideal S1x2048 .f32) (y : S1x2048.Idx) : (k0_pay17 x y : EReal) = x y := by
  pointwise [k0_pay17]
theorem pay4_at (x : Vec Ideal S1x2048 .f32) : (k0_pay4 (F := Ideal) z x (ix2 0 j) : EReal) = (x (ix2 0 j) : EReal) + ∑ p : Fin 128, (z (ix2 p j) : EReal) := by
  pointwise [k0_pay4]
theorem pay5_at (x : Vec Ideal S1x2048 .f32) : (k0_pay5 (F := Ideal) z x (ix2 0 j) : EReal) = (x (ix2 0 j) : EReal) + ∑ p : Fin 128, (z (ix2 p j) : EReal) := by
  pointwise [k0_pay5]
theorem pay6_at (x : Vec Ideal S1x2048 .f32) : (k0_pay6 (F := Ideal) z x (ix2 0 j) : EReal)
    = (x (ix2 0 j) : EReal) + ∑ p : Fin 128, ∑ l : Fin 2048, (z (ix2 p l) : EReal) * (z (ix2 p l) : EReal) := by
  pointwise [k0_pay6]
theorem pay2_at (y : S8x2048.Idx) : (k0_pay2 (F := Ideal) y : EReal) = 0 := by
  pointwise [k0_pay2]
end Payloads

variable (m : (ℓ : Loc nD τ sig) → Buf (Elt Ideal) ℓ) (c : Dev nD)

/-- The errors. -/
abbrev off : FVec Ideal S2048x2048 .f32 := LossRefIdeal.Stage.err (input m c) (argG2 m c) (argBe m c) (argT m c)
/-- The gradient that reaches the layer norm. -/
abbrev reached : FVec Ideal S2048x2048 .f32 := LossRefIdeal.Stage.reach (off m c)
/-- The gradient of its input, as the reference has it. -/
abbrev wanted : FVec Ideal S2048x2048 .f32 := LnRefIdeal.Stage.total (input m c) (LnRefIdeal.Stage.gained (reached m c) (argG2 m c))

section Pass
variable (t : Fin cfg0.N) (h : t.val % 8 = 7) (k : Fin k0_t1_loop.trips) (p : Fin 128) (j : Fin 2048)
include h

/-- The row of pass `k` of the layer norm's input. -/
theorem line_at : line (cut k (blk2 m c t)) (cut k (acc m c t.val t.isLt)) (blk3 m c t) (blk4 m c t) (blk5 m c t) p
    = LnRefIdeal.Stage.rowOf (input m c) (rowAt t.val (point_lt t) (passRow k p)) := by
  funext j
  unfold line
  rw [cut_at, cut_at]
  exact input_at m c t h (passRow k p) j

theorem dev_row : (dev (blk2 m c t) (blk3 m c t) (blk4 m c t) (blk5 m c t) (acc m c t.val t.isLt) k (ix2 p 0) : EReal)
    = Ideal.rsqrt (LayerNorm.dev LnRefIdeal.Stage.width LnRefIdeal.Stage.small (LnRefIdeal.Stage.rowOf (input m c) (rowAt t.val (point_lt t) (passRow k p)))) := by
  unfold dev
  rw [pay8_at, line_at m c t h]

theorem hat_row : (hat (blk2 m c t) (blk3 m c t) (blk4 m c t) (blk5 m c t) (acc m c t.val t.isLt) k (ix2 p j) : EReal)
    = LossRefIdeal.Stage.hat (input m c) (ix2 (rowAt t.val (point_lt t) (passRow k p)) j) := by
  unfold hat
  rw [pay9_at, line_at m c t h]
  exact (LossRefIdeal.Stage.hat_apply (input m c) (ix2 (rowAt t.val (point_lt t) (passRow k p)) j)).symm

theorem off_row : (k0_pay12 (gained (blk2 m c t) (blk3 m c t) (blk4 m c t) (blk5 m c t) (blk6 m c t) (acc m c t.val t.isLt) k) (k0_pay11 (blk7 m c t)) (cut k (blk8 m c t)) (ix2 p j) : EReal)
    = off m c (ix2 (rowAt t.val (point_lt t) (passRow k p)) j) := by
  rw [pay12_at, pay11_at, cut_at, blk7_at, blk8_at]
  unfold gained
  rw [pay10_at, blk6_at]
  refine Eq.trans ?_ (LossRefIdeal.Stage.err_apply _ _ _ _ _).symm
  exact congrArg (fun x => x * argG2 m c (ix2 0 j) + argBe m c (ix2 0 j) - argT m c _) (hat_row m c t h k p j)

theorem reached_row : (k0_pay13 (gained (blk2 m c t) (blk3 m c t) (blk4 m c t) (blk5 m c t) (blk6 m c t) (acc m c t.val t.isLt) k) (k0_pay11 (blk7 m c t)) (cut k (blk8 m c t)) (ix2 p j) : EReal)
    = reached m c (ix2 (rowAt t.val (point_lt t) (passRow k p)) j) := by
  rw [pay13_at, off_row m c t h]
  exact (LossRefIdeal.Stage.reach_apply _ _).symm

theorem rows_at (hy : ∀ i, LayerNorm.Fin' (input m c i)) (hr : ∀ i, LayerNorm.Fin' (reached m c i)) (hg : ∀ i, LayerNorm.Fin' (argG2 m c i)) :
    (rows (blk2 m c t) (blk8 m c t) (blk3 m c t) (blk4 m c t) (blk5 m c t) (blk6 m c t) (blk7 m c t) (acc m c t.val t.isLt) k (ix2 p j) : EReal)
      = wanted m c (ix2 (rowAt t.val (point_lt t) (passRow k p)) j) := by
  unfold rows
  rw [pay14_at]
  simp only [reached_row m c t h, hat_row m c t h, dev_row m c t h, blk6_at]
  refine Eq.trans ?_ (LnRefIdeal.Stage.total_apply _ _ _ hy fun i => LnRefIdeal.Stage.gained_real _ i _ hr hg).symm
  simp only [LnRefIdeal.Stage.gained_apply, LossRefIdeal.Stage.hat_apply]
  rfl

omit h in
theorem rowsB_at (y : S128x2048.Idx) :
    (rowsB (blk2 m c t) (blk8 m c t) (blk3 m c t) (blk4 m c t) (blk5 m c t) (blk6 m c t) (blk7 m c t) (acc m c t.val t.isLt) k y : EReal)
      = rows (blk2 m c t) (blk8 m c t) (blk3 m c t) (blk4 m c t) (blk5 m c t) (blk6 m c t) (blk7 m c t) (acc m c t.val t.isLt) k y :=
  pay15_at _ _ _ _ _ _ _
end Pass

/-- Where a row of the joined blocks comes from. -/
theorem join_at {e : EltTy} (G : Fin k0_t1_loop.trips → Vec Ideal S128x2048 e) (p : Fin 512) (j : Fin 2048) :
    join G (ix2 p j) = G (passOf (ix2 p j)) (ix2 ⟨p.val % 128, by omega⟩ j) := by
  unfold join
  refine congrArg (G _) (funext fun a => Fin.ext ?_)
  match a with
  | ⟨0, _⟩ =>
    show p.val - 128 * (p.val / 128) = p.val % 128
    omega
  | ⟨1, _⟩ => rfl

theorem row_back (p : Fin 512) (j : Fin 2048) (q : Fin 128) (hq : q.val = p.val % 128) : passRow (passOf (ix2 p j)) q = p :=
  Fin.ext (by show 128 * (p.val / 128) + q.val = p.val; omega)

section Real
variable (hy : ∀ i, LayerNorm.Fin' (input m c i)) (hr : ∀ i, LayerNorm.Fin' (reached m c i)) (hg : ∀ i, LayerNorm.Fin' (argG2 m c i))
include hy hr hg

/-- The gradient's rows at a last-column point. -/
theorem grad_at (t : Fin cfg0.N) (h : t.val % 8 = 7) (p : Fin 512) (j : Fin 2048) :
    (grad m c t (ix2 p j) : EReal) = wanted m c (ix2 (rowAt t.val (point_lt t) p) j) := by
  unfold grad
  rw [join_at, rows_at m c t h _ _ _ hy hr hg, row_back p j _ rfl]

/-- The same rounded. -/
theorem gradB_at (t : Fin cfg0.N) (h : t.val % 8 = 7) (p : Fin 512) (j : Fin 2048) :
    (gradB m c t (ix2 p j) : EReal) = wanted m c (ix2 (rowAt t.val (point_lt t) p) j) := by
  unfold gradB
  rw [join_at, rowsB_at, rows_at m c t h _ _ _ hy hr hg, row_back p j _ rfl]
end Real

end Cert.LossIdeal.Rows
end
-- ==== Proof.LossSums.lean ====
/-
The four rows of sums of the second layer norm and loss head's call, over the reals: over the rows taken so far, and
at the end the reference's.
-/
module

public import proofs.«01_k».proof.Proof.LossPoint

@[expose] public section

set_option maxRecDepth 16384

noncomputable section

namespace Cert.LossIdeal.Rows

open Idealize.ShloMosaic Idealize.ShloMosaic.TcCoe Idealize.SL.Sem
open Cert.LossIdeal Cert.LossIdeal.Gen

variable (m : (ℓ : Loc nD τ sig) → Buf (Elt Ideal) ℓ) (c : Dev nD)

/-- What row `a` of the sums gains from row `i` of the arrays: the gain's part, the bias's, the gradient's, the squared
errors, nothing. -/
def part (a : ℕ) (j : Fin 2048) (i : ℕ) : EReal :=
  if h : i < 2048 then
    if a = 0 then reached m c (ix2 ⟨i, h⟩ j) * LossRefIdeal.Stage.hat (input m c) (ix2 ⟨i, h⟩ j)
    else if a = 1 then reached m c (ix2 ⟨i, h⟩ j)
    else if a = 2 then wanted m c (ix2 ⟨i, h⟩ j)
    else if a = 3 then ∑ l : Fin 2048, off m c (ix2 ⟨i, h⟩ l) * off m c (ix2 ⟨i, h⟩ l)
    else 0
  else 0

/-- One pass's sums, at a point. -/
abbrev stepAt (t : Fin cfg0.N) (k : Fin k0_t1_loop.trips) (X : Vec Ideal S8x2048 .f32) : Vec Ideal S8x2048 .f32 :=
  sumStep (blk2 m c t) (blk8 m c t) (blk3 m c t) (blk4 m c t) (blk5 m c t) (blk6 m c t) (blk7 m c t) (acc m c t.val t.isLt) k X

section Step
variable (hy : ∀ i, LayerNorm.Fin' (input m c i)) (hr : ∀ i, LayerNorm.Fin' (reached m c i)) (hg : ∀ i, LayerNorm.Fin' (argG2 m c i))
  (t : Fin cfg0.N) (h : t.val % 8 = 7) (k : Fin k0_t1_loop.trips) (X : Vec Ideal S8x2048 .f32) (j : Fin 2048)

/-- The row a pass takes, by its number. -/
theorem row_num (p : Fin 128) (hp : 512 * (t.val / 8) + 128 * k.val + p.val < 2048) :
    (⟨512 * (t.val / 8) + 128 * k.val + p.val, hp⟩ : Fin 2048) = rowAt t.val (point_lt t) (passRow k p) := Fin.ext (Nat.add_assoc _ _ _)

theorem num_lt (p : Fin 128) : 512 * (t.val / 8) + 128 * k.val + p.val < 2048 := by
  have hk := pass_lt k
  have ht := point_lt t
  omega

include h in
theorem step0 : (stepAt m c t k X (ix2 0 j) : EReal)
    = X (ix2 0 j) + ∑ p : Fin 128, part m c 0 j (512 * (t.val / 8) + 128 * k.val + p.val) := by
  unfold stepAt sumStep
  rw [dif_neg (fun hh => by have : 3 ≤ 0 := (hh 0).1; omega), dif_neg (fun hh => by have : 2 ≤ 0 := (hh 0).1; omega), dif_neg (fun hh => by have : 1 ≤ 0 := (hh 0).1; omega), dif_pos (Fin.forall_fin_two.mpr ⟨by show 0 ≤ 0 ∧ 0 < 0 + 1; omega, by show 0 ≤ j.val ∧ j.val < 0 + 2048; omega⟩)]
  unfold next0
  refine Eq.trans (congrArg (k0_pay16 _ _ _ _ _) (show _ = ix2 (0 : Fin 1) j from ?_)) ?_
  · funext b; refine Fin.ext ?_
    match b with
    | ⟨0, _⟩ => rfl
    | ⟨1, _⟩ => rfl
  rw [pay16_at]
  refine congrArg₂ _ (congrArg X ?_) (Finset.sum_congr rfl fun p _ => ?_)
  · funext b; refine Fin.ext ?_
    match b with
    | ⟨0, _⟩ => rfl
    | ⟨1, _⟩ => show 0 + 1 * j.val = j.val; omega
  · rw [part, dif_pos (num_lt t k p), if_pos rfl, row_num t k p, reached_row m c t h, hat_row m c t h]

include h in
theorem step1 : (stepAt m c t k X (ix2 1 j) : EReal)
    = X (ix2 1 j) + ∑ p : Fin 128, part m c 1 j (512 * (t.val / 8) + 128 * k.val + p.val) := by
  unfold stepAt sumStep
  rw [dif_neg (fun hh => by have : 3 ≤ 1 := (hh 0).1; omega), dif_neg (fun hh => by have : 2 ≤ 1 := (hh 0).1; omega), dif_pos (Fin.forall_fin_two.mpr ⟨by show 1 ≤ 1 ∧ 1 < 1 + 1; omega, by show 0 ≤ j.val ∧ j.val < 0 + 2048; omega⟩)]
  unfold next1
  refine Eq.trans (congrArg (k0_pay4 _ _) (show _ = ix2 (0 : Fin 1) j from ?_)) ?_
  · funext b; refine Fin.ext ?_
    match b with
    | ⟨0, _⟩ => rfl
    | ⟨1, _⟩ => rfl
  rw [pay4_at, pay17_at]
  refine congrArg₂ _ (congrArg X ?_) (Finset.sum_congr rfl fun p _ => ?_)
  · funext b; refine Fin.ext ?_
    match b with
    | ⟨0, _⟩ => rfl
    | ⟨1, _⟩ => show 0 + 1 * j.val = j.val; omega
  · rw [part, dif_pos (num_lt t k p), if_neg (by decide), if_pos rfl, row_num t k p, reached_row m c t h]

include hy hr hg h in
theorem step2 : (stepAt m c t k X (ix2 2 j) : EReal)
    = X (ix2 2 j) + ∑ p : Fin 128, part m c 2 j (512 * (t.val / 8) + 128 * k.val + p.val) := by
  unfold stepAt sumStep
  rw [dif_neg (fun hh => by have : 3 ≤ 2 := (hh 0).1; omega), dif_pos (Fin.forall_fin_two.mpr ⟨by show 2 ≤ 2 ∧ 2 < 2 + 1; omega, by show 0 ≤ j.val ∧ j.val < 0 + 2048; omega⟩)]
  unfold next2
  refine Eq.trans (congrArg (k0_pay5 _ _) (show _ = ix2 (0 : Fin 1) j from ?_)) ?_
  · funext b; refine Fin.ext ?_
    match b with
    | ⟨0, _⟩ => rfl
    | ⟨1, _⟩ => rfl
  rw [pay5_at]
  refine congrArg₂ _ (congrArg X ?_) (Finset.sum_congr rfl fun p _ => ?_)
  · funext b; refine Fin.ext ?_
    match b with
    | ⟨0, _⟩ => rfl
    | ⟨1, _⟩ => show 0 + 1 * j.val = j.val; omega
  · rw [part, dif_pos (num_lt t k p), if_neg (by decide), if_neg (by decide), if_pos rfl, row_num t k p, rows_at m c t h k p j hy hr hg]

include h in
theorem step3 : (stepAt m c t k X (ix2 3 j) : EReal)
    = X (ix2 3 j) + ∑ p : Fin 128, part m c 3 j (512 * (t.val / 8) + 128 * k.val + p.val) := by
  unfold stepAt sumStep
  rw [dif_pos (Fin.forall_fin_two.mpr ⟨by show 3 ≤ 3 ∧ 3 < 3 + 1; omega, by show 0 ≤ j.val ∧ j.val < 0 + 2048; omega⟩)]
  unfold next3
  refine Eq.trans (congrArg (k0_pay6 _ _) (show _ = ix2 (0 : Fin 1) j from ?_)) ?_
  · funext b; refine Fin.ext ?_
    match b with
    | ⟨0, _⟩ => rfl
    | ⟨1, _⟩ => rfl
  rw [pay6_at]
  refine congrArg₂ _ (congrArg X ?_) (Finset.sum_congr rfl fun p _ => ?_)
  · funext b; refine Fin.ext ?_
    match b with
    | ⟨0, _⟩ => rfl
    | ⟨1, _⟩ => show 0 + 1 * j.val = j.val; omega
  · rw [part, dif_pos (num_lt t k p), if_neg (by decide), if_neg (by decide), if_neg (by decide), if_pos rfl, row_num t k p]
    exact Finset.sum_congr rfl fun l _ => by rw [off_row m c t h]

include hy hr hg h in
/-- One pass's step of the sums. -/
theorem step_sums (a : Fin 8) : (stepAt m c t k X (ix2 a j) : EReal)
      = X (ix2 a j) + ∑ p ∈ Finset.range 128, part m c a.val j (512 * (t.val / 8) + 128 * k.val + p) := by
  rw [Finset.sum_range]
  by_cases h0 : a.val = 0
  · obtain rfl : a = 0 := Fin.ext h0
    exact step0 m c t h k X j
  by_cases h1 : a.val = 1
  · obtain rfl : a = 1 := Fin.ext h1
    exact step1 m c t h k X j
  by_cases h2 : a.val = 2
  · obtain rfl : a = 2 := Fin.ext h2
    exact step2 m c hy hr hg t h k X j
  by_cases h3 : a.val = 3
  · obtain rfl : a = 3 := Fin.ext h3
    exact step3 m c t h k X j
  unfold stepAt sumStep
  rw [dif_neg (fun hh => h3 (by have u : a.val < 3 + 1 := (hh 0).2; have v : 3 ≤ a.val := (hh 0).1; omega)),
    dif_neg (fun hh => h2 (by have u : a.val < 2 + 1 := (hh 0).2; have v : 2 ≤ a.val := (hh 0).1; omega)),
    dif_neg (fun hh => h1 (by have u : a.val < 1 + 1 := (hh 0).2; have v : 1 ≤ a.val := (hh 0).1; omega)),
    dif_neg (fun hh => h0 (by have u : a.val < 0 + 1 := (hh 0).2; omega))]
  refine ((add_zero _).symm.trans (congrArg _ (Eq.symm ?_)))
  exact Finset.sum_eq_zero fun p _ => by rw [part, dif_pos (num_lt t k p), if_neg h0, if_neg h1, if_neg h2, if_neg h3]

include hy hr hg h in
/-- The sums after `n` passes of a last-column point. -/
theorem sums_at (a : Fin 8) (n : ℕ) (hn : n ≤ 4) :
    (sums (blk2 m c t) (blk8 m c t) (blk3 m c t) (blk4 m c t) (blk5 m c t) (blk6 m c t) (blk7 m c t) (acc m c t.val t.isLt) X n (ix2 a j) : EReal)
      = X (ix2 a j) + ∑ p ∈ Finset.range (128 * n), part m c a.val j (512 * (t.val / 8) + p) := by
  induction n with
  | zero => simp [sums]
  | succ n ih =>
    rw [sums, dif_pos (by rw [four]; omega)]
    refine (step_sums m c hy hr hg t h _ _ j a).trans ?_
    rw [ih (by omega), show 128 * (n + 1) = 128 * n + 128 by ring, Finset.sum_range_add, add_assoc]
    simp only [Nat.add_assoc]
end Step

section Real
variable (hy : ∀ i, LayerNorm.Fin' (input m c i)) (hr : ∀ i, LayerNorm.Fin' (reached m c i)) (hg : ∀ i, LayerNorm.Fin' (argG2 m c i))
include hy hr hg

/-- The sums after a point: over the rows of the row blocks finished. -/
theorem sum_at (n : ℕ) (hn : n < cfg0.N) (a : Fin 8) (j : Fin 2048) :
    (sum m c n hn (ix2 a j) : EReal) = ∑ p ∈ Finset.range (512 * ((n + 1) / 8)), part m c a.val j p := by
  induction n with
  | zero => rw [show sum m c 0 hn = _ from sum_first m c ⟨0, hn⟩ rfl, pay2_at]; rfl
  | succ n ih =>
    have ih' := ih (by omega)
    by_cases h7 : (n + 1) % 8 = 7
    · rw [show sum m c (n + 1) hn = _ from sum_last m c ⟨n + 1, hn⟩ h7]
      refine (sums_at m c hy hr hg ⟨n + 1, hn⟩ h7 _ j a 4 (by omega)).trans ?_
      rw [show 512 * ((n + 1 + 1) / 8) = 512 * ((n + 1) / 8) + 512 by omega, Finset.sum_range_add]
      exact congrArg₂ _ ih' rfl
    · rw [show sum m c (n + 1) hn = _ from sum_mid m c ⟨n + 1, hn⟩ (Nat.succ_ne_zero n) h7,
        show (n + 1 + 1) / 8 = (n + 1) / 8 by omega]
      exact ih'

/-- All the rows' sums are the reference's rows. -/
theorem sum_end (he : ∀ i, LayerNorm.Fin' (off m c i)) (n : ℕ) (hn : n < cfg0.N) (h : (n + 1) / 8 = 4) (a : Fin 8) (j : Fin 2048) :
    (sum m c n hn (ix2 a j) : EReal) = LossRefIdeal.Stage.sums (input m c) (reached m c) (wanted m c) (off m c) (ix2 a j) := by
  rw [sum_at m c hy hr hg, h, LossRefIdeal.Stage.sums_apply, show 512 * 4 = 2048 from rfl, Finset.sum_range]
  show _ = if a.val = 0 then _ else if a.val = 1 then _ else if a.val = 2 then _ else if a.val = 3 then _ else 0
  by_cases h0 : a.val = 0
  · rw [if_pos h0]
    refine Finset.sum_congr rfl fun p _ => ?_
    rw [part, dif_pos p.isLt, if_pos h0, mul_comm]
    rfl
  by_cases h1 : a.val = 1
  · rw [if_neg h0, if_pos h1]
    refine Finset.sum_congr rfl fun p _ => ?_
    rw [part, dif_pos p.isLt, if_neg h0, if_pos h1]
    rfl
  by_cases h2 : a.val = 2
  · rw [if_neg h0, if_neg h1, if_pos h2]
    refine Finset.sum_congr rfl fun p _ => ?_
    rw [part, dif_pos p.isLt, if_neg h0, if_neg h1, if_pos h2]
    rfl
  by_cases h3 : a.val = 3
  · rw [if_neg h0, if_neg h1, if_neg h2, if_pos h3, LossRefIdeal.Stage.scaled_real _ he]
    refine Finset.sum_congr rfl fun p _ => ?_
    rw [part, dif_pos p.isLt, if_neg h0, if_neg h1, if_neg h2, if_pos h3]
  · rw [if_neg h0, if_neg h1, if_neg h2, if_neg h3]
    exact Finset.sum_eq_zero fun p _ => by rw [part, dif_pos p.isLt, if_neg h0, if_neg h1, if_neg h2, if_neg h3]
end Real

end Cert.LossIdeal.Rows
end
-- ==== Proof.LossValue.lean ====
/-
The second layer norm and loss head's call over the reals: its three result arrays, and its run, which leaves its
arguments as they were.
-/
module

public import proofs.«01_k».proof.Proof.LossSums

@[expose] public section

set_option maxRecDepth 16384

noncomputable section

namespace Cert.LossIdeal.Rows

open Idealize.ShloMosaic Idealize.ShloMosaic.TcCoe Idealize.SL.Sem
open Cert.LossIdeal Cert.LossIdeal.Gen

variable (m : (ℓ : Loc nD τ sig) → Buf (Elt Ideal) ℓ) (ρ : Dev nD → PrngReg)

/-- Where an element of the row block sits in the array. -/
theorem emb9 (t : Fin cfg0.N) (p : Fin 512) (j : Fin 2048) : (win0_9.blk t).view.emb (ix2 p j) = ix2 (rowAt t.val (point_lt t) p) j := by
  funext a
  refine Fin.ext ?_
  match a with
  | ⟨0, _⟩ =>
    show win0_9.index t 0 * 512 + 1 * p.val = 512 * (t.val / 8) + p.val
    rw [(idx t).2.2.2.2.2.2.2.2.2.1]
    show t.val / 8 * 512 + 1 * p.val = _
    omega
  | ⟨1, _⟩ =>
    show win0_9.index t 1 * 2048 + 1 * j.val = j.val
    rw [(idx t).2.2.2.2.2.2.2.2.2.1]
    show 0 * 2048 + 1 * j.val = j.val
    omega

/-- The same for the rounded rows. -/
theorem emb10 (t : Fin cfg0.N) (p : Fin 512) (j : Fin 2048) : (win0_10.blk t).view.emb (ix2 p j) = ix2 (rowAt t.val (point_lt t) p) j := by
  funext a
  refine Fin.ext ?_
  match a with
  | ⟨0, _⟩ =>
    show win0_10.index t 0 * 512 + 1 * p.val = 512 * (t.val / 8) + p.val
    rw [(idx t).2.2.2.2.2.2.2.2.2.2.1]
    show t.val / 8 * 512 + 1 * p.val = _
    omega
  | ⟨1, _⟩ =>
    show win0_10.index t 1 * 2048 + 1 * j.val = j.val
    rw [(idx t).2.2.2.2.2.2.2.2.2.2.1]
    show 0 * 2048 + 1 * j.val = j.val
    omega

section Real
variable (c : Dev nD) (hA : ∀ i, LayerNorm.Fin' (argA m c i)) (hW : ∀ i, LayerNorm.Fin' (argW m c i)) (hX : ∀ i, LayerNorm.Fin' (argX m c i)) (hG1 : ∀ i, LayerNorm.Fin' (argG1 m c i)) (hB1 : ∀ i, LayerNorm.Fin' (argB1 m c i)) (hB2 : ∀ i, LayerNorm.Fin' (argB2 m c i)) (hG2 : ∀ i, LayerNorm.Fin' (argG2 m c i)) (hBe : ∀ i, LayerNorm.Fin' (argBe m c i)) (hT : ∀ i, LayerNorm.Fin' (argT m c i))
include hA hW hX hG1 hB1 hB2 hG2 hBe hT

/-- At finite arguments the layer norm's input, the errors and the gradient that reaches it are finite. -/
theorem finite : (∀ i, LayerNorm.Fin' (input m c i)) ∧ (∀ i, LayerNorm.Fin' (off m c i)) ∧ (∀ i, LayerNorm.Fin' (reached m c i)) := by
  have h0 : ∀ i, LayerNorm.Fin' (input m c i) := fun i => LossRefIdeal.Stage.pre_real _ _ _ _ _ _ _ hA hW hX hG1 hB1 hB2
  have h1 : ∀ i, LayerNorm.Fin' (off m c i) := fun i => LossRefIdeal.Stage.err_real _ _ _ _ _ h0 hG2 hBe hT
  exact ⟨h0, h1, fun i => LossRefIdeal.Stage.reach_real _ _ h1⟩

/-- The gradient of the layer norm's input. -/
theorem final9 : (dats m 0 c).arrAt 9 (cfgs 0).N = wanted m c := by
  obtain ⟨h0, h1, h2⟩ := finite m c hA hW hX hG1 hB1 hB2 hG2 hBe hT
  refine (dats m 0 c).arrAt_eq_of_covers 9 _ (by decide +kernel) fun t hf y => ?_
  obtain ⟨p, j, rfl⟩ : ∃ (p : Fin 512) (j : Fin 2048), y = ix2 p j := ⟨y 0, y 1, eq_ix2 y⟩
  refine Eq.trans (congrFun (after_9 m c t) (ix2 p j)) (Eq.trans (grad_at m c h0 h2 hG2 t ((flush0_9 t).mp hf) p j) ?_)
  exact (congrArg (wanted m c) (emb9 t p j)).symm

/-- The same rounded. -/
theorem final10 : (dats m 0 c).arrAt 10 (cfgs 0).N = (truncf .bf16 (wanted m c) bitsLt_bf16_f32 : FVec Ideal S2048x2048 .bf16) := by
  obtain ⟨h0, h1, h2⟩ := finite m c hA hW hX hG1 hB1 hB2 hG2 hBe hT
  refine (dats m 0 c).arrAt_eq_of_covers 10 _ (by decide +kernel) fun t hf y => ?_
  obtain ⟨p, j, rfl⟩ : ∃ (p : Fin 512) (j : Fin 2048), y = ix2 p j := ⟨y 0, y 1, eq_ix2 y⟩
  refine Eq.trans (congrFun (after_10 m c t) (ix2 p j)) (Eq.trans (gradB_at m c h0 h2 hG2 t ((flush0_10 t).mp hf) p j) ?_)
  exact (congrArg (wanted m c) (emb10 t p j)).symm

/-- The rows of sums. -/
theorem final11 : (dats m 0 c).arrAt 11 (cfgs 0).N = LossRefIdeal.Stage.sums (input m c) (reached m c) (wanted m c) (off m c) := by
  obtain ⟨h0, h1, h2⟩ := finite m c hA hW hX hG1 hB1 hB2 hG2 hBe hT
  refine (dats m 0 c).arrAt_eq_of_covers 11 _ (by decide +kernel) fun t hf y => ?_
  have h31 := (flush0_11 t).mp hf
  have ht := point_lt t
  obtain ⟨p, j, rfl⟩ : ∃ (p : Fin 8) (j : Fin 2048), y = ix2 p j := ⟨y 0, y 1, eq_ix2 y⟩
  refine Eq.trans (congrFun (after_11 m c t) (ix2 p j)) (Eq.trans (sum_end m c h0 h2 hG2 h1 t.val t.isLt (by omega) p j) ?_)
  refine congrArg (LossRefIdeal.Stage.sums (input m c) (reached m c) (wanted m c) (off m c)) (funext fun a => Fin.ext ?_)
  match a with
  | ⟨0, _⟩ =>
    show p.val = win0_11.index t 0 * 8 + 1 * p.val
    rw [(idx t).2.2.2.2.2.2.2.2.2.2.2]
    show p.val = 0 * 8 + 1 * p.val
    omega
  | ⟨1, _⟩ =>
    show j.val = win0_11.index t 1 * 2048 + 1 * j.val
    rw [(idx t).2.2.2.2.2.2.2.2.2.2.2]
    show j.val = 0 * 2048 + 1 * j.val
    omega
end Real

/-- At finite numbers the call runs to the end, its results the reference's, its arguments unchanged. -/
theorem run (hA : ∀ c i, LayerNorm.Fin' (argA m c i)) (hW : ∀ c i, LayerNorm.Fin' (argW m c i)) (hX : ∀ c i, LayerNorm.Fin' (argX m c i)) (hG1 : ∀ c i, LayerNorm.Fin' (argG1 m c i)) (hB1 : ∀ c i, LayerNorm.Fin' (argB1 m c i)) (hB2 : ∀ c i, LayerNorm.Fin' (argB2 m c i)) (hG2 : ∀ c i, LayerNorm.Fin' (argG2 m c i)) (hBe : ∀ c i, LayerNorm.Fin' (argBe m c i)) (hT : ∀ c i, LayerNorm.Fin' (argT m c i)) :
    θ_run defs (onTc (τ := τ) (main (F := Ideal))) ⟨m, fun _ => 0, ρ⟩ (fun r => ∀ c : Dev nD,
      r.2.mem ((c.tc : Thread nD τ).loc main_v21_0) = wanted m c
      ∧ r.2.mem ((c.tc : Thread nD τ).loc main_v21_1) = (truncf .bf16 (wanted m c) bitsLt_bf16_f32 : FVec Ideal S2048x2048 .bf16)
      ∧ r.2.mem ((c.tc : Thread nD τ).loc main_v21_2) = LossRefIdeal.Stage.sums (input m c) (reached m c) (wanted m c) (off m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun r h c => ⟨((h.1 c).1 9).trans (final9 m c (hA c) (hW c) (hX c) (hG1 c) (hB1 c) (hB2 c) (hG2 c) (hBe c) (hT c)),
      ((h.1 c).1 10).trans (final10 m c (hA c) (hW c) (hX c) (hG1 c) (hB1 c) (hB2 c) (hG2 c) (hBe c) (hT c)), ((h.1 c).1 11).trans (final11 m c (hA c) (hW c) (hX c) (hG1 c) (hB1 c) (hB2 c) (hG2 c) (hBe c) (hT c)), h.2.1 c⟩)
    (θ_run_and (run_main m ρ) (frame_rows m ρ))

end Cert.LossIdeal.Rows
end
-- ==== Proof.lean ====
module

public import proofs.«01_k».proof.Defs
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Relu
public import proofs.«01_k».proof.Proof.Gen.Relu.Frame
public import proofs.«01_k».proof.Proof.Gen.ReluIdeal
public import proofs.«01_k».proof.Proof.Gen.ReluIdeal.Frame
public import proofs.«01_k».proof.Proof.Gen.ReluIdeal.Value
public import proofs.«01_k».proof.Proof.Gen.ReluRefIdeal
public import proofs.«01_k».proof.Proof.Gen.ReluRefIdeal.Run
public import proofs.«01_k».proof.Proof.Gen.Branches
public import proofs.«01_k».proof.Proof.Gen.Branches.Frame
public import proofs.«01_k».proof.Proof.Gen.BranchesIdeal
public import proofs.«01_k».proof.Proof.Gen.BranchesIdeal.Frame
public import proofs.«01_k».proof.Proof.Gen.BranchesIdeal.Value
public import proofs.«01_k».proof.Proof.Gen.BranchesRefIdeal
public import proofs.«01_k».proof.Proof.Gen.BranchesRefIdeal.Run
public import proofs.«01_k».proof.Proof.Gen.Dx
public import proofs.«01_k».proof.Proof.Gen.Dx.Frame
public import proofs.«01_k».proof.Proof.Gen.DxIdeal
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.GwFf2
public import proofs.«01_k».proof.Proof.Gen.GwFf2.Frame
public import proofs.«01_k».proof.Proof.Gen.GwFf2Ideal
public import proofs.«01_k».proof.Proof.Gen.GwFf2Ideal.Frame
public import proofs.«01_k».proof.Proof.Gen.GwFf2Ideal.Value
public import proofs.«01_k».proof.Proof.Gen.GwFf2RefIdeal
public import proofs.«01_k».proof.Proof.Gen.GwFf2RefIdeal.Run
public import proofs.«01_k».proof.Proof.Gen.GwFf1
public import proofs.«01_k».proof.Proof.Gen.GwFf1.Frame
public import proofs.«01_k».proof.Proof.Gen.GwFf1Ideal
public import proofs.«01_k».proof.Proof.Gen.GwFf1Ideal.Frame
public import proofs.«01_k».proof.Proof.Gen.GwFf1Ideal.Value
public import proofs.«01_k».proof.Proof.Gen.GwFf1RefIdeal
public import proofs.«01_k».proof.Proof.Gen.GwFf1RefIdeal.Run
public import proofs.«01_k».proof.Proof.Gen.GwOut
public import proofs.«01_k».proof.Proof.Gen.GwOut.Frame
public import proofs.«01_k».proof.Proof.Gen.GwOutIdeal
public import proofs.«01_k».proof.Proof.Gen.GwOutIdeal.Frame
public import proofs.«01_k».proof.Proof.Gen.GwOutIdeal.Value
public import proofs.«01_k».proof.Proof.Gen.GwOutRefIdeal
public import proofs.«01_k».proof.Proof.Gen.GwOutRefIdeal.Run
public import proofs.«01_k».proof.Proof.Gen.GwPa
public import proofs.«01_k».proof.Proof.Gen.GwPa.Frame
public import proofs.«01_k».proof.Proof.Gen.GwPaIdeal
public import proofs.«01_k».proof.Proof.Gen.GwPaIdeal.Frame
public import proofs.«01_k».proof.Proof.Gen.GwPaIdeal.Value
public import proofs.«01_k».proof.Proof.Gen.GwPaRefIdeal
public import proofs.«01_k».proof.Proof.Gen.GwPaRefIdeal.Run
public import proofs.«01_k».proof.Proof.Gen.GwPb
public import proofs.«01_k».proof.Proof.Gen.GwPb.Frame
public import proofs.«01_k».proof.Proof.Gen.GwPbIdeal
public import proofs.«01_k».proof.Proof.Gen.GwPbIdeal.Frame
public import proofs.«01_k».proof.Proof.Gen.GwPbIdeal.Value
public import proofs.«01_k».proof.Proof.Gen.GwPbRefIdeal
public import proofs.«01_k».proof.Proof.Gen.GwPbRefIdeal.Run
public import proofs.«01_k».proof.Proof.Gen.GwIn
public import proofs.«01_k».proof.Proof.Gen.GwIn.Frame
public import proofs.«01_k».proof.Proof.Gen.GwInIdeal
public import proofs.«01_k».proof.Proof.Gen.GwInIdeal.Frame
public import proofs.«01_k».proof.Proof.Gen.GwInIdeal.Value
public import proofs.«01_k».proof.Proof.Gen.GwInRefIdeal
public import proofs.«01_k».proof.Proof.Gen.GwInRefIdeal.Run
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Gen.OutLn
public import proofs.«01_k».proof.Proof.Gen.OutLn.Frame
public import proofs.«01_k».proof.Proof.Gen.OutLnIdeal
public import proofs.«01_k».proof.Proof.Gen.OutLnIdeal.Frame
public import proofs.«01_k».proof.Proof.Gen.OutLnIdeal.Value
public import proofs.«01_k».proof.Proof.Gen.OutLnRefIdeal
public import proofs.«01_k».proof.Proof.Gen.OutLnRefIdeal.Run
public import proofs.«01_k».proof.Proof.Gen.Ff
public import proofs.«01_k».proof.Proof.Gen.Ff.Frame
public import proofs.«01_k».proof.Proof.Gen.FfIdeal
public import proofs.«01_k».proof.Proof.Gen.FfIdeal.Frame
public import proofs.«01_k».proof.Proof.Gen.FfRefIdeal
public import proofs.«01_k».proof.Proof.Gen.FfRefIdeal.Run
public import proofs.«01_k».proof.Proof.Gen.AdIn
public import proofs.«01_k».proof.Proof.Gen.AdIn.Frame
public import proofs.«01_k».proof.Proof.Gen.AdInIdeal
public import proofs.«01_k».proof.Proof.Gen.AdInIdeal.Frame
public import proofs.«01_k».proof.Proof.Gen.AdInIdeal.Value
public import proofs.«01_k».proof.Proof.Gen.AdInRefIdeal
public import proofs.«01_k».proof.Proof.Gen.AdInRefIdeal.Run
public import proofs.«01_k».proof.Proof.Gen.AdFf
public import proofs.«01_k».proof.Proof.Gen.AdFf.Frame
public import proofs.«01_k».proof.Proof.Gen.AdFfIdeal
public import proofs.«01_k».proof.Proof.Gen.AdFfIdeal.Frame
public import proofs.«01_k».proof.Proof.Gen.AdFfIdeal.Value
public import proofs.«01_k».proof.Proof.Gen.AdFfRefIdeal
public import proofs.«01_k».proof.Proof.Gen.AdFfRefIdeal.Run
public import proofs.«01_k».proof.Proof.Gen.AdOut
public import proofs.«01_k».proof.Proof.Gen.AdOut.Frame
public import proofs.«01_k».proof.Proof.Gen.AdOutIdeal
public import proofs.«01_k».proof.Proof.Gen.AdOutIdeal.Frame
public import proofs.«01_k».proof.Proof.Gen.AdOutIdeal.Value
public import proofs.«01_k».proof.Proof.Gen.AdOutRefIdeal
public import proofs.«01_k».proof.Proof.Gen.AdOutRefIdeal.Run
public import proofs.«01_k».proof.Proof.Gen.AdPr
public import proofs.«01_k».proof.Proof.Gen.AdPr.Frame
public import proofs.«01_k».proof.Proof.Gen.AdPrIdeal
public import proofs.«01_k».proof.Proof.Gen.AdPrIdeal.Frame
public import proofs.«01_k».proof.Proof.Gen.AdPrIdeal.Value
public import proofs.«01_k».proof.Proof.Gen.AdPrRefIdeal
public import proofs.«01_k».proof.Proof.Gen.AdPrRefIdeal.Run
public import proofs.«01_k».proof.Proof.Gen.AdSm
public import proofs.«01_k».proof.Proof.Gen.AdSm.Frame
public import proofs.«01_k».proof.Proof.Gen.AdSmIdeal
public import proofs.«01_k».proof.Proof.Gen.AdSmIdeal.Frame
public import proofs.«01_k».proof.Proof.Gen.AdSmIdeal.Value
public import proofs.«01_k».proof.Proof.Gen.AdSmRefIdeal
public import proofs.«01_k».proof.Proof.Gen.AdSmRefIdeal.Run
public import proofs.«01_k».proof.Proof.Gen.ProjOwn
public import proofs.«01_k».proof.Proof.Gen.ProjOwn.Frame
public import proofs.«01_k».proof.Proof.Gen.ProjOwnIdeal
public import proofs.«01_k».proof.Proof.Gen.ProjOwnIdeal.Frame
public import proofs.«01_k».proof.Proof.Gen.ProjOwnRefIdeal
public import proofs.«01_k».proof.Proof.Gen.ProjOwnRefIdeal.Run
public import proofs.«01_k».proof.Proof.Gen.ProjNear
public import proofs.«01_k».proof.Proof.Gen.ProjNear.Frame
public import proofs.«01_k».proof.Proof.Gen.ProjNearIdeal
public import proofs.«01_k».proof.Proof.Gen.ProjNearIdeal.Frame
public import proofs.«01_k».proof.Proof.Gen.ProjNearRefIdeal
public import proofs.«01_k».proof.Proof.Gen.ProjNearRefIdeal.Run
public import proofs.«01_k».proof.Proof.Gen.ProjFar
public import proofs.«01_k».proof.Proof.Gen.ProjFar.Frame
public import proofs.«01_k».proof.Proof.Gen.ProjFarIdeal
public import proofs.«01_k».proof.Proof.Gen.ProjFarIdeal.Frame
public import proofs.«01_k».proof.Proof.Gen.ProjFarRefIdeal
public import proofs.«01_k».proof.Proof.Gen.ProjFarRefIdeal.Run
public import proofs.«01_k».proof.Proof.Gen.Gmlp
public import proofs.«01_k».proof.Proof.Gen.Gmlp.Frame
public import proofs.«01_k».proof.Proof.Gen.GmlpIdeal
public import proofs.«01_k».proof.Proof.Gen.GmlpIdeal.Frame
public import proofs.«01_k».proof.Proof.Gen.GmlpIdeal.Value
public import proofs.«01_k».proof.Proof.Gen.GmlpRefIdeal
public import proofs.«01_k».proof.Proof.Gen.GmlpRefIdeal.Run
public import proofs.«01_k».proof.Proof.Gen.Ln
public import proofs.«01_k».proof.Proof.Gen.LnIdeal
public import proofs.«01_k».proof.Proof.Gen.LnRefIdeal
public import proofs.«01_k».proof.Proof.Gen.LnRefIdeal.Run
public import proofs.«01_k».proof.Proof.Gen.Pre_finite_norm
public import proofs.«01_k».proof.Proof.Gen.Loss
public import proofs.«01_k».proof.Proof.Gen.LossIdeal
public import proofs.«01_k».proof.Proof.Gen.LossRefIdeal
public import proofs.«01_k».proof.Proof.Gen.LossRefIdeal.Run
public import proofs.«01_k».proof.Proof.Gen.Pre_finite_loss
public import proofs.«01_k».proof.Proof.Gate
public import proofs.«01_k».proof.Proof.Relu
public import proofs.«01_k».proof.Proof.Branches
public import proofs.«01_k».proof.Proof.Dx
public import proofs.«01_k».proof.Proof.GwFf2
public import proofs.«01_k».proof.Proof.GwFf1
public import proofs.«01_k».proof.Proof.GwOut
public import proofs.«01_k».proof.Proof.GwPa
public import proofs.«01_k».proof.Proof.GwPb
public import proofs.«01_k».proof.Proof.GwIn
public import proofs.«01_k».proof.Proof.Branch
public import proofs.«01_k».proof.Proof.OutLn
public import proofs.«01_k».proof.Proof.Ff
public import proofs.«01_k».proof.Proof.AdIn
public import proofs.«01_k».proof.Proof.AdFf
public import proofs.«01_k».proof.Proof.AdOut
public import proofs.«01_k».proof.Proof.AdPr
public import proofs.«01_k».proof.Proof.AdSm
public import proofs.«01_k».proof.Proof.ProjOwn
public import proofs.«01_k».proof.Proof.ProjNear
public import proofs.«01_k».proof.Proof.ProjFar
public import proofs.«01_k».proof.Proof.Gmlp
public import proofs.«01_k».proof.Proof.LnFrameBits
public import proofs.«01_k».proof.Proof.LnFrame
public import proofs.«01_k».proof.Proof.LnPre
public import proofs.«01_k».proof.Proof.LnValue
public import proofs.«01_k».proof.Proof.LossFrameBits
public import proofs.«01_k».proof.Proof.LossFrame
public import proofs.«01_k».proof.Proof.LossPre
public import proofs.«01_k».proof.Proof.LossValue
public import Idealize.ShloMosaic.Lib.Claim

/-!
# The claims

Per call: the kernel, the kernel over the reals and the reference run to the end from any memory and leave
their arguments as they were, and over the reals the kernel's results are the reference's.
-/

@[expose] public section

set_option maxRecDepth 16384

noncomputable section

namespace Cert.Proof

open Idealize.ShloMosaic Idealize.ShloMosaic.TcCoe Idealize.SL.Sem

/-- The gradient of the gates: the reference runs to the end, its arguments unchanged. -/
theorem referenceGate : quiescent_GateRefIdeal (hGateRefIdeal := Cert.GateRefIdeal.Gen.facts) :=
  fun m ρ _ => (θ_run Cert.GateRefIdeal.defs _ _).mono
    (fun r h => ⟨fun c => (h c).2.2.2.2, sem_eq_zero_of_no_sems (by decide) r.2⟩)
    (Cert.GateRefIdeal.Value.run (F := Ideal) m ρ)

/-- The gradient of the gates: over the reals the kernel's results are the reference's. -/
theorem algebraicGate : algebraic_GateIdeal_GateRefIdeal
    (hGateIdeal := Cert.GateIdeal.Gen.facts) (hGateRefIdeal := Cert.GateRefIdeal.Gen.facts) := by
  pair_intro
  · run_from Cert.GateIdeal.Value.run_blocks m g
  · run_from Cert.GateRefIdeal.Value.run m' g'
    · exact (Cert.GateIdeal.Grad.final6 m c).symm
    · exact (Cert.GateIdeal.Grad.final7 m c).symm
    · exact (Cert.GateIdeal.Grad.final8 m c).symm
    · exact (Cert.GateIdeal.Grad.final9 m c).symm

/-- The gradient through the squared rectifier: the reference runs to the end, its arguments unchanged. -/
theorem referenceRelu : quiescent_ReluRefIdeal (hReluRefIdeal := Cert.ReluRefIdeal.Gen.facts) :=
  fun m ρ _ => (θ_run Cert.ReluRefIdeal.defs _ _).mono
    (fun r h => ⟨fun c => (h c).2.2, sem_eq_zero_of_no_sems (by decide) r.2⟩)
    (Cert.ReluRefIdeal.Value.run (F := Ideal) m ρ)

/-- The gradient through the squared rectifier: over the reals the kernel's results are the reference's. -/
theorem algebraicRelu : algebraic_ReluIdeal_ReluRefIdeal
    (hReluIdeal := Cert.ReluIdeal.Gen.facts) (hReluRefIdeal := Cert.ReluRefIdeal.Gen.facts) := by
  pair_intro
  · run_from Cert.ReluIdeal.Value.run_blocks m g
  · run_from Cert.ReluRefIdeal.Value.run m' g'
    · exact (Cert.ReluIdeal.Grad.final3 m c).symm
    · exact (Cert.ReluIdeal.Grad.final4 m c).symm

/-- The gradients of the two branches: the reference runs to the end, its arguments unchanged. -/
theorem referenceBranches : quiescent_BranchesRefIdeal (hBranchesRefIdeal := Cert.BranchesRefIdeal.Gen.facts) :=
  fun m ρ _ => (θ_run Cert.BranchesRefIdeal.defs _ _).mono
    (fun r h => ⟨fun c => (h c).2.2, sem_eq_zero_of_no_sems (by decide) r.2⟩)
    (Cert.BranchesRefIdeal.Value.run (F := Ideal) m ρ)

/-- The gradients of the two branches: over the reals the kernel's results are the reference's. -/
theorem algebraicBranches : algebraic_BranchesIdeal_BranchesRefIdeal
    (hBranchesIdeal := Cert.BranchesIdeal.Gen.facts) (hBranchesRefIdeal := Cert.BranchesRefIdeal.Gen.facts) := by
  pair_intro
  · run_from Cert.BranchesIdeal.Value.run_blocks m g
  · run_from Cert.BranchesRefIdeal.Value.run m' g'
    · exact (Cert.BranchesIdeal.Grad.final4 m c).symm
    · exact (Cert.BranchesIdeal.Grad.final5 m c).symm

/-- The gradient of the layer's input: the reference runs to the end, its arguments unchanged. -/
theorem referenceDx : quiescent_DxRefIdeal (hDxRefIdeal := Cert.DxRefIdeal.Gen.facts) :=
  fun m ρ _ => (θ_run Cert.DxRefIdeal.defs _ _).mono
    (fun r h => ⟨fun c => (h c).2, sem_eq_zero_of_no_sems (by decide) r.2⟩)
    (Cert.DxRefIdeal.Value.run (F := Ideal) m ρ)

/-- The gradient of the layer's input: over the reals the kernel's results are the reference's. -/
theorem algebraicDx : algebraic_DxIdeal_DxRefIdeal
    (hDxIdeal := Cert.DxIdeal.Gen.facts) (hDxRefIdeal := Cert.DxRefIdeal.Gen.facts) := by
  pair_intro
  · run_from Cert.DxIdeal.Value.run_blocks m g
  · run_from Cert.DxRefIdeal.Value.run m' g'
    exact (Cert.DxIdeal.Grad.final m c).symm

/-- The gradient of the second feed-forward matrix: the reference runs to the end, its arguments unchanged. -/
theorem referenceGwFf2 : quiescent_GwFf2RefIdeal (hGwFf2RefIdeal := Cert.GwFf2RefIdeal.Gen.facts) :=
  fun m ρ _ => (θ_run Cert.GwFf2RefIdeal.defs _ _).mono
    (fun r h => ⟨fun c => (h c).2, sem_eq_zero_of_no_sems (by decide) r.2⟩)
    (Cert.GwFf2RefIdeal.Value.run (F := Ideal) m ρ)

/-- The gradient of the second feed-forward matrix: over the reals the kernel's results are the reference's. -/
theorem algebraicGwFf2 : algebraic_GwFf2Ideal_GwFf2RefIdeal
    (hGwFf2Ideal := Cert.GwFf2Ideal.Gen.facts) (hGwFf2RefIdeal := Cert.GwFf2RefIdeal.Gen.facts) := by
  pair_intro
  · run_from Cert.GwFf2Ideal.Value.run_blocks m g
  · run_from Cert.GwFf2RefIdeal.Value.run m' g'
    exact (Cert.GwFf2Ideal.Grad.final m c).symm

/-- The gradient of the first feed-forward matrix: the reference runs to the end, its arguments unchanged. -/
theorem referenceGwFf1 : quiescent_GwFf1RefIdeal (hGwFf1RefIdeal := Cert.GwFf1RefIdeal.Gen.facts) :=
  fun m ρ _ => (θ_run Cert.GwFf1RefIdeal.defs _ _).mono
    (fun r h => ⟨fun c => (h c).2, sem_eq_zero_of_no_sems (by decide) r.2⟩)
    (Cert.GwFf1RefIdeal.Value.run (F := Ideal) m ρ)

/-- The gradient of the first feed-forward matrix: over the reals the kernel's results are the reference's. -/
theorem algebraicGwFf1 : algebraic_GwFf1Ideal_GwFf1RefIdeal
    (hGwFf1Ideal := Cert.GwFf1Ideal.Gen.facts) (hGwFf1RefIdeal := Cert.GwFf1RefIdeal.Gen.facts) := by
  pair_intro
  · run_from Cert.GwFf1Ideal.Value.run_blocks m g
  · run_from Cert.GwFf1RefIdeal.Value.run m' g'
    exact (Cert.GwFf1Ideal.Grad.final m c).symm

/-- The gradient of the output projection: the reference runs to the end, its arguments unchanged. -/
theorem referenceGwOut : quiescent_GwOutRefIdeal (hGwOutRefIdeal := Cert.GwOutRefIdeal.Gen.facts) :=
  fun m ρ _ => (θ_run Cert.GwOutRefIdeal.defs _ _).mono
    (fun r h => ⟨fun c => (h c).2, sem_eq_zero_of_no_sems (by decide) r.2⟩)
    (Cert.GwOutRefIdeal.Value.run (F := Ideal) m ρ)

/-- The gradient of the output projection: over the reals the kernel's results are the reference's. -/
theorem algebraicGwOut : algebraic_GwOutIdeal_GwOutRefIdeal
    (hGwOutIdeal := Cert.GwOutIdeal.Gen.facts) (hGwOutRefIdeal := Cert.GwOutRefIdeal.Gen.facts) := by
  pair_intro
  · run_from Cert.GwOutIdeal.Value.run_blocks m g
  · run_from Cert.GwOutRefIdeal.Value.run m' g'
    exact (Cert.GwOutIdeal.Grad.final m c).symm

/-- The gradient of the attention branch's projection: the reference runs to the end, its arguments unchanged. -/
theorem referenceGwPa : quiescent_GwPaRefIdeal (hGwPaRefIdeal := Cert.GwPaRefIdeal.Gen.facts) :=
  fun m ρ _ => (θ_run Cert.GwPaRefIdeal.defs _ _).mono
    (fun r h => ⟨fun c => (h c).2, sem_eq_zero_of_no_sems (by decide) r.2⟩)
    (Cert.GwPaRefIdeal.Value.run (F := Ideal) m ρ)

/-- The gradient of the attention branch's projection: over the reals the kernel's results are the reference's. -/
theorem algebraicGwPa : algebraic_GwPaIdeal_GwPaRefIdeal
    (hGwPaIdeal := Cert.GwPaIdeal.Gen.facts) (hGwPaRefIdeal := Cert.GwPaRefIdeal.Gen.facts) := by
  pair_intro
  · run_from Cert.GwPaIdeal.Value.run_blocks m g
  · run_from Cert.GwPaRefIdeal.Value.run m' g'
    exact (Cert.GwPaIdeal.Grad.final m c).symm

/-- The gradient of the gated branch's projection: the reference runs to the end, its arguments unchanged. -/
theorem referenceGwPb : quiescent_GwPbRefIdeal (hGwPbRefIdeal := Cert.GwPbRefIdeal.Gen.facts) :=
  fun m ρ _ => (θ_run Cert.GwPbRefIdeal.defs _ _).mono
    (fun r h => ⟨fun c => (h c).2, sem_eq_zero_of_no_sems (by decide) r.2⟩)
    (Cert.GwPbRefIdeal.Value.run (F := Ideal) m ρ)

/-- The gradient of the gated branch's projection: over the reals the kernel's results are the reference's. -/
theorem algebraicGwPb : algebraic_GwPbIdeal_GwPbRefIdeal
    (hGwPbIdeal := Cert.GwPbIdeal.Gen.facts) (hGwPbRefIdeal := Cert.GwPbRefIdeal.Gen.facts) := by
  pair_intro
  · run_from Cert.GwPbIdeal.Value.run_blocks m g
  · run_from Cert.GwPbRefIdeal.Value.run m' g'
    exact (Cert.GwPbIdeal.Grad.final m c).symm

/-- The gradient of the input projection: the reference runs to the end, its arguments unchanged. -/
theorem referenceGwIn : quiescent_GwInRefIdeal (hGwInRefIdeal := Cert.GwInRefIdeal.Gen.facts) :=
  fun m ρ _ => (θ_run Cert.GwInRefIdeal.defs _ _).mono
    (fun r h => ⟨fun c => (h c).2, sem_eq_zero_of_no_sems (by decide) r.2⟩)
    (Cert.GwInRefIdeal.Value.run (F := Ideal) m ρ)

/-- The gradient of the input projection: over the reals the kernel's results are the reference's. -/
theorem algebraicGwIn : algebraic_GwInIdeal_GwInRefIdeal
    (hGwInIdeal := Cert.GwInIdeal.Gen.facts) (hGwInRefIdeal := Cert.GwInRefIdeal.Gen.facts) := by
  pair_intro
  · run_from Cert.GwInIdeal.Value.run_blocks m g
  · run_from Cert.GwInRefIdeal.Value.run m' g'
    exact (Cert.GwInIdeal.Grad.final m c).symm

/-- The two branches' projections and their merging: the reference runs to the end, its arguments unchanged. -/
theorem referenceBranch : quiescent_BranchRefIdeal (hBranchRefIdeal := Cert.BranchRefIdeal.Gen.facts) :=
  fun m ρ _ => (θ_run Cert.BranchRefIdeal.defs _ _).mono
    (fun r h => ⟨fun c => (h c).2.2.2, sem_eq_zero_of_no_sems (by decide) r.2⟩)
    (Cert.BranchRefIdeal.Value.run (F := Ideal) m ρ)

/-- The two branches' projections and their merging: over the reals the kernel's results are the reference's. -/
theorem algebraicBranch : algebraic_BranchIdeal_BranchRefIdeal
    (hBranchIdeal := Cert.BranchIdeal.Gen.facts) (hBranchRefIdeal := Cert.BranchRefIdeal.Gen.facts) := by
  pair_intro
  · run_from Cert.BranchIdeal.Value.run_blocks m g
  · run_from Cert.BranchRefIdeal.Value.run m' g'
    · exact (Cert.BranchIdeal.Grad.final6 m c).symm
    · exact (Cert.BranchIdeal.Grad.final7 m c).symm
    · exact (Cert.BranchIdeal.Grad.final8 m c).symm

/-- The output projection and the first layer norm: the reference runs to the end, its arguments unchanged. -/
theorem referenceOutLn : quiescent_OutLnRefIdeal (hOutLnRefIdeal := Cert.OutLnRefIdeal.Gen.facts) :=
  fun m ρ _ => (θ_run Cert.OutLnRefIdeal.defs _ _).mono
    (fun r h => ⟨fun c => (h c).2.2.2, sem_eq_zero_of_no_sems (by decide) r.2⟩)
    (Cert.OutLnRefIdeal.Value.run (F := Ideal) m ρ)

/-- The output projection and the first layer norm: over the reals the kernel's results are the reference's. -/
theorem algebraicOutLn : algebraic_OutLnIdeal_OutLnRefIdeal
    (hOutLnIdeal := Cert.OutLnIdeal.Gen.facts) (hOutLnRefIdeal := Cert.OutLnRefIdeal.Gen.facts) := by
  pair_intro
  · run_from Cert.OutLnIdeal.Value.run_blocks m g
  · run_from Cert.OutLnRefIdeal.Value.run m' g'
    · exact (Cert.OutLnIdeal.Grad.final5 m c).symm
    · exact (Cert.OutLnIdeal.Grad.final6 m c).symm
    · exact (Cert.OutLnIdeal.Grad.final7 m c).symm

/-- The first feed-forward layer: the reference runs to the end, its arguments unchanged. -/
theorem referenceFf : quiescent_FfRefIdeal (hFfRefIdeal := Cert.FfRefIdeal.Gen.facts) :=
  fun m ρ _ => (θ_run Cert.FfRefIdeal.defs _ _).mono
    (fun r h => ⟨fun c => (h c).2.2, sem_eq_zero_of_no_sems (by decide) r.2⟩)
    (Cert.FfRefIdeal.Value.run (F := Ideal) m ρ)

/-- The first feed-forward layer: over the reals the kernel's results are the reference's. -/
theorem algebraicFf : algebraic_FfIdeal_FfRefIdeal
    (hFfIdeal := Cert.FfIdeal.Gen.facts) (hFfRefIdeal := Cert.FfRefIdeal.Gen.facts) := by
  pair_intro
  · run_from Cert.FfIdeal.Grad.run m g
  · run_from Cert.FfRefIdeal.Value.run m' g'
    · exact (Cert.FfIdeal.Grad.final3 m g c).symm
    · exact (Cert.FfIdeal.Grad.final4 m g c).symm

/-- The optimiser on the input projection: the reference runs to the end, its arguments unchanged. -/
theorem referenceAdIn : quiescent_AdInRefIdeal (hAdInRefIdeal := Cert.AdInRefIdeal.Gen.facts) :=
  fun m ρ _ => (θ_run Cert.AdInRefIdeal.defs _ _).mono
    (fun r h => ⟨fun c => (h c).2.2.2, sem_eq_zero_of_no_sems (by decide) r.2⟩)
    (Cert.AdInRefIdeal.Value.run (F := Ideal) m ρ)

/-- The optimiser on the input projection: over the reals the kernel's results are the reference's. -/
theorem algebraicAdIn : algebraic_AdInIdeal_AdInRefIdeal
    (hAdInIdeal := Cert.AdInIdeal.Gen.facts) (hAdInRefIdeal := Cert.AdInRefIdeal.Gen.facts) := by
  pair_intro
  · run_from Cert.AdInIdeal.Value.run_blocks m g
  · run_from Cert.AdInRefIdeal.Value.run m' g'
    · exact (Cert.AdInIdeal.Grad.final4 m c).symm
    · exact (Cert.AdInIdeal.Grad.final5 m c).symm
    · exact (Cert.AdInIdeal.Grad.final6 m c).symm

/-- The optimiser on a feed-forward matrix: the reference runs to the end, its arguments unchanged. -/
theorem referenceAdFf : quiescent_AdFfRefIdeal (hAdFfRefIdeal := Cert.AdFfRefIdeal.Gen.facts) :=
  fun m ρ _ => (θ_run Cert.AdFfRefIdeal.defs _ _).mono
    (fun r h => ⟨fun c => (h c).2.2.2, sem_eq_zero_of_no_sems (by decide) r.2⟩)
    (Cert.AdFfRefIdeal.Value.run (F := Ideal) m ρ)

/-- The optimiser on a feed-forward matrix: over the reals the kernel's results are the reference's. -/
theorem algebraicAdFf : algebraic_AdFfIdeal_AdFfRefIdeal
    (hAdFfIdeal := Cert.AdFfIdeal.Gen.facts) (hAdFfRefIdeal := Cert.AdFfRefIdeal.Gen.facts) := by
  pair_intro
  · run_from Cert.AdFfIdeal.Value.run_blocks m g
  · run_from Cert.AdFfRefIdeal.Value.run m' g'
    · exact (Cert.AdFfIdeal.Grad.final4 m c).symm
    · exact (Cert.AdFfIdeal.Grad.final5 m c).symm
    · exact (Cert.AdFfIdeal.Grad.final6 m c).symm

/-- The optimiser on the output projection: the reference runs to the end, its arguments unchanged. -/
theorem referenceAdOut : quiescent_AdOutRefIdeal (hAdOutRefIdeal := Cert.AdOutRefIdeal.Gen.facts) :=
  fun m ρ _ => (θ_run Cert.AdOutRefIdeal.defs _ _).mono
    (fun r h => ⟨fun c => (h c).2.2.2, sem_eq_zero_of_no_sems (by decide) r.2⟩)
    (Cert.AdOutRefIdeal.Value.run (F := Ideal) m ρ)

/-- The optimiser on the output projection: over the reals the kernel's results are the reference's. -/
theorem algebraicAdOut : algebraic_AdOutIdeal_AdOutRefIdeal
    (hAdOutIdeal := Cert.AdOutIdeal.Gen.facts) (hAdOutRefIdeal := Cert.AdOutRefIdeal.Gen.facts) := by
  pair_intro
  · run_from Cert.AdOutIdeal.Value.run_blocks m g
  · run_from Cert.AdOutRefIdeal.Value.run m' g'
    · exact (Cert.AdOutIdeal.Grad.final4 m c).symm
    · exact (Cert.AdOutIdeal.Grad.final5 m c).symm
    · exact (Cert.AdOutIdeal.Grad.final6 m c).symm

/-- The optimiser on a branch's projection: the reference runs to the end, its arguments unchanged. -/
theorem referenceAdPr : quiescent_AdPrRefIdeal (hAdPrRefIdeal := Cert.AdPrRefIdeal.Gen.facts) :=
  fun m ρ _ => (θ_run Cert.AdPrRefIdeal.defs _ _).mono
    (fun r h => ⟨fun c => (h c).2.2.2, sem_eq_zero_of_no_sems (by decide) r.2⟩)
    (Cert.AdPrRefIdeal.Value.run (F := Ideal) m ρ)

/-- The optimiser on a branch's projection: over the reals the kernel's results are the reference's. -/
theorem algebraicAdPr : algebraic_AdPrIdeal_AdPrRefIdeal
    (hAdPrIdeal := Cert.AdPrIdeal.Gen.facts) (hAdPrRefIdeal := Cert.AdPrRefIdeal.Gen.facts) := by
  pair_intro
  · run_from Cert.AdPrIdeal.Value.run_blocks m g
  · run_from Cert.AdPrRefIdeal.Value.run m' g'
    · exact (Cert.AdPrIdeal.Grad.final4 m c).symm
    · exact (Cert.AdPrIdeal.Grad.final5 m c).symm
    · exact (Cert.AdPrIdeal.Grad.final6 m c).symm

/-- The optimiser on the packed small weights: the reference runs to the end, its arguments unchanged. -/
theorem referenceAdSm : quiescent_AdSmRefIdeal (hAdSmRefIdeal := Cert.AdSmRefIdeal.Gen.facts) :=
  fun m ρ _ => (θ_run Cert.AdSmRefIdeal.defs _ _).mono
    (fun r h => ⟨fun c => (h c).2.2.2, sem_eq_zero_of_no_sems (by decide) r.2⟩)
    (Cert.AdSmRefIdeal.Value.run (F := Ideal) m ρ)

/-- The optimiser on the packed small weights: over the reals the kernel's results are the reference's. -/
theorem algebraicAdSm : algebraic_AdSmIdeal_AdSmRefIdeal
    (hAdSmIdeal := Cert.AdSmIdeal.Gen.facts) (hAdSmRefIdeal := Cert.AdSmRefIdeal.Gen.facts) := by
  pair_intro
  · run_from Cert.AdSmIdeal.Value.run_blocks m g
  · run_from Cert.AdSmRefIdeal.Value.run m' g'
    · exact (Cert.AdSmIdeal.Grad.final4 m c).symm
    · exact (Cert.AdSmIdeal.Grad.final5 m c).symm
    · exact (Cert.AdSmIdeal.Grad.final6 m c).symm

/-- The input projection, the first quarter of its columns: the reference runs to the end, its arguments unchanged. -/
theorem referenceProjOwn : quiescent_ProjOwnRefIdeal (hProjOwnRefIdeal := Cert.ProjOwnRefIdeal.Gen.facts) :=
  fun m ρ _ => (θ_run Cert.ProjOwnRefIdeal.defs _ _).mono
    (fun r h => ⟨fun c => (h c).2, sem_eq_zero_of_no_sems (by decide) r.2⟩)
    (Cert.ProjOwnRefIdeal.Value.run (F := Ideal) m ρ)

/-- The input projection, the first quarter of its columns: over the reals the kernel's results are the reference's. -/
theorem algebraicProjOwn : algebraic_ProjOwnIdeal_ProjOwnRefIdeal
    (hProjOwnIdeal := Cert.ProjOwnIdeal.Gen.facts) (hProjOwnRefIdeal := Cert.ProjOwnRefIdeal.Gen.facts) := by
  pair_intro
  · run_from Cert.ProjOwnIdeal.Columns.run m g
  · run_from Cert.ProjOwnRefIdeal.Value.run m' g'
    exact (Cert.ProjOwnIdeal.Columns.final m c).symm

/-- The input projection, the two middle quarters of its columns: the reference runs to the end, its arguments unchanged. -/
theorem referenceProjNear : quiescent_ProjNearRefIdeal (hProjNearRefIdeal := Cert.ProjNearRefIdeal.Gen.facts) :=
  fun m ρ _ => (θ_run Cert.ProjNearRefIdeal.defs _ _).mono
    (fun r h => ⟨fun c => (h c).2, sem_eq_zero_of_no_sems (by decide) r.2⟩)
    (Cert.ProjNearRefIdeal.Value.run (F := Ideal) m ρ)

/-- The input projection, the two middle quarters of its columns: over the reals the kernel's results are the reference's. -/
theorem algebraicProjNear : algebraic_ProjNearIdeal_ProjNearRefIdeal
    (hProjNearIdeal := Cert.ProjNearIdeal.Gen.facts) (hProjNearRefIdeal := Cert.ProjNearRefIdeal.Gen.facts) := by
  pair_intro
  · run_from Cert.ProjNearIdeal.Columns.run m g
  · run_from Cert.ProjNearRefIdeal.Value.run m' g'
    exact congrArg (Cert.ProjNearIdeal.Columns.mixed _ _) (hagree c).2.2

/-- The input projection, the last quarter of its columns: the reference runs to the end, its arguments unchanged. -/
theorem referenceProjFar : quiescent_ProjFarRefIdeal (hProjFarRefIdeal := Cert.ProjFarRefIdeal.Gen.facts) :=
  fun m ρ _ => (θ_run Cert.ProjFarRefIdeal.defs _ _).mono
    (fun r h => ⟨fun c => (h c).2, sem_eq_zero_of_no_sems (by decide) r.2⟩)
    (Cert.ProjFarRefIdeal.Value.run (F := Ideal) m ρ)

/-- The input projection, the last quarter of its columns: over the reals the kernel's results are the reference's. -/
theorem algebraicProjFar : algebraic_ProjFarIdeal_ProjFarRefIdeal
    (hProjFarIdeal := Cert.ProjFarIdeal.Gen.facts) (hProjFarRefIdeal := Cert.ProjFarRefIdeal.Gen.facts) := by
  pair_intro
  · run_from Cert.ProjFarIdeal.Columns.run m g
  · run_from Cert.ProjFarRefIdeal.Value.run m' g'
    exact congrArg (Cert.ProjFarIdeal.Columns.mixed _ _) (hagree c).2.2

/-- The gated spatial unit: the reference runs to the end, its arguments unchanged. -/
theorem referenceGmlp : quiescent_GmlpRefIdeal (hGmlpRefIdeal := Cert.GmlpRefIdeal.Gen.facts) :=
  fun m ρ _ => (θ_run Cert.GmlpRefIdeal.defs _ _).mono
    (fun r h => ⟨fun c => (h c).2, sem_eq_zero_of_no_sems (by decide) r.2⟩)
    (Cert.GmlpRefIdeal.Value.run (F := Ideal) m ρ)

/-- The gated spatial unit: over the reals the kernel's results are the reference's. -/
theorem algebraicGmlp : algebraic_GmlpIdeal_GmlpRefIdeal
    (hGmlpIdeal := Cert.GmlpIdeal.Gen.facts) (hGmlpRefIdeal := Cert.GmlpRefIdeal.Gen.facts) := by
  pair_intro
  · run_from Cert.GmlpIdeal.Value.run_blocks m g
  · run_from Cert.GmlpRefIdeal.Value.run m' g'
    obtain ⟨a0, a1, a2, a3, a4⟩ := hagree c
    refine (Cert.GmlpRefIdeal.Unit.res m' c).trans ?_
    rw [a0, a1, a2, a3, a4]
    exact (Cert.GmlpIdeal.Grad.final m c).symm

/-- The first layer norm's gradient behind the product with the first feed-forward matrix: the reference runs to the end, its arguments unchanged. -/
theorem referenceLn : quiescent_LnRefIdeal (hLnRefIdeal := Cert.LnRefIdeal.Gen.facts) :=
  fun m ρ _ => (θ_run Cert.LnRefIdeal.defs _ _).mono
    (fun r h => ⟨fun c => (h c).2.2.2, sem_eq_zero_of_no_sems (by decide) r.2⟩)
    (Cert.LnRefIdeal.Value.run (F := Ideal) m ρ)

/-- The first layer norm's gradient behind the product with the first feed-forward matrix: at finite arguments, over the reals the kernel's results are the reference's. -/
theorem algebraicLn : algebraic_LnIdeal_LnRefIdeal_pre_finite_norm (hLnIdeal := Cert.LnIdeal.Gen.facts)
    (hLnRefIdeal := Cert.LnRefIdeal.Gen.facts) (hPre_finite_norm := Cert.Pre_finite_norm.Gen.facts) := by
  intro m g m' g' hpre hagree
  have hf := fun c => @Cert.LayerNorm.finite_of Cert.Pre_finite_norm.Gen.facts _ _ _ _ _ _ (hpre c)
  refine ⟨_, _, _, Cert.LnIdeal.Rows.run m g (fun c => (hf c).1) (fun c => (hf c).2.1) (fun c => (hf c).2.2.1)
    (fun c => (hf c).2.2.2.1) (fun c => (hf c).2.2.2.2), ?_⟩
  refine (θ_run Cert.LnRefIdeal.defs _ _).mono (fun r h c => ?_) (Cert.LnRefIdeal.Value.run (F := Ideal) m' g')
  obtain ⟨h0, h1, h2, h3⟩ := h c
  obtain ⟨a0, a1, a2, a3, a4, a5⟩ := hagree c
  refine ⟨?_, ?_, ?_, h3⟩
  · rw [h0, Cert.LnRefIdeal.Stage.total_eq, a0, a1, a2, a3, a4]
  · rw [h1, Cert.LnRefIdeal.Stage.rounded_eq, a0, a1, a2, a3, a4]
  · refine h2.trans ?_
    show Cert.LnRefIdeal.Stage.sums _ (Cert.LnRefIdeal.Stage.reach _ _ _) = _
    rw [a0, a1, a2, a3]

/-- The second layer norm, the loss and their gradient: the reference runs to the end, its arguments unchanged. -/
theorem referenceLoss : quiescent_LossRefIdeal (hLossRefIdeal := Cert.LossRefIdeal.Gen.facts) :=
  fun m ρ _ => (θ_run Cert.LossRefIdeal.defs _ _).mono
    (fun r h => ⟨fun c => (h c).2.2.2, sem_eq_zero_of_no_sems (by decide) r.2⟩)
    (Cert.LossRefIdeal.Value.run (F := Ideal) m ρ)

/-- The second layer norm, the loss and their gradient: at finite arguments, over the reals the kernel's results are the reference's. -/
theorem algebraicLoss : algebraic_LossIdeal_LossRefIdeal_pre_finite_loss (hLossIdeal := Cert.LossIdeal.Gen.facts)
    (hLossRefIdeal := Cert.LossRefIdeal.Gen.facts) (hPre_finite_loss := Cert.Pre_finite_loss.Gen.facts) := by
  intro m g m' g' hpre hagree
  have hf := fun c => @Cert.LayerNorm.finite_loss_of Cert.Pre_finite_loss.Gen.facts _ _ _ _ _ _ _ _ _ (hpre c)
  refine ⟨_, _, _, Cert.LossIdeal.Rows.run m g (fun c => (hf c).1) (fun c => (hf c).2.1) (fun c => (hf c).2.2.1) (fun c => (hf c).2.2.2.1)
    (fun c => (hf c).2.2.2.2.1) (fun c => (hf c).2.2.2.2.2.1) (fun c => (hf c).2.2.2.2.2.2.1) (fun c => (hf c).2.2.2.2.2.2.2.1)
    (fun c => (hf c).2.2.2.2.2.2.2.2), ?_⟩
  refine (θ_run Cert.LossRefIdeal.defs _ _).mono (fun r h c => ?_) (Cert.LossRefIdeal.Stage.run m' g')
  obtain ⟨h0, h1, h2, h3⟩ := h c
  obtain ⟨a0, a1, a2, a3, a4, a5, a6, a7, a8⟩ := hagree c
  dsimp only [Cert.LossRefIdeal.Stage.off, Cert.LossRefIdeal.Stage.inp] at h0 h1 h2
  rw [a0, a1, a2, a3, a4, a5, a6, a7, a8] at h0 h1 h2
  exact ⟨h0, h1, h2, h3⟩

/-- All claims together. -/
theorem claim : Cert.Claim :=
  ⟨Cert.Gate.Gen.facts, Cert.GateIdeal.Gen.facts, Cert.GateRefIdeal.Gen.facts, Cert.Relu.Gen.facts, Cert.ReluIdeal.Gen.facts, Cert.ReluRefIdeal.Gen.facts, Cert.Branches.Gen.facts, Cert.BranchesIdeal.Gen.facts, Cert.BranchesRefIdeal.Gen.facts, Cert.Dx.Gen.facts, Cert.DxIdeal.Gen.facts, Cert.DxRefIdeal.Gen.facts, Cert.GwFf2.Gen.facts, Cert.GwFf2Ideal.Gen.facts, Cert.GwFf2RefIdeal.Gen.facts, Cert.GwFf1.Gen.facts, Cert.GwFf1Ideal.Gen.facts, Cert.GwFf1RefIdeal.Gen.facts, Cert.GwOut.Gen.facts, Cert.GwOutIdeal.Gen.facts, Cert.GwOutRefIdeal.Gen.facts, Cert.GwPa.Gen.facts, Cert.GwPaIdeal.Gen.facts, Cert.GwPaRefIdeal.Gen.facts, Cert.GwPb.Gen.facts, Cert.GwPbIdeal.Gen.facts, Cert.GwPbRefIdeal.Gen.facts, Cert.GwIn.Gen.facts, Cert.GwInIdeal.Gen.facts, Cert.GwInRefIdeal.Gen.facts, Cert.Branch.Gen.facts, Cert.BranchIdeal.Gen.facts, Cert.BranchRefIdeal.Gen.facts, Cert.OutLn.Gen.facts, Cert.OutLnIdeal.Gen.facts, Cert.OutLnRefIdeal.Gen.facts, Cert.Ff.Gen.facts, Cert.FfIdeal.Gen.facts, Cert.FfRefIdeal.Gen.facts, Cert.AdIn.Gen.facts, Cert.AdInIdeal.Gen.facts, Cert.AdInRefIdeal.Gen.facts, Cert.AdFf.Gen.facts, Cert.AdFfIdeal.Gen.facts, Cert.AdFfRefIdeal.Gen.facts, Cert.AdOut.Gen.facts, Cert.AdOutIdeal.Gen.facts, Cert.AdOutRefIdeal.Gen.facts, Cert.AdPr.Gen.facts, Cert.AdPrIdeal.Gen.facts, Cert.AdPrRefIdeal.Gen.facts, Cert.AdSm.Gen.facts, Cert.AdSmIdeal.Gen.facts, Cert.AdSmRefIdeal.Gen.facts, Cert.ProjOwn.Gen.facts, Cert.ProjOwnIdeal.Gen.facts, Cert.ProjOwnRefIdeal.Gen.facts, Cert.ProjNear.Gen.facts, Cert.ProjNearIdeal.Gen.facts, Cert.ProjNearRefIdeal.Gen.facts, Cert.ProjFar.Gen.facts, Cert.ProjFarIdeal.Gen.facts, Cert.ProjFarRefIdeal.Gen.facts, Cert.Gmlp.Gen.facts, Cert.GmlpIdeal.Gen.facts, Cert.GmlpRefIdeal.Gen.facts, Cert.Ln.Gen.facts, Cert.LnIdeal.Gen.facts, Cert.LnRefIdeal.Gen.facts, Cert.Loss.Gen.facts, Cert.LossIdeal.Gen.facts, Cert.LossRefIdeal.Gen.facts, Cert.Pre_finite_norm.Gen.facts, Cert.Pre_finite_loss.Gen.facts,
   fun m ρ _ => Cert.Gate.Gen.frame m ρ, fun m ρ _ => Cert.GateIdeal.Gen.frame m ρ,
   referenceGate, fun m ρ _ => Cert.Relu.Gen.frame m ρ, fun m ρ _ => Cert.ReluIdeal.Gen.frame m ρ,
   referenceRelu, fun m ρ _ => Cert.Branches.Gen.frame m ρ, fun m ρ _ => Cert.BranchesIdeal.Gen.frame m ρ,
   referenceBranches, fun m ρ _ => Cert.Dx.Gen.frame m ρ, fun m ρ _ => Cert.DxIdeal.Gen.frame m ρ,
   referenceDx, fun m ρ _ => Cert.GwFf2.Gen.frame m ρ, fun m ρ _ => Cert.GwFf2Ideal.Gen.frame m ρ,
   referenceGwFf2, fun m ρ _ => Cert.GwFf1.Gen.frame m ρ, fun m ρ _ => Cert.GwFf1Ideal.Gen.frame m ρ,
   referenceGwFf1, fun m ρ _ => Cert.GwOut.Gen.frame m ρ, fun m ρ _ => Cert.GwOutIdeal.Gen.frame m ρ,
   referenceGwOut, fun m ρ _ => Cert.GwPa.Gen.frame m ρ, fun m ρ _ => Cert.GwPaIdeal.Gen.frame m ρ,
   referenceGwPa, fun m ρ _ => Cert.GwPb.Gen.frame m ρ, fun m ρ _ => Cert.GwPbIdeal.Gen.frame m ρ,
   referenceGwPb, fun m ρ _ => Cert.GwIn.Gen.frame m ρ, fun m ρ _ => Cert.GwInIdeal.Gen.frame m ρ,
   referenceGwIn, fun m ρ _ => Cert.Branch.Gen.frame m ρ, fun m ρ _ => Cert.BranchIdeal.Gen.frame m ρ,
   referenceBranch, fun m ρ _ => Cert.OutLn.Gen.frame m ρ, fun m ρ _ => Cert.OutLnIdeal.Gen.frame m ρ,
   referenceOutLn, fun m ρ _ => Cert.Ff.Gen.frame m ρ, fun m ρ _ => Cert.FfIdeal.Gen.frame m ρ,
   referenceFf, fun m ρ _ => Cert.AdIn.Gen.frame m ρ, fun m ρ _ => Cert.AdInIdeal.Gen.frame m ρ,
   referenceAdIn, fun m ρ _ => Cert.AdFf.Gen.frame m ρ, fun m ρ _ => Cert.AdFfIdeal.Gen.frame m ρ,
   referenceAdFf, fun m ρ _ => Cert.AdOut.Gen.frame m ρ, fun m ρ _ => Cert.AdOutIdeal.Gen.frame m ρ,
   referenceAdOut, fun m ρ _ => Cert.AdPr.Gen.frame m ρ, fun m ρ _ => Cert.AdPrIdeal.Gen.frame m ρ,
   referenceAdPr, fun m ρ _ => Cert.AdSm.Gen.frame m ρ, fun m ρ _ => Cert.AdSmIdeal.Gen.frame m ρ,
   referenceAdSm, fun m ρ _ => Cert.ProjOwn.Gen.frame m ρ (Cert.ProjOwn.Columns.ok m), fun m ρ _ => Cert.ProjOwnIdeal.Gen.frame m ρ (Cert.ProjOwnIdeal.Columns.ok m),
   referenceProjOwn, fun m ρ _ => Cert.ProjNear.Gen.frame m ρ (Cert.ProjNear.Columns.ok m), fun m ρ _ => Cert.ProjNearIdeal.Gen.frame m ρ (Cert.ProjNearIdeal.Columns.ok m),
   referenceProjNear, fun m ρ _ => Cert.ProjFar.Gen.frame m ρ (Cert.ProjFar.Columns.ok m), fun m ρ _ => Cert.ProjFarIdeal.Gen.frame m ρ (Cert.ProjFarIdeal.Columns.ok m),
   referenceProjFar, fun m ρ _ => Cert.Gmlp.Gen.frame m ρ, fun m ρ _ => Cert.GmlpIdeal.Gen.frame m ρ,
   referenceGmlp,
   fun m ρ _ => Cert.Ln.Rows.frame_rows m ρ, fun m ρ _ => Cert.LnIdeal.Rows.frame_rows m ρ, fun m ρ _ => Cert.LnIdeal.Rows.frame_rows m ρ,
   referenceLn, fun m ρ _ => referenceLn m ρ trivial,
   fun m ρ _ => Cert.Loss.Rows.frame_rows m ρ, fun m ρ _ => Cert.LossIdeal.Rows.frame_rows m ρ, fun m ρ _ => Cert.LossIdeal.Rows.frame_rows m ρ,
   referenceLoss, fun m ρ _ => referenceLoss m ρ trivial,
   trivial, algebraicGate, trivial, algebraicRelu, trivial, algebraicBranches, trivial, algebraicDx, trivial, algebraicGwFf2, trivial, algebraicGwFf1, trivial, algebraicGwOut, trivial, algebraicGwPa, trivial, algebraicGwPb, trivial, algebraicGwIn, trivial, algebraicBranch, trivial, algebraicOutLn, trivial, algebraicFf, trivial, algebraicAdIn, trivial, algebraicAdFf, trivial, algebraicAdOut, trivial, algebraicAdPr, trivial, algebraicAdSm, trivial, algebraicProjOwn, trivial, algebraicProjNear, trivial, algebraicProjFar, trivial, algebraicGmlp, trivial, algebraicLn, trivial, algebraicLoss⟩

end Cert.Proof

end
